-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_mix_finite [hPre_mix_finite : Cert.Pre_mix_finite.Facts] (m : (ℓ : Loc Cert.MixIdeal.nD Cert.MixIdeal.τ Cert.MixIdeal.sig) → Buf (Elt Ideal) ℓ) : Prop :=
  ∀ c : Dev Cert.MixIdeal.nD,
    (Cert.Pre_mix_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixIdeal_pre_mix_finite [hMixIdeal : Cert.MixIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_mix_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  IdealRules.named_const.Statement Cert.FfnIdeal.κ "gelu_b" .f32 0xBDD2D3E8#32 (((((-2) * (6693141 / 8388608)) * (Real.log 2)⁻¹) * (12003091 / 268435456) : ℝ) : EReal)
  ∧ IdealRules.named_const.Statement Cert.FfnIdeal.κ "gelu_a" .f32 0xC0135761#32 ((((-2) * (6693141 / 8388608)) * (Real.log 2)⁻¹ : ℝ) : EReal)

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v69) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Mix_MixIdeal : Prop :=
  True

def algebraic_MixIdeal_MixReferenceIdeal_pre_mix_finite [hMixIdeal : Cert.MixIdeal.Facts] [hMixReferenceIdeal : Cert.MixReferenceIdeal.Facts] [hPre_mix_finite : Cert.Pre_mix_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_mix_finite m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v74) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMix : Cert.Mix.Facts) (hMixIdeal : Cert.MixIdeal.Facts) (hMixReferenceIdeal : Cert.MixReferenceIdeal.Facts) (hPre_finite : Cert.Pre_finite.Facts) (hPre_mix_finite : Cert.Pre_mix_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Mix (hMix := hMix)
    ∧ quiescent_MixIdeal (hMixIdeal := hMixIdeal)
    ∧ quiescent_MixIdeal_pre_mix_finite (hMixIdeal := hMixIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Mix_MixIdeal
    ∧ algebraic_MixIdeal_MixReferenceIdeal_pre_mix_finite (hMixIdeal := hMixIdeal) (hMixReferenceIdeal := hMixReferenceIdeal) (hPre_mix_finite := hPre_mix_finite)
-- ==== Pre_finite.lean ====
abbrev S8x4096x512 : Shape := ⟨3, ![8, 4096, 512]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel

variable [Facts]

def fn {F : FTy → Type} [FloatOps F] (main_arg0 : FVec F S8x4096x512 .f32) (main_arg1 : FVec F S8x4096x512 .f32) (main_arg2 : FVec F S8x4096x512 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Pre_mix_finite.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S8x256x1024 : Shape := ⟨3, ![8, 256, 1024]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8x256x1024 : S_.BroadcastsInDim S8x256x1024 (![] : Fin 0 → Fin S8x256x1024.rank)
  reducesTo_S8x256x1024_S_d0_1_2 : S8x256x1024.ReducesTo [0, 1, 2] S_

variable [Facts]

def fn_part3 {F : FTy → Type} [FloatOps F] (main_arg10 : FVec F S1024x1024 .f32) (main_arg11 : FVec F S8x256x1024 .bf16) (main_v47 : IVec S_ 1) (main_v51 : IVec S_ 1) : IVec S_ 1 :=
  let main_v52 : IVec S_ 1 := andi main_v47 main_v51
  let main_v53 : FVec F S1024x1024 .f32 := Host.absf main_arg10
  let main_cst_18 : FVec F S_ .f32 := constant S_ .f32 0x7F800000#32
  let main_v54 : FVec F S1024x1024 .f32 := broadcastInDim S1024x1024 ![] bcast_S_S1024x1024 main_cst_18
  let main_v55 : IVec S1024x1024 1 := cmpf .olt main_v53 main_v54
  let main_c_19 : IVec S_ 1 := constantI S_ 1 1#1
  let main_v56 : IVec S_ 1 := (fun x v => Host.reduce IntOp.andi x v reducesTo_S1024x1024_S_d0_1 h_S_) main_v55 main_c_19
  let main_v57 : IVec S_ 1 := andi main_v52 main_v56
  let main_v58 : FVec F S8x256x1024 .f32 := (extf .f32 · bitsLt_bf16_f32) main_arg11
  let main_v59 : FVec F S8x256x1024 .f32 := Host.absf main_v58
  let main_cst_20 : FVec F S_ .f32 := constant S_ .f32 0x7F800000#32
  let main_v60 : FVec F S8x256x1024 .f32 := broadcastInDim S8x256x1024 ![] bcast_S_S8x256x1024 main_cst_20
  let main_v61 : IVec S8x256x1024 1 := cmpf .olt main_v59 main_v60
  let main_c_21 : IVec S_ 1 := constantI S_ 1 1#1
  let main_v62 : IVec S_ 1 := (fun x v => Host.reduce IntOp.andi x v reducesTo_S8x256x1024_S_d0_1_2 h_S_) main_v61 main_c_21
  let main_v63 : IVec S_ 1 := andi main_v57 main_v62
  main_v63

def fn_part2 {F : FTy → Type} [FloatOps F] (main_arg7 : FVec F S1024x1024 .f32) (main_arg8 : FVec F S1024 .f32) (main_arg9 : FVec F S1024 .f32) (main_arg10 : FVec F S1024x1024 .f32) (main_arg11 : FVec F S8x256x1024 .bf16) (main_v32 : IVec S_ 1) (main_v33 : FVec F S512x1024 .f32) (main_v34 : FVec F S512x1024 .f32) : IVec S_ 1 :=
  let main_v35 : IVec S512x1024 1 := cmpf .olt main_v33 main_v34
  let main_c_11 : IVec S_ 1 := constantI S_ 1 1#1
  let main_v36 : IVec S_ 1 := (fun x v => Host.reduce IntOp.andi x v reducesTo_S512x1024_S_d0_1 h_S_) main_v35 main_c_11
  let main_v37 : IVec S_ 1 := andi main_v32 main_v36
  let main_v38 : FVec F S1024x1024 .f32 := Host.absf main_arg7
  let main_cst_12 : FVec F S_ .f32 := constant S_ .f32 0x7F800000#32
  let main_v39 : FVec F S1024x1024 .f32 := broadcastInDim S1024x1024 ![] bcast_S_S1024x1024 main_cst_12
  let main_v40 : IVec S1024x1024 1 := cmpf .olt main_v38 main_v39
  let main_c_13 : IVec S_ 1 := constantI S_ 1 1#1
  let main_v41 : IVec S_ 1 := (fun x v => Host.reduce IntOp.andi x v reducesTo_S1024x1024_S_d0_1 h_S_) main_v40 main_c_13
  let main_v42 : IVec S_ 1 := andi main_v37 main_v41
  let main_v43 : FVec F S1024 .f32 := Host.absf main_arg8
  let main_cst_14 : FVec F S_ .f32 := constant S_ .f32 0x7F800000#32
  let main_v44 : FVec F S1024 .f32 := broadcastInDim S1024 ![] bcast_S_S1024 main_cst_14
  let main_v45 : IVec S1024 1 := cmpf .olt main_v43 main_v44
  let main_c_15 : IVec S_ 1 := constantI S_ 1 1#1
  let main_v46 : IVec S_ 1 := (fun x v => Host.reduce IntOp.andi x v reducesTo_S1024_S_d0 h_S_) main_v45 main_c_15
  let main_v47 : IVec S_ 1 := andi main_v42 main_v46
  let main_v48 : FVec F S1024 .f32 := Host.absf main_arg9
  let main_cst_16 : FVec F S_ .f32 := constant S_ .f32 0x7F800000#32
  let main_v49 : FVec F S1024 .f32 := broadcastInDim S1024 ![] bcast_S_S1024 main_cst_16
  let main_v50 : IVec S1024 1 := cmpf .olt main_v48 main_v49
  let main_c_17 : IVec S_ 1 := constantI S_ 1 1#1
  let main_v51 : IVec S_ 1 := (fun x v => Host.reduce IntOp.andi x v reducesTo_S1024_S_d0 h_S_) main_v50 main_c_17
  fn_part3 (F := F) main_arg10 main_arg11 main_v47 main_v51

def fn_part1 {F : FTy → Type} [FloatOps F] (main_arg4 : FVec F S8x4096x1024 .f32) (main_arg5 : FVec F S512x1024 .f32) (main_arg6 : FVec F S512x1024 .f32) (main_arg7 : FVec F S1024x1024 .f32) (main_arg8 : FVec F S1024 .f32) (main_arg9 : FVec F S1024 .f32) (main_arg10 : FVec F S1024x1024 .f32) (main_arg11 : FVec F S8x256x1024 .bf16) (main_v16 : IVec S_ 1) (main_v17 : FVec F S8x4096x1024 .f32) : IVec S_ 1 :=
  let main_v18 : FVec F S8x4096x1024 .f32 := Host.absf main_v17
  let main_cst_4 : FVec F S_ .f32 := constant S_ .f32 0x7F800000#32
  let main_v19 : FVec F S8x4096x1024 .f32 := broadcastInDim S8x4096x1024 ![] bcast_S_S8x4096x1024 main_cst_4
  let main_v20 : IVec S8x4096x1024 1 := cmpf .olt main_v18 main_v19
  let main_c_5 : IVec S_ 1 := constantI S_ 1 1#1
  let main_v21 : IVec S_ 1 := (fun x v => Host.reduce IntOp.andi x v reducesTo_S8x4096x1024_S_d0_1_2 h_S_) main_v20 main_c_5
  let main_v22 : IVec S_ 1 := andi main_v16 main_v21
  let main_v23 : FVec F S8x4096x1024 .f32 := Host.absf main_arg4
  let main_cst_6 : FVec F S_ .f32 := constant S_ .f32 0x7F800000#32
  let main_v24 : FVec F S8x4096x1024 .f32 := broadcastInDim S8x4096x1024 ![] bcast_S_S8x4096x1024 main_cst_6
  let main_v25 : IVec S8x4096x1024 1 := cmpf .olt main_v23 main_v24
  let main_c_7 : IVec S_ 1 := constantI S_ 1 1#1
  let main_v26 : IVec S_ 1 := (fun x v => Host.reduce IntOp.andi x v reducesTo_S8x4096x1024_S_d0_1_2 h_S_) main_v25 main_c_7
  let main_v27 : IVec S_ 1 := andi main_v22 main_v26
  let main_v28 : FVec F S512x1024 .f32 := Host.absf main_arg5
  let main_cst_8 : FVec F S_ .f32 := constant S_ .f32 0x7F800000#32
  let main_v29 : FVec F S512x1024 .f32 := broadcastInDim S512x1024 ![] bcast_S_S512x1024 main_cst_8
  let main_v30 : IVec S512x1024 1 := cmpf .olt main_v28 main_v29
  let main_c_9 : IVec S_ 1 := constantI S_ 1 1#1
  let main_v31 : IVec S_ 1 := (fun x v => Host.reduce IntOp.andi x v reducesTo_S512x1024_S_d0_1 h_S_) main_v30 main_c_9
  let main_v32 : IVec S_ 1 := andi main_v27 main_v31
  let main_v33 : FVec F S512x1024 .f32 := Host.absf main_arg6
  let main_cst_10 : FVec F S_ .f32 := constant S_ .f32 0x7F800000#32
  let main_v34 : FVec F S512x1024 .f32 := broadcastInDim S512x1024 ![] bcast_S_S512x1024 main_cst_10
  fn_part2 (F := F) main_arg7 main_arg8 main_arg9 main_arg10 main_arg11 main_v32 main_v33 main_v34

def fn {F : FTy → Type} [FloatOps F] (main_arg0 : FVec F S8x4096x512 .bf16) (main_arg1 : FVec F S8x4096x512 .bf16) (main_arg2 : FVec F S8x4096x1024 .bf16) (main_arg3 : FVec F S8x4096x1024 .bf16) (main_arg4 : FVec F S8x4096x1024 .f32) (main_arg5 : FVec F S512x1024 .f32) (main_arg6 : FVec F S512x1024 .f32) (main_arg7 : FVec F S1024x1024 .f32) (main_arg8 : FVec F S1024 .f32) (main_arg9 : FVec F S1024 .f32) (main_arg10 : FVec F S1024x1024 .f32) (main_arg11 : FVec F S8x256x1024 .bf16) (main_arg12 : FVec F S8x256x1024 .bf16) (main_arg13 : FVec F S1024x1024 .f32) (main_arg14 : FVec F S1024 .f32) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S8x4096x1024 .f32 := (extf .f32 · bitsLt_bf16_f32) main_arg2
  let main_v12 : FVec F S8x4096x1024 .f32 := Host.absf main_v11
  let main_cst_2 : FVec F S_ .f32 := constant S_ .f32 0x7F800000#32
  let main_v13 : FVec F S8x4096x1024 .f32 := broadcastInDim S8x4096x1024 ![] bcast_S_S8x4096x1024 main_cst_2
  let main_v14 : IVec S8x4096x1024 1 := cmpf .olt main_v12 main_v13
  let main_c_3 : IVec S_ 1 := constantI S_ 1 1#1
  let main_v15 : IVec S_ 1 := (fun x v => Host.reduce IntOp.andi x v reducesTo_S8x4096x1024_S_d0_1_2 h_S_) main_v14 main_c_3
  let main_v16 : IVec S_ 1 := andi main_v10 main_v15
  let main_v17 : FVec F S8x4096x1024 .f32 := (extf .f32 · bitsLt_bf16_f32) main_arg3
  fn_part1 (F := F) main_arg4 main_arg5 main_arg6 main_arg7 main_arg8 main_arg9 main_arg10 main_arg11 main_v16 main_v17
-- ==== Kernel.lean ====
abbrev S8x4096x512 : Shape := ⟨3, ![8, 4096, 512]⟩
abbrev S5x144 : Shape := ⟨2, ![5, 144]⟩
abbrev S_ : Shape := ⟨0, ![]⟩
abbrev S8x16x256x4x128 : Shape := ⟨5, ![8, 16, 256, 4, 128]⟩
abbrev S8x4x16x128x256 : Shape := ⟨5, ![8, 4, 16, 128, 256]⟩
abbrev S8x16x8x32x512 : Shape := ⟨5, ![8, 16, 8, 32, 512]⟩
abbrev S8x16x32x8x512 : Shape := ⟨5, ![8, 16, 32, 8, 512]⟩
abbrev S256 : Shape := ⟨1, ![256]⟩
abbrev S8x32 : Shape := ⟨2, ![8, 32]⟩
abbrev S32x8 : Shape := ⟨2, ![32, 8]⟩
abbrev S256x1 : Shape := ⟨2, ![256, 1]⟩
abbrev S1x256 : Shape := ⟨2, ![1, 256]⟩
abbrev S256x256 : Shape := ⟨2, ![256, 256]⟩
abbrev S1x1x16x128x256 : Shape := ⟨5, ![1, 1, 16, 128, 256]⟩
abbrev S1x4096x128 : Shape := ⟨3, ![1, 4096, 128]⟩
abbrev S2x2x256x256 : Shape := ⟨4, ![2, 2, 256, 256]⟩
abbrev S17x2x64x256 : Shape := ⟨4, ![17, 2, 64, 256]⟩
abbrev S17x2x8x256 : Shape := ⟨4, ![17, 2, 8, 256]⟩
abbrev S128x256 : Shape := ⟨2, ![128, 256]⟩
abbrev S8x256 : Shape := ⟨2, ![8, 256]⟩
abbrev S1x1 : Shape := ⟨2, ![1, 1]⟩
abbrev S1x1x1x128x256 : Shape := ⟨5, ![1, 1, 1, 128, 256]⟩
abbrev S1x256x128 : Shape := ⟨3, ![1, 256, 128]⟩
abbrev S256x128 : Shape := ⟨2, ![256, 128]⟩
abbrev S1x1x256x256 : Shape := ⟨4, ![1, 1, 256, 256]⟩
abbrev S64x256 : Shape := ⟨2, ![64, 256]⟩
abbrev S1x1x64x256 : Shape := ⟨4, ![1, 1, 64, 256]⟩
abbrev S1x1x8x256 : Shape := ⟨4, ![1, 1, 8, 256]⟩

abbrev nBuf : Space → Nat
  | .hbm => 36
  | .vmem => 13
  | .smem => 1
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x4096x512, .f32⟩
  | .hbm, ⟨8, _⟩ => ⟨S8x4096x512, .f32⟩
  | .hbm, ⟨9, _⟩ => ⟨S8x16x256x4x128, .f32⟩
  | .hbm, ⟨10, _⟩ => ⟨S8x4x16x128x256, .f32⟩
  | .hbm, ⟨11, _⟩ => ⟨S8x4x16x128x256, .bf16⟩
  | .hbm, ⟨12, _⟩ => ⟨S8x16x8x32x512, .f32⟩
  | .hbm, ⟨13, _⟩ => ⟨S8x16x32x8x512, .f32⟩
  | .hbm, ⟨14, _⟩ => ⟨S8x4096x512, .f32⟩
  | .hbm, ⟨15, _⟩ => ⟨S8x4096x512, .bf16⟩
  | .hbm, ⟨16, _⟩ => ⟨S8x16x8x32x512, .f32⟩
  | .hbm, ⟨17, _⟩ => ⟨S8x16x32x8x512, .f32⟩
  | .hbm, ⟨18, _⟩ => ⟨S8x16x256x4x128, .f32⟩
  | .hbm, ⟨19, _⟩ => ⟨S8x4x16x128x256, .f32⟩
  | .hbm, ⟨20, _⟩ => ⟨S8x4x16x128x256, .bf16⟩
  | .hbm, ⟨21, _⟩ => ⟨S256, .i32⟩
  | .hbm, ⟨22, _⟩ => ⟨S8x32, .i32⟩
  | .hbm, ⟨23, _⟩ => ⟨S32x8, .i32⟩
  | .hbm, ⟨24, _⟩ => ⟨S256x1, .i32⟩
  | .hbm, ⟨25, _⟩ => ⟨S256, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S_, .f32⟩
  | .hbm, ⟨31, _⟩ => ⟨S256x256, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S8x4096x512, .bf16⟩
  | .local _ .vmem, ⟨0, _⟩ => ⟨S1x1x16x128x256, .bf16⟩
  | .local _ .vmem, ⟨1, _⟩ => ⟨S1x1x16x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x1x16x128x256, .bf16⟩
  | .local _ .vmem, ⟨5, _⟩ => ⟨S1x1x16x128x256, .bf16⟩
  | .local _ .vmem, ⟨6, _⟩ => ⟨S256x256, .f32⟩
  | .local _ .vmem, ⟨7, _⟩ => ⟨S1x4096x128, .bf16⟩
  | .local _ .vmem, ⟨8, _⟩ => ⟨S1x4096x128, .bf16⟩
  | .local _ .vmem, ⟨9, _⟩ => ⟨S2x2x256x256, .f32⟩
  | .local _ .vmem, ⟨10, _⟩ => ⟨S2x2x256x256, .bf16⟩
  | .local _ .vmem, ⟨11, _⟩ => ⟨S17x2x64x256, .f32⟩
  | .local _ .vmem, ⟨12, _⟩ => ⟨S17x2x8x256, .f32⟩
  | .local _ .smem, ⟨0, _⟩ => ⟨S5x144, .i32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_31 : BitVec 32 := 0#32
  let c3_i32 : BitVec 32 := 3#32
  let v70 : BitVec 32 := Scalar.addi c0_i32_31 c3_i32
  let c1_i32_32 : BitVec 32 := 1#32
  ⟨c0_i32_31, v70, c1_i32_32⟩
def k0_off1 (k0_t1 : Fin k0_t1_loop.trips) : Fin 2 → Nat :=
  let c0_184 : Index := 0#32
  let c0_i32_31 : BitVec 32 := 0#32
  let c1_i32_32 : BitVec 32 := 1#32
  let arg12 : BitVec 32 := Scf.iv c0_i32_31 c1_i32_32 k0_t1
  let c6_i32 : BitVec 32 := 6#32
  let v232 : BitVec 32 := Scalar.muli arg12 c6_i32
  let c0_i32_183 : BitVec 32 := 0#32
  let v233 : BitVec 32 := Scalar.addi v232 c0_i32_183
  let v234 : Index := Scalar.indexCast v233
  ![0, v234.toNat]
def k0_off2 (v235 : BitVec 32) : Fin 5 → Nat :=
  let c0_185 : Index := 0#32
  let c0_186 : Index := 0#32
  let v236 : Index := Scalar.indexCast v235
  let c0_187 : Index := 0#32
  let c0_188 : Index := 0#32
  ![0, 0, v236.toNat, 0, 0]

def k0_chk1 (v235 : BitVec 32) : Prop :=
  (∀ a, (k0_off2 v235) a + S1x1x1x128x256.size a ≤ S1x1x16x128x256.size a)
theorem k0_off2_inb : ∀ (v235 : BitVec 32) (k0_hw1 : k0_chk1 v235), ∀ a, (k0_off2 v235) a + S1x1x1x128x256.size a ≤ S1x1x16x128x256.size a := fun v235 k0_hw1 => k0_hw1

def k0_off3 (k0_t1 : Fin k0_t1_loop.trips) : Fin 2 → Nat :=
  let c1_189 : Index := 1#32
  let c0_i32_31 : BitVec 32 := 0#32
  let c1_i32_32 : BitVec 32 := 1#32
  let arg12 : BitVec 32 := Scf.iv c0_i32_31 c1_i32_32 k0_t1
  let c6_i32 : BitVec 32 := 6#32
  let v232 : BitVec 32 := Scalar.muli arg12 c6_i32
  let c0_i32_183 : BitVec 32 := 0#32
  let v233 : BitVec 32 := Scalar.addi v232 c0_i32_183
  let v239 : Index := Scalar.indexCast v233
  ![1, v239.toNat]
def k0_mult1 (v240 : BitVec 32) : BitVec 32 :=
  let c256_i32 : BitVec 32 := 256#32
  let v241 : BitVec 32 := Scalar.muli v240 c256_i32
  v241

def k0_off4 (v240 : BitVec 32) : Fin 3 → Nat :=
  let c0_190 : Index := 0#32
  let c256_i32 : BitVec 32 := 256#32
  let v241 : BitVec 32 := Scalar.muli v240 c256_i32
  let v242 : BitVec 32 := v241
  let v243 : Index := Scalar.indexCast v242
  let c0_191 : Index := 0#32
  ![0, v243.toNat, 0]

def k0_chk2 (v240 : BitVec 32) : Prop :=
  (256 ∣ (k0_mult1 v240).toNat) ∧
  (∀ a, (k0_off4 v240) a + S1x256x128.size a ≤ S1x4096x128.size a)
theorem k0_mult1_dvd : ∀ (v240 : BitVec 32) (k0_hw2 : k0_chk2 v240), 256 ∣ (k0_mult1 v240).toNat := fun v240 k0_hw2 => k0_hw2.1
theorem k0_off4_inb : ∀ (v240 : BitVec 32) (k0_hw2 : k0_chk2 v240), ∀ a, (k0_off4 v240) a + S1x256x128.size a ≤ S1x4096x128.size a := fun v240 k0_hw2 => k0_hw2.2

def k0_off5 (k0_t1 : Fin k0_t1_loop.trips) : Fin 2 → Nat :=
  let c3_208 : Index := 3#32
  let c0_i32_31 : BitVec 32 := 0#32
  let c1_i32_32 : BitVec 32 := 1#32
  let arg12 : BitVec 32 := Scf.iv c0_i32_31 c1_i32_32 k0_t1
  let c6_i32 : BitVec 32 := 6#32
  let v232 : BitVec 32 := Scalar.muli arg12 c6_i32
  let c0_i32_183 : BitVec 32 := 0#32
  let v233 : BitVec 32 := Scalar.addi v232 c0_i32_183
  let v264 : Index := Scalar.indexCast v233
  ![3, v264.toNat]
def k0_off6 (k0_t1 : Fin k0_t1_loop.trips) : Fin 2 → Nat :=
  let c4_209 : Index := 4#32
  let c0_i32_31 : BitVec 32 := 0#32
  let c1_i32_32 : BitVec 32 := 1#32
  let arg12 : BitVec 32 := Scf.iv c0_i32_31 c1_i32_32 k0_t1
  let c6_i32 : BitVec 32 := 6#32
  let v232 : BitVec 32 := Scalar.muli arg12 c6_i32
  let c0_i32_183 : BitVec 32 := 0#32
  let v233 : BitVec 32 := Scalar.addi v232 c0_i32_183
  let v266 : Index := Scalar.indexCast v233
  ![4, v266.toNat]
def k0_off7 (v267 : BitVec 32) : Fin 5 → Nat :=
  let c0_210 : Index := 0#32
  let c0_211 : Index := 0#32
  let v268 : Index := Scalar.indexCast v267
  let c0_212 : Index := 0#32
  let c0_213 : Index := 0#32
  ![0, 0, v268.toNat, 0, 0]

def k0_chk3 (v267 : BitVec 32) : Prop :=
  (∀ a, (k0_off7 v267) a + S1x1x1x128x256.size a ≤ S1x1x16x128x256.size a)
theorem k0_off7_inb : ∀ (v267 : BitVec 32) (k0_hw3 : k0_chk3 v267), ∀ a, (k0_off7 v267) a + S1x1x1x128x256.size a ≤ S1x1x16x128x256.size a := fun v267 k0_hw3 => k0_hw3

def k0_off8 (v265 : BitVec 32) : Fin 4 → Nat :=
  let v275 : Index := Scalar.indexCast v265
  let c0_219 : Index := 0#32
  let c0_220 : Index := 0#32
  let c0_221 : Index := 0#32
  ![v275.toNat, 0, 0, 0]

def k0_off9 (v265 : BitVec 32) : Fin 4 → Nat :=
  let v283 : Index := Scalar.indexCast v265
  let c1_227 : Index := 1#32
  let c0_228 : Index := 0#32
  let c0_229 : Index := 0#32
  ![v283.toNat, 1, 0, 0]

def k0_chk4 (v265 : BitVec 32) : Prop :=
  (∀ a, (k0_off8 v265) a + S1x1x64x256.size a ≤ S17x2x64x256.size a) ∧
  (∀ a, (k0_off9 v265) a + S1x1x64x256.size a ≤ S17x2x64x256.size a)
theorem k0_off8_inb : ∀ (v265 : BitVec 32) (k0_hw4 : k0_chk4 v265), ∀ a, (k0_off8 v265) a + S1x1x64x256.size a ≤ S17x2x64x256.size a := fun v265 k0_hw4 => k0_hw4.1
theorem k0_off9_inb : ∀ (v265 : BitVec 32) (k0_hw4 : k0_chk4 v265), ∀ a, (k0_off9 v265) a + S1x1x64x256.size a ≤ S17x2x64x256.size a := fun v265 k0_hw4 => k0_hw4.2

def k0_off10 (k0_t1 : Fin k0_t1_loop.trips) : Fin 2 → Nat :=
  let c2_230 : Index := 2#32
  let c0_i32_31 : BitVec 32 := 0#32
  let c1_i32_32 : BitVec 32 := 1#32
  let arg12 : BitVec 32 := Scf.iv c0_i32_31 c1_i32_32 k0_t1
  let c6_i32 : BitVec 32 := 6#32
  let v232 : BitVec 32 := Scalar.muli arg12 c6_i32
  let c0_i32_183 : BitVec 32 := 0#32
  let v233 : BitVec 32 := Scalar.addi v232 c0_i32_183
  let v287 : Index := Scalar.indexCast v233
  ![2, v287.toNat]
def k0_off11 (v288 : BitVec 32) : Fin 4 → Nat :=
  let v393 : Index := Scalar.indexCast v288
  let c0_249 : Index := 0#32
  let c0_250 : Index := 0#32
  let c0_251 : Index := 0#32
  ![v393.toNat, 0, 0, 0]

def k0_off12 (v288 : BitVec 32) : Fin 4 → Nat :=
  let v570 : Index := Scalar.indexCast v288
  let c1_278 : Index := 1#32
  let c0_279 : Index := 0#32
  let c0_280 : Index := 0#32
  ![v570.toNat, 1, 0, 0]

def k0_chk5 (v288 : BitVec 32) : Prop :=
  (∀ a, (k0_off11 v288) a + S1x1x8x256.size a ≤ S17x2x8x256.size a) ∧
  (∀ a, (k0_off12 v288) a + S1x1x8x256.size a ≤ S17x2x8x256.size a)
theorem k0_off11_inb : ∀ (v288 : BitVec 32) (k0_hw5 : k0_chk5 v288), ∀ a, (k0_off11 v288) a + S1x1x8x256.size a ≤ S17x2x8x256.size a := fun v288 k0_hw5 => k0_hw5.1
theorem k0_off12_inb : ∀ (v288 : BitVec 32) (k0_hw5 : k0_chk5 v288), ∀ a, (k0_off12 v288) a + S1x1x8x256.size a ≤ S17x2x8x256.size a := fun v288 k0_hw5 => k0_hw5.2

def k0_off13 (k0_t1 : Fin k0_t1_loop.trips) : Fin 2 → Nat :=
  let c0_287 : Index := 0#32
  let c0_i32_31 : BitVec 32 := 0#32
  let c1_i32_32 : BitVec 32 := 1#32
  let arg12 : BitVec 32 := Scf.iv c0_i32_31 c1_i32_32 k0_t1
  let c6_i32_285 : BitVec 32 := 6#32
  let v643 : BitVec 32 := Scalar.muli arg12 c6_i32_285
  let c1_i32_286 : BitVec 32 := 1#32
  let v644 : BitVec 32 := Scalar.addi v643 c1_i32_286
  let v645 : Index := Scalar.indexCast v644
  ![0, v645.toNat]
def k0_off14 (v646 : BitVec 32) : Fin 5 → Nat :=
  let c0_288 : Index := 0#32
  let c0_289 : Index := 0#32
  let v647 : Index := Scalar.indexCast v646
  let c0_290 : Index := 0#32
  let c0_291 : Index := 0#32
  ![0, 0, v647.toNat, 0, 0]

def k0_chk6 (v646 : BitVec 32) : Prop :=
  (∀ a, (k0_off14 v646) a + S1x1x1x128x256.size a ≤ S1x1x16x128x256.size a)
theorem k0_off14_inb : ∀ (v646 : BitVec 32) (k0_hw6 : k0_chk6 v646), ∀ a, (k0_off14 v646) a + S1x1x1x128x256.size a ≤ S1x1x16x128x256.size a := fun v646 k0_hw6 => k0_hw6

def k0_off15 (k0_t1 : Fin k0_t1_loop.trips) : Fin 2 → Nat :=
  let c1_292 : Index := 1#32
  let c0_i32_31 : BitVec 32 := 0#32
  let c1_i32_32 : BitVec 32 := 1#32
  let arg12 : BitVec 32 := Scf.iv c0_i32_31 c1_i32_32 k0_t1
  let c6_i32_285 : BitVec 32 := 6#32
  let v643 : BitVec 32 := Scalar.muli arg12 c6_i32_285
  let c1_i32_286 : BitVec 32 := 1#32
  let v644 : BitVec 32 := Scalar.addi v643 c1_i32_286
  let v650 : Index := Scalar.indexCast v644
  ![1, v650.toNat]
def k0_mult2 (v651 : BitVec 32) : BitVec 32 :=
  let c256_i32_293 : BitVec 32 := 256#32
  let v652 : BitVec 32 := Scalar.muli v651 c256_i32_293
  v652

def k0_off16 (v651 : BitVec 32) : Fin 3 → Nat :=
  let c0_294 : Index := 0#32
  let c256_i32_293 : BitVec 32 := 256#32
  let v652 : BitVec 32 := Scalar.muli v651 c256_i32_293
  let v653 : BitVec 32 := v652
  let v654 : Index := Scalar.indexCast v653
  let c0_295 : Index := 0#32
  ![0, v654.toNat, 0]

def k0_chk7 (v651 : BitVec 32) : Prop :=
  (256 ∣ (k0_mult2 v651).toNat) ∧
  (∀ a, (k0_off16 v651) a + S1x256x128.size a ≤ S1x4096x128.size a)
theorem k0_mult2_dvd : ∀ (v651 : BitVec 32) (k0_hw7 : k0_chk7 v651), 256 ∣ (k0_mult2 v651).toNat := fun v651 k0_hw7 => k0_hw7.1
theorem k0_off16_inb : ∀ (v651 : BitVec 32) (k0_hw7 : k0_chk7 v651), ∀ a, (k0_off16 v651) a + S1x256x128.size a ≤ S1x4096x128.size a := fun v651 k0_hw7 => k0_hw7.2

def k0_off17 (k0_t1 : Fin k0_t1_loop.trips) : Fin 2 → Nat :=
  let c3_312 : Index := 3#32
  let c0_i32_31 : BitVec 32 := 0#32
  let c1_i32_32 : BitVec 32 := 1#32
  let arg12 : BitVec 32 := Scf.iv c0_i32_31 c1_i32_32 k0_t1
  let c6_i32_285 : BitVec 32 := 6#32
  let v643 : BitVec 32 := Scalar.muli arg12 c6_i32_285
  let c1_i32_286 : BitVec 32 := 1#32
  let v644 : BitVec 32 := Scalar.addi v643 c1_i32_286
  let v675 : Index := Scalar.indexCast v644
  ![3, v675.toNat]
def k0_off18 (k0_t1 : Fin k0_t1_loop.trips) : Fin 2 → Nat :=
  let c4_313 : Index := 4#32
  let c0_i32_31 : BitVec 32 := 0#32
  let c1_i32_32 : BitVec 32 := 1#32
  let arg12 : BitVec 32 := Scf.iv c0_i32_31 c1_i32_32 k0_t1
  let c6_i32_285 : BitVec 32 := 6#32
  let v643 : BitVec 32 := Scalar.muli arg12 c6_i32_285
  let c1_i32_286 : BitVec 32 := 1#32
  let v644 : BitVec 32 := Scalar.addi v643 c1_i32_286
  let v677 : Index := Scalar.indexCast v644
  ![4, v677.toNat]
def k0_off19 (v678 : BitVec 32) : Fin 5 → Nat :=
  let c0_314 : Index := 0#32
  let c0_315 : Index := 0#32
  let v679 : Index := Scalar.indexCast v678
  let c0_316 : Index := 0#32
  let c0_317 : Index := 0#32
  ![0, 0, v679.toNat, 0, 0]

def k0_chk8 (v678 : BitVec 32) : Prop :=
  (∀ a, (k0_off19 v678) a + S1x1x1x128x256.size a ≤ S1x1x16x128x256.size a)
theorem k0_off19_inb : ∀ (v678 : BitVec 32) (k0_hw8 : k0_chk8 v678), ∀ a, (k0_off19 v678) a + S1x1x1x128x256.size a ≤ S1x1x16x128x256.size a := fun v678 k0_hw8 => k0_hw8

def k0_off20 (v676 : BitVec 32) : Fin 4 → Nat :=
  let v686 : Index := Scalar.indexCast v676
  let c0_323 : Index := 0#32
  let c0_324 : Index := 0#32
  let c0_325 : Index := 0#32
  ![v686.toNat, 0, 0, 0]

def k0_off21 (v676 : BitVec 32) : Fin 4 → Nat :=
  let v694 : Index := Scalar.indexCast v676
  let c1_331 : Index := 1#32
  let c0_332 : Index := 0#32
  let c0_333 : Index := 0#32
  ![v694.toNat, 1, 0, 0]

def k0_chk9 (v676 : BitVec 32) : Prop :=
  (∀ a, (k0_off20 v676) a + S1x1x64x256.size a ≤ S17x2x64x256.size a) ∧
  (∀ a, (k0_off21 v676) a + S1x1x64x256.size a ≤ S17x2x64x256.size a)
theorem k0_off20_inb : ∀ (v676 : BitVec 32) (k0_hw9 : k0_chk9 v676), ∀ a, (k0_off20 v676) a + S1x1x64x256.size a ≤ S17x2x64x256.size a := fun v676 k0_hw9 => k0_hw9.1
theorem k0_off21_inb : ∀ (v676 : BitVec 32) (k0_hw9 : k0_chk9 v676), ∀ a, (k0_off21 v676) a + S1x1x64x256.size a ≤ S17x2x64x256.size a := fun v676 k0_hw9 => k0_hw9.2

def k0_off22 (k0_t1 : Fin k0_t1_loop.trips) : Fin 2 → Nat :=
  let c2_334 : Index := 2#32
  let c0_i32_31 : BitVec 32 := 0#32
  let c1_i32_32 : BitVec 32 := 1#32
  let arg12 : BitVec 32 := Scf.iv c0_i32_31 c1_i32_32 k0_t1
  let c6_i32_285 : BitVec 32 := 6#32
  let v643 : BitVec 32 := Scalar.muli arg12 c6_i32_285
  let c1_i32_286 : BitVec 32 := 1#32
  let v644 : BitVec 32 := Scalar.addi v643 c1_i32_286
  let v698 : Index := Scalar.indexCast v644
  ![2, v698.toNat]
def k0_off23 (v699 : BitVec 32) : Fin 4 → Nat :=
  let v804 : Index := Scalar.indexCast v699
  let c0_357 : Index := 0#32
  let c0_358 : Index := 0#32
  let c0_359 : Index := 0#32
  ![v804.toNat, 0, 0, 0]

def k0_off24 (v699 : BitVec 32) : Fin 4 → Nat :=
  let v981 : Index := Scalar.indexCast v699
  let c1_386 : Index := 1#32
  let c0_387 : Index := 0#32
  let c0_388 : Index := 0#32
  ![v981.toNat, 1, 0, 0]

def k0_chk10 (v699 : BitVec 32) : Prop :=
  (∀ a, (k0_off23 v699) a + S1x1x8x256.size a ≤ S17x2x8x256.size a) ∧
  (∀ a, (k0_off24 v699) a + S1x1x8x256.size a ≤ S17x2x8x256.size a)
theorem k0_off23_inb : ∀ (v699 : BitVec 32) (k0_hw10 : k0_chk10 v699), ∀ a, (k0_off23 v699) a + S1x1x8x256.size a ≤ S17x2x8x256.size a := fun v699 k0_hw10 => k0_hw10.1
theorem k0_off24_inb : ∀ (v699 : BitVec 32) (k0_hw10 : k0_chk10 v699), ∀ a, (k0_off24 v699) a + S1x1x8x256.size a ≤ S17x2x8x256.size a := fun v699 k0_hw10 => k0_hw10.2

def k0_off25 (k0_t1 : Fin k0_t1_loop.trips) : Fin 2 → Nat :=
  let c0_395 : Index := 0#32
  let c0_i32_31 : BitVec 32 := 0#32
  let c1_i32_32 : BitVec 32 := 1#32
  let arg12 : BitVec 32 := Scf.iv c0_i32_31 c1_i32_32 k0_t1
  let c6_i32_393 : BitVec 32 := 6#32
  let v1054 : BitVec 32 := Scalar.muli arg12 c6_i32_393
  let c2_i32_394 : BitVec 32 := 2#32
  let v1055 : BitVec 32 := Scalar.addi v1054 c2_i32_394
  let v1056 : Index := Scalar.indexCast v1055
  ![0, v1056.toNat]
def k0_off26 (v1057 : BitVec 32) : Fin 5 → Nat :=
  let c0_396 : Index := 0#32
  let c0_397 : Index := 0#32
  let v1058 : Index := Scalar.indexCast v1057
  let c0_398 : Index := 0#32
  let c0_399 : Index := 0#32
  ![0, 0, v1058.toNat, 0, 0]

def k0_chk11 (v1057 : BitVec 32) : Prop :=
  (∀ a, (k0_off26 v1057) a + S1x1x1x128x256.size a ≤ S1x1x16x128x256.size a)
theorem k0_off26_inb : ∀ (v1057 : BitVec 32) (k0_hw11 : k0_chk11 v1057), ∀ a, (k0_off26 v1057) a + S1x1x1x128x256.size a ≤ S1x1x16x128x256.size a := fun v1057 k0_hw11 => k0_hw11

def k0_off27 (k0_t1 : Fin k0_t1_loop.trips) : Fin 2 → Nat :=
  let c1_400 : Index := 1#32
  let c0_i32_31 : BitVec 32 := 0#32
  let c1_i32_32 : BitVec 32 := 1#32
  let arg12 : BitVec 32 := Scf.iv c0_i32_31 c1_i32_32 k0_t1
  let c6_i32_393 : BitVec 32 := 6#32
  let v1054 : BitVec 32 := Scalar.muli arg12 c6_i32_393
  let c2_i32_394 : BitVec 32 := 2#32
  let v1055 : BitVec 32 := Scalar.addi v1054 c2_i32_394
  let v1061 : Index := Scalar.indexCast v1055
  ![1, v1061.toNat]
def k0_mult3 (v1062 : BitVec 32) : BitVec 32 :=
  let c256_i32_401 : BitVec 32 := 256#32
  let v1063 : BitVec 32 := Scalar.muli v1062 c256_i32_401
  v1063

def k0_off28 (v1062 : BitVec 32) : Fin 3 → Nat :=
  let c0_402 : Index := 0#32
  let c256_i32_401 : BitVec 32 := 256#32
  let v1063 : BitVec 32 := Scalar.muli v1062 c256_i32_401
  let v1064 : BitVec 32 := v1063
  let v1065 : Index := Scalar.indexCast v1064
  let c0_403 : Index := 0#32
  ![0, v1065.toNat, 0]

def k0_chk12 (v1062 : BitVec 32) : Prop :=
  (256 ∣ (k0_mult3 v1062).toNat) ∧
  (∀ a, (k0_off28 v1062) a + S1x256x128.size a ≤ S1x4096x128.size a)
theorem k0_mult3_dvd : ∀ (v1062 : BitVec 32) (k0_hw12 : k0_chk12 v1062), 256 ∣ (k0_mult3 v1062).toNat := fun v1062 k0_hw12 => k0_hw12.1
theorem k0_off28_inb : ∀ (v1062 : BitVec 32) (k0_hw12 : k0_chk12 v1062), ∀ a, (k0_off28 v1062) a + S1x256x128.size a ≤ S1x4096x128.size a := fun v1062 k0_hw12 => k0_hw12.2

def k0_off29 (k0_t1 : Fin k0_t1_loop.trips) : Fin 2 → Nat :=
  let c3_420 : Index := 3#32
  let c0_i32_31 : BitVec 32 := 0#32
  let c1_i32_32 : BitVec 32 := 1#32
  let arg12 : BitVec 32 := Scf.iv c0_i32_31 c1_i32_32 k0_t1
  let c6_i32_393 : BitVec 32 := 6#32
  let v1054 : BitVec 32 := Scalar.muli arg12 c6_i32_393
  let c2_i32_394 : BitVec 32 := 2#32
  let v1055 : BitVec 32 := Scalar.addi v1054 c2_i32_394
  let v1086 : Index := Scalar.indexCast v1055
  ![3, v1086.toNat]
def k0_off30 (k0_t1 : Fin k0_t1_loop.trips) : Fin 2 → Nat :=
  let c4_421 : Index := 4#32
  let c0_i32_31 : BitVec 32 := 0#32
  let c1_i32_32 : BitVec 32 := 1#32
  let arg12 : BitVec 32 := Scf.iv c0_i32_31 c1_i32_32 k0_t1
  let c6_i32_393 : BitVec 32 := 6#32
  let v1054 : BitVec 32 := Scalar.muli arg12 c6_i32_393
  let c2_i32_394 : BitVec 32 := 2#32
  let v1055 : BitVec 32 := Scalar.addi v1054 c2_i32_394
  let v1088 : Index := Scalar.indexCast v1055
  ![4, v1088.toNat]
def k0_off31 (v1089 : BitVec 32) : Fin 5 → Nat :=
  let c0_422 : Index := 0#32
  let c0_423 : Index := 0#32
  let v1090 : Index := Scalar.indexCast v1089
  let c0_424 : Index := 0#32
  let c0_425 : Index := 0#32
  ![0, 0, v1090.toNat, 0, 0]

def k0_chk13 (v1089 : BitVec 32) : Prop :=
  (∀ a, (k0_off31 v1089) a + S1x1x1x128x256.size a ≤ S1x1x16x128x256.size a)
theorem k0_off31_inb : ∀ (v1089 : BitVec 32) (k0_hw13 : k0_chk13 v1089), ∀ a, (k0_off31 v1089) a + S1x1x1x128x256.size a ≤ S1x1x16x128x256.size a := fun v1089 k0_hw13 => k0_hw13

def k0_off32 (v1087 : BitVec 32) : Fin 4 → Nat :=
  let v1097 : Index := Scalar.indexCast v1087
  let c0_431 : Index := 0#32
  let c0_432 : Index := 0#32
  let c0_433 : Index := 0#32
  ![v1097.toNat, 0, 0, 0]

def k0_off33 (v1087 : BitVec 32) : Fin 4 → Nat :=
  let v1105 : Index := Scalar.indexCast v1087
  let c1_439 : Index := 1#32
  let c0_440 : Index := 0#32
  let c0_441 : Index := 0#32
  ![v1105.toNat, 1, 0, 0]

def k0_chk14 (v1087 : BitVec 32) : Prop :=
  (∀ a, (k0_off32 v1087) a + S1x1x64x256.size a ≤ S17x2x64x256.size a) ∧
  (∀ a, (k0_off33 v1087) a + S1x1x64x256.size a ≤ S17x2x64x256.size a)
theorem k0_off32_inb : ∀ (v1087 : BitVec 32) (k0_hw14 : k0_chk14 v1087), ∀ a, (k0_off32 v1087) a + S1x1x64x256.size a ≤ S17x2x64x256.size a := fun v1087 k0_hw14 => k0_hw14.1
theorem k0_off33_inb : ∀ (v1087 : BitVec 32) (k0_hw14 : k0_chk14 v1087), ∀ a, (k0_off33 v1087) a + S1x1x64x256.size a ≤ S17x2x64x256.size a := fun v1087 k0_hw14 => k0_hw14.2

def k0_off34 (k0_t1 : Fin k0_t1_loop.trips) : Fin 2 → Nat :=
  let c2_442 : Index := 2#32
  let c0_i32_31 : BitVec 32 := 0#32
  let c1_i32_32 : BitVec 32 := 1#32
  let arg12 : BitVec 32 := Scf.iv c0_i32_31 c1_i32_32 k0_t1
  let c6_i32_393 : BitVec 32 := 6#32
  let v1054 : BitVec 32 := Scalar.muli arg12 c6_i32_393
  let c2_i32_394 : BitVec 32 := 2#32
  let v1055 : BitVec 32 := Scalar.addi v1054 c2_i32_394
  let v1109 : Index := Scalar.indexCast v1055
  ![2, v1109.toNat]
def k0_off35 (v1110 : BitVec 32) : Fin 4 → Nat :=
  let v1215 : Index := Scalar.indexCast v1110
  let c0_465 : Index := 0#32
  let c0_466 : Index := 0#32
  let c0_467 : Index := 0#32
  ![v1215.toNat, 0, 0, 0]

def k0_off36 (v1110 : BitVec 32) : Fin 4 → Nat :=
  let v1392 : Index := Scalar.indexCast v1110
  let c1_494 : Index := 1#32
  let c0_495 : Index := 0#32
  let c0_496 : Index := 0#32
  ![v1392.toNat, 1, 0, 0]

def k0_chk15 (v1110 : BitVec 32) : Prop :=
  (∀ a, (k0_off35 v1110) a + S1x1x8x256.size a ≤ S17x2x8x256.size a) ∧
  (∀ a, (k0_off36 v1110) a + S1x1x8x256.size a ≤ S17x2x8x256.size a)
theorem k0_off35_inb : ∀ (v1110 : BitVec 32) (k0_hw15 : k0_chk15 v1110), ∀ a, (k0_off35 v1110) a + S1x1x8x256.size a ≤ S17x2x8x256.size a := fun v1110 k0_hw15 => k0_hw15.1
theorem k0_off36_inb : ∀ (v1110 : BitVec 32) (k0_hw15 : k0_chk15 v1110), ∀ a, (k0_off36 v1110) a + S1x1x8x256.size a ≤ S17x2x8x256.size a := fun v1110 k0_hw15 => k0_hw15.2

def k0_off37 (k0_t1 : Fin k0_t1_loop.trips) : Fin 2 → Nat :=
  let c0_503 : Index := 0#32
  let c0_i32_31 : BitVec 32 := 0#32
  let c1_i32_32 : BitVec 32 := 1#32
  let arg12 : BitVec 32 := Scf.iv c0_i32_31 c1_i32_32 k0_t1
  let c6_i32_501 : BitVec 32 := 6#32
  let v1465 : BitVec 32 := Scalar.muli arg12 c6_i32_501
  let c3_i32_502 : BitVec 32 := 3#32
  let v1466 : BitVec 32 := Scalar.addi v1465 c3_i32_502
  let v1467 : Index := Scalar.indexCast v1466
  ![0, v1467.toNat]
def k0_off38 (v1468 : BitVec 32) : Fin 5 → Nat :=
  let c0_504 : Index := 0#32
  let c0_505 : Index := 0#32
  let v1469 : Index := Scalar.indexCast v1468
  let c0_506 : Index := 0#32
  let c0_507 : Index := 0#32
  ![0, 0, v1469.toNat, 0, 0]

def k0_chk16 (v1468 : BitVec 32) : Prop :=
  (∀ a, (k0_off38 v1468) a + S1x1x1x128x256.size a ≤ S1x1x16x128x256.size a)
theorem k0_off38_inb : ∀ (v1468 : BitVec 32) (k0_hw16 : k0_chk16 v1468), ∀ a, (k0_off38 v1468) a + S1x1x1x128x256.size a ≤ S1x1x16x128x256.size a := fun v1468 k0_hw16 => k0_hw16

def k0_off39 (k0_t1 : Fin k0_t1_loop.trips) : Fin 2 → Nat :=
  let c1_508 : Index := 1#32
  let c0_i32_31 : BitVec 32 := 0#32
  let c1_i32_32 : BitVec 32 := 1#32
  let arg12 : BitVec 32 := Scf.iv c0_i32_31 c1_i32_32 k0_t1
  let c6_i32_501 : BitVec 32 := 6#32
  let v1465 : BitVec 32 := Scalar.muli arg12 c6_i32_501
  let c3_i32_502 : BitVec 32 := 3#32
  let v1466 : BitVec 32 := Scalar.addi v1465 c3_i32_502
  let v1472 : Index := Scalar.indexCast v1466
  ![1, v1472.toNat]
def k0_mult4 (v1473 : BitVec 32) : BitVec 32 :=
  let c256_i32_509 : BitVec 32 := 256#32
  let v1474 : BitVec 32 := Scalar.muli v1473 c256_i32_509
  v1474

def k0_off40 (v1473 : BitVec 32) : Fin 3 → Nat :=
  let c0_510 : Index := 0#32
  let c256_i32_509 : BitVec 32 := 256#32
  let v1474 : BitVec 32 := Scalar.muli v1473 c256_i32_509
  let v1475 : BitVec 32 := v1474
  let v1476 : Index := Scalar.indexCast v1475
  let c0_511 : Index := 0#32
  ![0, v1476.toNat, 0]

def k0_chk17 (v1473 : BitVec 32) : Prop :=
  (256 ∣ (k0_mult4 v1473).toNat) ∧
  (∀ a, (k0_off40 v1473) a + S1x256x128.size a ≤ S1x4096x128.size a)
theorem k0_mult4_dvd : ∀ (v1473 : BitVec 32) (k0_hw17 : k0_chk17 v1473), 256 ∣ (k0_mult4 v1473).toNat := fun v1473 k0_hw17 => k0_hw17.1
theorem k0_off40_inb : ∀ (v1473 : BitVec 32) (k0_hw17 : k0_chk17 v1473), ∀ a, (k0_off40 v1473) a + S1x256x128.size a ≤ S1x4096x128.size a := fun v1473 k0_hw17 => k0_hw17.2

def k0_off41 (k0_t1 : Fin k0_t1_loop.trips) : Fin 2 → Nat :=
  let c3_528 : Index := 3#32
  let c0_i32_31 : BitVec 32 := 0#32
  let c1_i32_32 : BitVec 32 := 1#32
  let arg12 : BitVec 32 := Scf.iv c0_i32_31 c1_i32_32 k0_t1
  let c6_i32_501 : BitVec 32 := 6#32
  let v1465 : BitVec 32 := Scalar.muli arg12 c6_i32_501
  let c3_i32_502 : BitVec 32 := 3#32
  let v1466 : BitVec 32 := Scalar.addi v1465 c3_i32_502
  let v1497 : Index := Scalar.indexCast v1466
  ![3, v1497.toNat]
def k0_off42 (k0_t1 : Fin k0_t1_loop.trips) : Fin 2 → Nat :=
  let c4_529 : Index := 4#32
  let c0_i32_31 : BitVec 32 := 0#32
  let c1_i32_32 : BitVec 32 := 1#32
  let arg12 : BitVec 32 := Scf.iv c0_i32_31 c1_i32_32 k0_t1
  let c6_i32_501 : BitVec 32 := 6#32
  let v1465 : BitVec 32 := Scalar.muli arg12 c6_i32_501
  let c3_i32_502 : BitVec 32 := 3#32
  let v1466 : BitVec 32 := Scalar.addi v1465 c3_i32_502
  let v1499 : Index := Scalar.indexCast v1466
  ![4, v1499.toNat]
def k0_off43 (v1500 : BitVec 32) : Fin 5 → Nat :=
  let c0_530 : Index := 0#32
  let c0_531 : Index := 0#32
  let v1501 : Index := Scalar.indexCast v1500
  let c0_532 : Index := 0#32
  let c0_533 : Index := 0#32
  ![0, 0, v1501.toNat, 0, 0]

def k0_chk18 (v1500 : BitVec 32) : Prop :=
  (∀ a, (k0_off43 v1500) a + S1x1x1x128x256.size a ≤ S1x1x16x128x256.size a)
theorem k0_off43_inb : ∀ (v1500 : BitVec 32) (k0_hw18 : k0_chk18 v1500), ∀ a, (k0_off43 v1500) a + S1x1x1x128x256.size a ≤ S1x1x16x128x256.size a := fun v1500 k0_hw18 => k0_hw18

def k0_off44 (v1498 : BitVec 32) : Fin 4 → Nat :=
  let v1508 : Index := Scalar.indexCast v1498
  let c0_539 : Index := 0#32
  let c0_540 : Index := 0#32
  let c0_541 : Index := 0#32
  ![v1508.toNat, 0, 0, 0]

def k0_off45 (v1498 : BitVec 32) : Fin 4 → Nat :=
  let v1516 : Index := Scalar.indexCast v1498
  let c1_547 : Index := 1#32
  let c0_548 : Index := 0#32
  let c0_549 : Index := 0#32
  ![v1516.toNat, 1, 0, 0]

def k0_chk19 (v1498 : BitVec 32) : Prop :=
  (∀ a, (k0_off44 v1498) a + S1x1x64x256.size a ≤ S17x2x64x256.size a) ∧
  (∀ a, (k0_off45 v1498) a + S1x1x64x256.size a ≤ S17x2x64x256.size a)
theorem k0_off44_inb : ∀ (v1498 : BitVec 32) (k0_hw19 : k0_chk19 v1498), ∀ a, (k0_off44 v1498) a + S1x1x64x256.size a ≤ S17x2x64x256.size a := fun v1498 k0_hw19 => k0_hw19.1
theorem k0_off45_inb : ∀ (v1498 : BitVec 32) (k0_hw19 : k0_chk19 v1498), ∀ a, (k0_off45 v1498) a + S1x1x64x256.size a ≤ S17x2x64x256.size a := fun v1498 k0_hw19 => k0_hw19.2

def k0_off46 (k0_t1 : Fin k0_t1_loop.trips) : Fin 2 → Nat :=
  let c2_550 : Index := 2#32
  let c0_i32_31 : BitVec 32 := 0#32
  let c1_i32_32 : BitVec 32 := 1#32
  let arg12 : BitVec 32 := Scf.iv c0_i32_31 c1_i32_32 k0_t1
  let c6_i32_501 : BitVec 32 := 6#32
  let v1465 : BitVec 32 := Scalar.muli arg12 c6_i32_501
  let c3_i32_502 : BitVec 32 := 3#32
  let v1466 : BitVec 32 := Scalar.addi v1465 c3_i32_502
  let v1520 : Index := Scalar.indexCast v1466
  ![2, v1520.toNat]
def k0_off47 (v1521 : BitVec 32) : Fin 4 → Nat :=
  let v1626 : Index := Scalar.indexCast v1521
  let c0_573 : Index := 0#32
  let c0_574 : Index := 0#32
  let c0_575 : Index := 0#32
  ![v1626.toNat, 0, 0, 0]

def k0_off48 (v1521 : BitVec 32) : Fin 4 → Nat :=
  let v1803 : Index := Scalar.indexCast v1521
  let c1_602 : Index := 1#32
  let c0_603 : Index := 0#32
  let c0_604 : Index := 0#32
  ![v1803.toNat, 1, 0, 0]

def k0_chk20 (v1521 : BitVec 32) : Prop :=
  (∀ a, (k0_off47 v1521) a + S1x1x8x256.size a ≤ S17x2x8x256.size a) ∧
  (∀ a, (k0_off48 v1521) a + S1x1x8x256.size a ≤ S17x2x8x256.size a)
theorem k0_off47_inb : ∀ (v1521 : BitVec 32) (k0_hw20 : k0_chk20 v1521), ∀ a, (k0_off47 v1521) a + S1x1x8x256.size a ≤ S17x2x8x256.size a := fun v1521 k0_hw20 => k0_hw20.1
theorem k0_off48_inb : ∀ (v1521 : BitVec 32) (k0_hw20 : k0_chk20 v1521), ∀ a, (k0_off48 v1521) a + S1x1x8x256.size a ≤ S17x2x8x256.size a := fun v1521 k0_hw20 => k0_hw20.2

def k0_off49 (k0_t1 : Fin k0_t1_loop.trips) : Fin 2 → Nat :=
  let c0_611 : Index := 0#32
  let c0_i32_31 : BitVec 32 := 0#32
  let c1_i32_32 : BitVec 32 := 1#32
  let arg12 : BitVec 32 := Scf.iv c0_i32_31 c1_i32_32 k0_t1
  let c6_i32_609 : BitVec 32 := 6#32
  let v1876 : BitVec 32 := Scalar.muli arg12 c6_i32_609
  let c4_i32_610 : BitVec 32 := 4#32
  let v1877 : BitVec 32 := Scalar.addi v1876 c4_i32_610
  let v1878 : Index := Scalar.indexCast v1877
  ![0, v1878.toNat]
def k0_off50 (v1879 : BitVec 32) : Fin 5 → Nat :=
  let c0_612 : Index := 0#32
  let c0_613 : Index := 0#32
  let v1880 : Index := Scalar.indexCast v1879
  let c0_614 : Index := 0#32
  let c0_615 : Index := 0#32
  ![0, 0, v1880.toNat, 0, 0]

def k0_chk21 (v1879 : BitVec 32) : Prop :=
  (∀ a, (k0_off50 v1879) a + S1x1x1x128x256.size a ≤ S1x1x16x128x256.size a)
theorem k0_off50_inb : ∀ (v1879 : BitVec 32) (k0_hw21 : k0_chk21 v1879), ∀ a, (k0_off50 v1879) a + S1x1x1x128x256.size a ≤ S1x1x16x128x256.size a := fun v1879 k0_hw21 => k0_hw21

def k0_off51 (k0_t1 : Fin k0_t1_loop.trips) : Fin 2 → Nat :=
  let c1_616 : Index := 1#32
  let c0_i32_31 : BitVec 32 := 0#32
  let c1_i32_32 : BitVec 32 := 1#32
  let arg12 : BitVec 32 := Scf.iv c0_i32_31 c1_i32_32 k0_t1
  let c6_i32_609 : BitVec 32 := 6#32
  let v1876 : BitVec 32 := Scalar.muli arg12 c6_i32_609
  let c4_i32_610 : BitVec 32 := 4#32
  let v1877 : BitVec 32 := Scalar.addi v1876 c4_i32_610
  let v1883 : Index := Scalar.indexCast v1877
  ![1, v1883.toNat]
def k0_mult5 (v1884 : BitVec 32) : BitVec 32 :=
  let c256_i32_617 : BitVec 32 := 256#32
  let v1885 : BitVec 32 := Scalar.muli v1884 c256_i32_617
  v1885

def k0_off52 (v1884 : BitVec 32) : Fin 3 → Nat :=
  let c0_618 : Index := 0#32
  let c256_i32_617 : BitVec 32 := 256#32
  let v1885 : BitVec 32 := Scalar.muli v1884 c256_i32_617
  let v1886 : BitVec 32 := v1885
  let v1887 : Index := Scalar.indexCast v1886
  let c0_619 : Index := 0#32
  ![0, v1887.toNat, 0]

def k0_chk22 (v1884 : BitVec 32) : Prop :=
  (256 ∣ (k0_mult5 v1884).toNat) ∧
  (∀ a, (k0_off52 v1884) a + S1x256x128.size a ≤ S1x4096x128.size a)
theorem k0_mult5_dvd : ∀ (v1884 : BitVec 32) (k0_hw22 : k0_chk22 v1884), 256 ∣ (k0_mult5 v1884).toNat := fun v1884 k0_hw22 => k0_hw22.1
theorem k0_off52_inb : ∀ (v1884 : BitVec 32) (k0_hw22 : k0_chk22 v1884), ∀ a, (k0_off52 v1884) a + S1x256x128.size a ≤ S1x4096x128.size a := fun v1884 k0_hw22 => k0_hw22.2

def k0_off53 (k0_t1 : Fin k0_t1_loop.trips) : Fin 2 → Nat :=
  let c3_636 : Index := 3#32
  let c0_i32_31 : BitVec 32 := 0#32
  let c1_i32_32 : BitVec 32 := 1#32
  let arg12 : BitVec 32 := Scf.iv c0_i32_31 c1_i32_32 k0_t1
  let c6_i32_609 : BitVec 32 := 6#32
  let v1876 : BitVec 32 := Scalar.muli arg12 c6_i32_609
  let c4_i32_610 : BitVec 32 := 4#32
  let v1877 : BitVec 32 := Scalar.addi v1876 c4_i32_610
  let v1908 : Index := Scalar.indexCast v1877
  ![3, v1908.toNat]
def k0_off54 (k0_t1 : Fin k0_t1_loop.trips) : Fin 2 → Nat :=
  let c4_637 : Index := 4#32
  let c0_i32_31 : BitVec 32 := 0#32
  let c1_i32_32 : BitVec 32 := 1#32
  let arg12 : BitVec 32 := Scf.iv c0_i32_31 c1_i32_32 k0_t1
  let c6_i32_609 : BitVec 32 := 6#32
  let v1876 : BitVec 32 := Scalar.muli arg12 c6_i32_609
  let c4_i32_610 : BitVec 32 := 4#32
  let v1877 : BitVec 32 := Scalar.addi v1876 c4_i32_610
  let v1910 : Index := Scalar.indexCast v1877
  ![4, v1910.toNat]
def k0_off55 (v1911 : BitVec 32) : Fin 5 → Nat :=
  let c0_638 : Index := 0#32
  let c0_639 : Index := 0#32
  let v1912 : Index := Scalar.indexCast v1911
  let c0_640 : Index := 0#32
  let c0_641 : Index := 0#32
  ![0, 0, v1912.toNat, 0, 0]

def k0_chk23 (v1911 : BitVec 32) : Prop :=
  (∀ a, (k0_off55 v1911) a + S1x1x1x128x256.size a ≤ S1x1x16x128x256.size a)
theorem k0_off55_inb : ∀ (v1911 : BitVec 32) (k0_hw23 : k0_chk23 v1911), ∀ a, (k0_off55 v1911) a + S1x1x1x128x256.size a ≤ S1x1x16x128x256.size a := fun v1911 k0_hw23 => k0_hw23

def k0_off56 (v1909 : BitVec 32) : Fin 4 → Nat :=
  let v1919 : Index := Scalar.indexCast v1909
  let c0_647 : Index := 0#32
  let c0_648 : Index := 0#32
  let c0_649 : Index := 0#32
  ![v1919.toNat, 0, 0, 0]

def k0_off57 (v1909 : BitVec 32) : Fin 4 → Nat :=
  let v1927 : Index := Scalar.indexCast v1909
  let c1_655 : Index := 1#32
  let c0_656 : Index := 0#32
  let c0_657 : Index := 0#32
  ![v1927.toNat, 1, 0, 0]

def k0_chk24 (v1909 : BitVec 32) : Prop :=
  (∀ a, (k0_off56 v1909) a + S1x1x64x256.size a ≤ S17x2x64x256.size a) ∧
  (∀ a, (k0_off57 v1909) a + S1x1x64x256.size a ≤ S17x2x64x256.size a)
theorem k0_off56_inb : ∀ (v1909 : BitVec 32) (k0_hw24 : k0_chk24 v1909), ∀ a, (k0_off56 v1909) a + S1x1x64x256.size a ≤ S17x2x64x256.size a := fun v1909 k0_hw24 => k0_hw24.1
theorem k0_off57_inb : ∀ (v1909 : BitVec 32) (k0_hw24 : k0_chk24 v1909), ∀ a, (k0_off57 v1909) a + S1x1x64x256.size a ≤ S17x2x64x256.size a := fun v1909 k0_hw24 => k0_hw24.2

def k0_off58 (k0_t1 : Fin k0_t1_loop.trips) : Fin 2 → Nat :=
  let c2_658 : Index := 2#32
  let c0_i32_31 : BitVec 32 := 0#32
  let c1_i32_32 : BitVec 32 := 1#32
  let arg12 : BitVec 32 := Scf.iv c0_i32_31 c1_i32_32 k0_t1
  let c6_i32_609 : BitVec 32 := 6#32
  let v1876 : BitVec 32 := Scalar.muli arg12 c6_i32_609
  let c4_i32_610 : BitVec 32 := 4#32
  let v1877 : BitVec 32 := Scalar.addi v1876 c4_i32_610
  let v1931 : Index := Scalar.indexCast v1877
  ![2, v1931.toNat]
def k0_off59 (v1932 : BitVec 32) : Fin 4 → Nat :=
  let v2037 : Index := Scalar.indexCast v1932
  let c0_681 : Index := 0#32
  let c0_682 : Index := 0#32
  let c0_683 : Index := 0#32
  ![v2037.toNat, 0, 0, 0]

def k0_off60 (v1932 : BitVec 32) : Fin 4 → Nat :=
  let v2214 : Index := Scalar.indexCast v1932
  let c1_710 : Index := 1#32
  let c0_711 : Index := 0#32
  let c0_712 : Index := 0#32
  ![v2214.toNat, 1, 0, 0]

def k0_chk25 (v1932 : BitVec 32) : Prop :=
  (∀ a, (k0_off59 v1932) a + S1x1x8x256.size a ≤ S17x2x8x256.size a) ∧
  (∀ a, (k0_off60 v1932) a + S1x1x8x256.size a ≤ S17x2x8x256.size a)
theorem k0_off59_inb : ∀ (v1932 : BitVec 32) (k0_hw25 : k0_chk25 v1932), ∀ a, (k0_off59 v1932) a + S1x1x8x256.size a ≤ S17x2x8x256.size a := fun v1932 k0_hw25 => k0_hw25.1
theorem k0_off60_inb : ∀ (v1932 : BitVec 32) (k0_hw25 : k0_chk25 v1932), ∀ a, (k0_off60 v1932) a + S1x1x8x256.size a ≤ S17x2x8x256.size a := fun v1932 k0_hw25 => k0_hw25.2

def k0_off61 (k0_t1 : Fin k0_t1_loop.trips) : Fin 2 → Nat :=
  let c0_718 : Index := 0#32
  let c0_i32_31 : BitVec 32 := 0#32
  let c1_i32_32 : BitVec 32 := 1#32
  let arg12 : BitVec 32 := Scf.iv c0_i32_31 c1_i32_32 k0_t1
  let c6_i32_717 : BitVec 32 := 6#32
  let v2287 : BitVec 32 := Scalar.muli arg12 c6_i32_717
  let c5_i32 : BitVec 32 := 5#32
  let v2288 : BitVec 32 := Scalar.addi v2287 c5_i32
  let v2289 : Index := Scalar.indexCast v2288
  ![0, v2289.toNat]
def k0_off62 (v2290 : BitVec 32) : Fin 5 → Nat :=
  let c0_719 : Index := 0#32
  let c0_720 : Index := 0#32
  let v2291 : Index := Scalar.indexCast v2290
  let c0_721 : Index := 0#32
  let c0_722 : Index := 0#32
  ![0, 0, v2291.toNat, 0, 0]

def k0_chk26 (v2290 : BitVec 32) : Prop :=
  (∀ a, (k0_off62 v2290) a + S1x1x1x128x256.size a ≤ S1x1x16x128x256.size a)
theorem k0_off62_inb : ∀ (v2290 : BitVec 32) (k0_hw26 : k0_chk26 v2290), ∀ a, (k0_off62 v2290) a + S1x1x1x128x256.size a ≤ S1x1x16x128x256.size a := fun v2290 k0_hw26 => k0_hw26

def k0_off63 (k0_t1 : Fin k0_t1_loop.trips) : Fin 2 → Nat :=
  let c1_723 : Index := 1#32
  let c0_i32_31 : BitVec 32 := 0#32
  let c1_i32_32 : BitVec 32 := 1#32
  let arg12 : BitVec 32 := Scf.iv c0_i32_31 c1_i32_32 k0_t1
  let c6_i32_717 : BitVec 32 := 6#32
  let v2287 : BitVec 32 := Scalar.muli arg12 c6_i32_717
  let c5_i32 : BitVec 32 := 5#32
  let v2288 : BitVec 32 := Scalar.addi v2287 c5_i32
  let v2294 : Index := Scalar.indexCast v2288
  ![1, v2294.toNat]
def k0_mult6 (v2295 : BitVec 32) : BitVec 32 :=
  let c256_i32_724 : BitVec 32 := 256#32
  let v2296 : BitVec 32 := Scalar.muli v2295 c256_i32_724
  v2296

def k0_off64 (v2295 : BitVec 32) : Fin 3 → Nat :=
  let c0_725 : Index := 0#32
  let c256_i32_724 : BitVec 32 := 256#32
  let v2296 : BitVec 32 := Scalar.muli v2295 c256_i32_724
  let v2297 : BitVec 32 := v2296
  let v2298 : Index := Scalar.indexCast v2297
  let c0_726 : Index := 0#32
  ![0, v2298.toNat, 0]

def k0_chk27 (v2295 : BitVec 32) : Prop :=
  (256 ∣ (k0_mult6 v2295).toNat) ∧
  (∀ a, (k0_off64 v2295) a + S1x256x128.size a ≤ S1x4096x128.size a)
theorem k0_mult6_dvd : ∀ (v2295 : BitVec 32) (k0_hw27 : k0_chk27 v2295), 256 ∣ (k0_mult6 v2295).toNat := fun v2295 k0_hw27 => k0_hw27.1
theorem k0_off64_inb : ∀ (v2295 : BitVec 32) (k0_hw27 : k0_chk27 v2295), ∀ a, (k0_off64 v2295) a + S1x256x128.size a ≤ S1x4096x128.size a := fun v2295 k0_hw27 => k0_hw27.2

def k0_off65 (k0_t1 : Fin k0_t1_loop.trips) : Fin 2 → Nat :=
  let c3_743 : Index := 3#32
  let c0_i32_31 : BitVec 32 := 0#32
  let c1_i32_32 : BitVec 32 := 1#32
  let arg12 : BitVec 32 := Scf.iv c0_i32_31 c1_i32_32 k0_t1
  let c6_i32_717 : BitVec 32 := 6#32
  let v2287 : BitVec 32 := Scalar.muli arg12 c6_i32_717
  let c5_i32 : BitVec 32 := 5#32
  let v2288 : BitVec 32 := Scalar.addi v2287 c5_i32
  let v2319 : Index := Scalar.indexCast v2288
  ![3, v2319.toNat]
def k0_off66 (k0_t1 : Fin k0_t1_loop.trips) : Fin 2 → Nat :=
  let c4_744 : Index := 4#32
  let c0_i32_31 : BitVec 32 := 0#32
  let c1_i32_32 : BitVec 32 := 1#32
  let arg12 : BitVec 32 := Scf.iv c0_i32_31 c1_i32_32 k0_t1
  let c6_i32_717 : BitVec 32 := 6#32
  let v2287 : BitVec 32 := Scalar.muli arg12 c6_i32_717
  let c5_i32 : BitVec 32 := 5#32
  let v2288 : BitVec 32 := Scalar.addi v2287 c5_i32
  let v2321 : Index := Scalar.indexCast v2288
  ![4, v2321.toNat]
def k0_off67 (v2322 : BitVec 32) : Fin 5 → Nat :=
  let c0_745 : Index := 0#32
  let c0_746 : Index := 0#32
  let v2323 : Index := Scalar.indexCast v2322
  let c0_747 : Index := 0#32
  let c0_748 : Index := 0#32
  ![0, 0, v2323.toNat, 0, 0]

def k0_chk28 (v2322 : BitVec 32) : Prop :=
  (∀ a, (k0_off67 v2322) a + S1x1x1x128x256.size a ≤ S1x1x16x128x256.size a)
theorem k0_off67_inb : ∀ (v2322 : BitVec 32) (k0_hw28 : k0_chk28 v2322), ∀ a, (k0_off67 v2322) a + S1x1x1x128x256.size a ≤ S1x1x16x128x256.size a := fun v2322 k0_hw28 => k0_hw28

def k0_off68 (v2320 : BitVec 32) : Fin 4 → Nat :=
  let v2330 : Index := Scalar.indexCast v2320
  let c0_754 : Index := 0#32
  let c0_755 : Index := 0#32
  let c0_756 : Index := 0#32
  ![v2330.toNat, 0, 0, 0]

def k0_off69 (v2320 : BitVec 32) : Fin 4 → Nat :=
  let v2338 : Index := Scalar.indexCast v2320
  let c1_762 : Index := 1#32
  let c0_763 : Index := 0#32
  let c0_764 : Index := 0#32
  ![v2338.toNat, 1, 0, 0]

def k0_chk29 (v2320 : BitVec 32) : Prop :=
  (∀ a, (k0_off68 v2320) a + S1x1x64x256.size a ≤ S17x2x64x256.size a) ∧
  (∀ a, (k0_off69 v2320) a + S1x1x64x256.size a ≤ S17x2x64x256.size a)
theorem k0_off68_inb : ∀ (v2320 : BitVec 32) (k0_hw29 : k0_chk29 v2320), ∀ a, (k0_off68 v2320) a + S1x1x64x256.size a ≤ S17x2x64x256.size a := fun v2320 k0_hw29 => k0_hw29.1
theorem k0_off69_inb : ∀ (v2320 : BitVec 32) (k0_hw29 : k0_chk29 v2320), ∀ a, (k0_off69 v2320) a + S1x1x64x256.size a ≤ S17x2x64x256.size a := fun v2320 k0_hw29 => k0_hw29.2

def k0_off70 (k0_t1 : Fin k0_t1_loop.trips) : Fin 2 → Nat :=
  let c2_765 : Index := 2#32
  let c0_i32_31 : BitVec 32 := 0#32
  let c1_i32_32 : BitVec 32 := 1#32
  let arg12 : BitVec 32 := Scf.iv c0_i32_31 c1_i32_32 k0_t1
  let c6_i32_717 : BitVec 32 := 6#32
  let v2287 : BitVec 32 := Scalar.muli arg12 c6_i32_717
  let c5_i32 : BitVec 32 := 5#32
  let v2288 : BitVec 32 := Scalar.addi v2287 c5_i32
  let v2342 : Index := Scalar.indexCast v2288
  ![2, v2342.toNat]
def k0_off71 (v2343 : BitVec 32) : Fin 4 → Nat :=
  let v2448 : Index := Scalar.indexCast v2343
  let c0_788 : Index := 0#32
  let c0_789 : Index := 0#32
  let c0_790 : Index := 0#32
  ![v2448.toNat, 0, 0, 0]

def k0_off72 (v2343 : BitVec 32) : Fin 4 → Nat :=
  let v2625 : Index := Scalar.indexCast v2343
  let c1_817 : Index := 1#32
  let c0_818 : Index := 0#32
  let c0_819 : Index := 0#32
  ![v2625.toNat, 1, 0, 0]

def k0_chk30 (v2343 : BitVec 32) : Prop :=
  (∀ a, (k0_off71 v2343) a + S1x1x8x256.size a ≤ S17x2x8x256.size a) ∧
  (∀ a, (k0_off72 v2343) a + S1x1x8x256.size a ≤ S17x2x8x256.size a)
theorem k0_off71_inb : ∀ (v2343 : BitVec 32) (k0_hw30 : k0_chk30 v2343), ∀ a, (k0_off71 v2343) a + S1x1x8x256.size a ≤ S17x2x8x256.size a := fun v2343 k0_hw30 => k0_hw30.1
theorem k0_off72_inb : ∀ (v2343 : BitVec 32) (k0_hw30 : k0_chk30 v2343), ∀ a, (k0_off72 v2343) a + S1x1x8x256.size a ≤ S17x2x8x256.size a := fun v2343 k0_hw30 => k0_hw30.2

@[reducible] def k0_t2_loop : Scf.Loop 32 :=
  let c3_i32_34 : BitVec 32 := 3#32
  let c21_i32 : BitVec 32 := 21#32
  let v71 : BitVec 32 := Scalar.addi c3_i32_34 c21_i32
  let c1_i32_35 : BitVec 32 := 1#32
  ⟨c3_i32_34, v71, c1_i32_35⟩
def k0_off73 (k0_t2 : Fin k0_t2_loop.trips) : Fin 2 → Nat :=
  let c0_184 : Index := 0#32
  let c3_i32_34 : BitVec 32 := 3#32
  let c1_i32_35 : BitVec 32 := 1#32
  let arg12 : BitVec 32 := Scf.iv c3_i32_34 c1_i32_35 k0_t2
  let c6_i32 : BitVec 32 := 6#32
  let v232 : BitVec 32 := Scalar.muli arg12 c6_i32
  let c0_i32_183 : BitVec 32 := 0#32
  let v233 : BitVec 32 := Scalar.addi v232 c0_i32_183
  let v234 : Index := Scalar.indexCast v233
  ![0, v234.toNat]
def k0_off74 (v235 : BitVec 32) : Fin 5 → Nat :=
  let c0_185 : Index := 0#32
  let c0_186 : Index := 0#32
  let v236 : Index := Scalar.indexCast v235
  let c0_187 : Index := 0#32
  let c0_188 : Index := 0#32
  ![0, 0, v236.toNat, 0, 0]

def k0_chk31 (v235 : BitVec 32) : Prop :=
  (∀ a, (k0_off74 v235) a + S1x1x1x128x256.size a ≤ S1x1x16x128x256.size a)
theorem k0_off74_inb : ∀ (v235 : BitVec 32) (k0_hw31 : k0_chk31 v235), ∀ a, (k0_off74 v235) a + S1x1x1x128x256.size a ≤ S1x1x16x128x256.size a := fun v235 k0_hw31 => k0_hw31

def k0_off75 (k0_t2 : Fin k0_t2_loop.trips) : Fin 2 → Nat :=
  let c1_189 : Index := 1#32
  let c3_i32_34 : BitVec 32 := 3#32
  let c1_i32_35 : BitVec 32 := 1#32
  let arg12 : BitVec 32 := Scf.iv c3_i32_34 c1_i32_35 k0_t2
  let c6_i32 : BitVec 32 := 6#32
  let v232 : BitVec 32 := Scalar.muli arg12 c6_i32
  let c0_i32_183 : BitVec 32 := 0#32
  let v233 : BitVec 32 := Scalar.addi v232 c0_i32_183
  let v239 : Index := Scalar.indexCast v233
  ![1, v239.toNat]
def k0_mult7 (v240 : BitVec 32) : BitVec 32 :=
  let c256_i32 : BitVec 32 := 256#32
  let v241 : BitVec 32 := Scalar.muli v240 c256_i32
  v241

def k0_off76 (v240 : BitVec 32) : Fin 3 → Nat :=
  let c0_190 : Index := 0#32
  let c256_i32 : BitVec 32 := 256#32
  let v241 : BitVec 32 := Scalar.muli v240 c256_i32
  let v242 : BitVec 32 := v241
  let v243 : Index := Scalar.indexCast v242
  let c0_191 : Index := 0#32
  ![0, v243.toNat, 0]

def k0_chk32 (v240 : BitVec 32) : Prop :=
  (256 ∣ (k0_mult7 v240).toNat) ∧
  (∀ a, (k0_off76 v240) a + S1x256x128.size a ≤ S1x4096x128.size a)
theorem k0_mult7_dvd : ∀ (v240 : BitVec 32) (k0_hw32 : k0_chk32 v240), 256 ∣ (k0_mult7 v240).toNat := fun v240 k0_hw32 => k0_hw32.1
theorem k0_off76_inb : ∀ (v240 : BitVec 32) (k0_hw32 : k0_chk32 v240), ∀ a, (k0_off76 v240) a + S1x256x128.size a ≤ S1x4096x128.size a := fun v240 k0_hw32 => k0_hw32.2

def k0_off77 (k0_t2 : Fin k0_t2_loop.trips) : Fin 2 → Nat :=
  let c3_204 : Index := 3#32
  let c3_i32_34 : BitVec 32 := 3#32
  let c1_i32_35 : BitVec 32 := 1#32
  let arg12 : BitVec 32 := Scf.iv c3_i32_34 c1_i32_35 k0_t2
  let c6_i32 : BitVec 32 := 6#32
  let v232 : BitVec 32 := Scalar.muli arg12 c6_i32
  let c0_i32_183 : BitVec 32 := 0#32
  let v233 : BitVec 32 := Scalar.addi v232 c0_i32_183
  let v258 : Index := Scalar.indexCast v233
  ![3, v258.toNat]
def k0_off78 (k0_t2 : Fin k0_t2_loop.trips) : Fin 2 → Nat :=
  let c4_205 : Index := 4#32
  let c3_i32_34 : BitVec 32 := 3#32
  let c1_i32_35 : BitVec 32 := 1#32
  let arg12 : BitVec 32 := Scf.iv c3_i32_34 c1_i32_35 k0_t2
  let c6_i32 : BitVec 32 := 6#32
  let v232 : BitVec 32 := Scalar.muli arg12 c6_i32
  let c0_i32_183 : BitVec 32 := 0#32
  let v233 : BitVec 32 := Scalar.addi v232 c0_i32_183
  let v260 : Index := Scalar.indexCast v233
  ![4, v260.toNat]
def k0_off79 (v261 : BitVec 32) : Fin 5 → Nat :=
  let c0_206 : Index := 0#32
  let c0_207 : Index := 0#32
  let v262 : Index := Scalar.indexCast v261
  let c0_208 : Index := 0#32
  let c0_209 : Index := 0#32
  ![0, 0, v262.toNat, 0, 0]

def k0_chk33 (v261 : BitVec 32) : Prop :=
  (∀ a, (k0_off79 v261) a + S1x1x1x128x256.size a ≤ S1x1x16x128x256.size a)
theorem k0_off79_inb : ∀ (v261 : BitVec 32) (k0_hw33 : k0_chk33 v261), ∀ a, (k0_off79 v261) a + S1x1x1x128x256.size a ≤ S1x1x16x128x256.size a := fun v261 k0_hw33 => k0_hw33

def k0_off80 (v259 : BitVec 32) : Fin 4 → Nat :=
  let v269 : Index := Scalar.indexCast v259
  let c0_215 : Index := 0#32
  let c0_216 : Index := 0#32
  let c0_217 : Index := 0#32
  ![v269.toNat, 0, 0, 0]

def k0_off81 (v259 : BitVec 32) : Fin 4 → Nat :=
  let v281 : Index := Scalar.indexCast v259
  let c1_226 : Index := 1#32
  let c0_227 : Index := 0#32
  let c0_228 : Index := 0#32
  ![v281.toNat, 1, 0, 0]

def k0_chk34 (v259 : BitVec 32) : Prop :=
  (∀ a, (k0_off80 v259) a + S1x1x64x256.size a ≤ S17x2x64x256.size a) ∧
  (∀ a, (k0_off81 v259) a + S1x1x64x256.size a ≤ S17x2x64x256.size a)
theorem k0_off80_inb : ∀ (v259 : BitVec 32) (k0_hw34 : k0_chk34 v259), ∀ a, (k0_off80 v259) a + S1x1x64x256.size a ≤ S17x2x64x256.size a := fun v259 k0_hw34 => k0_hw34.1
theorem k0_off81_inb : ∀ (v259 : BitVec 32) (k0_hw34 : k0_chk34 v259), ∀ a, (k0_off81 v259) a + S1x1x64x256.size a ≤ S17x2x64x256.size a := fun v259 k0_hw34 => k0_hw34.2

def k0_off82 (k0_t2 : Fin k0_t2_loop.trips) : Fin 2 → Nat :=
  let c2_232 : Index := 2#32
  let c3_i32_34 : BitVec 32 := 3#32
  let c1_i32_35 : BitVec 32 := 1#32
  let arg12 : BitVec 32 := Scf.iv c3_i32_34 c1_i32_35 k0_t2
  let c6_i32 : BitVec 32 := 6#32
  let v232 : BitVec 32 := Scalar.muli arg12 c6_i32
  let c0_i32_183 : BitVec 32 := 0#32
  let v233 : BitVec 32 := Scalar.addi v232 c0_i32_183
  let v289 : Index := Scalar.indexCast v233
  ![2, v289.toNat]
def k0_off83 (v290 : BitVec 32) : Fin 4 → Nat :=
  let v395 : Index := Scalar.indexCast v290
  let c0_251 : Index := 0#32
  let c0_252 : Index := 0#32
  let c0_253 : Index := 0#32
  ![v395.toNat, 0, 0, 0]

def k0_off84 (v290 : BitVec 32) : Fin 4 → Nat :=
  let v577 : Index := Scalar.indexCast v290
  let c1_283 : Index := 1#32
  let c0_284 : Index := 0#32
  let c0_285 : Index := 0#32
  ![v577.toNat, 1, 0, 0]

def k0_chk35 (v290 : BitVec 32) : Prop :=
  (∀ a, (k0_off83 v290) a + S1x1x8x256.size a ≤ S17x2x8x256.size a) ∧
  (∀ a, (k0_off84 v290) a + S1x1x8x256.size a ≤ S17x2x8x256.size a)
theorem k0_off83_inb : ∀ (v290 : BitVec 32) (k0_hw35 : k0_chk35 v290), ∀ a, (k0_off83 v290) a + S1x1x8x256.size a ≤ S17x2x8x256.size a := fun v290 k0_hw35 => k0_hw35.1
theorem k0_off84_inb : ∀ (v290 : BitVec 32) (k0_hw35 : k0_chk35 v290), ∀ a, (k0_off84 v290) a + S1x1x8x256.size a ≤ S17x2x8x256.size a := fun v290 k0_hw35 => k0_hw35.2

def k0_off85 (k0_t2 : Fin k0_t2_loop.trips) : Fin 2 → Nat :=
  let c0_295 : Index := 0#32
  let c3_i32_34 : BitVec 32 := 3#32
  let c1_i32_35 : BitVec 32 := 1#32
  let arg12 : BitVec 32 := Scf.iv c3_i32_34 c1_i32_35 k0_t2
  let c6_i32_293 : BitVec 32 := 6#32
  let v655 : BitVec 32 := Scalar.muli arg12 c6_i32_293
  let c1_i32_294 : BitVec 32 := 1#32
  let v656 : BitVec 32 := Scalar.addi v655 c1_i32_294
  let v657 : Index := Scalar.indexCast v656
  ![0, v657.toNat]
def k0_off86 (v658 : BitVec 32) : Fin 5 → Nat :=
  let c0_296 : Index := 0#32
  let c0_297 : Index := 0#32
  let v659 : Index := Scalar.indexCast v658
  let c0_298 : Index := 0#32
  let c0_299 : Index := 0#32
  ![0, 0, v659.toNat, 0, 0]

def k0_chk36 (v658 : BitVec 32) : Prop :=
  (∀ a, (k0_off86 v658) a + S1x1x1x128x256.size a ≤ S1x1x16x128x256.size a)
theorem k0_off86_inb : ∀ (v658 : BitVec 32) (k0_hw36 : k0_chk36 v658), ∀ a, (k0_off86 v658) a + S1x1x1x128x256.size a ≤ S1x1x16x128x256.size a := fun v658 k0_hw36 => k0_hw36

def k0_off87 (k0_t2 : Fin k0_t2_loop.trips) : Fin 2 → Nat :=
  let c1_300 : Index := 1#32
  let c3_i32_34 : BitVec 32 := 3#32
  let c1_i32_35 : BitVec 32 := 1#32
  let arg12 : BitVec 32 := Scf.iv c3_i32_34 c1_i32_35 k0_t2
  let c6_i32_293 : BitVec 32 := 6#32
  let v655 : BitVec 32 := Scalar.muli arg12 c6_i32_293
  let c1_i32_294 : BitVec 32 := 1#32
  let v656 : BitVec 32 := Scalar.addi v655 c1_i32_294
  let v662 : Index := Scalar.indexCast v656
  ![1, v662.toNat]
def k0_mult8 (v663 : BitVec 32) : BitVec 32 :=
  let c256_i32_301 : BitVec 32 := 256#32
  let v664 : BitVec 32 := Scalar.muli v663 c256_i32_301
  v664

def k0_off88 (v663 : BitVec 32) : Fin 3 → Nat :=
  let c0_302 : Index := 0#32
  let c256_i32_301 : BitVec 32 := 256#32
  let v664 : BitVec 32 := Scalar.muli v663 c256_i32_301
  let v665 : BitVec 32 := v664
  let v666 : Index := Scalar.indexCast v665
  let c0_303 : Index := 0#32
  ![0, v666.toNat, 0]

def k0_chk37 (v663 : BitVec 32) : Prop :=
  (256 ∣ (k0_mult8 v663).toNat) ∧
  (∀ a, (k0_off88 v663) a + S1x256x128.size a ≤ S1x4096x128.size a)
theorem k0_mult8_dvd : ∀ (v663 : BitVec 32) (k0_hw37 : k0_chk37 v663), 256 ∣ (k0_mult8 v663).toNat := fun v663 k0_hw37 => k0_hw37.1
theorem k0_off88_inb : ∀ (v663 : BitVec 32) (k0_hw37 : k0_chk37 v663), ∀ a, (k0_off88 v663) a + S1x256x128.size a ≤ S1x4096x128.size a := fun v663 k0_hw37 => k0_hw37.2

def k0_off89 (k0_t2 : Fin k0_t2_loop.trips) : Fin 2 → Nat :=
  let c3_316 : Index := 3#32
  let c3_i32_34 : BitVec 32 := 3#32
  let c1_i32_35 : BitVec 32 := 1#32
  let arg12 : BitVec 32 := Scf.iv c3_i32_34 c1_i32_35 k0_t2
  let c6_i32_293 : BitVec 32 := 6#32
  let v655 : BitVec 32 := Scalar.muli arg12 c6_i32_293
  let c1_i32_294 : BitVec 32 := 1#32
  let v656 : BitVec 32 := Scalar.addi v655 c1_i32_294
  let v681 : Index := Scalar.indexCast v656
  ![3, v681.toNat]
def k0_off90 (k0_t2 : Fin k0_t2_loop.trips) : Fin 2 → Nat :=
  let c4_317 : Index := 4#32
  let c3_i32_34 : BitVec 32 := 3#32
  let c1_i32_35 : BitVec 32 := 1#32
  let arg12 : BitVec 32 := Scf.iv c3_i32_34 c1_i32_35 k0_t2
  let c6_i32_293 : BitVec 32 := 6#32
  let v655 : BitVec 32 := Scalar.muli arg12 c6_i32_293
  let c1_i32_294 : BitVec 32 := 1#32
  let v656 : BitVec 32 := Scalar.addi v655 c1_i32_294
  let v683 : Index := Scalar.indexCast v656
  ![4, v683.toNat]
def k0_off91 (v684 : BitVec 32) : Fin 5 → Nat :=
  let c0_318 : Index := 0#32
  let c0_319 : Index := 0#32
  let v685 : Index := Scalar.indexCast v684
  let c0_320 : Index := 0#32
  let c0_321 : Index := 0#32
  ![0, 0, v685.toNat, 0, 0]

def k0_chk38 (v684 : BitVec 32) : Prop :=
  (∀ a, (k0_off91 v684) a + S1x1x1x128x256.size a ≤ S1x1x16x128x256.size a)
theorem k0_off91_inb : ∀ (v684 : BitVec 32) (k0_hw38 : k0_chk38 v684), ∀ a, (k0_off91 v684) a + S1x1x1x128x256.size a ≤ S1x1x16x128x256.size a := fun v684 k0_hw38 => k0_hw38

def k0_off92 (v682 : BitVec 32) : Fin 4 → Nat :=
  let v692 : Index := Scalar.indexCast v682
  let c0_327 : Index := 0#32
  let c0_328 : Index := 0#32
  let c0_329 : Index := 0#32
  ![v692.toNat, 0, 0, 0]

def k0_off93 (v682 : BitVec 32) : Fin 4 → Nat :=
  let v704 : Index := Scalar.indexCast v682
  let c1_338 : Index := 1#32
  let c0_339 : Index := 0#32
  let c0_340 : Index := 0#32
  ![v704.toNat, 1, 0, 0]

def k0_chk39 (v682 : BitVec 32) : Prop :=
  (∀ a, (k0_off92 v682) a + S1x1x64x256.size a ≤ S17x2x64x256.size a) ∧
  (∀ a, (k0_off93 v682) a + S1x1x64x256.size a ≤ S17x2x64x256.size a)
theorem k0_off92_inb : ∀ (v682 : BitVec 32) (k0_hw39 : k0_chk39 v682), ∀ a, (k0_off92 v682) a + S1x1x64x256.size a ≤ S17x2x64x256.size a := fun v682 k0_hw39 => k0_hw39.1
theorem k0_off93_inb : ∀ (v682 : BitVec 32) (k0_hw39 : k0_chk39 v682), ∀ a, (k0_off93 v682) a + S1x1x64x256.size a ≤ S17x2x64x256.size a := fun v682 k0_hw39 => k0_hw39.2

def k0_off94 (k0_t2 : Fin k0_t2_loop.trips) : Fin 2 → Nat :=
  let c2_344 : Index := 2#32
  let c3_i32_34 : BitVec 32 := 3#32
  let c1_i32_35 : BitVec 32 := 1#32
  let arg12 : BitVec 32 := Scf.iv c3_i32_34 c1_i32_35 k0_t2
  let c6_i32_293 : BitVec 32 := 6#32
  let v655 : BitVec 32 := Scalar.muli arg12 c6_i32_293
  let c1_i32_294 : BitVec 32 := 1#32
  let v656 : BitVec 32 := Scalar.addi v655 c1_i32_294
  let v712 : Index := Scalar.indexCast v656
  ![2, v712.toNat]
def k0_off95 (v713 : BitVec 32) : Fin 4 → Nat :=
  let v818 : Index := Scalar.indexCast v713
  let c0_367 : Index := 0#32
  let c0_368 : Index := 0#32
  let c0_369 : Index := 0#32
  ![v818.toNat, 0, 0, 0]

def k0_off96 (v713 : BitVec 32) : Fin 4 → Nat :=
  let v1000 : Index := Scalar.indexCast v713
  let c1_399 : Index := 1#32
  let c0_400 : Index := 0#32
  let c0_401 : Index := 0#32
  ![v1000.toNat, 1, 0, 0]

def k0_chk40 (v713 : BitVec 32) : Prop :=
  (∀ a, (k0_off95 v713) a + S1x1x8x256.size a ≤ S17x2x8x256.size a) ∧
  (∀ a, (k0_off96 v713) a + S1x1x8x256.size a ≤ S17x2x8x256.size a)
theorem k0_off95_inb : ∀ (v713 : BitVec 32) (k0_hw40 : k0_chk40 v713), ∀ a, (k0_off95 v713) a + S1x1x8x256.size a ≤ S17x2x8x256.size a := fun v713 k0_hw40 => k0_hw40.1
theorem k0_off96_inb : ∀ (v713 : BitVec 32) (k0_hw40 : k0_chk40 v713), ∀ a, (k0_off96 v713) a + S1x1x8x256.size a ≤ S17x2x8x256.size a := fun v713 k0_hw40 => k0_hw40.2

def k0_off97 (k0_t2 : Fin k0_t2_loop.trips) : Fin 2 → Nat :=
  let c0_411 : Index := 0#32
  let c3_i32_34 : BitVec 32 := 3#32
  let c1_i32_35 : BitVec 32 := 1#32
  let arg12 : BitVec 32 := Scf.iv c3_i32_34 c1_i32_35 k0_t2
  let c6_i32_409 : BitVec 32 := 6#32
  let v1078 : BitVec 32 := Scalar.muli arg12 c6_i32_409
  let c2_i32_410 : BitVec 32 := 2#32
  let v1079 : BitVec 32 := Scalar.addi v1078 c2_i32_410
  let v1080 : Index := Scalar.indexCast v1079
  ![0, v1080.toNat]
def k0_off98 (v1081 : BitVec 32) : Fin 5 → Nat :=
  let c0_412 : Index := 0#32
  let c0_413 : Index := 0#32
  let v1082 : Index := Scalar.indexCast v1081
  let c0_414 : Index := 0#32
  let c0_415 : Index := 0#32
  ![0, 0, v1082.toNat, 0, 0]

def k0_chk41 (v1081 : BitVec 32) : Prop :=
  (∀ a, (k0_off98 v1081) a + S1x1x1x128x256.size a ≤ S1x1x16x128x256.size a)
theorem k0_off98_inb : ∀ (v1081 : BitVec 32) (k0_hw41 : k0_chk41 v1081), ∀ a, (k0_off98 v1081) a + S1x1x1x128x256.size a ≤ S1x1x16x128x256.size a := fun v1081 k0_hw41 => k0_hw41

def k0_off99 (k0_t2 : Fin k0_t2_loop.trips) : Fin 2 → Nat :=
  let c1_416 : Index := 1#32
  let c3_i32_34 : BitVec 32 := 3#32
  let c1_i32_35 : BitVec 32 := 1#32
  let arg12 : BitVec 32 := Scf.iv c3_i32_34 c1_i32_35 k0_t2
  let c6_i32_409 : BitVec 32 := 6#32
  let v1078 : BitVec 32 := Scalar.muli arg12 c6_i32_409
  let c2_i32_410 : BitVec 32 := 2#32
  let v1079 : BitVec 32 := Scalar.addi v1078 c2_i32_410
  let v1085 : Index := Scalar.indexCast v1079
  ![1, v1085.toNat]
def k0_mult9 (v1086 : BitVec 32) : BitVec 32 :=
  let c256_i32_417 : BitVec 32 := 256#32
  let v1087 : BitVec 32 := Scalar.muli v1086 c256_i32_417
  v1087

def k0_off100 (v1086 : BitVec 32) : Fin 3 → Nat :=
  let c0_418 : Index := 0#32
  let c256_i32_417 : BitVec 32 := 256#32
  let v1087 : BitVec 32 := Scalar.muli v1086 c256_i32_417
  let v1088 : BitVec 32 := v1087
  let v1089 : Index := Scalar.indexCast v1088
  let c0_419 : Index := 0#32
  ![0, v1089.toNat, 0]

def k0_chk42 (v1086 : BitVec 32) : Prop :=
  (256 ∣ (k0_mult9 v1086).toNat) ∧
  (∀ a, (k0_off100 v1086) a + S1x256x128.size a ≤ S1x4096x128.size a)
theorem k0_mult9_dvd : ∀ (v1086 : BitVec 32) (k0_hw42 : k0_chk42 v1086), 256 ∣ (k0_mult9 v1086).toNat := fun v1086 k0_hw42 => k0_hw42.1
theorem k0_off100_inb : ∀ (v1086 : BitVec 32) (k0_hw42 : k0_chk42 v1086), ∀ a, (k0_off100 v1086) a + S1x256x128.size a ≤ S1x4096x128.size a := fun v1086 k0_hw42 => k0_hw42.2

def k0_off101 (k0_t2 : Fin k0_t2_loop.trips) : Fin 2 → Nat :=
  let c3_432 : Index := 3#32
  let c3_i32_34 : BitVec 32 := 3#32
  let c1_i32_35 : BitVec 32 := 1#32
  let arg12 : BitVec 32 := Scf.iv c3_i32_34 c1_i32_35 k0_t2
  let c6_i32_409 : BitVec 32 := 6#32
  let v1078 : BitVec 32 := Scalar.muli arg12 c6_i32_409
  let c2_i32_410 : BitVec 32 := 2#32
  let v1079 : BitVec 32 := Scalar.addi v1078 c2_i32_410
  let v1104 : Index := Scalar.indexCast v1079
  ![3, v1104.toNat]
def k0_off102 (k0_t2 : Fin k0_t2_loop.trips) : Fin 2 → Nat :=
  let c4_433 : Index := 4#32
  let c3_i32_34 : BitVec 32 := 3#32
  let c1_i32_35 : BitVec 32 := 1#32
  let arg12 : BitVec 32 := Scf.iv c3_i32_34 c1_i32_35 k0_t2
  let c6_i32_409 : BitVec 32 := 6#32
  let v1078 : BitVec 32 := Scalar.muli arg12 c6_i32_409
  let c2_i32_410 : BitVec 32 := 2#32
  let v1079 : BitVec 32 := Scalar.addi v1078 c2_i32_410
  let v1106 : Index := Scalar.indexCast v1079
  ![4, v1106.toNat]
def k0_off103 (v1107 : BitVec 32) : Fin 5 → Nat :=
  let c0_434 : Index := 0#32
  let c0_435 : Index := 0#32
  let v1108 : Index := Scalar.indexCast v1107
  let c0_436 : Index := 0#32
  let c0_437 : Index := 0#32
  ![0, 0, v1108.toNat, 0, 0]

def k0_chk43 (v1107 : BitVec 32) : Prop :=
  (∀ a, (k0_off103 v1107) a + S1x1x1x128x256.size a ≤ S1x1x16x128x256.size a)
theorem k0_off103_inb : ∀ (v1107 : BitVec 32) (k0_hw43 : k0_chk43 v1107), ∀ a, (k0_off103 v1107) a + S1x1x1x128x256.size a ≤ S1x1x16x128x256.size a := fun v1107 k0_hw43 => k0_hw43

def k0_off104 (v1105 : BitVec 32) : Fin 4 → Nat :=
  let v1115 : Index := Scalar.indexCast v1105
  let c0_443 : Index := 0#32
  let c0_444 : Index := 0#32
  let c0_445 : Index := 0#32
  ![v1115.toNat, 0, 0, 0]

def k0_off105 (v1105 : BitVec 32) : Fin 4 → Nat :=
  let v1127 : Index := Scalar.indexCast v1105
  let c1_454 : Index := 1#32
  let c0_455 : Index := 0#32
  let c0_456 : Index := 0#32
  ![v1127.toNat, 1, 0, 0]

def k0_chk44 (v1105 : BitVec 32) : Prop :=
  (∀ a, (k0_off104 v1105) a + S1x1x64x256.size a ≤ S17x2x64x256.size a) ∧
  (∀ a, (k0_off105 v1105) a + S1x1x64x256.size a ≤ S17x2x64x256.size a)
theorem k0_off104_inb : ∀ (v1105 : BitVec 32) (k0_hw44 : k0_chk44 v1105), ∀ a, (k0_off104 v1105) a + S1x1x64x256.size a ≤ S17x2x64x256.size a := fun v1105 k0_hw44 => k0_hw44.1
theorem k0_off105_inb : ∀ (v1105 : BitVec 32) (k0_hw44 : k0_chk44 v1105), ∀ a, (k0_off105 v1105) a + S1x1x64x256.size a ≤ S17x2x64x256.size a := fun v1105 k0_hw44 => k0_hw44.2

def k0_off106 (k0_t2 : Fin k0_t2_loop.trips) : Fin 2 → Nat :=
  let c2_460 : Index := 2#32
  let c3_i32_34 : BitVec 32 := 3#32
  let c1_i32_35 : BitVec 32 := 1#32
  let arg12 : BitVec 32 := Scf.iv c3_i32_34 c1_i32_35 k0_t2
  let c6_i32_409 : BitVec 32 := 6#32
  let v1078 : BitVec 32 := Scalar.muli arg12 c6_i32_409
  let c2_i32_410 : BitVec 32 := 2#32
  let v1079 : BitVec 32 := Scalar.addi v1078 c2_i32_410
  let v1135 : Index := Scalar.indexCast v1079
  ![2, v1135.toNat]
def k0_off107 (v1136 : BitVec 32) : Fin 4 → Nat :=
  let v1241 : Index := Scalar.indexCast v1136
  let c0_483 : Index := 0#32
  let c0_484 : Index := 0#32
  let c0_485 : Index := 0#32
  ![v1241.toNat, 0, 0, 0]

def k0_off108 (v1136 : BitVec 32) : Fin 4 → Nat :=
  let v1423 : Index := Scalar.indexCast v1136
  let c1_515 : Index := 1#32
  let c0_516 : Index := 0#32
  let c0_517 : Index := 0#32
  ![v1423.toNat, 1, 0, 0]

def k0_chk45 (v1136 : BitVec 32) : Prop :=
  (∀ a, (k0_off107 v1136) a + S1x1x8x256.size a ≤ S17x2x8x256.size a) ∧
  (∀ a, (k0_off108 v1136) a + S1x1x8x256.size a ≤ S17x2x8x256.size a)
theorem k0_off107_inb : ∀ (v1136 : BitVec 32) (k0_hw45 : k0_chk45 v1136), ∀ a, (k0_off107 v1136) a + S1x1x8x256.size a ≤ S17x2x8x256.size a := fun v1136 k0_hw45 => k0_hw45.1
theorem k0_off108_inb : ∀ (v1136 : BitVec 32) (k0_hw45 : k0_chk45 v1136), ∀ a, (k0_off108 v1136) a + S1x1x8x256.size a ≤ S17x2x8x256.size a := fun v1136 k0_hw45 => k0_hw45.2

def k0_off109 (k0_t2 : Fin k0_t2_loop.trips) : Fin 2 → Nat :=
  let c0_527 : Index := 0#32
  let c3_i32_34 : BitVec 32 := 3#32
  let c1_i32_35 : BitVec 32 := 1#32
  let arg12 : BitVec 32 := Scf.iv c3_i32_34 c1_i32_35 k0_t2
  let c6_i32_525 : BitVec 32 := 6#32
  let v1501 : BitVec 32 := Scalar.muli arg12 c6_i32_525
  let c3_i32_526 : BitVec 32 := 3#32
  let v1502 : BitVec 32 := Scalar.addi v1501 c3_i32_526
  let v1503 : Index := Scalar.indexCast v1502
  ![0, v1503.toNat]
def k0_off110 (v1504 : BitVec 32) : Fin 5 → Nat :=
  let c0_528 : Index := 0#32
  let c0_529 : Index := 0#32
  let v1505 : Index := Scalar.indexCast v1504
  let c0_530 : Index := 0#32
  let c0_531 : Index := 0#32
  ![0, 0, v1505.toNat, 0, 0]

def k0_chk46 (v1504 : BitVec 32) : Prop :=
  (∀ a, (k0_off110 v1504) a + S1x1x1x128x256.size a ≤ S1x1x16x128x256.size a)
theorem k0_off110_inb : ∀ (v1504 : BitVec 32) (k0_hw46 : k0_chk46 v1504), ∀ a, (k0_off110 v1504) a + S1x1x1x128x256.size a ≤ S1x1x16x128x256.size a := fun v1504 k0_hw46 => k0_hw46

def k0_off111 (k0_t2 : Fin k0_t2_loop.trips) : Fin 2 → Nat :=
  let c1_532 : Index := 1#32
  let c3_i32_34 : BitVec 32 := 3#32
  let c1_i32_35 : BitVec 32 := 1#32
  let arg12 : BitVec 32 := Scf.iv c3_i32_34 c1_i32_35 k0_t2
  let c6_i32_525 : BitVec 32 := 6#32
  let v1501 : BitVec 32 := Scalar.muli arg12 c6_i32_525
  let c3_i32_526 : BitVec 32 := 3#32
  let v1502 : BitVec 32 := Scalar.addi v1501 c3_i32_526
  let v1508 : Index := Scalar.indexCast v1502
  ![1, v1508.toNat]
def k0_mult10 (v1509 : BitVec 32) : BitVec 32 :=
  let c256_i32_533 : BitVec 32 := 256#32
  let v1510 : BitVec 32 := Scalar.muli v1509 c256_i32_533
  v1510

def k0_off112 (v1509 : BitVec 32) : Fin 3 → Nat :=
  let c0_534 : Index := 0#32
  let c256_i32_533 : BitVec 32 := 256#32
  let v1510 : BitVec 32 := Scalar.muli v1509 c256_i32_533
  let v1511 : BitVec 32 := v1510
  let v1512 : Index := Scalar.indexCast v1511
  let c0_535 : Index := 0#32
  ![0, v1512.toNat, 0]

def k0_chk47 (v1509 : BitVec 32) : Prop :=
  (256 ∣ (k0_mult10 v1509).toNat) ∧
  (∀ a, (k0_off112 v1509) a + S1x256x128.size a ≤ S1x4096x128.size a)
theorem k0_mult10_dvd : ∀ (v1509 : BitVec 32) (k0_hw47 : k0_chk47 v1509), 256 ∣ (k0_mult10 v1509).toNat := fun v1509 k0_hw47 => k0_hw47.1
theorem k0_off112_inb : ∀ (v1509 : BitVec 32) (k0_hw47 : k0_chk47 v1509), ∀ a, (k0_off112 v1509) a + S1x256x128.size a ≤ S1x4096x128.size a := fun v1509 k0_hw47 => k0_hw47.2

def k0_off113 (k0_t2 : Fin k0_t2_loop.trips) : Fin 2 → Nat :=
  let c3_548 : Index := 3#32
  let c3_i32_34 : BitVec 32 := 3#32
  let c1_i32_35 : BitVec 32 := 1#32
  let arg12 : BitVec 32 := Scf.iv c3_i32_34 c1_i32_35 k0_t2
  let c6_i32_525 : BitVec 32 := 6#32
  let v1501 : BitVec 32 := Scalar.muli arg12 c6_i32_525
  let c3_i32_526 : BitVec 32 := 3#32
  let v1502 : BitVec 32 := Scalar.addi v1501 c3_i32_526
  let v1527 : Index := Scalar.indexCast v1502
  ![3, v1527.toNat]
def k0_off114 (k0_t2 : Fin k0_t2_loop.trips) : Fin 2 → Nat :=
  let c4_549 : Index := 4#32
  let c3_i32_34 : BitVec 32 := 3#32
  let c1_i32_35 : BitVec 32 := 1#32
  let arg12 : BitVec 32 := Scf.iv c3_i32_34 c1_i32_35 k0_t2
  let c6_i32_525 : BitVec 32 := 6#32
  let v1501 : BitVec 32 := Scalar.muli arg12 c6_i32_525
  let c3_i32_526 : BitVec 32 := 3#32
  let v1502 : BitVec 32 := Scalar.addi v1501 c3_i32_526
  let v1529 : Index := Scalar.indexCast v1502
  ![4, v1529.toNat]
def k0_off115 (v1530 : BitVec 32) : Fin 5 → Nat :=
  let c0_550 : Index := 0#32
  let c0_551 : Index := 0#32
  let v1531 : Index := Scalar.indexCast v1530
  let c0_552 : Index := 0#32
  let c0_553 : Index := 0#32
  ![0, 0, v1531.toNat, 0, 0]

def k0_chk48 (v1530 : BitVec 32) : Prop :=
  (∀ a, (k0_off115 v1530) a + S1x1x1x128x256.size a ≤ S1x1x16x128x256.size a)
theorem k0_off115_inb : ∀ (v1530 : BitVec 32) (k0_hw48 : k0_chk48 v1530), ∀ a, (k0_off115 v1530) a + S1x1x1x128x256.size a ≤ S1x1x16x128x256.size a := fun v1530 k0_hw48 => k0_hw48

def k0_off116 (v1528 : BitVec 32) : Fin 4 → Nat :=
  let v1538 : Index := Scalar.indexCast v1528
  let c0_559 : Index := 0#32
  let c0_560 : Index := 0#32
  let c0_561 : Index := 0#32
  ![v1538.toNat, 0, 0, 0]

def k0_off117 (v1528 : BitVec 32) : Fin 4 → Nat :=
  let v1550 : Index := Scalar.indexCast v1528
  let c1_570 : Index := 1#32
  let c0_571 : Index := 0#32
  let c0_572 : Index := 0#32
  ![v1550.toNat, 1, 0, 0]

def k0_chk49 (v1528 : BitVec 32) : Prop :=
  (∀ a, (k0_off116 v1528) a + S1x1x64x256.size a ≤ S17x2x64x256.size a) ∧
  (∀ a, (k0_off117 v1528) a + S1x1x64x256.size a ≤ S17x2x64x256.size a)
theorem k0_off116_inb : ∀ (v1528 : BitVec 32) (k0_hw49 : k0_chk49 v1528), ∀ a, (k0_off116 v1528) a + S1x1x64x256.size a ≤ S17x2x64x256.size a := fun v1528 k0_hw49 => k0_hw49.1
theorem k0_off117_inb : ∀ (v1528 : BitVec 32) (k0_hw49 : k0_chk49 v1528), ∀ a, (k0_off117 v1528) a + S1x1x64x256.size a ≤ S17x2x64x256.size a := fun v1528 k0_hw49 => k0_hw49.2

def k0_off118 (k0_t2 : Fin k0_t2_loop.trips) : Fin 2 → Nat :=
  let c2_576 : Index := 2#32
  let c3_i32_34 : BitVec 32 := 3#32
  let c1_i32_35 : BitVec 32 := 1#32
  let arg12 : BitVec 32 := Scf.iv c3_i32_34 c1_i32_35 k0_t2
  let c6_i32_525 : BitVec 32 := 6#32
  let v1501 : BitVec 32 := Scalar.muli arg12 c6_i32_525
  let c3_i32_526 : BitVec 32 := 3#32
  let v1502 : BitVec 32 := Scalar.addi v1501 c3_i32_526
  let v1558 : Index := Scalar.indexCast v1502
  ![2, v1558.toNat]
def k0_off119 (v1559 : BitVec 32) : Fin 4 → Nat :=
  let v1664 : Index := Scalar.indexCast v1559
  let c0_599 : Index := 0#32
  let c0_600 : Index := 0#32
  let c0_601 : Index := 0#32
  ![v1664.toNat, 0, 0, 0]

def k0_off120 (v1559 : BitVec 32) : Fin 4 → Nat :=
  let v1846 : Index := Scalar.indexCast v1559
  let c1_631 : Index := 1#32
  let c0_632 : Index := 0#32
  let c0_633 : Index := 0#32
  ![v1846.toNat, 1, 0, 0]

def k0_chk50 (v1559 : BitVec 32) : Prop :=
  (∀ a, (k0_off119 v1559) a + S1x1x8x256.size a ≤ S17x2x8x256.size a) ∧
  (∀ a, (k0_off120 v1559) a + S1x1x8x256.size a ≤ S17x2x8x256.size a)
theorem k0_off119_inb : ∀ (v1559 : BitVec 32) (k0_hw50 : k0_chk50 v1559), ∀ a, (k0_off119 v1559) a + S1x1x8x256.size a ≤ S17x2x8x256.size a := fun v1559 k0_hw50 => k0_hw50.1
theorem k0_off120_inb : ∀ (v1559 : BitVec 32) (k0_hw50 : k0_chk50 v1559), ∀ a, (k0_off120 v1559) a + S1x1x8x256.size a ≤ S17x2x8x256.size a := fun v1559 k0_hw50 => k0_hw50.2

def k0_off121 (k0_t2 : Fin k0_t2_loop.trips) : Fin 2 → Nat :=
  let c0_643 : Index := 0#32
  let c3_i32_34 : BitVec 32 := 3#32
  let c1_i32_35 : BitVec 32 := 1#32
  let arg12 : BitVec 32 := Scf.iv c3_i32_34 c1_i32_35 k0_t2
  let c6_i32_641 : BitVec 32 := 6#32
  let v1924 : BitVec 32 := Scalar.muli arg12 c6_i32_641
  let c4_i32_642 : BitVec 32 := 4#32
  let v1925 : BitVec 32 := Scalar.addi v1924 c4_i32_642
  let v1926 : Index := Scalar.indexCast v1925
  ![0, v1926.toNat]
def k0_off122 (v1927 : BitVec 32) : Fin 5 → Nat :=
  let c0_644 : Index := 0#32
  let c0_645 : Index := 0#32
  let v1928 : Index := Scalar.indexCast v1927
  let c0_646 : Index := 0#32
  let c0_647 : Index := 0#32
  ![0, 0, v1928.toNat, 0, 0]

def k0_chk51 (v1927 : BitVec 32) : Prop :=
  (∀ a, (k0_off122 v1927) a + S1x1x1x128x256.size a ≤ S1x1x16x128x256.size a)
theorem k0_off122_inb : ∀ (v1927 : BitVec 32) (k0_hw51 : k0_chk51 v1927), ∀ a, (k0_off122 v1927) a + S1x1x1x128x256.size a ≤ S1x1x16x128x256.size a := fun v1927 k0_hw51 => k0_hw51

def k0_off123 (k0_t2 : Fin k0_t2_loop.trips) : Fin 2 → Nat :=
  let c1_648 : Index := 1#32
  let c3_i32_34 : BitVec 32 := 3#32
  let c1_i32_35 : BitVec 32 := 1#32
  let arg12 : BitVec 32 := Scf.iv c3_i32_34 c1_i32_35 k0_t2
  let c6_i32_641 : BitVec 32 := 6#32
  let v1924 : BitVec 32 := Scalar.muli arg12 c6_i32_641
  let c4_i32_642 : BitVec 32 := 4#32
  let v1925 : BitVec 32 := Scalar.addi v1924 c4_i32_642
  let v1931 : Index := Scalar.indexCast v1925
  ![1, v1931.toNat]
def k0_mult11 (v1932 : BitVec 32) : BitVec 32 :=
  let c256_i32_649 : BitVec 32 := 256#32
  let v1933 : BitVec 32 := Scalar.muli v1932 c256_i32_649
  v1933

def k0_off124 (v1932 : BitVec 32) : Fin 3 → Nat :=
  let c0_650 : Index := 0#32
  let c256_i32_649 : BitVec 32 := 256#32
  let v1933 : BitVec 32 := Scalar.muli v1932 c256_i32_649
  let v1934 : BitVec 32 := v1933
  let v1935 : Index := Scalar.indexCast v1934
  let c0_651 : Index := 0#32
  ![0, v1935.toNat, 0]

def k0_chk52 (v1932 : BitVec 32) : Prop :=
  (256 ∣ (k0_mult11 v1932).toNat) ∧
  (∀ a, (k0_off124 v1932) a + S1x256x128.size a ≤ S1x4096x128.size a)
theorem k0_mult11_dvd : ∀ (v1932 : BitVec 32) (k0_hw52 : k0_chk52 v1932), 256 ∣ (k0_mult11 v1932).toNat := fun v1932 k0_hw52 => k0_hw52.1
theorem k0_off124_inb : ∀ (v1932 : BitVec 32) (k0_hw52 : k0_chk52 v1932), ∀ a, (k0_off124 v1932) a + S1x256x128.size a ≤ S1x4096x128.size a := fun v1932 k0_hw52 => k0_hw52.2

def k0_off125 (k0_t2 : Fin k0_t2_loop.trips) : Fin 2 → Nat :=
  let c3_664 : Index := 3#32
  let c3_i32_34 : BitVec 32 := 3#32
  let c1_i32_35 : BitVec 32 := 1#32
  let arg12 : BitVec 32 := Scf.iv c3_i32_34 c1_i32_35 k0_t2
  let c6_i32_641 : BitVec 32 := 6#32
  let v1924 : BitVec 32 := Scalar.muli arg12 c6_i32_641
  let c4_i32_642 : BitVec 32 := 4#32
  let v1925 : BitVec 32 := Scalar.addi v1924 c4_i32_642
  let v1950 : Index := Scalar.indexCast v1925
  ![3, v1950.toNat]
def k0_off126 (k0_t2 : Fin k0_t2_loop.trips) : Fin 2 → Nat :=
  let c4_665 : Index := 4#32
  let c3_i32_34 : BitVec 32 := 3#32
  let c1_i32_35 : BitVec 32 := 1#32
  let arg12 : BitVec 32 := Scf.iv c3_i32_34 c1_i32_35 k0_t2
  let c6_i32_641 : BitVec 32 := 6#32
  let v1924 : BitVec 32 := Scalar.muli arg12 c6_i32_641
  let c4_i32_642 : BitVec 32 := 4#32
  let v1925 : BitVec 32 := Scalar.addi v1924 c4_i32_642
  let v1952 : Index := Scalar.indexCast v1925
  ![4, v1952.toNat]
def k0_off127 (v1953 : BitVec 32) : Fin 5 → Nat :=
  let c0_666 : Index := 0#32
  let c0_667 : Index := 0#32
  let v1954 : Index := Scalar.indexCast v1953
  let c0_668 : Index := 0#32
  let c0_669 : Index := 0#32
  ![0, 0, v1954.toNat, 0, 0]

def k0_chk53 (v1953 : BitVec 32) : Prop :=
  (∀ a, (k0_off127 v1953) a + S1x1x1x128x256.size a ≤ S1x1x16x128x256.size a)
theorem k0_off127_inb : ∀ (v1953 : BitVec 32) (k0_hw53 : k0_chk53 v1953), ∀ a, (k0_off127 v1953) a + S1x1x1x128x256.size a ≤ S1x1x16x128x256.size a := fun v1953 k0_hw53 => k0_hw53

def k0_off128 (v1951 : BitVec 32) : Fin 4 → Nat :=
  let v1961 : Index := Scalar.indexCast v1951
  let c0_675 : Index := 0#32
  let c0_676 : Index := 0#32
  let c0_677 : Index := 0#32
  ![v1961.toNat, 0, 0, 0]

def k0_off129 (v1951 : BitVec 32) : Fin 4 → Nat :=
  let v1973 : Index := Scalar.indexCast v1951
  let c1_686 : Index := 1#32
  let c0_687 : Index := 0#32
  let c0_688 : Index := 0#32
  ![v1973.toNat, 1, 0, 0]

def k0_chk54 (v1951 : BitVec 32) : Prop :=
  (∀ a, (k0_off128 v1951) a + S1x1x64x256.size a ≤ S17x2x64x256.size a) ∧
  (∀ a, (k0_off129 v1951) a + S1x1x64x256.size a ≤ S17x2x64x256.size a)
theorem k0_off128_inb : ∀ (v1951 : BitVec 32) (k0_hw54 : k0_chk54 v1951), ∀ a, (k0_off128 v1951) a + S1x1x64x256.size a ≤ S17x2x64x256.size a := fun v1951 k0_hw54 => k0_hw54.1
theorem k0_off129_inb : ∀ (v1951 : BitVec 32) (k0_hw54 : k0_chk54 v1951), ∀ a, (k0_off129 v1951) a + S1x1x64x256.size a ≤ S17x2x64x256.size a := fun v1951 k0_hw54 => k0_hw54.2

def k0_off130 (k0_t2 : Fin k0_t2_loop.trips) : Fin 2 → Nat :=
  let c2_692 : Index := 2#32
  let c3_i32_34 : BitVec 32 := 3#32
  let c1_i32_35 : BitVec 32 := 1#32
  let arg12 : BitVec 32 := Scf.iv c3_i32_34 c1_i32_35 k0_t2
  let c6_i32_641 : BitVec 32 := 6#32
  let v1924 : BitVec 32 := Scalar.muli arg12 c6_i32_641
  let c4_i32_642 : BitVec 32 := 4#32
  let v1925 : BitVec 32 := Scalar.addi v1924 c4_i32_642
  let v1981 : Index := Scalar.indexCast v1925
  ![2, v1981.toNat]
def k0_off131 (v1982 : BitVec 32) : Fin 4 → Nat :=
  let v2087 : Index := Scalar.indexCast v1982
  let c0_715 : Index := 0#32
  let c0_716 : Index := 0#32
  let c0_717 : Index := 0#32
  ![v2087.toNat, 0, 0, 0]

def k0_off132 (v1982 : BitVec 32) : Fin 4 → Nat :=
  let v2269 : Index := Scalar.indexCast v1982
  let c1_747 : Index := 1#32
  let c0_748 : Index := 0#32
  let c0_749 : Index := 0#32
  ![v2269.toNat, 1, 0, 0]

def k0_chk55 (v1982 : BitVec 32) : Prop :=
  (∀ a, (k0_off131 v1982) a + S1x1x8x256.size a ≤ S17x2x8x256.size a) ∧
  (∀ a, (k0_off132 v1982) a + S1x1x8x256.size a ≤ S17x2x8x256.size a)
theorem k0_off131_inb : ∀ (v1982 : BitVec 32) (k0_hw55 : k0_chk55 v1982), ∀ a, (k0_off131 v1982) a + S1x1x8x256.size a ≤ S17x2x8x256.size a := fun v1982 k0_hw55 => k0_hw55.1
theorem k0_off132_inb : ∀ (v1982 : BitVec 32) (k0_hw55 : k0_chk55 v1982), ∀ a, (k0_off132 v1982) a + S1x1x8x256.size a ≤ S17x2x8x256.size a := fun v1982 k0_hw55 => k0_hw55.2

def k0_off133 (k0_t2 : Fin k0_t2_loop.trips) : Fin 2 → Nat :=
  let c0_758 : Index := 0#32
  let c3_i32_34 : BitVec 32 := 3#32
  let c1_i32_35 : BitVec 32 := 1#32
  let arg12 : BitVec 32 := Scf.iv c3_i32_34 c1_i32_35 k0_t2
  let c6_i32_757 : BitVec 32 := 6#32
  let v2347 : BitVec 32 := Scalar.muli arg12 c6_i32_757
  let c5_i32 : BitVec 32 := 5#32
  let v2348 : BitVec 32 := Scalar.addi v2347 c5_i32
  let v2349 : Index := Scalar.indexCast v2348
  ![0, v2349.toNat]
def k0_off134 (v2350 : BitVec 32) : Fin 5 → Nat :=
  let c0_759 : Index := 0#32
  let c0_760 : Index := 0#32
  let v2351 : Index := Scalar.indexCast v2350
  let c0_761 : Index := 0#32
  let c0_762 : Index := 0#32
  ![0, 0, v2351.toNat, 0, 0]

def k0_chk56 (v2350 : BitVec 32) : Prop :=
  (∀ a, (k0_off134 v2350) a + S1x1x1x128x256.size a ≤ S1x1x16x128x256.size a)
theorem k0_off134_inb : ∀ (v2350 : BitVec 32) (k0_hw56 : k0_chk56 v2350), ∀ a, (k0_off134 v2350) a + S1x1x1x128x256.size a ≤ S1x1x16x128x256.size a := fun v2350 k0_hw56 => k0_hw56

def k0_off135 (k0_t2 : Fin k0_t2_loop.trips) : Fin 2 → Nat :=
  let c1_763 : Index := 1#32
  let c3_i32_34 : BitVec 32 := 3#32
  let c1_i32_35 : BitVec 32 := 1#32
  let arg12 : BitVec 32 := Scf.iv c3_i32_34 c1_i32_35 k0_t2
  let c6_i32_757 : BitVec 32 := 6#32
  let v2347 : BitVec 32 := Scalar.muli arg12 c6_i32_757
  let c5_i32 : BitVec 32 := 5#32
  let v2348 : BitVec 32 := Scalar.addi v2347 c5_i32
  let v2354 : Index := Scalar.indexCast v2348
  ![1, v2354.toNat]
def k0_mult12 (v2355 : BitVec 32) : BitVec 32 :=
  let c256_i32_764 : BitVec 32 := 256#32
  let v2356 : BitVec 32 := Scalar.muli v2355 c256_i32_764
  v2356

def k0_off136 (v2355 : BitVec 32) : Fin 3 → Nat :=
  let c0_765 : Index := 0#32
  let c256_i32_764 : BitVec 32 := 256#32
  let v2356 : BitVec 32 := Scalar.muli v2355 c256_i32_764
  let v2357 : BitVec 32 := v2356
  let v2358 : Index := Scalar.indexCast v2357
  let c0_766 : Index := 0#32
  ![0, v2358.toNat, 0]

def k0_chk57 (v2355 : BitVec 32) : Prop :=
  (256 ∣ (k0_mult12 v2355).toNat) ∧
  (∀ a, (k0_off136 v2355) a + S1x256x128.size a ≤ S1x4096x128.size a)
theorem k0_mult12_dvd : ∀ (v2355 : BitVec 32) (k0_hw57 : k0_chk57 v2355), 256 ∣ (k0_mult12 v2355).toNat := fun v2355 k0_hw57 => k0_hw57.1
theorem k0_off136_inb : ∀ (v2355 : BitVec 32) (k0_hw57 : k0_chk57 v2355), ∀ a, (k0_off136 v2355) a + S1x256x128.size a ≤ S1x4096x128.size a := fun v2355 k0_hw57 => k0_hw57.2

def k0_off137 (k0_t2 : Fin k0_t2_loop.trips) : Fin 2 → Nat :=
  let c3_779 : Index := 3#32
  let c3_i32_34 : BitVec 32 := 3#32
  let c1_i32_35 : BitVec 32 := 1#32
  let arg12 : BitVec 32 := Scf.iv c3_i32_34 c1_i32_35 k0_t2
  let c6_i32_757 : BitVec 32 := 6#32
  let v2347 : BitVec 32 := Scalar.muli arg12 c6_i32_757
  let c5_i32 : BitVec 32 := 5#32
  let v2348 : BitVec 32 := Scalar.addi v2347 c5_i32
  let v2373 : Index := Scalar.indexCast v2348
  ![3, v2373.toNat]
def k0_off138 (k0_t2 : Fin k0_t2_loop.trips) : Fin 2 → Nat :=
  let c4_780 : Index := 4#32
  let c3_i32_34 : BitVec 32 := 3#32
  let c1_i32_35 : BitVec 32 := 1#32
  let arg12 : BitVec 32 := Scf.iv c3_i32_34 c1_i32_35 k0_t2
  let c6_i32_757 : BitVec 32 := 6#32
  let v2347 : BitVec 32 := Scalar.muli arg12 c6_i32_757
  let c5_i32 : BitVec 32 := 5#32
  let v2348 : BitVec 32 := Scalar.addi v2347 c5_i32
  let v2375 : Index := Scalar.indexCast v2348
  ![4, v2375.toNat]
def k0_off139 (v2376 : BitVec 32) : Fin 5 → Nat :=
  let c0_781 : Index := 0#32
  let c0_782 : Index := 0#32
  let v2377 : Index := Scalar.indexCast v2376
  let c0_783 : Index := 0#32
  let c0_784 : Index := 0#32
  ![0, 0, v2377.toNat, 0, 0]

def k0_chk58 (v2376 : BitVec 32) : Prop :=
  (∀ a, (k0_off139 v2376) a + S1x1x1x128x256.size a ≤ S1x1x16x128x256.size a)
theorem k0_off139_inb : ∀ (v2376 : BitVec 32) (k0_hw58 : k0_chk58 v2376), ∀ a, (k0_off139 v2376) a + S1x1x1x128x256.size a ≤ S1x1x16x128x256.size a := fun v2376 k0_hw58 => k0_hw58

def k0_off140 (v2374 : BitVec 32) : Fin 4 → Nat :=
  let v2384 : Index := Scalar.indexCast v2374
  let c0_790 : Index := 0#32
  let c0_791 : Index := 0#32
  let c0_792 : Index := 0#32
  ![v2384.toNat, 0, 0, 0]

def k0_off141 (v2374 : BitVec 32) : Fin 4 → Nat :=
  let v2396 : Index := Scalar.indexCast v2374
  let c1_801 : Index := 1#32
  let c0_802 : Index := 0#32
  let c0_803 : Index := 0#32
  ![v2396.toNat, 1, 0, 0]

def k0_chk59 (v2374 : BitVec 32) : Prop :=
  (∀ a, (k0_off140 v2374) a + S1x1x64x256.size a ≤ S17x2x64x256.size a) ∧
  (∀ a, (k0_off141 v2374) a + S1x1x64x256.size a ≤ S17x2x64x256.size a)
theorem k0_off140_inb : ∀ (v2374 : BitVec 32) (k0_hw59 : k0_chk59 v2374), ∀ a, (k0_off140 v2374) a + S1x1x64x256.size a ≤ S17x2x64x256.size a := fun v2374 k0_hw59 => k0_hw59.1
theorem k0_off141_inb : ∀ (v2374 : BitVec 32) (k0_hw59 : k0_chk59 v2374), ∀ a, (k0_off141 v2374) a + S1x1x64x256.size a ≤ S17x2x64x256.size a := fun v2374 k0_hw59 => k0_hw59.2

def k0_off142 (k0_t2 : Fin k0_t2_loop.trips) : Fin 2 → Nat :=
  let c2_807 : Index := 2#32
  let c3_i32_34 : BitVec 32 := 3#32
  let c1_i32_35 : BitVec 32 := 1#32
  let arg12 : BitVec 32 := Scf.iv c3_i32_34 c1_i32_35 k0_t2
  let c6_i32_757 : BitVec 32 := 6#32
  let v2347 : BitVec 32 := Scalar.muli arg12 c6_i32_757
  let c5_i32 : BitVec 32 := 5#32
  let v2348 : BitVec 32 := Scalar.addi v2347 c5_i32
  let v2404 : Index := Scalar.indexCast v2348
  ![2, v2404.toNat]
def k0_off143 (v2405 : BitVec 32) : Fin 4 → Nat :=
  let v2510 : Index := Scalar.indexCast v2405
  let c0_830 : Index := 0#32
  let c0_831 : Index := 0#32
  let c0_832 : Index := 0#32
  ![v2510.toNat, 0, 0, 0]

def k0_off144 (v2405 : BitVec 32) : Fin 4 → Nat :=
  let v2692 : Index := Scalar.indexCast v2405
  let c1_862 : Index := 1#32
  let c0_863 : Index := 0#32
  let c0_864 : Index := 0#32
  ![v2692.toNat, 1, 0, 0]

def k0_chk60 (v2405 : BitVec 32) : Prop :=
  (∀ a, (k0_off143 v2405) a + S1x1x8x256.size a ≤ S17x2x8x256.size a) ∧
  (∀ a, (k0_off144 v2405) a + S1x1x8x256.size a ≤ S17x2x8x256.size a)
theorem k0_off143_inb : ∀ (v2405 : BitVec 32) (k0_hw60 : k0_chk60 v2405), ∀ a, (k0_off143 v2405) a + S1x1x8x256.size a ≤ S17x2x8x256.size a := fun v2405 k0_hw60 => k0_hw60.1
theorem k0_off144_inb : ∀ (v2405 : BitVec 32) (k0_hw60 : k0_chk60 v2405), ∀ a, (k0_off144 v2405) a + S1x1x8x256.size a ≤ S17x2x8x256.size a := fun v2405 k0_hw60 => k0_hw60.2

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x16x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x4096x512 : Shape := ⟨3, ![8, 4096, 512]⟩
abbrev S8x4096x8x64 : Shape := ⟨4, ![8, 4096, 8, 64]⟩
abbrev S8x8x4096x64 : Shape := ⟨4, ![8, 8, 4096, 64]⟩
abbrev S4096 : Shape := ⟨1, ![4096]⟩
abbrev S8x8x4096x4096 : Shape := ⟨4, ![8, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x512, .f32⟩
  | .hbm, ⟨3, _⟩ => ⟨S8x4096x8x64, .f32⟩
  | .hbm, ⟨4, _⟩ => ⟨S8x8x4096x64, .f32⟩
  | .hbm, ⟨5, _⟩ => ⟨S8x4096x8x64, .f32⟩
  | .hbm, ⟨6, _⟩ => ⟨S8x8x4096x64, .f32⟩
  | .hbm, ⟨7, _⟩ => ⟨S8x4096x8x64, .f32⟩
  | .hbm, ⟨8, _⟩ => ⟨S8x8x4096x64, .f32⟩
  | .hbm, ⟨9, _⟩ => ⟨S4096, .i32⟩
  | .hbm, ⟨10, _⟩ => ⟨S8x8x4096x4096, .f32⟩
  | .hbm, ⟨11, _⟩ => ⟨S_, .f32⟩
  | .hbm, ⟨12, _⟩ => ⟨S8x8x4096x4096, .f32⟩
  | .hbm, ⟨13, _⟩ => ⟨S8x8x4096x4096, .f32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096x4096, .f32⟩
  | .hbm, ⟨23, _⟩ => ⟨S8x8x4096x4096, .f32⟩
  | .hbm, ⟨24, _⟩ => ⟨S8x8x4096x4096, .f32⟩
  | .hbm, ⟨25, _⟩ => ⟨S8x8x4096x4096, .f32⟩
  | .hbm, ⟨26, _⟩ => ⟨S8x8x4096x4096, .i1⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S8x8x4096x4096, .f32⟩
  | .hbm, ⟨33, _⟩ => ⟨S8x8x4096x4096, .f32⟩
  | .hbm, ⟨34, _⟩ => ⟨S8x8x4096x4096, .f32⟩
  | .hbm, ⟨35, _⟩ => ⟨S8x8x4096x4096, .f32⟩
  | .hbm, ⟨36, _⟩ => ⟨S_, .f32⟩
  | .hbm, ⟨37, _⟩ => ⟨S_, .f32⟩
  | .hbm, ⟨38, _⟩ => ⟨S8x8x4096x4096, .i1⟩
  | .hbm, ⟨39, _⟩ => ⟨S8x8x4096x4096, .f32⟩
  | .hbm, ⟨40, _⟩ => ⟨S8x8x4096x4096, .f32⟩
  | .hbm, ⟨41, _⟩ => ⟨S_, .f32⟩
  | .hbm, ⟨42, _⟩ => ⟨S_, .f32⟩
  | .hbm, ⟨43, _⟩ => ⟨S8x8x4096x4096, .f32⟩
  | .hbm, ⟨44, _⟩ => ⟨S8x8x4096x4096, .f32⟩
  | .hbm, ⟨45, _⟩ => ⟨S8x8x4096x4096, .f32⟩
  | .hbm, ⟨46, _⟩ => ⟨S_, .f32⟩
  | .hbm, ⟨47, _⟩ => ⟨S8x8x4096x4096, .f32⟩
  | .hbm, ⟨48, _⟩ => ⟨S8x8x4096x4096, .f32⟩
  | .hbm, ⟨49, _⟩ => ⟨S8x8x4096x4096, .f32⟩
  | .hbm, ⟨50, _⟩ => ⟨S8x8x4096x4096, .f32⟩
  | .hbm, ⟨51, _⟩ => ⟨S8x8x4096x4096, .i1⟩
  | .hbm, ⟨52, _⟩ => ⟨S8x8x4096x4096, .f32⟩
  | .hbm, ⟨53, _⟩ => ⟨S8x8x4096x4096, .f32⟩
  | .hbm, ⟨54, _⟩ => ⟨S8x8x4096x4096, .f32⟩
  | .hbm, ⟨55, _⟩ => ⟨S8x8x4096x4096, .f32⟩
  | .hbm, ⟨56, _⟩ => ⟨S8x8x4096x4096, .f32⟩
  | .hbm, ⟨57, _⟩ => ⟨S8x8x4096x4096, .f32⟩
  | .hbm, ⟨58, _⟩ => ⟨S8x8x4096x4096, .f32⟩
  | .hbm, ⟨59, _⟩ => ⟨S8x8x4096x4096, .f32⟩
  | .hbm, ⟨60, _⟩ => ⟨S8x8x4096x4096, .f32⟩
  | .hbm, ⟨61, _⟩ => ⟨S8x8x4096x4096, .f32⟩
  | .hbm, ⟨62, _⟩ => ⟨S8x8x4096x4096, .f32⟩
  | .hbm, ⟨63, _⟩ => ⟨S_, .f32⟩
  | .hbm, ⟨64, _⟩ => ⟨S_, .f32⟩
  | .hbm, ⟨65, _⟩ => ⟨S8x8x4096x4096, .i1⟩
  | .hbm, ⟨66, _⟩ => ⟨S8x8x4096x4096, .f32⟩
  | .hbm, ⟨67, _⟩ => ⟨S8x8x4096x4096, .f32⟩
  | .hbm, ⟨68, _⟩ => ⟨S8x8x4096x64, .f32⟩
  | .hbm, ⟨69, _⟩ => ⟨S8x4096x8x64, .f32⟩
  | .hbm, ⟨70, _⟩ => ⟨S8x4096x512, .f32⟩
  | .hbm, ⟨71, _⟩ => ⟨S8x4096x512, .bf16⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v16 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_call2_cst : Ref sig .tc := ⟨.hbm, 41, rfl⟩
abbrev main_call2_v0 : Ref sig .tc := ⟨.hbm, 42, rfl⟩
abbrev main_v18 : Ref sig .tc := ⟨.hbm, 43, rfl⟩
abbrev main_v19 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== Ffn.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x1024 : Shape := ⟨2, ![1, 1024]⟩
abbrev S1x5632 : Shape := ⟨2, ![1, 5632]⟩
abbrev S1x512x1024 : Shape := ⟨3, ![1, 512, 1024]⟩
abbrev S8x5632 : Shape := ⟨2, ![8, 5632]⟩
abbrev S512x1024 : Shape := ⟨2, ![512, 1024]⟩
abbrev S2x2x512x256 : Shape := ⟨4, ![2, 2, 512, 256]⟩
abbrev S2x512x256 : Shape := ⟨3, ![2, 512, 256]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S1x1x512x256 : Shape := ⟨4, ![1, 1, 512, 256]⟩
abbrev S8x256 : Shape := ⟨2, ![8, 256]⟩
abbrev S520x256 : Shape := ⟨2, ![520, 256]⟩
abbrev S1x256 : Shape := ⟨2, ![1, 256]⟩
abbrev S1x512x256 : Shape := ⟨3, ![1, 512, 256]⟩
abbrev S256x1024 : Shape := ⟨2, ![256, 1024]⟩

abbrev nBuf : Space → Nat
  | .hbm => 13
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1024x5632, .bf16⟩
  | .hbm, ⟨9, _⟩ => ⟨S1x5632, .f32⟩
  | .hbm, ⟨10, _⟩ => ⟨S2816x1024, .bf16⟩
  | .hbm, ⟨11, _⟩ => ⟨S1x1024, .f32⟩
  | .hbm, ⟨12, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S8x5632, .f32⟩
  | .local _ .vmem, ⟨11, _⟩ => ⟨S512x1024, .f32⟩
  | .local _ .vmem, ⟨12, _⟩ => ⟨S512x1024, .bf16⟩
  | .local _ .vmem, ⟨13, _⟩ => ⟨S2x2x512x256, .f32⟩
  | .local _ .vmem, ⟨14, _⟩ => ⟨S2x512x256, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnIdeal.lean ====
variable {F : FTy → Type} [FloatOps F] [Named F]
def κ : String → Option EReal := fun
  | "gelu_a" => some ((((-2) * (6693141 / 8388608)) * (Real.log 2)⁻¹ : ℝ) : EReal)
  | "gelu_b" => some (((((-2) * (6693141 / 8388608)) * (Real.log 2)⁻¹) * (12003091 / 268435456) : ℝ) : EReal)
  | _ => none
-- ==== FfnReferenceIdeal.lean ====
abbrev S8x4096x1024 : Shape := ⟨3, ![8, 4096, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x2x5632 : Shape := ⟨3, ![8, 2, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 88
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x5632, .f32⟩
  | .hbm, ⟨24, _⟩ => ⟨S_, .f32⟩
  | .hbm, ⟨25, _⟩ => ⟨S8x2x5632, .f32⟩
  | .hbm, ⟨26, _⟩ => ⟨S8x4098x5632, .f32⟩
  | .hbm, ⟨27, _⟩ => ⟨S8x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S8x4096x5632, .f32⟩
  | .hbm, ⟨32, _⟩ => ⟨S8x4096x5632, .f32⟩
  | .hbm, ⟨33, _⟩ => ⟨S8x4096x5632, .f32⟩
  | .hbm, ⟨34, _⟩ => ⟨S1x5632, .f32⟩
  | .hbm, ⟨35, _⟩ => ⟨S5632, .f32⟩
  | .hbm, ⟨36, _⟩ => ⟨S1x1x5632, .f32⟩
  | .hbm, ⟨37, _⟩ => ⟨S8x4096x5632, .f32⟩
  | .hbm, ⟨38, _⟩ => ⟨S8x4096x5632, .f32⟩
  | .hbm, ⟨39, _⟩ => ⟨S8x4096x5632, .f32⟩
  | .hbm, ⟨40, _⟩ => ⟨S8x4096x5632, .f32⟩
  | .hbm, ⟨41, _⟩ => ⟨S1x5632, .f32⟩
  | .hbm, ⟨42, _⟩ => ⟨S5632, .f32⟩
  | .hbm, ⟨43, _⟩ => ⟨S1x1x5632, .f32⟩
  | .hbm, ⟨44, _⟩ => ⟨S8x4096x5632, .f32⟩
  | .hbm, ⟨45, _⟩ => ⟨S8x4096x5632, .f32⟩
  | .hbm, ⟨46, _⟩ => ⟨S8x4096x5632, .f32⟩
  | .hbm, ⟨47, _⟩ => ⟨S1x1x5632, .f32⟩
  | .hbm, ⟨48, _⟩ => ⟨S8x4096x5632, .f32⟩
  | .hbm, ⟨49, _⟩ => ⟨S8x4096x5632, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S8x4096x2816, .f32⟩
  | .hbm, ⟨56, _⟩ => ⟨S8x4096x2816, .f32⟩
  | .hbm, ⟨57, _⟩ => ⟨S_, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S_, .f32⟩
  | .hbm, ⟨62, _⟩ => ⟨S8x4096x2816, .f32⟩
  | .hbm, ⟨63, _⟩ => ⟨S8x4096x2816, .f32⟩
  | .hbm, ⟨64, _⟩ => ⟨S8x4096x2816, .f32⟩
  | .hbm, ⟨65, _⟩ => ⟨S_, .f32⟩
  | .hbm, ⟨66, _⟩ => ⟨S8x4096x2816, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S_, .f32⟩
  | .hbm, ⟨79, _⟩ => ⟨S8x4096x1, .f32⟩
  | .hbm, ⟨80, _⟩ => ⟨S8x4096x1, .f32⟩
  | .hbm, ⟨81, _⟩ => ⟨S8x4096x1, .f32⟩
  | .hbm, ⟨82, _⟩ => ⟨S8x4096x1024, .f32⟩
  | .hbm, ⟨83, _⟩ => ⟨S8x4096x1024, .f32⟩
  | .hbm, ⟨84, _⟩ => ⟨S1x1x1024, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_6 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Mix.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S8x256x1024 : Shape := ⟨3, ![8, 256, 1024]⟩
abbrev S1x1024 : Shape := ⟨2, ![1, 1024]⟩
abbrev S1x512x512 : Shape := ⟨3, ![1, 512, 512]⟩
abbrev S1x512x1024 : Shape := ⟨3, ![1, 512, 1024]⟩
abbrev S1x256x1024 : Shape := ⟨3, ![1, 256, 1024]⟩
abbrev S512x512 : Shape := ⟨2, ![512, 512]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 24
  | .vmem => 24
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .bf16⟩
  | .hbm, ⟨3, _⟩ => ⟨S8x4096x1024, .bf16⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S8x256x1024, .bf16⟩
  | .hbm, ⟨12, _⟩ => ⟨S8x256x1024, .bf16⟩
  | .hbm, ⟨13, _⟩ => ⟨S1024x1024, .f32⟩
  | .hbm, ⟨14, _⟩ => ⟨S1024, .f32⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1024x1024, .bf16⟩
  | .hbm, ⟨21, _⟩ => ⟨S1024x1024, .bf16⟩
  | .hbm, ⟨22, _⟩ => ⟨S1x1024, .f32⟩
  | .hbm, ⟨23, _⟩ => ⟨S8x4096x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MixReferenceIdeal.lean ====
abbrev S8x4096x512 : Shape := ⟨3, ![8, 4096, 512]⟩
abbrev S8x4096x1024 : Shape := ⟨3, ![8, 4096, 1024]⟩
abbrev S512x1024 : Shape := ⟨2, ![512, 1024]⟩
abbrev S1024x1024 : Shape := ⟨2, ![1024, 1024]⟩
abbrev S1024 : Shape := ⟨1, ![1024]⟩
abbrev S8x256x1024 : Shape := ⟨3, ![8, 256, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 103
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x1024, .bf16⟩
  | .hbm, ⟨3, _⟩ => ⟨S8x4096x1024, .bf16⟩
  | .hbm, ⟨4, _⟩ => ⟨S8x4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S8x256x1024, .bf16⟩
  | .hbm, ⟨12, _⟩ => ⟨S8x256x1024, .bf16⟩
  | .hbm, ⟨13, _⟩ => ⟨S1024x1024, .f32⟩
  | .hbm, ⟨14, _⟩ => ⟨S1024, .f32⟩
  | .hbm, ⟨15, _⟩ => ⟨S8x4096x512, .f32⟩
  | .hbm, ⟨16, _⟩ => ⟨S8x4096x512, .f32⟩
  | .hbm, ⟨17, _⟩ => ⟨S8x4096x1024, .f32⟩
  | .hbm, ⟨18, _⟩ => ⟨S8x4096x1024, .f32⟩
  | .hbm, ⟨19, _⟩ => ⟨S8x256x1024, .f32⟩
  | .hbm, ⟨20, _⟩ => ⟨S8x256x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S1x1x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096, .f32⟩
  | .hbm, ⟨47, _⟩ => ⟨S8x4096x1, .f32⟩
  | .hbm, ⟨48, _⟩ => ⟨S_, .f32⟩
  | .hbm, ⟨49, _⟩ => ⟨S8x4096x1, .f32⟩
  | .hbm, ⟨50, _⟩ => ⟨S8x4096x1, .f32⟩
  | .hbm, ⟨51, _⟩ => ⟨S_, .f32⟩
  | .hbm, ⟨52, _⟩ => ⟨S8x4096x1, .f32⟩
  | .hbm, ⟨53, _⟩ => ⟨S8x4096x1, .f32⟩
  | .hbm, ⟨54, _⟩ => ⟨S8x4096x1, .f32⟩
  | .hbm, ⟨55, _⟩ => ⟨S8x4096x1024, .f32⟩
  | .hbm, ⟨56, _⟩ => ⟨S8x4096x1024, .f32⟩
  | .hbm, ⟨57, _⟩ => ⟨S1x1x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x4x256, .f32⟩
  | .hbm, ⟨62, _⟩ => ⟨S8x256x4x256, .f32⟩
  | .hbm, ⟨63, _⟩ => ⟨S8x256x4x256, .f32⟩
  | .hbm, ⟨64, _⟩ => ⟨S8x4x4096x256, .f32⟩
  | .hbm, ⟨65, _⟩ => ⟨S_, .f32⟩
  | .hbm, ⟨66, _⟩ => ⟨S8x4x4096x256, .f32⟩
  | .hbm, ⟨67, _⟩ => ⟨S8x4x4096x256, .f32⟩
  | .hbm, ⟨68, _⟩ => ⟨S_, .f32⟩
  | .hbm, ⟨69, _⟩ => ⟨S8x4x4096, .f32⟩
  | .hbm, ⟨70, _⟩ => ⟨S_, .f32⟩
  | .hbm, ⟨71, _⟩ => ⟨S8x4x4096, .f32⟩
  | .hbm, ⟨72, _⟩ => ⟨S8x4x4096, .f32⟩
  | .hbm, ⟨73, _⟩ => ⟨S8x4x4096x1, .f32⟩
  | .hbm, ⟨74, _⟩ => ⟨S8x4x4096x256, .f32⟩
  | .hbm, ⟨75, _⟩ => ⟨S8x4x4096x256, .f32⟩
  | .hbm, ⟨76, _⟩ => ⟨S8x4x4096x256, .f32⟩
  | .hbm, ⟨77, _⟩ => ⟨S_, .f32⟩
  | .hbm, ⟨78, _⟩ => ⟨S8x4x4096, .f32⟩
  | .hbm, ⟨79, _⟩ => ⟨S8x4x4096x1, .f32⟩
  | .hbm, ⟨80, _⟩ => ⟨S8x4x4096x256, .f32⟩
  | .hbm, ⟨81, _⟩ => ⟨S8x4x4096x256, .f32⟩
  | .hbm, ⟨82, _⟩ => ⟨S8x4x256x4096, .f32⟩
  | .hbm, ⟨83, _⟩ => ⟨S8x4096x4x256, .f32⟩
  | .hbm, ⟨84, _⟩ => ⟨S8x4096x1024, .f32⟩
  | .hbm, ⟨85, _⟩ => ⟨S8x4096x1024, .f32⟩
  | .hbm, ⟨86, _⟩ => ⟨S8x4096x1024, .f32⟩
  | .hbm, ⟨87, _⟩ => ⟨S_, .f32⟩
  | .hbm, ⟨88, _⟩ => ⟨S8x4096, .f32⟩
  | .hbm, ⟨89, _⟩ => ⟨S8x4096x1, .f32⟩
  | .hbm, ⟨90, _⟩ => ⟨S_, .f32⟩
  | .hbm, ⟨91, _⟩ => ⟨S8x4096x1, .f32⟩
  | .hbm, ⟨92, _⟩ => ⟨S8x4096x1, .f32⟩
  | .hbm, ⟨93, _⟩ => ⟨S_, .f32⟩
  | .hbm, ⟨94, _⟩ => ⟨S8x4096x1, .f32⟩
  | .hbm, ⟨95, _⟩ => ⟨S8x4096x1, .f32⟩
  | .hbm, ⟨96, _⟩ => ⟨S8x4096x1, .f32⟩
  | .hbm, ⟨97, _⟩ => ⟨S8x4096x1024, .f32⟩
  | .hbm, ⟨98, _⟩ => ⟨S8x4096x1024, .f32⟩
  | .hbm, ⟨99, _⟩ => ⟨S1x1x1024, .f32⟩
  | .hbm, ⟨100, _⟩ => ⟨S8x4096x1024, .f32⟩
  | .hbm, ⟨101, _⟩ => ⟨S8x4096x1024, .f32⟩
  | .hbm, ⟨102, _⟩ => ⟨S8x4096x1024, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_0 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_5 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_cst_11 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Proof.Step.lean ====
/-
One step of the attention kernel's software pipeline as three small programs — the logits of an item
(`logits`), the weights of the item before it (`weights`), the weighted sum of the values of the item
before that (`mix`) — and the printed loop regions as six such steps in a row.
-/
module

public import proofs.«01_k».proof.Proof.Gen.KernelIdeal.Skeleton

@[expose] public section

set_option maxRecDepth 65536

noncomputable section

namespace Cert.KernelIdeal.Sb

open Idealize.ShloMosaic Idealize.ShloMosaic.TcCoe Cert.KernelIdeal Cert.KernelIdeal.Gen
open Idealize.SL.Sem

variable {F : FTy → Type} [FloatOps F]

/-- Programs of the kernel's thread. -/
abbrev Pg (α : Type) := Prog (TpuEff nD τ sig (Elt F) Λ₀ .tc) α

/-! ## The arithmetic -/

/-- One head's logits: the keys' rows against the query tile with the other head's rows set to 0. -/
def dotHead (msk : IVec S128x256 1) (q : Vec F S1x1x1x128x256 .bf16) (k : Vec F S1x256x128 .bf16) : FVec F S256x256 .f32 :=
  matmul dot_S256x128_S128x256_S256x256_1_0_0_1_n_n none
    (shapeCast S256x128 k shapeCasts_S1x256x128_S256x128)
    (select msk (shapeCast S128x256 q shapeCasts_S1x1x1x128x256_S128x256) (broadcast S128x256 (Scalar.ofBits .bf16 0x0000#16)))
    (constant S256x256 .f32 0x00000000#32)

/-- The same with the tile's mask added. -/
def dotHeadBias (msk : IVec S128x256 1) (q : Vec F S1x1x1x128x256 .bf16) (k : Vec F S1x256x128 .bf16)
    (b : Vec F S256x256 .f32) : FVec F S256x256 .f32 :=
  addf (dotHead msk q k) (shapeCast S256x256 b shapeCasts_S256x256_S256x256)

/-- `1 / (1 + 2^z)`. -/
def keep (z : Vec F S1x1x256x256 .f32) : FVec F S256x256 .f32 :=
  divf (broadcast S256x256 (Scalar.ofBits .f32 0x3F800000#32))
    (addf (broadcast S256x256 (Scalar.ofBits .f32 0x3F800000#32))
      (exp2 (shapeCast S256x256 z shapeCasts_S1x1x256x256_S256x256)))

/-- Eight rows of a tile, from the last group of eight: group `31 - n`. -/
theorem slices_group (n : Nat) : S256x256.Slices ![8 * (31 - n), 0] S8x256 := by
  refine ⟨rfl, fun a => ?_⟩
  fin_cases a
  · show 8 * (31 - n) + 8 ≤ 256
    omega
  · show 0 + 256 ≤ 256
    omega

/-- The products of the groups of eight rows from group `31 - n` to the last. -/
def suf (f : FVec F S256x256 .f32) : Nat → FVec F S8x256 .f32
  | 0 => extractStridedSlice S8x256 ![248, 0] f (slices_group 0)
  | n + 1 => mulf (extractStridedSlice S8x256 ![8 * (31 - (n + 1)), 0] f (slices_group (n + 1))) (suf f n)

/-- The rows moved up by `d`, the rows past the last filled with 1; `8 - d` is the rotation's amount. -/
def up (sub : IVec S8x256 32) (d e : BitVec 32) (x : FVec F S8x256 .f32) : FVec F S8x256 .f32 :=
  select (cmpi .slt (addi sub (broadcast S8x256 d)) (broadcast S8x256 8#32))
    (dynamicRotate 0 e none x rotates_S8x256_d0) (broadcast S8x256 (Scalar.ofBits .f32 0x3F800000#32))

/-- The products of the rows from each on. -/
def scan (sub : IVec S8x256 32) (p : FVec F S8x256 .f32) : FVec F S8x256 .f32 :=
  let x1 := mulf p (up sub 1#32 7#32 p)
  let x2 := mulf x1 (up sub 2#32 6#32 x1)
  mulf x2 (up sub 4#32 4#32 x2)

/-- Row 0 of the products, on every row: the product of the whole tile. -/
def total (x : FVec F S8x256 .f32) : FVec F S8x256 .f32 :=
  broadcastTo S8x256 (shapeCast S1x256 (extractStridedSlice S1x256 ![0, 0] x slices_S8x256_o0_0_S1x256)
    shapeCasts_S1x256_S1x256) broadcasts_S1x256_S8x256

/-- The products the weights are differences of: `edge i` for the groups, `g` past the last. -/
def edge (f : FVec F S256x256 .f32) (g : FVec F S8x256 .f32) : Nat → FVec F S8x256 .f32
  | 0 => g
  | n + 1 => mulf (suf f n) g

/-- The difference for the group `i`. -/
def diffs (f : FVec F S256x256 .f32) (g : FVec F S8x256 .f32) (i : Nat) : FVec F S8x256 .f32 :=
  subf (edge f g (31 - i)) (edge f g (32 - i))

/-- The tile of weights. -/
def wtile (f : FVec F S256x256 .f32) (g : FVec F S8x256 .f32) : FVec F S256x256 .f32 :=
  concatenate S256x256 0 ((List.range 32).map fun i => (⟨S8x256, diffs f g i⟩ : Σ s : Shape, FVec F s .f32))
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The weights as stored. -/
def wput (f : FVec F S256x256 .f32) (g : FVec F S8x256 .f32) : FVec F S1x1x256x256 .bf16 :=
  shapeCast S1x1x256x256 (truncf .bf16 (wtile f g) bitsLt_bf16_f32) shapeCasts_S256x256_S1x1x256x256

/-- The products over the rows of each column, within the tile. -/
def scanOf (sub : IVec S8x256 32) (z : Vec F S1x1x256x256 .f32) : FVec F S8x256 .f32 := scan sub (suf (keep z) 31)

/-- The products over the rows strictly after each group's row. -/
def after (sub : IVec S8x256 32) (z : Vec F S1x1x256x256 .f32) : FVec F S8x256 .f32 := up sub 1#32 7#32 (scanOf sub z)

/-- The weighted sum of one head's values. -/
def mixHead0 (v : Vec F S1x1x1x128x256 .bf16) (w : Vec F S1x1x256x256 .bf16) : FVec F S64x256 .f32 :=
  matmul dot_S64x256_S256x256_S64x256_1_0_0_1_n_n none
    (extractStridedSlice S64x256 ![0, 0] (shapeCast S128x256 v shapeCasts_S1x1x1x128x256_S128x256) slices_S128x256_o0_0_S64x256)
    (shapeCast S256x256 w shapeCasts_S1x1x256x256_S256x256) (constant S64x256 .f32 0x00000000#32)

def mixHead1 (v : Vec F S1x1x1x128x256 .bf16) (w : Vec F S1x1x256x256 .bf16) : FVec F S64x256 .f32 :=
  matmul dot_S64x256_S256x256_S64x256_1_0_0_1_n_n none
    (extractStridedSlice S64x256 ![64, 0] (shapeCast S128x256 v shapeCasts_S1x1x1x128x256_S128x256) slices_S128x256_o64_0_S64x256)
    (shapeCast S256x256 w shapeCasts_S1x1x256x256_S256x256) (constant S64x256 .f32 0x00000000#32)

def zput (z : FVec F S256x256 .f32) : FVec F S1x1x256x256 .f32 := shapeCast S1x1x256x256 z shapeCasts_S256x256_S1x1x256x256
def aput (a : FVec F S64x256 .f32) : FVec F S1x1x64x256 .f32 := shapeCast S1x1x64x256 a shapeCasts_S64x256_S1x1x64x256
def aget (a : Vec F S1x1x64x256 .f32) : FVec F S64x256 .f32 := shapeCast S64x256 a shapeCasts_S1x1x64x256_S64x256
def rput (r : FVec F S8x256 .f32) : FVec F S1x1x8x256 .f32 := shapeCast S1x1x8x256 r shapeCasts_S8x256_S1x1x8x256
def rget (r : Vec F S1x1x8x256 .f32) : FVec F S8x256 .f32 := shapeCast S8x256 r shapeCasts_S1x1x8x256_S8x256

/-! ## The programs -/

section progs

variable (arg2 : Memref sig .tc .smem S5x144 .i32) (harg2 : arg2.IsWhole) (arg3 : Memref sig .tc .vmem S1x1x16x128x256 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S256x256 .f32) (harg6 : arg6.IsWhole) (arg7 : Memref sig .tc .vmem S1x4096x128 .bf16) (harg7 : arg7.IsWhole) (arg8 : Memref sig .tc .vmem S2x2x256x256 .f32) (harg8 : arg8.IsWhole) (arg9 : Memref sig .tc .vmem S2x2x256x256 .bf16) (harg9 : arg9.IsWhole) (arg10 : Memref sig .tc .vmem S17x2x64x256 .f32) (harg10 : arg10.IsWhole) (arg11 : Memref sig .tc .vmem S17x2x8x256 .f32) (harg11 : arg11.IsWhole)
variable (v26 v52 : IVec S128x256 1) (v53 : IVec S8x256 32)

/-- Where a row of the table has the word of step `t`. -/
abbrev tabOff (r : Nat) (t : BitVec 32) : Fin 2 → Nat := ![r, (Scalar.indexCast t : Index).toNat]

theorem tabOff_inb {r : Nat} {t : BitVec 32} (hr : r < 5) (ht : t.toNat < 144) :
    ∀ a, tabOff r t a + S1x1.size a ≤ S5x144.size a := by
  intro a
  fin_cases a
  · show r + 1 ≤ 5
    omega
  · show t.toNat + 1 ≤ 144
    omega

/-- A slot and head of the two double-buffered scratch arrays. -/
abbrev slot (s h : Nat) : Fin 4 → Nat := ![s, h, 0, 0]

theorem slot_inb {s h : Nat} (hs : s < 2) (hh : h < 2) : ∀ a, slot s h a + S1x1x256x256.size a ≤ S2x2x256x256.size a := by
  intro a
  fin_cases a
  · show s + 1 ≤ 2
    omega
  · show h + 1 ≤ 2
    omega
  · show 0 + 256 ≤ 256
    omega
  · show 0 + 256 ≤ 256
    omega

theorem slot_packed {s h : Nat} (hs : s < 2) (hh : h < 2) :
    (Rect.unit (s := S2x2x256x256) (slot s h) S1x1x256x256.size (slot_inb hs hh)).PackedRows (EltTy.packing .bf16) := by
  have h1 : s = 0 ∨ s = 1 := by omega
  have h2 : h = 0 ∨ h = 1 := by omega
  rcases h1 with rfl | rfl <;> rcases h2 with rfl | rfl
  · exact packedbf16_S2x2x256x256_S1x1x256x256_0_0_0_0
  · exact packedbf16_S2x2x256x256_S1x1x256x256_0_1_0_0
  · exact packedbf16_S2x2x256x256_S1x1x256x256_1_0_0_0
  · exact packedbf16_S2x2x256x256_S1x1x256x256_1_1_0_0

/-- The logits of the item of step `t`, with the mask, into slot `s`. -/
def logitsD (s : Nat) (hs : s < 2) (t : BitVec 32) (ht : t.toNat < 144) : Pg (F := F) Unit := do
  let wq : Elt F .i32 ← smemLoad arg2 (Rect.unit (s := S5x144) (tabOff 0 t) S1x1.size (tabOff_inb (by omega) ht)) numel1_S1x1 rfl
  have hq : k0_chk1 wq := (← Prog.lift (TpuEff.assume (k0_chk1 wq) (k0_chk1.dec wq))).down
  let q : Vec F S1x1x1x128x256 .bf16 ← Prog.lift (.load arg3 (Rect.unit (s := S1x1x16x128x256) (k0_off2 wq) S1x1x1x128x256.size (k0_off2_inb wq hq)).toLoadRect (View.loadsAt_vmem h_S1x1x1x128x256))
  let wk : Elt F .i32 ← smemLoad arg2 (Rect.unit (s := S5x144) (tabOff 1 t) S1x1.size (tabOff_inb (by omega) ht)) numel1_S1x1 rfl
  have hk : k0_chk2 wk := (← Prog.lift (TpuEff.assume (k0_chk2 wk) (k0_chk2.dec wk))).down
  let k : Vec F S1x256x128 .bf16 ← Prog.lift (.load arg4 (Rect.unit (s := S1x4096x128) (k0_off4 wk) S1x256x128.size (k0_off4_inb wk hk)).toLoadRect (View.loadsAt_vmem h_S1x256x128))
  let b0 : Vec F S256x256 .f32 ← Prog.lift (.load arg6 (Rect.unit (s := S256x256) ![0, 0] S256x256.size inb_S256x256_S256x256_0_0).toLoadRect (View.loadsAt_vmem h_S256x256))
  let _ ← Prog.lift (.load arg8 (Rect.unit (s := S2x2x256x256) (slot s 0) S1x1x256x256.size (slot_inb hs (by omega))).toLoadRect (View.loadsAt_vmem h_S1x1x256x256))
  Prog.lift (.store arg8 (Rect.unit (s := S2x2x256x256) (slot s 0) S1x1x256x256.size (slot_inb hs (by omega))) (zput (dotHeadBias v26 q k b0)) Finset.univ (View.stores_vmem_bits_univ h_S1x1x256x256 rfl) (.inl rfl))
  let b1 : Vec F S256x256 .f32 ← Prog.lift (.load arg6 (Rect.unit (s := S256x256) ![0, 0] S256x256.size inb_S256x256_S256x256_0_0).toLoadRect (View.loadsAt_vmem h_S256x256))
  let _ ← Prog.lift (.load arg8 (Rect.unit (s := S2x2x256x256) (slot s 1) S1x1x256x256.size (slot_inb hs (by omega))).toLoadRect (View.loadsAt_vmem h_S1x1x256x256))
  Prog.lift (.store arg8 (Rect.unit (s := S2x2x256x256) (slot s 1) S1x1x256x256.size (slot_inb hs (by omega))) (zput (dotHeadBias v52 q k b1)) Finset.univ (View.stores_vmem_bits_univ h_S1x1x256x256 rfl) (.inl rfl))

/-- The logits of the item of step `t` into slot `s`. -/
def logits (s : Nat) (hs : s < 2) (t : BitVec 32) (ht : t.toNat < 144) : Pg (F := F) Unit := do
  let wq : Elt F .i32 ← smemLoad arg2 (Rect.unit (s := S5x144) (tabOff 0 t) S1x1.size (tabOff_inb (by omega) ht)) numel1_S1x1 rfl
  have hq : k0_chk1 wq := (← Prog.lift (TpuEff.assume (k0_chk1 wq) (k0_chk1.dec wq))).down
  let q : Vec F S1x1x1x128x256 .bf16 ← Prog.lift (.load arg3 (Rect.unit (s := S1x1x16x128x256) (k0_off2 wq) S1x1x1x128x256.size (k0_off2_inb wq hq)).toLoadRect (View.loadsAt_vmem h_S1x1x1x128x256))
  let wk : Elt F .i32 ← smemLoad arg2 (Rect.unit (s := S5x144) (tabOff 1 t) S1x1.size (tabOff_inb (by omega) ht)) numel1_S1x1 rfl
  have hk : k0_chk2 wk := (← Prog.lift (TpuEff.assume (k0_chk2 wk) (k0_chk2.dec wk))).down
  let k : Vec F S1x256x128 .bf16 ← Prog.lift (.load arg4 (Rect.unit (s := S1x4096x128) (k0_off4 wk) S1x256x128.size (k0_off4_inb wk hk)).toLoadRect (View.loadsAt_vmem h_S1x256x128))
  let _ ← Prog.lift (.load arg8 (Rect.unit (s := S2x2x256x256) (slot s 0) S1x1x256x256.size (slot_inb hs (by omega))).toLoadRect (View.loadsAt_vmem h_S1x1x256x256))
  Prog.lift (.store arg8 (Rect.unit (s := S2x2x256x256) (slot s 0) S1x1x256x256.size (slot_inb hs (by omega))) (zput (dotHead v26 q k)) Finset.univ (View.stores_vmem_bits_univ h_S1x1x256x256 rfl) (.inl rfl))
  let _ ← Prog.lift (.load arg8 (Rect.unit (s := S2x2x256x256) (slot s 1) S1x1x256x256.size (slot_inb hs (by omega))).toLoadRect (View.loadsAt_vmem h_S1x1x256x256))
  Prog.lift (.store arg8 (Rect.unit (s := S2x2x256x256) (slot s 1) S1x1x256x256.size (slot_inb hs (by omega))) (zput (dotHead v52 q k)) Finset.univ (View.stores_vmem_bits_univ h_S1x1x256x256 rfl) (.inl rfl))

/-- The weighted values of the item two steps back, from slot `s`, stored. -/
def mixD (s : Nat) (hs : s < 2) (t : BitVec 32) (ht : t.toNat < 144) : Pg (F := F) Unit := do
  let wo : Elt F .i32 ← smemLoad arg2 (Rect.unit (s := S5x144) (tabOff 3 t) S1x1.size (tabOff_inb (by omega) ht)) numel1_S1x1 rfl
  have ho : k0_chk4 wo := (← Prog.lift (TpuEff.assume (k0_chk4 wo) (k0_chk4.dec wo))).down
  let wv : Elt F .i32 ← smemLoad arg2 (Rect.unit (s := S5x144) (tabOff 4 t) S1x1.size (tabOff_inb (by omega) ht)) numel1_S1x1 rfl
  have hv : k0_chk3 wv := (← Prog.lift (TpuEff.assume (k0_chk3 wv) (k0_chk3.dec wv))).down
  let v : Vec F S1x1x1x128x256 .bf16 ← Prog.lift (.load arg5 (Rect.unit (s := S1x1x16x128x256) (k0_off7 wv) S1x1x1x128x256.size (k0_off7_inb wv hv)).toLoadRect (View.loadsAt_vmem h_S1x1x1x128x256))
  let w0 : Vec F S1x1x256x256 .bf16 ← Prog.lift (.load arg9 (Rect.unit (s := S2x2x256x256) (slot s 0) S1x1x256x256.size (slot_inb hs (by omega))).toLoadRect (View.loadsAt_vmem h_S1x1x256x256))
  let _ ← Prog.lift (.load arg10 (Rect.unit (s := S17x2x64x256) (k0_off8 wo) S1x1x64x256.size (k0_off8_inb wo ho)).toLoadRect (View.loadsAt_vmem h_S1x1x64x256))
  Prog.lift (.store arg10 (Rect.unit (s := S17x2x64x256) (k0_off8 wo) S1x1x64x256.size (k0_off8_inb wo ho)) (aput (mixHead0 v w0)) Finset.univ (View.stores_vmem_bits_univ h_S1x1x64x256 rfl) (.inl rfl))
  let w1 : Vec F S1x1x256x256 .bf16 ← Prog.lift (.load arg9 (Rect.unit (s := S2x2x256x256) (slot s 1) S1x1x256x256.size (slot_inb hs (by omega))).toLoadRect (View.loadsAt_vmem h_S1x1x256x256))
  let _ ← Prog.lift (.load arg10 (Rect.unit (s := S17x2x64x256) (k0_off9 wo) S1x1x64x256.size (k0_off9_inb wo ho)).toLoadRect (View.loadsAt_vmem h_S1x1x64x256))
  Prog.lift (.store arg10 (Rect.unit (s := S17x2x64x256) (k0_off9 wo) S1x1x64x256.size (k0_off9_inb wo ho)) (aput (mixHead1 v w1)) Finset.univ (View.stores_vmem_bits_univ h_S1x1x64x256 rfl) (.inl rfl))

/-- The same, added to what the accumulator holds. -/
def mix (s : Nat) (hs : s < 2) (t : BitVec 32) (ht : t.toNat < 144) : Pg (F := F) Unit := do
  let wo : Elt F .i32 ← smemLoad arg2 (Rect.unit (s := S5x144) (tabOff 3 t) S1x1.size (tabOff_inb (by omega) ht)) numel1_S1x1 rfl
  have ho : k0_chk4 wo := (← Prog.lift (TpuEff.assume (k0_chk4 wo) (k0_chk4.dec wo))).down
  let wv : Elt F .i32 ← smemLoad arg2 (Rect.unit (s := S5x144) (tabOff 4 t) S1x1.size (tabOff_inb (by omega) ht)) numel1_S1x1 rfl
  have hv : k0_chk3 wv := (← Prog.lift (TpuEff.assume (k0_chk3 wv) (k0_chk3.dec wv))).down
  let v : Vec F S1x1x1x128x256 .bf16 ← Prog.lift (.load arg5 (Rect.unit (s := S1x1x16x128x256) (k0_off7 wv) S1x1x1x128x256.size (k0_off7_inb wv hv)).toLoadRect (View.loadsAt_vmem h_S1x1x1x128x256))
  let w0 : Vec F S1x1x256x256 .bf16 ← Prog.lift (.load arg9 (Rect.unit (s := S2x2x256x256) (slot s 0) S1x1x256x256.size (slot_inb hs (by omega))).toLoadRect (View.loadsAt_vmem h_S1x1x256x256))
  let a0 : Vec F S1x1x64x256 .f32 ← Prog.lift (.load arg10 (Rect.unit (s := S17x2x64x256) (k0_off8 wo) S1x1x64x256.size (k0_off8_inb wo ho)).toLoadRect (View.loadsAt_vmem h_S1x1x64x256))
  let _ ← Prog.lift (.load arg10 (Rect.unit (s := S17x2x64x256) (k0_off8 wo) S1x1x64x256.size (k0_off8_inb wo ho)).toLoadRect (View.loadsAt_vmem h_S1x1x64x256))
  Prog.lift (.store arg10 (Rect.unit (s := S17x2x64x256) (k0_off8 wo) S1x1x64x256.size (k0_off8_inb wo ho)) (aput (addf (aget a0) (mixHead0 v w0))) Finset.univ (View.stores_vmem_bits_univ h_S1x1x64x256 rfl) (.inl rfl))
  let w1 : Vec F S1x1x256x256 .bf16 ← Prog.lift (.load arg9 (Rect.unit (s := S2x2x256x256) (slot s 1) S1x1x256x256.size (slot_inb hs (by omega))).toLoadRect (View.loadsAt_vmem h_S1x1x256x256))
  let a1 : Vec F S1x1x64x256 .f32 ← Prog.lift (.load arg10 (Rect.unit (s := S17x2x64x256) (k0_off9 wo) S1x1x64x256.size (k0_off9_inb wo ho)).toLoadRect (View.loadsAt_vmem h_S1x1x64x256))
  let _ ← Prog.lift (.load arg10 (Rect.unit (s := S17x2x64x256) (k0_off9 wo) S1x1x64x256.size (k0_off9_inb wo ho)).toLoadRect (View.loadsAt_vmem h_S1x1x64x256))
  Prog.lift (.store arg10 (Rect.unit (s := S17x2x64x256) (k0_off9 wo) S1x1x64x256.size (k0_off9_inb wo ho)) (aput (addf (aget a1) (mixHead1 v w1))) Finset.univ (View.stores_vmem_bits_univ h_S1x1x64x256 rfl) (.inl rfl))

/-- One head of the diagonal's weights: the carry is set to the tile's product. -/
def headD (h : Nat) (hh : h < 2) (off : BitVec 32 → Fin 4 → Nat) (wr : BitVec 32)
    (hr : ∀ a, off wr a + S1x1x8x256.size a ≤ S17x2x8x256.size a) (s : Nat) (hs : s < 2) : Pg (F := F) Unit := do
  let z : Vec F S1x1x256x256 .f32 ← Prog.lift (.load arg8 (Rect.unit (s := S2x2x256x256) (slot s h) S1x1x256x256.size (slot_inb hs hh)).toLoadRect (View.loadsAt_vmem h_S1x1x256x256))
  let _ ← Prog.lift (.load arg11 (Rect.unit (s := S17x2x8x256) (off wr) S1x1x8x256.size hr).toLoadRect (View.loadsAt_vmem h_S1x1x8x256))
  Prog.lift (.store arg11 (Rect.unit (s := S17x2x8x256) (off wr) S1x1x8x256.size hr) (rput (total (scanOf v53 z))) Finset.univ (View.stores_vmem_bits_univ h_S1x1x8x256 rfl) (.inl rfl))
  let _ ← Prog.lift (.load arg9 (Rect.unit (s := S2x2x256x256) (slot s h) S1x1x256x256.size (slot_inb hs hh)).toLoadRect (View.loadsAt_vmem h_S1x1x256x256))
  Prog.lift (.store arg9 (Rect.unit (s := S2x2x256x256) (slot s h) S1x1x256x256.size (slot_inb hs hh)) (wput (keep z) (after v53 z)) Finset.univ (View.stores_vmem h_S1x1x256x256 (harg9.storeExact_slice rfl _ (slot_packed hs hh)) (fun _ => rfl)) (.inl rfl))

/-- One head of a tile's weights below the diagonal: the carry multiplies in, and takes the tile's product. -/
def head (h : Nat) (hh : h < 2) (off : BitVec 32 → Fin 4 → Nat) (wr : BitVec 32)
    (hr : ∀ a, off wr a + S1x1x8x256.size a ≤ S17x2x8x256.size a) (s : Nat) (hs : s < 2) : Pg (F := F) Unit := do
  let z : Vec F S1x1x256x256 .f32 ← Prog.lift (.load arg8 (Rect.unit (s := S2x2x256x256) (slot s h) S1x1x256x256.size (slot_inb hs hh)).toLoadRect (View.loadsAt_vmem h_S1x1x256x256))
  let r : Vec F S1x1x8x256 .f32 ← Prog.lift (.load arg11 (Rect.unit (s := S17x2x8x256) (off wr) S1x1x8x256.size hr).toLoadRect (View.loadsAt_vmem h_S1x1x8x256))
  let _ ← Prog.lift (.load arg11 (Rect.unit (s := S17x2x8x256) (off wr) S1x1x8x256.size hr).toLoadRect (View.loadsAt_vmem h_S1x1x8x256))
  Prog.lift (.store arg11 (Rect.unit (s := S17x2x8x256) (off wr) S1x1x8x256.size hr) (rput (mulf (rget r) (total (scanOf v53 z)))) Finset.univ (View.stores_vmem_bits_univ h_S1x1x8x256 rfl) (.inl rfl))
  let _ ← Prog.lift (.load arg9 (Rect.unit (s := S2x2x256x256) (slot s h) S1x1x256x256.size (slot_inb hs hh)).toLoadRect (View.loadsAt_vmem h_S1x1x256x256))
  Prog.lift (.store arg9 (Rect.unit (s := S2x2x256x256) (slot s h) S1x1x256x256.size (slot_inb hs hh)) (wput (keep z) (mulf (after v53 z) (rget r))) Finset.univ (View.stores_vmem h_S1x1x256x256 (harg9.storeExact_slice rfl _ (slot_packed hs hh)) (fun _ => rfl)) (.inl rfl))

/-- The weights of the item one step back, in slot `s`. -/
def weightsD (s : Nat) (hs : s < 2) (t : BitVec 32) (ht : t.toNat < 144) : Pg (F := F) Unit := do
  let wr : Elt F .i32 ← smemLoad arg2 (Rect.unit (s := S5x144) (tabOff 2 t) S1x1.size (tabOff_inb (by omega) ht)) numel1_S1x1 rfl
  have hr : k0_chk5 wr := (← Prog.lift (TpuEff.assume (k0_chk5 wr) (k0_chk5.dec wr))).down
  headD arg8 arg9 harg9 arg11 v53 0 (by omega) k0_off11 wr (k0_off11_inb wr hr) s hs
  headD arg8 arg9 harg9 arg11 v53 1 (by omega) k0_off12 wr (k0_off12_inb wr hr) s hs

def weights (s : Nat) (hs : s < 2) (t : BitVec 32) (ht : t.toNat < 144) : Pg (F := F) Unit := do
  let wr : Elt F .i32 ← smemLoad arg2 (Rect.unit (s := S5x144) (tabOff 2 t) S1x1.size (tabOff_inb (by omega) ht)) numel1_S1x1 rfl
  have hr : k0_chk5 wr := (← Prog.lift (TpuEff.assume (k0_chk5 wr) (k0_chk5.dec wr))).down
  head arg8 arg9 harg9 arg11 v53 0 (by omega) k0_off11 wr (k0_off11_inb wr hr) s hs
  head arg8 arg9 harg9 arg11 v53 1 (by omega) k0_off12 wr (k0_off12_inb wr hr) s hs

/-- A step of the diagonal's phase, the logits going to slot `s`, the weights in slot `p`. -/
def stepD (s p : Nat) (hs : s < 2) (hp : p < 2) (t : BitVec 32) (ht : t.toNat < 144) : Pg (F := F) Unit := do
  logitsD arg2 arg3 arg4 arg6 arg8 v26 v52 s hs t ht
  mixD arg2 arg5 arg9 arg10 s hs t ht
  weightsD arg2 arg8 arg9 harg9 arg11 v53 p hp t ht

/-- A step of the phase below the diagonal. -/
def step (s p : Nat) (hs : s < 2) (hp : p < 2) (t : BitVec 32) (ht : t.toNat < 144) : Pg (F := F) Unit := do
  logits arg2 arg3 arg4 arg8 v26 v52 s hs t ht
  mix arg2 arg5 arg9 arg10 s hs t ht
  weights arg2 arg8 arg9 harg9 arg11 v53 p hp t ht

/-- The number of step `u` of trip `k`. -/
abbrev stepNo (lb : BitVec 32) {n : Nat} (k : Fin n) (u : BitVec 32) : BitVec 32 :=
  Scalar.addi (Scalar.muli (Scf.iv lb 1#32 k) 6#32) u

end progs

end Cert.KernelIdeal.Sb
-- ==== Proof.Run.lean ====
/-
What one step of the pipeline leaves in the scratch arrays: each of the small programs as a triple over
the arrays' values, the values as pure functions of the operands.
-/
module

public import proofs.«01_k».proof.Proof.Step
public import Idealize.ShloMosaic.Lib.VecWindow
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Sb

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

/-! ## The values a step reads and leaves -/

theorem word_inb {r n : Nat} (hr : r < 5) (hn : n < 144) : ∀ a, (![r, n] : Fin 2 → Nat) a + S1x1.size a ≤ S5x144.size a := by
  intro a
  fin_cases a
  · show r + 1 ≤ 5
    omega
  · show n + 1 ≤ 144
    omega

/-- The table's word in row `r` for step `n`. -/
def word (T : Vec F S5x144 .i32) (r n : Nat) (hr : r < 5) (hn : n < 144) : Elt F .i32 :=
  window T ![r, n] S1x1.size (word_inb hr hn) (Shape.Idx.first (numel1_S1x1.symm ▸ Nat.one_pos))

/-- The table's words name tiles there are. -/
structure Words (T : Vec F S5x144 .i32) : Prop where
  q : ∀ n (hn : n < 144), k0_chk1 (word T 0 n (by omega) hn)
  k : ∀ n (hn : n < 144), k0_chk2 (word T 1 n (by omega) hn)
  r : ∀ n (hn : n < 144), k0_chk5 (word T 2 n (by omega) hn)
  o : ∀ n (hn : n < 144), k0_chk4 (word T 3 n (by omega) hn)
  v : ∀ n (hn : n < 144), k0_chk3 (word T 4 n (by omega) hn)

/-- What the kernel reads: the table, a head pair's queries, keys and values, the diagonal's mask. -/
structure Ops (F : FTy → Type) [FloatOps F] where
  T : Vec F S5x144 .i32
  Q : Vec F S1x1x16x128x256 .bf16
  K : Vec F S1x4096x128 .bf16
  V : Vec F S1x1x16x128x256 .bf16
  B : Vec F S256x256 .f32
  words : Words T

/-- What it keeps: the logits and the weights of two steps, the sums and the carried products of every query tile. -/
structure St (F : FTy → Type) [FloatOps F] where
  Z : Vec F S2x2x256x256 .f32
  W : Vec F S2x2x256x256 .bf16
  A : Vec F S17x2x64x256 .f32
  R : Vec F S17x2x8x256 .f32

/-- A head's tile of the double-buffered arrays, replaced and read. -/
abbrev putT {α : Type} (Z : S2x2x256x256.Idx → α) (s h : Nat) (x : S1x1x256x256.Idx → α) : S2x2x256x256.Idx → α :=
  put Z (slot s h) S1x1x256x256.size x

abbrev getT {α : Type} (Z : S2x2x256x256.Idx → α) (s h : Nat) (hs : s < 2) (hh : h < 2) : S1x1x256x256.Idx → α :=
  window Z (slot s h) S1x1x256x256.size (slot_inb hs hh)

/-- A query tile, both heads of the pair. -/
abbrev Ops.qAt (e : Ops F) (n : Nat) (hn : n < 144) : Vec F S1x1x1x128x256 .bf16 :=
  window e.Q (k0_off2 (word e.T 0 n (by omega) hn)) S1x1x1x128x256.size (k0_off2_inb _ (e.words.q n hn))

/-- A key tile. -/
abbrev Ops.kAt (e : Ops F) (n : Nat) (hn : n < 144) : Vec F S1x256x128 .bf16 :=
  window e.K (k0_off4 (word e.T 1 n (by omega) hn)) S1x256x128.size (k0_off4_inb _ (e.words.k n hn))

/-- A tile of values. -/
abbrev Ops.vAt (e : Ops F) (n : Nat) (hn : n < 144) : Vec F S1x1x1x128x256 .bf16 :=
  window e.V (k0_off7 (word e.T 4 n (by omega) hn)) S1x1x1x128x256.size (k0_off7_inb _ (e.words.v n hn))

/-- A query tile's sums, of each head. -/
abbrev aAt0 (A : Vec F S17x2x64x256 .f32) (w : BitVec 32) (h : k0_chk4 w) : Vec F S1x1x64x256 .f32 :=
  window A (k0_off8 w) S1x1x64x256.size (k0_off8_inb w h)

abbrev aAt1 (A : Vec F S17x2x64x256 .f32) (w : BitVec 32) (h : k0_chk4 w) : Vec F S1x1x64x256 .f32 :=
  window A (k0_off9 w) S1x1x64x256.size (k0_off9_inb w h)

section pure

variable (e : Ops F) (v26 v52 : IVec S128x256 1) (v53 : IVec S8x256 32)

def Ops.logitsDF (Z : Vec F S2x2x256x256 .f32) (s n : Nat) (hn : n < 144) : Vec F S2x2x256x256 .f32 :=
  putT (putT Z s 0 (zput (dotHeadBias v26 (e.qAt n hn) (e.kAt n hn) e.B))) s 1 (zput (dotHeadBias v52 (e.qAt n hn) (e.kAt n hn) e.B))

def Ops.logitsF (Z : Vec F S2x2x256x256 .f32) (s n : Nat) (hn : n < 144) : Vec F S2x2x256x256 .f32 :=
  putT (putT Z s 0 (zput (dotHead v26 (e.qAt n hn) (e.kAt n hn)))) s 1 (zput (dotHead v52 (e.qAt n hn) (e.kAt n hn)))

def Ops.mixDF (W : Vec F S2x2x256x256 .bf16) (A : Vec F S17x2x64x256 .f32) (s : Nat) (hs : s < 2) (n : Nat) (hn : n < 144) : Vec F S17x2x64x256 .f32 :=
  put (put A (k0_off8 (word e.T 3 n (by omega) hn)) S1x1x64x256.size (aput (mixHead0 (e.vAt n hn) (getT W s 0 hs (by omega)))))
    (k0_off9 (word e.T 3 n (by omega) hn)) S1x1x64x256.size (aput (mixHead1 (e.vAt n hn) (getT W s 1 hs (by omega))))

/-- The sums with the first head's taken in. -/
def Ops.mixA (W : Vec F S2x2x256x256 .bf16) (A : Vec F S17x2x64x256 .f32) (s : Nat) (hs : s < 2) (n : Nat) (hn : n < 144) : Vec F S17x2x64x256 .f32 :=
  put A (k0_off8 (word e.T 3 n (by omega) hn)) S1x1x64x256.size
    (aput (addf (aget (aAt0 A _ (e.words.o n hn))) (mixHead0 (e.vAt n hn) (getT W s 0 hs (by omega)))))

def Ops.mixF (W : Vec F S2x2x256x256 .bf16) (A : Vec F S17x2x64x256 .f32) (s : Nat) (hs : s < 2) (n : Nat) (hn : n < 144) : Vec F S17x2x64x256 .f32 :=
  put (e.mixA W A s hs n hn) (k0_off9 (word e.T 3 n (by omega) hn)) S1x1x64x256.size
    (aput (addf (aget (aAt1 (e.mixA W A s hs n hn) _ (e.words.o n hn))) (mixHead1 (e.vAt n hn) (getT W s 1 hs (by omega)))))

def Ops.carryDF (Z : Vec F S2x2x256x256 .f32) (R : Vec F S17x2x8x256 .f32) (s : Nat) (hs : s < 2) (n : Nat) (hn : n < 144) : Vec F S17x2x8x256 .f32 :=
  put (put R (k0_off11 (word e.T 2 n (by omega) hn)) S1x1x8x256.size (rput (total (scanOf v53 (getT Z s 0 hs (by omega))))))
    (k0_off12 (word e.T 2 n (by omega) hn)) S1x1x8x256.size (rput (total (scanOf v53 (getT Z s 1 hs (by omega)))))

def weightsDF (Z : Vec F S2x2x256x256 .f32) (W : Vec F S2x2x256x256 .bf16) (s : Nat) (hs : s < 2) : Vec F S2x2x256x256 .bf16 :=
  putT (putT W s 0 (wput (keep (getT Z s 0 hs (by omega))) (after v53 (getT Z s 0 hs (by omega)))))
    s 1 (wput (keep (getT Z s 1 hs (by omega))) (after v53 (getT Z s 1 hs (by omega))))

abbrev rAt0 (R : Vec F S17x2x8x256 .f32) (w : BitVec 32) (h : k0_chk5 w) : Vec F S1x1x8x256 .f32 :=
  window R (k0_off11 w) S1x1x8x256.size (k0_off11_inb w h)

abbrev rAt1 (R : Vec F S17x2x8x256 .f32) (w : BitVec 32) (h : k0_chk5 w) : Vec F S1x1x8x256 .f32 :=
  window R (k0_off12 w) S1x1x8x256.size (k0_off12_inb w h)

/-- The carried products with the first head's taken in. -/
def Ops.carryA (Z : Vec F S2x2x256x256 .f32) (R : Vec F S17x2x8x256 .f32) (s : Nat) (hs : s < 2) (n : Nat) (hn : n < 144) : Vec F S17x2x8x256 .f32 :=
  put R (k0_off11 (word e.T 2 n (by omega) hn)) S1x1x8x256.size
    (rput (mulf (rget (rAt0 R _ (e.words.r n hn))) (total (scanOf v53 (getT Z s 0 hs (by omega))))))

def Ops.carryF (Z : Vec F S2x2x256x256 .f32) (R : Vec F S17x2x8x256 .f32) (s : Nat) (hs : s < 2) (n : Nat) (hn : n < 144) : Vec F S17x2x8x256 .f32 :=
  put (e.carryA v53 Z R s hs n hn) (k0_off12 (word e.T 2 n (by omega) hn)) S1x1x8x256.size
    (rput (mulf (rget (rAt1 (e.carryA v53 Z R s hs n hn) _ (e.words.r n hn))) (total (scanOf v53 (getT Z s 1 hs (by omega))))))

def Ops.weightsF (Z : Vec F S2x2x256x256 .f32) (W : Vec F S2x2x256x256 .bf16) (R : Vec F S17x2x8x256 .f32) (s : Nat) (hs : s < 2) (n : Nat) (hn : n < 144) : Vec F S2x2x256x256 .bf16 :=
  putT (putT W s 0 (wput (keep (getT Z s 0 hs (by omega))) (mulf (after v53 (getT Z s 0 hs (by omega))) (rget (rAt0 R _ (e.words.r n hn))))))
    s 1 (wput (keep (getT Z s 1 hs (by omega))) (mulf (after v53 (getT Z s 1 hs (by omega))) (rget (rAt1 (e.carryA v53 Z R s hs n hn) _ (e.words.r n hn)))))

/-- A step of the diagonal's phase. -/
def Ops.stepDF (x : St F) (s p : Nat) (hs : s < 2) (hp : p < 2) (n : Nat) (hn : n < 144) : St F where
  Z := e.logitsDF v26 v52 x.Z s n hn
  A := e.mixDF x.W x.A s hs n hn
  W := weightsDF v53 (e.logitsDF v26 v52 x.Z s n hn) x.W p hp
  R := e.carryDF v53 (e.logitsDF v26 v52 x.Z s n hn) x.R p hp n hn

/-- A step of the phase below the diagonal. -/
def Ops.stepF (x : St F) (s p : Nat) (hs : s < 2) (hp : p < 2) (n : Nat) (hn : n < 144) : St F where
  Z := e.logitsF v26 v52 x.Z s n hn
  A := e.mixF x.W x.A s hs n hn
  W := e.weightsF v53 (e.logitsF v26 v52 x.Z s n hn) x.W x.R p hp n hn
  R := e.carryF v53 (e.logitsF v26 v52 x.Z s n hn) x.R p hp n hn

end pure

/-! ## The programs' triples -/

variable (c : Dev nD)
variable (arg2 : Memref sig .tc .smem S5x144 .i32) (arg3 : Memref sig .tc .vmem S1x1x16x128x256 .bf16) (arg4 : Memref sig .tc .vmem S1x4096x128 .bf16) (arg5 : Memref sig .tc .vmem S1x1x16x128x256 .bf16) (arg6 : Memref sig .tc .vmem S256x256 .f32) (arg7 : Memref sig .tc .vmem S1x4096x128 .bf16) (harg7 : arg7.IsWhole) (arg8 : Memref sig .tc .vmem S2x2x256x256 .f32) (arg9 : Memref sig .tc .vmem S2x2x256x256 .bf16) (harg9 : arg9.IsWhole) (arg10 : Memref sig .tc .vmem S17x2x64x256 .f32) (arg11 : Memref sig .tc .vmem S17x2x8x256 .f32)
variable (v26 v52 : IVec S128x256 1) (v53 : IVec S8x256 32)

/-- The logits of a step of the diagonal's phase. -/
theorem logitsD_run (q2 : PosShare TreeShare) (e : Ops F) (Z : Vec F S2x2x256x256 .f32) (s : Nat) (hs : s < 2) (t : BitVec 32) (ht : t.toNat < 144) (E : Set ℕ) (K : PUnit → sProp 𝕄) :
    iprop(owns (c : Thread nD τ) arg2 q2 e.T ∗ owns (c : Thread nD τ) arg3 fullShare e.Q ∗ owns (c : Thread nD τ) arg4 fullShare e.K ∗ owns (c : Thread nD τ) arg6 fullShare e.B ∗ owns (c : Thread nD τ) arg8 fullShare Z
        ∗ (iprop(owns (c : Thread nD τ) arg2 q2 e.T ∗ owns (c : Thread nD τ) arg3 fullShare e.Q ∗ owns (c : Thread nD τ) arg4 fullShare e.K ∗ owns (c : Thread nD τ) arg6 fullShare e.B ∗ owns (c : Thread nD τ) arg8 fullShare (e.logitsDF v26 v52 Z s t.toNat ht)) -∗ K ⟨⟩))
      ⊢ wp frame (wpE (defs₀ (F := F)) Variants.none c none) E (logitsD arg2 arg3 arg4 arg6 arg8 v26 v52 s hs t ht) K := by
  unfold owns logitsD
  iintro ⟨⟨%f2, %h2, H2⟩, ⟨%f3, %h3, H3⟩, ⟨%f4, %h4, H4⟩, ⟨%f6, %h6, H6⟩, ⟨%f8, %h8, H8⟩, Hk⟩
  obtain ⟨T, Q, K', V, B, words⟩ := e
  subst h2
  subst h3
  subst h4
  subst h6
  subst h8
  have hq' : k0_chk1 (arg2.view.readAt (Elt F) (Rect.unit (s := S5x144) (tabOff 0 t) S1x1.size (tabOff_inb (by omega) ht)).toLoadRect f2 (Shape.Idx.first (numel1_S1x1.symm ▸ Nat.one_pos))) := words.q t.toNat ht
  have hk' : k0_chk2 (arg2.view.readAt (Elt F) (Rect.unit (s := S5x144) (tabOff 1 t) S1x1.size (tabOff_inb (by omega) ht)).toLoadRect f2 (Shape.Idx.first (numel1_S1x1.symm ▸ Nat.one_pos))) := words.k t.toNat ht
  sl_exec
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H6]
  · iexists _; isplitr; · ipureintro; rfl
    iexact H6
  iexists _; isplitr; swap; · iexact H8
  ipureintro
  rw [View.read_writes_cons_put _ _ _ _ _ rfl, View.read_writes_cons_put _ _ _ _ _ rfl, View.writes_nil, View.readAt_full]
  rfl

/-- The logits of a step below the diagonal. -/
theorem logits_run (q2 : PosShare TreeShare) (e : Ops F) (Z : Vec F S2x2x256x256 .f32) (s : Nat) (hs : s < 2) (t : BitVec 32) (ht : t.toNat < 144) (E : Set ℕ) (K : PUnit → sProp 𝕄) :
    iprop(owns (c : Thread nD τ) arg2 q2 e.T ∗ owns (c : Thread nD τ) arg3 fullShare e.Q ∗ owns (c : Thread nD τ) arg4 fullShare e.K ∗ owns (c : Thread nD τ) arg8 fullShare Z
        ∗ (iprop(owns (c : Thread nD τ) arg2 q2 e.T ∗ owns (c : Thread nD τ) arg3 fullShare e.Q ∗ owns (c : Thread nD τ) arg4 fullShare e.K ∗ owns (c : Thread nD τ) arg8 fullShare (e.logitsF v26 v52 Z s t.toNat ht)) -∗ K ⟨⟩))
      ⊢ wp frame (wpE (defs₀ (F := F)) Variants.none c none) E (logits arg2 arg3 arg4 arg8 v26 v52 s hs t ht) K := by
  unfold owns logits
  iintro ⟨⟨%f2, %h2, H2⟩, ⟨%f3, %h3, H3⟩, ⟨%f4, %h4, H4⟩, ⟨%f8, %h8, H8⟩, Hk⟩
  obtain ⟨T, Q, K', V, B, words⟩ := e
  subst h2
  subst h3
  subst h4
  subst h8
  have hq' : k0_chk1 (arg2.view.readAt (Elt F) (Rect.unit (s := S5x144) (tabOff 0 t) S1x1.size (tabOff_inb (by omega) ht)).toLoadRect f2 (Shape.Idx.first (numel1_S1x1.symm ▸ Nat.one_pos))) := words.q t.toNat ht
  have hk' : k0_chk2 (arg2.view.readAt (Elt F) (Rect.unit (s := S5x144) (tabOff 1 t) S1x1.size (tabOff_inb (by omega) ht)).toLoadRect f2 (Shape.Idx.first (numel1_S1x1.symm ▸ Nat.one_pos))) := words.k t.toNat ht
  sl_exec
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  iexists _; isplitr; swap; · iexact H8
  ipureintro
  rw [View.read_writes_cons_put _ _ _ _ _ rfl, View.read_writes_cons_put _ _ _ _ _ rfl, View.writes_nil]
  rfl

/-- The weighted values of a step of the diagonal's phase. -/
theorem mixD_run (q2 : PosShare TreeShare) (e : Ops F) (W : Vec F S2x2x256x256 .bf16) (A : Vec F S17x2x64x256 .f32) (s : Nat) (hs : s < 2) (t : BitVec 32) (ht : t.toNat < 144) (E : Set ℕ) (K : PUnit → sProp 𝕄) :
    iprop(owns (c : Thread nD τ) arg2 q2 e.T ∗ owns (c : Thread nD τ) arg5 fullShare e.V ∗ owns (c : Thread nD τ) arg9 fullShare W ∗ owns (c : Thread nD τ) arg10 fullShare A
        ∗ (iprop(owns (c : Thread nD τ) arg2 q2 e.T ∗ owns (c : Thread nD τ) arg5 fullShare e.V ∗ owns (c : Thread nD τ) arg9 fullShare W ∗ owns (c : Thread nD τ) arg10 fullShare (e.mixDF W A s hs t.toNat ht)) -∗ K ⟨⟩))
      ⊢ wp frame (wpE (defs₀ (F := F)) Variants.none c none) E (mixD arg2 arg5 arg9 arg10 s hs t ht) K := by
  unfold owns mixD
  iintro ⟨⟨%f2, %h2, H2⟩, ⟨%f5, %h5, H5⟩, ⟨%f9, %h9, H9⟩, ⟨%f10, %h10, H10⟩, Hk⟩
  obtain ⟨T, Q, K', V, B, words⟩ := e
  subst h2
  subst h5
  subst h9
  subst h10
  have ho' : k0_chk4 (arg2.view.readAt (Elt F) (Rect.unit (s := S5x144) (tabOff 3 t) S1x1.size (tabOff_inb (by omega) ht)).toLoadRect f2 (Shape.Idx.first (numel1_S1x1.symm ▸ Nat.one_pos))) := words.o t.toNat ht
  have hv' : k0_chk3 (arg2.view.readAt (Elt F) (Rect.unit (s := S5x144) (tabOff 4 t) S1x1.size (tabOff_inb (by omega) ht)).toLoadRect f2 (Shape.Idx.first (numel1_S1x1.symm ▸ Nat.one_pos))) := words.v t.toNat ht
  sl_exec
  sl_step
  iapply Hk
  isplitl [H2]
  · iexists _; isplitr; · ipureintro; rfl
    iexact H2
  isplitl [H5]
  · iexists _; isplitr; · ipureintro; rfl
    iexact H5
  isplitl [H9]
  · iexists _; isplitr; · ipureintro; rfl
    iexact H9
  iexists _; isplitr; swap; · iexact H10
  ipureintro
  rw [View.read_writes_cons_put _ _ _ _ _ rfl, View.read_writes_cons_put _ _ _ _ _ rfl, View.writes_nil]
  rfl

/-- The weighted values of a step below the diagonal. -/
theorem mix_run (q2 : PosShare TreeShare) (e : Ops F) (W : Vec F S2x2x256x256 .bf16) (A : Vec F S17x2x64x256 .f32) (s : Nat) (hs : s < 2) (t : BitVec 32) (ht : t.toNat < 144) (E : Set ℕ) (K : PUnit → sProp 𝕄) :
    iprop(owns (c : Thread nD τ) arg2 q2 e.T ∗ owns (c : Thread nD τ) arg5 fullShare e.V ∗ owns (c : Thread nD τ) arg9 fullShare W ∗ owns (c : Thread nD τ) arg10 fullShare A
        ∗ (iprop(owns (c : Thread nD τ) arg2 q2 e.T ∗ owns (c : Thread nD τ) arg5 fullShare e.V ∗ owns (c : Thread nD τ) arg9 fullShare W ∗ owns (c : Thread nD τ) arg10 fullShare (e.mixF W A s hs t.toNat ht)) -∗ K ⟨⟩))
      ⊢ wp frame (wpE (defs₀ (F := F)) Variants.none c none) E (mix arg2 arg5 arg9 arg10 s hs t ht) K := by
  unfold owns mix
  iintro ⟨⟨%f2, %h2, H2⟩, ⟨%f5, %h5, H5⟩, ⟨%f9, %h9, H9⟩, ⟨%f10, %h10, H10⟩, Hk⟩
  obtain ⟨T, Q, K', V, B, words⟩ := e
  subst h2
  subst h5
  subst h9
  subst h10
  have ho' : k0_chk4 (arg2.view.readAt (Elt F) (Rect.unit (s := S5x144) (tabOff 3 t) S1x1.size (tabOff_inb (by omega) ht)).toLoadRect f2 (Shape.Idx.first (numel1_S1x1.symm ▸ Nat.one_pos))) := words.o t.toNat ht
  have hv' : k0_chk3 (arg2.view.readAt (Elt F) (Rect.unit (s := S5x144) (tabOff 4 t) S1x1.size (tabOff_inb (by omega) ht)).toLoadRect f2 (Shape.Idx.first (numel1_S1x1.symm ▸ Nat.one_pos))) := words.v t.toNat ht
  sl_exec
  sl_step
  iapply Hk
  isplitl [H2]
  · iexists _; isplitr; · ipureintro; rfl
    iexact H2
  isplitl [H5]
  · iexists _; isplitr; · ipureintro; rfl
    iexact H5
  isplitl [H9]
  · iexists _; isplitr; · ipureintro; rfl
    iexact H9
  iexists _; isplitr; swap; · iexact H10
  ipureintro
  delta mix_run.sl.H10_1 mix_run.sl.a1
  have hw : ∀ (o o' : Fin S17x2x64x256.rank → Nat) (i : ∀ a, o a + S1x1x64x256.size a ≤ S17x2x64x256.size a) (i' : ∀ a, o' a + S1x1x64x256.size a ≤ S17x2x64x256.size a) (w : Vec F S1x1x64x256 .f32),
      arg10.view.readAt (Elt F) (Rect.unit (s := S17x2x64x256) o S1x1x64x256.size i).toLoadRect (arg10.view.writes (Elt F) f10 [⟨Rect.unit (s := S17x2x64x256) o' S1x1x64x256.size i', w⟩])
        = window (put (arg10.view.read (Elt F) f10) o' S1x1x64x256.size w) o S1x1x64x256.size i := fun o o' i i' w => by
    rw [View.readAt_unit _ _ i rfl i, View.read_writes_cons_put _ _ _ _ _ rfl, View.writes_nil]
  rw [View.read_writes_cons_put _ _ _ _ _ rfl, View.read_writes_cons_put _ _ _ _ _ rfl, View.writes_nil]
  erw [hw]
  rfl

/-- One head's weights. -/
theorem headD_run (Z : Vec F S2x2x256x256 .f32) (W : Vec F S2x2x256x256 .bf16) (R : Vec F S17x2x8x256 .f32) (h : Nat) (hh : h < 2) (off : BitVec 32 → Fin 4 → Nat) (wr : BitVec 32) (hr : ∀ a, off wr a + S1x1x8x256.size a ≤ S17x2x8x256.size a) (s : Nat) (hs : s < 2) (E : Set ℕ) (K : PUnit → sProp 𝕄) :
    iprop(owns (c : Thread nD τ) arg8 fullShare Z ∗ owns (c : Thread nD τ) arg9 fullShare W ∗ owns (c : Thread nD τ) arg11 fullShare R
        ∗ (iprop(owns (c : Thread nD τ) arg8 fullShare Z ∗ owns (c : Thread nD τ) arg9 fullShare (putT W s h (wput (keep (getT Z s h hs hh)) (after v53 (getT Z s h hs hh))))
            ∗ owns (c : Thread nD τ) arg11 fullShare (put R (off wr) S1x1x8x256.size (rput (total (scanOf v53 (getT Z s h hs hh)))))) -∗ K ⟨⟩))
      ⊢ wp frame (wpE (defs₀ (F := F)) Variants.none c none) E (headD arg8 arg9 harg9 arg11 v53 h hh off wr hr s hs) K := by
  unfold owns headD
  iintro ⟨⟨%f8, %h8, H8⟩, ⟨%f9, %h9, H9⟩, ⟨%f11, %h11, H11⟩, Hk⟩
  subst h8
  subst h9
  subst h11
  sl_exec
  sl_step
  iapply Hk
  isplitl [H8]
  · iexists _; isplitr; · ipureintro; rfl
    iexact H8
  isplitl [H9]
  · iexists _; isplitr; swap; · iexact H9
    ipureintro
    rw [View.read_writes_cons_put _ _ _ _ _ rfl, View.writes_nil]
    rfl
  iexists _; isplitr; swap; · iexact H11
  ipureintro
  rw [View.read_writes_cons_put _ _ _ _ _ rfl, View.writes_nil]
  rfl

/-- One head's weights. -/
theorem head_run (Z : Vec F S2x2x256x256 .f32) (W : Vec F S2x2x256x256 .bf16) (R : Vec F S17x2x8x256 .f32) (h : Nat) (hh : h < 2) (off : BitVec 32 → Fin 4 → Nat) (wr : BitVec 32) (hr : ∀ a, off wr a + S1x1x8x256.size a ≤ S17x2x8x256.size a) (s : Nat) (hs : s < 2) (E : Set ℕ) (K : PUnit → sProp 𝕄) :
    iprop(owns (c : Thread nD τ) arg8 fullShare Z ∗ owns (c : Thread nD τ) arg9 fullShare W ∗ owns (c : Thread nD τ) arg11 fullShare R
        ∗ (iprop(owns (c : Thread nD τ) arg8 fullShare Z ∗ owns (c : Thread nD τ) arg9 fullShare (putT W s h (wput (keep (getT Z s h hs hh)) (mulf (after v53 (getT Z s h hs hh)) (rget (window R (off wr) S1x1x8x256.size hr)))))
            ∗ owns (c : Thread nD τ) arg11 fullShare (put R (off wr) S1x1x8x256.size (rput (mulf (rget (window R (off wr) S1x1x8x256.size hr)) (total (scanOf v53 (getT Z s h hs hh))))))) -∗ K ⟨⟩))
      ⊢ wp frame (wpE (defs₀ (F := F)) Variants.none c none) E (head arg8 arg9 harg9 arg11 v53 h hh off wr hr s hs) K := by
  unfold owns head
  iintro ⟨⟨%f8, %h8, H8⟩, ⟨%f9, %h9, H9⟩, ⟨%f11, %h11, H11⟩, Hk⟩
  subst h8
  subst h9
  subst h11
  sl_exec
  sl_step
  iapply Hk
  isplitl [H8]
  · iexists _; isplitr; · ipureintro; rfl
    iexact H8
  isplitl [H9]
  · iexists _; isplitr; swap; · iexact H9
    ipureintro
    rw [View.read_writes_cons_put _ _ _ _ _ rfl, View.writes_nil]
    rfl
  iexists _; isplitr; swap; · iexact H11
  ipureintro
  rw [View.read_writes_cons_put _ _ _ _ _ rfl, View.writes_nil]
  rfl

end Cert.KernelIdeal.Sb
-- ==== Proof.Trip.lean ====
/-
The printed loop regions are six steps of the pipeline in a row.
-/
module

public import proofs.«01_k».proof.Proof.Step

@[expose] public section

set_option maxRecDepth 65536
set_option maxHeartbeats 40000000

noncomputable section

namespace Cert.KernelIdeal.Sb

open Idealize.ShloMosaic Idealize.ShloMosaic.TcCoe Cert.KernelIdeal Cert.KernelIdeal.Gen
open Idealize.SL.Sem

variable {F : FTy → Type} [FloatOps F]

variable (i : grid0.Coords) (arg2 : Memref sig .tc .smem S5x144 .i32) (harg2 : arg2.IsWhole) (arg3 : Memref sig .tc .vmem S1x1x16x128x256 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S256x256 .f32) (harg6 : arg6.IsWhole) (arg7 : Memref sig .tc .vmem S1x4096x128 .bf16) (harg7 : arg7.IsWhole) (arg8 : Memref sig .tc .vmem S2x2x256x256 .f32) (harg8 : arg8.IsWhole) (arg9 : Memref sig .tc .vmem S2x2x256x256 .bf16) (harg9 : arg9.IsWhole) (arg10 : Memref sig .tc .vmem S17x2x64x256 .f32) (harg10 : arg10.IsWhole) (arg11 : Memref sig .tc .vmem S17x2x8x256 .f32) (harg11 : arg11.IsWhole)

/-- A trip of the diagonal's phase: six steps. -/
def tripD (v26 v52 : IVec S128x256 1) (v53 : IVec S8x256 32) (k : Fin k0_t1_loop.trips) : Pg (F := F) Unit := do
  stepD arg2 arg3 arg4 arg5 arg6 arg8 arg9 harg9 arg10 arg11 v26 v52 v53 0 1 (by omega) (by omega) (stepNo 0#32 k 0#32) (k0_off1_inb k 1)
  stepD arg2 arg3 arg4 arg5 arg6 arg8 arg9 harg9 arg10 arg11 v26 v52 v53 1 0 (by omega) (by omega) (stepNo 0#32 k 1#32) (k0_off13_inb k 1)
  stepD arg2 arg3 arg4 arg5 arg6 arg8 arg9 harg9 arg10 arg11 v26 v52 v53 0 1 (by omega) (by omega) (stepNo 0#32 k 2#32) (k0_off25_inb k 1)
  stepD arg2 arg3 arg4 arg5 arg6 arg8 arg9 harg9 arg10 arg11 v26 v52 v53 1 0 (by omega) (by omega) (stepNo 0#32 k 3#32) (k0_off37_inb k 1)
  stepD arg2 arg3 arg4 arg5 arg6 arg8 arg9 harg9 arg10 arg11 v26 v52 v53 0 1 (by omega) (by omega) (stepNo 0#32 k 4#32) (k0_off49_inb k 1)
  stepD arg2 arg3 arg4 arg5 arg6 arg8 arg9 harg9 arg10 arg11 v26 v52 v53 1 0 (by omega) (by omega) (stepNo 0#32 k 5#32) (k0_off61_inb k 1)

/-- A trip of the phase below the diagonal: six steps. -/
def trip (v26 v52 : IVec S128x256 1) (v53 : IVec S8x256 32) (k : Fin k0_t2_loop.trips) : Pg (F := F) Unit := do
  step arg2 arg3 arg4 arg5 arg8 arg9 harg9 arg10 arg11 v26 v52 v53 0 1 (by omega) (by omega) (stepNo 3#32 k 0#32) (k0_off73_inb k 1)
  step arg2 arg3 arg4 arg5 arg8 arg9 harg9 arg10 arg11 v26 v52 v53 1 0 (by omega) (by omega) (stepNo 3#32 k 1#32) (k0_off85_inb k 1)
  step arg2 arg3 arg4 arg5 arg8 arg9 harg9 arg10 arg11 v26 v52 v53 0 1 (by omega) (by omega) (stepNo 3#32 k 2#32) (k0_off97_inb k 1)
  step arg2 arg3 arg4 arg5 arg8 arg9 harg9 arg10 arg11 v26 v52 v53 1 0 (by omega) (by omega) (stepNo 3#32 k 3#32) (k0_off109_inb k 1)
  step arg2 arg3 arg4 arg5 arg8 arg9 harg9 arg10 arg11 v26 v52 v53 0 1 (by omega) (by omega) (stepNo 3#32 k 4#32) (k0_off121_inb k 1)
  step arg2 arg3 arg4 arg5 arg8 arg9 harg9 arg10 arg11 v26 v52 v53 1 0 (by omega) (by omega) (stepNo 3#32 k 5#32) (k0_off133_inb k 1)

theorem t1_body_eq (v26 : IVec S128x256 1) (v28 : IVec S128x256 32) (v42 : IVec S128x256 1) (v44 : IVec S128x256 32) (v53 : IVec S8x256 32)
    (k : Fin k0_t1_loop.trips) :
    k0_t1_body (F := F) i arg2 harg2 arg3 harg3 arg4 harg4 arg5 harg5 arg6 harg6 arg7 harg7 arg8 harg8 arg9 harg9 arg10 harg10 arg11 harg11 v26 v28 v42 v44 v53 k ⟨⟩
      = tripD arg2 arg3 arg4 arg5 arg6 arg8 arg9 harg9 arg10 arg11 v26 (k0_pay1945 v28 v42 v44) v53 k := by
  rfl

end Cert.KernelIdeal.Sb
-- ==== Proof.Chain.lean ====
/-
The steps, and the trips of six steps, as triples over the scratch arrays' values.
-/
module

public import proofs.«01_k».proof.Proof.Run
public import proofs.«01_k».proof.Proof.Trip

@[expose] public section

set_option maxRecDepth 8192
set_option maxHeartbeats 4000000

noncomputable section

namespace Cert.KernelIdeal.Sb

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

variable (c : Dev nD)
variable (arg2 : Memref sig .tc .smem S5x144 .i32) (arg3 : Memref sig .tc .vmem S1x1x16x128x256 .bf16) (arg4 : Memref sig .tc .vmem S1x4096x128 .bf16) (arg5 : Memref sig .tc .vmem S1x1x16x128x256 .bf16) (arg6 : Memref sig .tc .vmem S256x256 .f32) (arg7 : Memref sig .tc .vmem S1x4096x128 .bf16) (harg7 : arg7.IsWhole) (arg8 : Memref sig .tc .vmem S2x2x256x256 .f32) (arg9 : Memref sig .tc .vmem S2x2x256x256 .bf16) (harg9 : arg9.IsWhole) (arg10 : Memref sig .tc .vmem S17x2x64x256 .f32) (arg11 : Memref sig .tc .vmem S17x2x8x256 .f32)
variable (v26 v52 : IVec S128x256 1) (v53 : IVec S8x256 32)

/-- The weights of a step of the diagonal's phase. -/
theorem weightsD_run (q2 : PosShare TreeShare) (e : Ops F) (x : St F) (s : Nat) (hs : s < 2) (t : BitVec 32) (ht : t.toNat < 144) (E : Set ℕ) (K : PUnit → sProp 𝕄) :
    iprop(owns (c : Thread nD τ) arg2 q2 e.T ∗ owns (c : Thread nD τ) arg8 fullShare x.Z ∗ owns (c : Thread nD τ) arg9 fullShare x.W ∗ owns (c : Thread nD τ) arg11 fullShare x.R
        ∗ (iprop(owns (c : Thread nD τ) arg2 q2 e.T ∗ owns (c : Thread nD τ) arg8 fullShare x.Z ∗ owns (c : Thread nD τ) arg9 fullShare (weightsDF v53 x.Z x.W s hs)
            ∗ owns (c : Thread nD τ) arg11 fullShare (e.carryDF v53 x.Z x.R s hs t.toNat ht)) -∗ K ⟨⟩))
      ⊢ wp frame (wpE (defs₀ (F := F)) Variants.none c none) E (weightsD arg2 arg8 arg9 harg9 arg11 v53 s hs t ht) K := by
  unfold weightsD
  rw [show (owns (c : Thread nD τ) arg2 q2 e.T : sProp 𝕄) = iprop(∃ f, ⌜arg2.view.read (Elt F) f = e.T⌝ ∗ (View.loc (c : Thread nD τ) arg2.view ↦[arg2.view.set]{q2} f)) from rfl]
  iintro ⟨⟨%f2, %h2, H2⟩, H8, H9, H11, Hk⟩
  obtain ⟨T, Q, K', V, B, words⟩ := e
  subst h2
  have hr' : k0_chk5 (arg2.view.readAt (Elt F) (Rect.unit (s := S5x144) (tabOff 2 t) S1x1.size (tabOff_inb (by omega) ht)).toLoadRect f2 (Shape.Idx.first (numel1_S1x1.symm ▸ Nat.one_pos))) := words.r t.toNat ht
  sl_exec
  iapply headD_run c arg8 arg9 harg9 arg11 v53 x.Z x.W x.R 0 (by omega) k0_off11 (word (arg2.view.read (Elt F) f2) 2 t.toNat (by omega) ht) (k0_off11_inb _ (words.r t.toNat ht)) s hs
  isplitl [H8]; · iexact H8
  isplitl [H9]; · iexact H9
  isplitl [H11]; · iexact H11
  iintro ⟨H8, H9, H11⟩
  iapply headD_run c arg8 arg9 harg9 arg11 v53 x.Z _ _ 1 (by omega) k0_off12 (word (arg2.view.read (Elt F) f2) 2 t.toNat (by omega) ht) (k0_off12_inb _ (words.r t.toNat ht)) s hs
  isplitl [H8]; · iexact H8
  isplitl [H9]; · iexact H9
  isplitl [H11]; · iexact H11
  iintro ⟨H8, H9, H11⟩
  iapply Hk
  isplitl [H2]
  · iexists _; isplitr; · ipureintro; rfl
    iexact H2
  isplitl [H8]; · iexact H8
  isplitl [H9]; · iexact H9
  iexact H11

/-- The weights of a step below the diagonal. -/
theorem weights_run (q2 : PosShare TreeShare) (e : Ops F) (x : St F) (s : Nat) (hs : s < 2) (t : BitVec 32) (ht : t.toNat < 144) (E : Set ℕ) (K : PUnit → sProp 𝕄) :
    iprop(owns (c : Thread nD τ) arg2 q2 e.T ∗ owns (c : Thread nD τ) arg8 fullShare x.Z ∗ owns (c : Thread nD τ) arg9 fullShare x.W ∗ owns (c : Thread nD τ) arg11 fullShare x.R
        ∗ (iprop(owns (c : Thread nD τ) arg2 q2 e.T ∗ owns (c : Thread nD τ) arg8 fullShare x.Z ∗ owns (c : Thread nD τ) arg9 fullShare (e.weightsF v53 x.Z x.W x.R s hs t.toNat ht)
            ∗ owns (c : Thread nD τ) arg11 fullShare (e.carryF v53 x.Z x.R s hs t.toNat ht)) -∗ K ⟨⟩))
      ⊢ wp frame (wpE (defs₀ (F := F)) Variants.none c none) E (weights arg2 arg8 arg9 harg9 arg11 v53 s hs t ht) K := by
  unfold weights
  rw [show (owns (c : Thread nD τ) arg2 q2 e.T : sProp 𝕄) = iprop(∃ f, ⌜arg2.view.read (Elt F) f = e.T⌝ ∗ (View.loc (c : Thread nD τ) arg2.view ↦[arg2.view.set]{q2} f)) from rfl]
  iintro ⟨⟨%f2, %h2, H2⟩, H8, H9, H11, Hk⟩
  obtain ⟨T, Q, K', V, B, words⟩ := e
  subst h2
  have hr' : k0_chk5 (arg2.view.readAt (Elt F) (Rect.unit (s := S5x144) (tabOff 2 t) S1x1.size (tabOff_inb (by omega) ht)).toLoadRect f2 (Shape.Idx.first (numel1_S1x1.symm ▸ Nat.one_pos))) := words.r t.toNat ht
  sl_exec
  iapply head_run c arg8 arg9 harg9 arg11 v53 x.Z x.W x.R 0 (by omega) k0_off11 (word (arg2.view.read (Elt F) f2) 2 t.toNat (by omega) ht) (k0_off11_inb _ (words.r t.toNat ht)) s hs
  isplitl [H8]; · iexact H8
  isplitl [H9]; · iexact H9
  isplitl [H11]; · iexact H11
  iintro ⟨H8, H9, H11⟩
  iapply head_run c arg8 arg9 harg9 arg11 v53 x.Z _ _ 1 (by omega) k0_off12 (word (arg2.view.read (Elt F) f2) 2 t.toNat (by omega) ht) (k0_off12_inb _ (words.r t.toNat ht)) s hs
  isplitl [H8]; · iexact H8
  isplitl [H9]; · iexact H9
  isplitl [H11]; · iexact H11
  iintro ⟨H8, H9, H11⟩
  iapply Hk
  isplitl [H2]
  · iexists _; isplitr; · ipureintro; rfl
    iexact H2
  isplitl [H8]; · iexact H8
  isplitl [H9]; · iexact H9
  iexact H11

/-- The operands and the scratch arrays, at their values. -/
def Held (q2 : PosShare TreeShare) (e : Ops F) (x : St F) : sProp 𝕄 :=
  iprop(owns (c : Thread nD τ) arg2 q2 e.T ∗ owns (c : Thread nD τ) arg3 fullShare e.Q ∗ owns (c : Thread nD τ) arg4 fullShare e.K ∗ owns (c : Thread nD τ) arg5 fullShare e.V ∗ owns (c : Thread nD τ) arg6 fullShare e.B
    ∗ owns (c : Thread nD τ) arg8 fullShare x.Z ∗ owns (c : Thread nD τ) arg9 fullShare x.W ∗ owns (c : Thread nD τ) arg10 fullShare x.A ∗ owns (c : Thread nD τ) arg11 fullShare x.R)

/-- The state after `n` steps. -/
def Ops.run (e : Ops F) (x : St F) : Nat → St F
  | 0 => x
  | n + 1 =>
    if h : n < 18 then e.stepDF v26 v52 v53 (e.run x n) (n % 2) ((n + 1) % 2) (by omega) (by omega) n (by omega)
    else if h' : n < 144 then e.stepF v26 v52 v53 (e.run x n) (n % 2) ((n + 1) % 2) (by omega) (by omega) n h'
    else e.run x n

theorem Ops.run_stepD (e : Ops F) (x : St F) (n : Nat) (hn : n < 18) :
    e.run v26 v52 v53 x (n + 1) = e.stepDF v26 v52 v53 (e.run v26 v52 v53 x n) (n % 2) ((n + 1) % 2) (by omega) (by omega) n (by omega) := by
  rw [Ops.run, dif_pos hn]

theorem Ops.run_step (e : Ops F) (x : St F) (n : Nat) (h : ¬ n < 18) (hn : n < 144) :
    e.run v26 v52 v53 x (n + 1) = e.stepF v26 v52 v53 (e.run v26 v52 v53 x n) (n % 2) ((n + 1) % 2) (by omega) (by omega) n hn := by
  rw [Ops.run, dif_neg h, dif_pos hn]

/-- A step of the diagonal's phase, as the state's next. -/
theorem stepD_run (q2 : PosShare TreeShare) (e : Ops F) (x : St F) (n : Nat) (hn : n < 18) (s p : Nat) (hs : s < 2) (hp : p < 2) (t : BitVec 32) (ht : t.toNat < 144)
    (hsn : s = n % 2) (hpn : p = (n + 1) % 2) (htn : t.toNat = n) (E : Set ℕ) (K : PUnit → sProp 𝕄) :
    iprop(Held c arg2 arg3 arg4 arg5 arg6 arg8 arg9 arg10 arg11 q2 e (e.run v26 v52 v53 x n) ∗ (Held c arg2 arg3 arg4 arg5 arg6 arg8 arg9 arg10 arg11 q2 e (e.run v26 v52 v53 x (n + 1)) -∗ K ⟨⟩))
      ⊢ wp frame (wpE (defs₀ (F := F)) Variants.none c none) E (stepD arg2 arg3 arg4 arg5 arg6 arg8 arg9 harg9 arg10 arg11 v26 v52 v53 s p hs hp t ht) K := by
  subst hsn hpn htn
  rw [e.run_stepD v26 v52 v53 x t.toNat hn]
  generalize e.run v26 v52 v53 x t.toNat = y
  unfold stepD Held
  rw [wp_bind]
  iintro ⟨⟨H2, H3, H4, H5, H6, H8, H9, H10, H11⟩, Hk⟩
  iapply logitsD_run c arg2 arg3 arg4 arg6 arg8 v26 v52 q2 e y.Z _ hs t ht
  isplitl [H2]; · iexact H2
  isplitl [H3]; · iexact H3
  isplitl [H4]; · iexact H4
  isplitl [H6]; · iexact H6
  isplitl [H8]; · iexact H8
  iintro ⟨H2, H3, H4, H6, H8⟩
  rw [wp_bind]
  iapply mixD_run c arg2 arg5 arg9 arg10 q2 e y.W y.A _ hs t ht
  isplitl [H2]; · iexact H2
  isplitl [H5]; · iexact H5
  isplitl [H9]; · iexact H9
  isplitl [H10]; · iexact H10
  iintro ⟨H2, H5, H9, H10⟩
  iapply weightsD_run c arg2 arg8 arg9 harg9 arg11 v53 q2 e ⟨e.logitsDF v26 v52 y.Z (t.toNat % 2) t.toNat ht, y.W, y.A, y.R⟩ _ hp t ht
  isplitl [H2]; · iexact H2
  isplitl [H8]; · iexact H8
  isplitl [H9]; · iexact H9
  isplitl [H11]; · iexact H11
  iintro ⟨H2, H8, H9, H11⟩
  iapply Hk
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  iexact H11

/-- A step below the diagonal, as the state's next. -/
theorem step_run (q2 : PosShare TreeShare) (e : Ops F) (x : St F) (n : Nat) (h : ¬ n < 18) (hn : n < 144) (s p : Nat) (hs : s < 2) (hp : p < 2) (t : BitVec 32) (ht : t.toNat < 144)
    (hsn : s = n % 2) (hpn : p = (n + 1) % 2) (htn : t.toNat = n) (E : Set ℕ) (K : PUnit → sProp 𝕄) :
    iprop(Held c arg2 arg3 arg4 arg5 arg6 arg8 arg9 arg10 arg11 q2 e (e.run v26 v52 v53 x n) ∗ (Held c arg2 arg3 arg4 arg5 arg6 arg8 arg9 arg10 arg11 q2 e (e.run v26 v52 v53 x (n + 1)) -∗ K ⟨⟩))
      ⊢ wp frame (wpE (defs₀ (F := F)) Variants.none c none) E (step arg2 arg3 arg4 arg5 arg8 arg9 harg9 arg10 arg11 v26 v52 v53 s p hs hp t ht) K := by
  subst hsn hpn htn
  rw [e.run_step v26 v52 v53 x t.toNat h hn]
  generalize e.run v26 v52 v53 x t.toNat = y
  unfold step Held
  rw [wp_bind]
  iintro ⟨⟨H2, H3, H4, H5, H6, H8, H9, H10, H11⟩, Hk⟩
  iapply logits_run c arg2 arg3 arg4 arg8 v26 v52 q2 e y.Z _ hs t ht
  isplitl [H2]; · iexact H2
  isplitl [H3]; · iexact H3
  isplitl [H4]; · iexact H4
  isplitl [H8]; · iexact H8
  iintro ⟨H2, H3, H4, H8⟩
  rw [wp_bind]
  iapply mix_run c arg2 arg5 arg9 arg10 q2 e y.W y.A _ hs t ht
  isplitl [H2]; · iexact H2
  isplitl [H5]; · iexact H5
  isplitl [H9]; · iexact H9
  isplitl [H10]; · iexact H10
  iintro ⟨H2, H5, H9, H10⟩
  iapply weights_run c arg2 arg8 arg9 harg9 arg11 v53 q2 e ⟨e.logitsF v26 v52 y.Z (t.toNat % 2) t.toNat ht, y.W, y.A, y.R⟩ _ hp t ht
  isplitl [H2]; · iexact H2
  isplitl [H8]; · iexact H8
  isplitl [H9]; · iexact H9
  isplitl [H11]; · iexact H11
  iintro ⟨H2, H8, H9, H11⟩
  iapply Hk
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  iexact H11

theorem stepNoD_toNat : ∀ (k : Fin k0_t1_loop.trips) (u : Fin 6), (stepNo 0#32 k (BitVec.ofNat 32 u.val)).toNat = 6 * k.val + u.val := by
  show ∀ (k : Fin 3) (u : Fin 6), (stepNo 0#32 k (BitVec.ofNat 32 u.val)).toNat = 6 * k.val + u.val
  decide +kernel

theorem tripsD_le (k : Fin k0_t1_loop.trips) : k.val < 3 := k.isLt

/-- A trip of the diagonal's phase: the state six steps on. -/
theorem tripD_run (q2 : PosShare TreeShare) (e : Ops F) (x : St F) (k : Fin k0_t1_loop.trips) (E : Set ℕ) (K : PUnit → sProp 𝕄) :
    iprop(Held c arg2 arg3 arg4 arg5 arg6 arg8 arg9 arg10 arg11 q2 e (e.run v26 v52 v53 x (6 * k.val)) ∗ (Held c arg2 arg3 arg4 arg5 arg6 arg8 arg9 arg10 arg11 q2 e (e.run v26 v52 v53 x (6 * k.val + 6)) -∗ K ⟨⟩))
      ⊢ wp frame (wpE (defs₀ (F := F)) Variants.none c none) E (tripD arg2 arg3 arg4 arg5 arg6 arg8 arg9 harg9 arg10 arg11 v26 v52 v53 k) K := by
  have hk := tripsD_le k
  unfold tripD
  iintro ⟨H, Hk⟩
  rw [wp_bind]
  iapply stepD_run c arg2 arg3 arg4 arg5 arg6 arg8 arg9 harg9 arg10 arg11 v26 v52 v53 q2 e x (6 * k.val + 0) (by omega) 0 1 _ _ (stepNo 0#32 k 0#32) _ (by omega) (by omega) (stepNoD_toNat k 0)
  isplitl [H]; · iexact H
  iintro H
  rw [wp_bind]
  iapply stepD_run c arg2 arg3 arg4 arg5 arg6 arg8 arg9 harg9 arg10 arg11 v26 v52 v53 q2 e x (6 * k.val + 1) (by omega) 1 0 _ _ (stepNo 0#32 k 1#32) _ (by omega) (by omega) (stepNoD_toNat k 1)
  isplitl [H]; · iexact H
  iintro H
  rw [wp_bind]
  iapply stepD_run c arg2 arg3 arg4 arg5 arg6 arg8 arg9 harg9 arg10 arg11 v26 v52 v53 q2 e x (6 * k.val + 2) (by omega) 0 1 _ _ (stepNo 0#32 k 2#32) _ (by omega) (by omega) (stepNoD_toNat k 2)
  isplitl [H]; · iexact H
  iintro H
  rw [wp_bind]
  iapply stepD_run c arg2 arg3 arg4 arg5 arg6 arg8 arg9 harg9 arg10 arg11 v26 v52 v53 q2 e x (6 * k.val + 3) (by omega) 1 0 _ _ (stepNo 0#32 k 3#32) _ (by omega) (by omega) (stepNoD_toNat k 3)
  isplitl [H]; · iexact H
  iintro H
  rw [wp_bind]
  iapply stepD_run c arg2 arg3 arg4 arg5 arg6 arg8 arg9 harg9 arg10 arg11 v26 v52 v53 q2 e x (6 * k.val + 4) (by omega) 0 1 _ _ (stepNo 0#32 k 4#32) _ (by omega) (by omega) (stepNoD_toNat k 4)
  isplitl [H]; · iexact H
  iintro H
  iapply stepD_run c arg2 arg3 arg4 arg5 arg6 arg8 arg9 harg9 arg10 arg11 v26 v52 v53 q2 e x (6 * k.val + 5) (by omega) 1 0 _ _ (stepNo 0#32 k 5#32) _ (by omega) (by omega) (stepNoD_toNat k 5)
  isplitl [H]; · iexact H
  iintro H
  iapply Hk
  iexact H

theorem stepNo_toNat : ∀ (k : Fin k0_t2_loop.trips) (u : Fin 6), (stepNo 3#32 k (BitVec.ofNat 32 u.val)).toNat = 18 + 6 * k.val + u.val := by
  show ∀ (k : Fin 21) (u : Fin 6), (stepNo 3#32 k (BitVec.ofNat 32 u.val)).toNat = 18 + 6 * k.val + u.val
  decide +kernel

theorem trips_le (k : Fin k0_t2_loop.trips) : k.val < 21 := k.isLt

/-- A trip below the diagonal: the state six steps on. -/
theorem trip_run (q2 : PosShare TreeShare) (e : Ops F) (x : St F) (k : Fin k0_t2_loop.trips) (E : Set ℕ) (K : PUnit → sProp 𝕄) :
    iprop(Held c arg2 arg3 arg4 arg5 arg6 arg8 arg9 arg10 arg11 q2 e (e.run v26 v52 v53 x (18 + 6 * k.val)) ∗ (Held c arg2 arg3 arg4 arg5 arg6 arg8 arg9 arg10 arg11 q2 e (e.run v26 v52 v53 x (18 + 6 * k.val + 6)) -∗ K ⟨⟩))
      ⊢ wp frame (wpE (defs₀ (F := F)) Variants.none c none) E (trip arg2 arg3 arg4 arg5 arg8 arg9 harg9 arg10 arg11 v26 v52 v53 k) K := by
  have hk := trips_le k
  unfold trip
  iintro ⟨H, Hk⟩
  rw [wp_bind]
  iapply step_run c arg2 arg3 arg4 arg5 arg6 arg8 arg9 harg9 arg10 arg11 v26 v52 v53 q2 e x (18 + 6 * k.val + 0) (by omega) (by omega) 0 1 _ _ (stepNo 3#32 k 0#32) _ (by omega) (by omega) (stepNo_toNat k 0)
  isplitl [H]; · iexact H
  iintro H
  rw [wp_bind]
  iapply step_run c arg2 arg3 arg4 arg5 arg6 arg8 arg9 harg9 arg10 arg11 v26 v52 v53 q2 e x (18 + 6 * k.val + 1) (by omega) (by omega) 1 0 _ _ (stepNo 3#32 k 1#32) _ (by omega) (by omega) (stepNo_toNat k 1)
  isplitl [H]; · iexact H
  iintro H
  rw [wp_bind]
  iapply step_run c arg2 arg3 arg4 arg5 arg6 arg8 arg9 harg9 arg10 arg11 v26 v52 v53 q2 e x (18 + 6 * k.val + 2) (by omega) (by omega) 0 1 _ _ (stepNo 3#32 k 2#32) _ (by omega) (by omega) (stepNo_toNat k 2)
  isplitl [H]; · iexact H
  iintro H
  rw [wp_bind]
  iapply step_run c arg2 arg3 arg4 arg5 arg6 arg8 arg9 harg9 arg10 arg11 v26 v52 v53 q2 e x (18 + 6 * k.val + 3) (by omega) (by omega) 1 0 _ _ (stepNo 3#32 k 3#32) _ (by omega) (by omega) (stepNo_toNat k 3)
  isplitl [H]; · iexact H
  iintro H
  rw [wp_bind]
  iapply step_run c arg2 arg3 arg4 arg5 arg6 arg8 arg9 harg9 arg10 arg11 v26 v52 v53 q2 e x (18 + 6 * k.val + 4) (by omega) (by omega) 0 1 _ _ (stepNo 3#32 k 4#32) _ (by omega) (by omega) (stepNo_toNat k 4)
  isplitl [H]; · iexact H
  iintro H
  iapply step_run c arg2 arg3 arg4 arg5 arg6 arg8 arg9 harg9 arg10 arg11 v26 v52 v53 q2 e x (18 + 6 * k.val + 5) (by omega) (by omega) 1 0 _ _ (stepNo 3#32 k 5#32) _ (by omega) (by omega) (stepNo_toNat k 5)
  isplitl [H]; · iexact H
  iintro H
  iapply Hk
  iexact H

end Cert.KernelIdeal.Sb
-- ==== Proof.Trip2.lean ====
/-
The printed loop region below the diagonal is six steps of the pipeline in a row.
-/
module

public import proofs.«01_k».proof.Proof.Trip

@[expose] public section

set_option maxRecDepth 65536
set_option maxHeartbeats 40000000

noncomputable section

namespace Cert.KernelIdeal.Sb

open Idealize.ShloMosaic Idealize.ShloMosaic.TcCoe Cert.KernelIdeal Cert.KernelIdeal.Gen
open Idealize.SL.Sem

variable {F : FTy → Type} [FloatOps F]

variable (i : grid0.Coords) (arg2 : Memref sig .tc .smem S5x144 .i32) (harg2 : arg2.IsWhole) (arg3 : Memref sig .tc .vmem S1x1x16x128x256 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S256x256 .f32) (harg6 : arg6.IsWhole) (arg7 : Memref sig .tc .vmem S1x4096x128 .bf16) (harg7 : arg7.IsWhole) (arg8 : Memref sig .tc .vmem S2x2x256x256 .f32) (harg8 : arg8.IsWhole) (arg9 : Memref sig .tc .vmem S2x2x256x256 .bf16) (harg9 : arg9.IsWhole) (arg10 : Memref sig .tc .vmem S17x2x64x256 .f32) (harg10 : arg10.IsWhole) (arg11 : Memref sig .tc .vmem S17x2x8x256 .f32) (harg11 : arg11.IsWhole)

theorem t2_body_eq (v26 v52 : IVec S128x256 1) (v53 : IVec S8x256 32) (k : Fin k0_t2_loop.trips) :
    k0_t2_body (F := F) i arg2 harg2 arg3 harg3 arg4 harg4 arg5 harg5 arg6 harg6 arg7 harg7 arg8 harg8 arg9 harg9 arg10 harg10 arg11 harg11 v26 v52 v53 3#32 21#32 k ⟨⟩
      = trip arg2 arg3 arg4 arg5 arg8 arg9 harg9 arg10 arg11 v26 v52 v53 k := by
  rfl

end Cert.KernelIdeal.Sb
-- ==== Proof.Attn.lean ====
/-
The whole kernel: the scratch arrays zeroed, the two phases' loops, the sums transposed and stored; its
triple over the values of its operands.
-/
module

public import proofs.«01_k».proof.Proof.Chain
public import proofs.«01_k».proof.Proof.Trip2
public import Idealize.ShloMosaic.Lib.Scf

@[expose] public section

set_option maxRecDepth 65536
set_option maxHeartbeats 40000000

noncomputable section

namespace Cert.KernelIdeal.Sb

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open VecWindow (window put)

variable {F : FTy → Type} [FloatOps F]

local notation "𝕄" => MT nD τ sig Unit (Elt F) ℕ (UR sig nD τ) ℕ

variable (c : Dev nD) (i : grid0.Coords)
variable (arg2 : Memref sig .tc .smem S5x144 .i32) (harg2 : arg2.IsWhole) (arg3 : Memref sig .tc .vmem S1x1x16x128x256 .bf16) (harg3 : arg3.IsWhole) (arg4 : Memref sig .tc .vmem S1x4096x128 .bf16) (harg4 : arg4.IsWhole) (arg5 : Memref sig .tc .vmem S1x1x16x128x256 .bf16) (harg5 : arg5.IsWhole) (arg6 : Memref sig .tc .vmem S256x256 .f32) (harg6 : arg6.IsWhole) (arg7 : Memref sig .tc .vmem S1x4096x128 .bf16) (harg7 : arg7.IsWhole) (arg8 : Memref sig .tc .vmem S2x2x256x256 .f32) (harg8 : arg8.IsWhole) (arg9 : Memref sig .tc .vmem S2x2x256x256 .bf16) (harg9 : arg9.IsWhole) (arg10 : Memref sig .tc .vmem S17x2x64x256 .f32) (harg10 : arg10.IsWhole) (arg11 : Memref sig .tc .vmem S17x2x8x256 .f32) (harg11 : arg11.IsWhole)

/-- The masks of the pair's two heads' rows, and the rows' numbers in a group of eight. -/
abbrev m0 : IVec S128x256 1 := k0_pay1941
abbrev m1 : IVec S128x256 1 := k0_pay1945 k0_pay1942 k0_pay1943 k0_pay1944
abbrev sub : IVec S8x256 32 := iota .tc S8x256 32 [0] iota_S8x256_d0_w32

/-- The scratch arrays zeroed. -/
def zeros : Pg (F := F) Unit := do
  let _ ← Prog.lift (.load arg8 (Rect.unit (s := S2x2x256x256) ![0, 0, 0, 0] S2x2x256x256.size inb_S2x2x256x256_S2x2x256x256_0_0_0_0).toLoadRect (View.loadsAt_vmem h_S2x2x256x256))
  Prog.lift (.store arg8 (Rect.unit (s := S2x2x256x256) ![0, 0, 0, 0] S2x2x256x256.size inb_S2x2x256x256_S2x2x256x256_0_0_0_0) (k0_pay1946 (F := F)) Finset.univ (View.stores_vmem_bits_univ h_S2x2x256x256 rfl) (.inl rfl))
  let _ ← Prog.lift (.load arg9 (Rect.unit (s := S2x2x256x256) ![0, 0, 0, 0] S2x2x256x256.size inb_S2x2x256x256_S2x2x256x256_0_0_0_0).toLoadRect (View.loadsAt_vmem h_S2x2x256x256))
  Prog.lift (.store arg9 (Rect.unit (s := S2x2x256x256) ![0, 0, 0, 0] S2x2x256x256.size inb_S2x2x256x256_S2x2x256x256_0_0_0_0) (k0_pay1947 (F := F)) Finset.univ (View.stores_vmem h_S2x2x256x256 (harg9.storeExact_slice rfl _ packedbf16_S2x2x256x256_S2x2x256x256_0_0_0_0) (fun _ => rfl)) (.inl rfl))
  let _ ← Prog.lift (.load arg10 (Rect.unit (s := S17x2x64x256) ![0, 0, 0, 0] S17x2x64x256.size inb_S17x2x64x256_S17x2x64x256_0_0_0_0).toLoadRect (View.loadsAt_vmem h_S17x2x64x256))
  Prog.lift (.store arg10 (Rect.unit (s := S17x2x64x256) ![0, 0, 0, 0] S17x2x64x256.size inb_S17x2x64x256_S17x2x64x256_0_0_0_0) (k0_pay1948 (F := F)) Finset.univ (View.stores_vmem_bits_univ h_S17x2x64x256 rfl) (.inl rfl))
  let _ ← Prog.lift (.load arg11 (Rect.unit (s := S17x2x8x256) ![0, 0, 0, 0] S17x2x8x256.size inb_S17x2x8x256_S17x2x8x256_0_0_0_0).toLoadRect (View.loadsAt_vmem h_S17x2x8x256))
  Prog.lift (.store arg11 (Rect.unit (s := S17x2x8x256) ![0, 0, 0, 0] S17x2x8x256.size inb_S17x2x8x256_S17x2x8x256_0_0_0_0) (k0_pay1949 (F := F)) Finset.univ (View.stores_vmem_bits_univ h_S17x2x8x256 rfl) (.inl rfl))

/-- The state they are left in. -/
def St.zero : St F := ⟨k0_pay1946, k0_pay1947, k0_pay1948, k0_pay1949⟩

/-- A query tile of a head's sums, and the rows of the output it goes to. -/
abbrev aOff (n h : Nat) : Fin 4 → Nat := ![n, h, 0, 0]

theorem aOff_inb {n h : Nat} (hn : n < 17) (hh : h < 2) : ∀ a, aOff n h a + S1x1x64x256.size a ≤ S17x2x64x256.size a := by
  intro a
  fin_cases a
  · show n + 1 ≤ 17
    omega
  · show h + 1 ≤ 2
    omega
  · show 0 + 64 ≤ 64
    omega
  · show 0 + 256 ≤ 256
    omega

abbrev oOff (n : Nat) : Fin 3 → Nat := ![0, 256 * n, 0]

theorem oOff_inb {n : Nat} (hn : n < 16) : ∀ a, oOff n a + S1x256x128.size a ≤ S1x4096x128.size a := by
  intro a
  fin_cases a
  · show 0 + 1 ≤ 1
    omega
  · show 256 * n + 256 ≤ 4096
    omega
  · show 0 + 128 ≤ 128
    omega

theorem oOff_packed {n : Nat} (hn : n < 16) :
    (Rect.unit (s := S1x4096x128) (oOff n) S1x256x128.size (oOff_inb hn)).PackedRows (EltTy.packing .bf16) := by
  match n, hn with
  | 0, _ => exact packedbf16_S1x4096x128_S1x256x128_0_0_0
  | 1, _ => exact packedbf16_S1x4096x128_S1x256x128_0_256_0
  | 2, _ => exact packedbf16_S1x4096x128_S1x256x128_0_512_0
  | 3, _ => exact packedbf16_S1x4096x128_S1x256x128_0_768_0
  | 4, _ => exact packedbf16_S1x4096x128_S1x256x128_0_1024_0
  | 5, _ => exact packedbf16_S1x4096x128_S1x256x128_0_1280_0
  | 6, _ => exact packedbf16_S1x4096x128_S1x256x128_0_1536_0
  | 7, _ => exact packedbf16_S1x4096x128_S1x256x128_0_1792_0
  | 8, _ => exact packedbf16_S1x4096x128_S1x256x128_0_2048_0
  | 9, _ => exact packedbf16_S1x4096x128_S1x256x128_0_2304_0
  | 10, _ => exact packedbf16_S1x4096x128_S1x256x128_0_2560_0
  | 11, _ => exact packedbf16_S1x4096x128_S1x256x128_0_2816_0
  | 12, _ => exact packedbf16_S1x4096x128_S1x256x128_0_3072_0
  | 13, _ => exact packedbf16_S1x4096x128_S1x256x128_0_3328_0
  | 14, _ => exact packedbf16_S1x4096x128_S1x256x128_0_3584_0
  | 15, _ => exact packedbf16_S1x4096x128_S1x256x128_0_3840_0
  | n + 16, h => exact absurd h (by omega)

/-- The two heads' sums of a query tile, as rows of the output. -/
def outTile (a0 a1 : Vec F S1x1x64x256 .f32) : FVec F S1x256x128 .bf16 :=
  shapeCast S1x256x128 (truncf .bf16 (transpose S256x128 [1, 0]
    (concatenate S128x256 0 [⟨S64x256, aget a0⟩, ⟨S64x256, aget a1⟩] concatenates_S64x256_S64x256_S128x256_d0)
    transposes_S128x256_p1_0_S256x128) bitsLt_bf16_f32) shapeCasts_S256x128_S1x256x128

/-- A query tile's sums stored. -/
def outBlk (n : Nat) (hn : n < 16) : Pg (F := F) Unit := do
  let a0 : Vec F S1x1x64x256 .f32 ← Prog.lift (.load arg10 (Rect.unit (s := S17x2x64x256) (aOff n 0) S1x1x64x256.size (aOff_inb (by omega) (by omega))).toLoadRect (View.loadsAt_vmem h_S1x1x64x256))
  let a1 : Vec F S1x1x64x256 .f32 ← Prog.lift (.load arg10 (Rect.unit (s := S17x2x64x256) (aOff n 1) S1x1x64x256.size (aOff_inb (by omega) (by omega))).toLoadRect (View.loadsAt_vmem h_S1x1x64x256))
  let _ ← Prog.lift (.load arg7 (Rect.unit (s := S1x4096x128) (oOff n) S1x256x128.size (oOff_inb hn)).toLoadRect (View.loadsAt_vmem h_S1x256x128))
  Prog.lift (.store arg7 (Rect.unit (s := S1x4096x128) (oOff n) S1x256x128.size (oOff_inb hn)) (outTile a0 a1) Finset.univ (View.stores_vmem h_S1x256x128 (harg7.storeExact_slice rfl _ (oOff_packed hn)) (fun _ => rfl)) (.inl rfl))

/-- The kernel. -/
def attn : Pg (F := F) PUnit := do
  zeros arg8 arg9 harg9 arg10 arg11
  Scf.Loop.for k0_t1_loop k0_t1_ok ⟨⟩ (k0_t1_body i arg2 harg2 arg3 harg3 arg4 harg4 arg5 harg5 arg6 harg6 arg7 harg7 arg8 harg8 arg9 harg9 arg10 harg10 arg11 harg11 m0 k0_pay1942 k0_pay1943 k0_pay1944 sub)
  Scf.Loop.for k0_t2_loop k0_t2_ok ⟨⟩ (k0_t2_body i arg2 harg2 arg3 harg3 arg4 harg4 arg5 harg5 arg6 harg6 arg7 harg7 arg8 harg8 arg9 harg9 arg10 harg10 arg11 harg11 m0 m1 sub 3#32 21#32)
  outBlk arg7 harg7 arg10 0 (by omega)
  outBlk arg7 harg7 arg10 1 (by omega)
  outBlk arg7 harg7 arg10 2 (by omega)
  outBlk arg7 harg7 arg10 3 (by omega)
  outBlk arg7 harg7 arg10 4 (by omega)
  outBlk arg7 harg7 arg10 5 (by omega)
  outBlk arg7 harg7 arg10 6 (by omega)
  outBlk arg7 harg7 arg10 7 (by omega)
  outBlk arg7 harg7 arg10 8 (by omega)
  outBlk arg7 harg7 arg10 9 (by omega)
  outBlk arg7 harg7 arg10 10 (by omega)
  outBlk arg7 harg7 arg10 11 (by omega)
  outBlk arg7 harg7 arg10 12 (by omega)
  outBlk arg7 harg7 arg10 13 (by omega)
  outBlk arg7 harg7 arg10 14 (by omega)
  outBlk arg7 harg7 arg10 15 (by omega)

theorem part112_eq : k0_part112 (F := F) i arg2 harg2 arg3 harg3 arg4 harg4 arg5 harg5 arg6 harg6 arg7 harg7 arg8 harg8 arg9 harg9 arg10 harg10 arg11 harg11 m0 k0_pay1942 k0_pay1943 k0_pay1944
    = (do zeros arg8 arg9 harg9 arg10 arg11
          Scf.Loop.for k0_t1_loop k0_t1_ok ⟨⟩ (k0_t1_body i arg2 harg2 arg3 harg3 arg4 harg4 arg5 harg5 arg6 harg6 arg7 harg7 arg8 harg8 arg9 harg9 arg10 harg10 arg11 harg11 m0 k0_pay1942 k0_pay1943 k0_pay1944 sub)
          pure ⟨m1, sub, 3#32, 21#32⟩) := by
  rw [k0_part112_eq_skeleton]
  rfl

theorem cc0_eq : cc0_sb_attn (F := F) i arg2 harg2 arg3 harg3 arg4 harg4 arg5 harg5 arg6 harg6 arg7 harg7 arg8 harg8 arg9 harg9 arg10 harg10 arg11 harg11 = attn i arg2 harg2 arg3 harg3 arg4 harg4 arg5 harg5 arg6 harg6 arg7 harg7 arg8 harg8 arg9 harg9 arg10 harg10 arg11 harg11 := by
  unfold cc0_sb_attn
  rw [k0_part118_eq_skeleton]
  unfold k0_part118_skel
  rw [k0_part111_eq_skeleton]
  unfold k0_part111_skel attn
  simp only [pure_bind, part112_eq, bind_assoc, k0_part113_eq_skeleton, k0_part113_skel]
  rfl

/-! ## Triples -/

variable (q2 : PosShare TreeShare) (e : Ops F)

theorem zeros_run (x : St F) (E : Set ℕ) (K : PUnit → sProp 𝕄) :
    iprop(Held c arg2 arg3 arg4 arg5 arg6 arg8 arg9 arg10 arg11 q2 e x ∗ (Held c arg2 arg3 arg4 arg5 arg6 arg8 arg9 arg10 arg11 q2 e St.zero -∗ K ⟨⟩))
      ⊢ wp frame (wpE (defs₀ (F := F)) Variants.none c none) E (zeros arg8 arg9 harg9 arg10 arg11) K := by
  unfold zeros Held
  rw [show (owns (c : Thread nD τ) arg8 fullShare x.Z : sProp 𝕄) = iprop(∃ f, ⌜arg8.view.read (Elt F) f = x.Z⌝ ∗ (View.loc (c : Thread nD τ) arg8.view ↦[arg8.view.set]{fullShare} f)) from rfl,
    show (owns (c : Thread nD τ) arg9 fullShare x.W : sProp 𝕄) = iprop(∃ f, ⌜arg9.view.read (Elt F) f = x.W⌝ ∗ (View.loc (c : Thread nD τ) arg9.view ↦[arg9.view.set]{fullShare} f)) from rfl,
    show (owns (c : Thread nD τ) arg10 fullShare x.A : sProp 𝕄) = iprop(∃ f, ⌜arg10.view.read (Elt F) f = x.A⌝ ∗ (View.loc (c : Thread nD τ) arg10.view ↦[arg10.view.set]{fullShare} f)) from rfl,
    show (owns (c : Thread nD τ) arg11 fullShare x.R : sProp 𝕄) = iprop(∃ f, ⌜arg11.view.read (Elt F) f = x.R⌝ ∗ (View.loc (c : Thread nD τ) arg11.view ↦[arg11.view.set]{fullShare} f)) from rfl]
  iintro ⟨⟨H2, H3, H4, H5, H6, ⟨%f8, %h8, H8⟩, ⟨%f9, %h9, H9⟩, ⟨%f10, %h10, H10⟩, ⟨%f11, %h11, H11⟩⟩, Hk⟩
  sl_exec
  sl_step
  iapply Hk
  isplitl [H2]; · iexact H2
  isplitl [H3]; · iexact H3
  isplitl [H4]; · iexact H4
  isplitl [H5]; · iexact H5
  isplitl [H6]; · iexact H6
  isplitl [H8]
  · unfold owns
    iexists _; isplitr; swap; · iexact H8
    ipureintro
    exact View.read_writes_full _ _ _ _ _
  isplitl [H9]
  · unfold owns
    iexists _; isplitr; swap; · iexact H9
    ipureintro
    exact View.read_writes_full _ _ _ _ _
  isplitl [H10]
  · unfold owns
    iexists _; isplitr; swap; · iexact H10
    ipureintro
    exact View.read_writes_full _ _ _ _ _
  · unfold owns
    iexists _; isplitr; swap; · iexact H11
    ipureintro
    exact View.read_writes_full _ _ _ _ _

/-- The output after the first `n` query tiles are stored. -/
def outF (A : Vec F S17x2x64x256 .f32) (O : Vec F S1x4096x128 .bf16) : Nat → Vec F S1x4096x128 .bf16
  | 0 => O
  | n + 1 =>
    if h : n < 16 then put (outF A O n) (oOff n) S1x256x128.size
      (outTile (window A (aOff n 0) S1x1x64x256.size (aOff_inb (by omega) (by omega))) (window A (aOff n 1) S1x1x64x256.size (aOff_inb (by omega) (by omega))))
    else outF A O n

theorem outF_succ (A : Vec F S17x2x64x256 .f32) (O : Vec F S1x4096x128 .bf16) (n : Nat) (h : n < 16) :
    outF A O (n + 1) = put (outF A O n) (oOff n) S1x256x128.size
      (outTile (window A (aOff n 0) S1x1x64x256.size (aOff_inb (by omega) (by omega))) (window A (aOff n 1) S1x1x64x256.size (aOff_inb (by omega) (by omega)))) := by
  rw [outF, dif_pos h]

theorem outBlk_run (A : Vec F S17x2x64x256 .f32) (O : Vec F S1x4096x128 .bf16) (n : Nat) (hn : n < 16) (E : Set ℕ) (K : PUnit → sProp 𝕄) :
    iprop(owns (c : Thread nD τ) arg10 fullShare A ∗ owns (c : Thread nD τ) arg7 fullShare (outF A O n) ∗ (iprop(owns (c : Thread nD τ) arg10 fullShare A ∗ owns (c : Thread nD τ) arg7 fullShare (outF A O (n + 1))) -∗ K ⟨⟩))
      ⊢ wp frame (wpE (defs₀ (F := F)) Variants.none c none) E (outBlk arg7 harg7 arg10 n hn) K := by
  rw [outF_succ A O n hn]
  generalize outF A O n = O'
  unfold owns outBlk
  iintro ⟨⟨%f10, %h10, H10⟩, ⟨%f7, %h7, H7⟩, Hk⟩
  subst h10
  subst h7
  sl_exec
  sl_step
  iapply Hk
  isplitl [H10]
  · iexists _; isplitr; · ipureintro; rfl
    iexact H10
  iexists _; isplitr; swap; · iexact H7
  ipureintro
  rw [View.read_writes_cons_put _ _ _ _ _ rfl, View.writes_nil]
  rfl

abbrev run0 (n : Nat) : St F := e.run m0 m1 sub St.zero n

theorem loop1_run (E : Set ℕ) (K : PUnit → sProp 𝕄) :
    iprop(Held c arg2 arg3 arg4 arg5 arg6 arg8 arg9 arg10 arg11 q2 e (run0 e 0) ∗ (Held c arg2 arg3 arg4 arg5 arg6 arg8 arg9 arg10 arg11 q2 e (run0 e 18) -∗ K ⟨⟩))
      ⊢ wp frame (wpE (defs₀ (F := F)) Variants.none c none) E
        (Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 m0 k0_pay1942 k0_pay1943 k0_pay1944 sub)) K := by
  iintro ⟨H, Hk⟩
  iapply Scf.wp_for frame (wpE (defs₀ (F := F)) Variants.none c none) E k0_t1_loop.lb k0_t1_loop.ub k0_t1_loop.st k0_t1_ok (⟨⟩ : Unit) _
    (fun k _ => Held c arg2 arg3 arg4 arg5 arg6 arg8 arg9 arg10 arg11 q2 e (run0 e (6 * k))) (by
      intro k acc
      obtain ⟨⟩ := acc
      have h := t1_body_eq (F := F) i arg2 harg2 arg3 harg3 arg4 harg4 arg5 harg5 arg6 harg6 arg7 harg7 arg8 harg8 arg9 harg9 arg10 harg10 arg11 harg11 m0 k0_pay1942 k0_pay1943 k0_pay1944 sub k
      rw [h]
      iintro H
      iapply tripD_run c arg2 arg3 arg4 arg5 arg6 arg8 arg9 harg9 arg10 arg11 m0 m1 sub q2 e St.zero k
      isplitl [H]; · iexact H
      iintro H
      iexact H)
  isplitl [H]; · iexact H
  iintro %acc H
  iapply Hk
  iexact H

theorem loop2_run (E : Set ℕ) (K : PUnit → sProp 𝕄) :
    iprop(Held c arg2 arg3 arg4 arg5 arg6 arg8 arg9 arg10 arg11 q2 e (run0 e 18) ∗ (Held c arg2 arg3 arg4 arg5 arg6 arg8 arg9 arg10 arg11 q2 e (run0 e 144) -∗ K ⟨⟩))
      ⊢ wp frame (wpE (defs₀ (F := F)) Variants.none c none) E
        (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 m0 m1 sub 3#32 21#32)) K := by
  iintro ⟨H, Hk⟩
  iapply Scf.wp_for frame (wpE (defs₀ (F := F)) Variants.none c none) E k0_t2_loop.lb k0_t2_loop.ub k0_t2_loop.st k0_t2_ok (⟨⟩ : Unit) _
    (fun k _ => Held c arg2 arg3 arg4 arg5 arg6 arg8 arg9 arg10 arg11 q2 e (run0 e (18 + 6 * k))) (by
      intro k acc
      obtain ⟨⟩ := acc
      have h := t2_body_eq (F := F) i arg2 harg2 arg3 harg3 arg4 harg4 arg5 harg5 arg6 harg6 arg7 harg7 arg8 harg8 arg9 harg9 arg10 harg10 arg11 harg11 m0 m1 sub k
      rw [h]
      iintro H
      iapply trip_run c arg2 arg3 arg4 arg5 arg6 arg8 arg9 harg9 arg10 arg11 m0 m1 sub q2 e St.zero k
      isplitl [H]; · iexact H
      iintro H
      iexact H)
  isplitl [H]; · iexact H
  iintro %acc H
  iapply Hk
  iexact H

/-- The kernel: its output is the sums after the last step, transposed. -/
theorem attn_run (x : St F) (O : Vec F S1x4096x128 .bf16) (E : Set ℕ) (K : PUnit → sProp 𝕄) :
    iprop(Held c arg2 arg3 arg4 arg5 arg6 arg8 arg9 arg10 arg11 q2 e x ∗ owns (c : Thread nD τ) arg7 fullShare O ∗ (iprop(Held c arg2 arg3 arg4 arg5 arg6 arg8 arg9 arg10 arg11 q2 e (run0 e 144) ∗ owns (c : Thread nD τ) arg7 fullShare (outF (run0 e 144).A O 16)) -∗ K ⟨⟩))
      ⊢ wp frame (wpE (defs₀ (F := F)) Variants.none c none) E (cc0_sb_attn (F := F) i arg2 harg2 arg3 harg3 arg4 harg4 arg5 harg5 arg6 harg6 arg7 harg7 arg8 harg8 arg9 harg9 arg10 harg10 arg11 harg11) K := by
  rw [cc0_eq]
  unfold attn
  iintro ⟨H, H7, Hk⟩
  rw [wp_bind]
  iapply zeros_run c arg2 arg3 arg4 arg5 arg6 arg8 arg9 harg9 arg10 arg11 q2 e x
  isplitl [H]; · iexact H
  iintro H
  rw [wp_bind]
  iapply loop1_run c i arg2 harg2 arg3 harg3 arg4 harg4 arg5 harg5 arg6 harg6 arg7 harg7 arg8 harg8 arg9 harg9 arg10 harg10 arg11 harg11 q2 e
  isplitl [H]; · iexact H
  iintro H
  rw [wp_bind]
  iapply loop2_run c i arg2 harg2 arg3 harg3 arg4 harg4 arg5 harg5 arg6 harg6 arg7 harg7 arg8 harg8 arg9 harg9 arg10 harg10 arg11 harg11 q2 e
  isplitl [H]; · iexact H
  iintro H
  generalize run0 e 144 = y
  unfold Held
  icases H with ⟨H2, H3, H4, H5, H6, H8, H9, H10, H11⟩
  rw [show O = outF y.A O 0 from rfl]
  rw [wp_bind]
  iapply outBlk_run c arg7 harg7 arg10 y.A O 0 _
  isplitl [H10]; · iexact H10
  isplitl [H7]; · iexact H7
  iintro ⟨H10, H7⟩
  rw [wp_bind]
  iapply outBlk_run c arg7 harg7 arg10 y.A O 1 _
  isplitl [H10]; · iexact H10
  isplitl [H7]; · iexact H7
  iintro ⟨H10, H7⟩
  rw [wp_bind]
  iapply outBlk_run c arg7 harg7 arg10 y.A O 2 _
  isplitl [H10]; · iexact H10
  isplitl [H7]; · iexact H7
  iintro ⟨H10, H7⟩
  rw [wp_bind]
  iapply outBlk_run c arg7 harg7 arg10 y.A O 3 _
  isplitl [H10]; · iexact H10
  isplitl [H7]; · iexact H7
  iintro ⟨H10, H7⟩
  rw [wp_bind]
  iapply outBlk_run c arg7 harg7 arg10 y.A O 4 _
  isplitl [H10]; · iexact H10
  isplitl [H7]; · iexact H7
  iintro ⟨H10, H7⟩
  rw [wp_bind]
  iapply outBlk_run c arg7 harg7 arg10 y.A O 5 _
  isplitl [H10]; · iexact H10
  isplitl [H7]; · iexact H7
  iintro ⟨H10, H7⟩
  rw [wp_bind]
  iapply outBlk_run c arg7 harg7 arg10 y.A O 6 _
  isplitl [H10]; · iexact H10
  isplitl [H7]; · iexact H7
  iintro ⟨H10, H7⟩
  rw [wp_bind]
  iapply outBlk_run c arg7 harg7 arg10 y.A O 7 _
  isplitl [H10]; · iexact H10
  isplitl [H7]; · iexact H7
  iintro ⟨H10, H7⟩
  rw [wp_bind]
  iapply outBlk_run c arg7 harg7 arg10 y.A O 8 _
  isplitl [H10]; · iexact H10
  isplitl [H7]; · iexact H7
  iintro ⟨H10, H7⟩
  rw [wp_bind]
  iapply outBlk_run c arg7 harg7 arg10 y.A O 9 _
  isplitl [H10]; · iexact H10
  isplitl [H7]; · iexact H7
  iintro ⟨H10, H7⟩
  rw [wp_bind]
  iapply outBlk_run c arg7 harg7 arg10 y.A O 10 _
  isplitl [H10]; · iexact H10
  isplitl [H7]; · iexact H7
  iintro ⟨H10, H7⟩
  rw [wp_bind]
  iapply outBlk_run c arg7 harg7 arg10 y.A O 11 _
  isplitl [H10]; · iexact H10
  isplitl [H7]; · iexact H7
  iintro ⟨H10, H7⟩
  rw [wp_bind]
  iapply outBlk_run c arg7 harg7 arg10 y.A O 12 _
  isplitl [H10]; · iexact H10
  isplitl [H7]; · iexact H7
  iintro ⟨H10, H7⟩
  rw [wp_bind]
  iapply outBlk_run c arg7 harg7 arg10 y.A O 13 _
  isplitl [H10]; · iexact H10
  isplitl [H7]; · iexact H7
  iintro ⟨H10, H7⟩
  rw [wp_bind]
  iapply outBlk_run c arg7 harg7 arg10 y.A O 14 _
  isplitl [H10]; · iexact H10
  isplitl [H7]; · iexact H7
  iintro ⟨H10, H7⟩
  iapply outBlk_run c arg7 harg7 arg10 y.A O 15 _
  isplitl [H10]; · iexact H10
  isplitl [H7]; · iexact H7
  iintro ⟨H10, H7⟩
  iapply Hk
  isplitr [H7]; swap; · iexact H7
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  iexact H11

end Cert.KernelIdeal.Sb
-- ==== Proof.Table.lean ====
/-
The table of the kernel's items: which query tile and key tile each step works on. Read off the
program's constant, decided entry by entry.
-/
module

public import proofs.«01_k».proof.Proof.Run

@[expose] public section

set_option maxRecDepth 65536

noncomputable section

namespace Cert.KernelIdeal.Sb

open Idealize.ShloMosaic Idealize.ShloMosaic.TcCoe Cert.KernelIdeal Cert.KernelIdeal.Gen
open VecWindow (window put)

variable {F : FTy → Type} [FloatOps F]

/-- The table the program holds. -/
def tabT : Vec F S5x144 .i32 := fun i => lit0 (S5x144.rowMajor i)

/-- Its word in row `r` for step `n`. -/
def item (r : Fin 5) (n : Fin 144) : BitVec 32 := lit0 ⟨r.val * 144 + n.val, by omega⟩

theorem word_tabT (r n : Nat) (hr : r < 5) (hn : n < 144) : word (tabT (F := F)) r n hr hn = item ⟨r, hr⟩ ⟨n, hn⟩ := by
  unfold word window tabT item
  have e : S5x144.rowMajor ((Rect.unit (s := S5x144) ![r, n] S1x1.size (word_inb hr hn)).emb (Shape.Idx.first (numel1_S1x1.symm ▸ Nat.one_pos)))
      = (⟨r * 144 + n, by show r * 144 + n < 720; omega⟩ : Fin 720) := by
    apply Fin.ext
    rw [Shape.rowMajor_val_two]
    have e0 : ((Rect.unit (s := S5x144) ![r, n] S1x1.size (word_inb hr hn)).emb (Shape.Idx.first (numel1_S1x1.symm ▸ Nat.one_pos)) 0).val = r + 1 * 0 := rfl
    have e1 : ((Rect.unit (s := S5x144) ![r, n] S1x1.size (word_inb hr hn)).emb (Shape.Idx.first (numel1_S1x1.symm ▸ Nat.one_pos)) 1).val = n + 1 * 0 := rfl
    rw [e0, e1]
    show (r + 1 * 0) * 144 + (n + 1 * 0) = r * 144 + n
    omega
  exact congrArg lit0 e

theorem chk_q : ∀ n : Fin 144, k0_chk1 (item 0 n) := by decide +kernel
theorem chk_k : ∀ n : Fin 144, k0_chk2 (item 1 n) := by decide +kernel
theorem chk_r : ∀ n : Fin 144, k0_chk5 (item 2 n) := by decide +kernel
theorem chk_o : ∀ n : Fin 144, k0_chk4 (item 3 n) := by decide +kernel
theorem chk_v : ∀ n : Fin 144, k0_chk3 (item 4 n) := by decide +kernel

theorem words : Words (tabT (F := F)) where
  q n hn := by rw [word_tabT]; exact chk_q ⟨n, hn⟩
  k n hn := by rw [word_tabT]; exact chk_k ⟨n, hn⟩
  r n hn := by rw [word_tabT]; exact chk_r ⟨n, hn⟩
  o n hn := by rw [word_tabT]; exact chk_o ⟨n, hn⟩
  v n hn := by rw [word_tabT]; exact chk_v ⟨n, hn⟩

/-- The item's entries as numbers. -/
def Lq (n : Fin 144) : Nat := (item 0 n).toNat
def Lk (n : Fin 144) : Nat := (item 1 n).toNat
def Wq (n : Fin 144) : Nat := (item 2 n).toNat
def Mq (n : Fin 144) : Nat := (item 3 n).toNat
def Mk (n : Fin 144) : Nat := (item 4 n).toNat

/-- How many of the first `n` steps form weights of query tile `q`, or add to its sum. -/
def dW (q : Nat) : Nat → Nat
  | 0 => 0
  | n + 1 => dW q n + (if h : n < 144 then (if Wq ⟨n, h⟩ = q then 1 else 0) else 0)
def dA (q : Nat) : Nat → Nat
  | 0 => 0
  | n + 1 => dA q n + (if h : n < 144 then (if Mq ⟨n, h⟩ = q then 1 else 0) else 0)

theorem L_lt : ∀ n : Fin 144, Lq n < 16 ∧ Lk n < 16 := by decide +kernel
theorem W_le : ∀ n : Fin 144, Wq n < 17 := by decide +kernel
theorem M_le : ∀ n : Fin 144, Mq n < 17 ∧ Mk n < 16 := by decide +kernel

/-- Weights at step `n` are of the item whose logits step `n-1` formed: the next key tile of the query tile. -/
theorem W_item : ∀ n : Fin 144, Wq n < 16 → 1 ≤ n.val ∧ Lq (n - 1) = Wq n ∧ Lk (n - 1) + dW (Wq n) n.val = Wq n
    ∧ (n.val < 18 → dW (Wq n) n.val = 0) ∧ (18 ≤ n.val → 19 ≤ n.val ∧ dW (Wq n) n.val ≠ 0) := by decide +kernel

/-- The sum at step `n` takes the item whose weights step `n-1` formed. -/
theorem M_item : ∀ n : Fin 144, Mq n < 16 → 2 ≤ n.val ∧ Wq (n - 1) = Mq n ∧ Mk n = Lk (n - 2) ∧ Mk n + dA (Mq n) n.val = Mq n
    ∧ (n.val < 18 → dA (Mq n) n.val = 0) ∧ (18 ≤ n.val → 20 ≤ n.val ∧ dA (Mq n) n.val ≠ 0)
    ∧ dW (Mq n) (n - 1).val = dA (Mq n) n.val := by decide +kernel

theorem dA_end : ∀ q : Fin 16, dA q.val 144 = q.val + 1 := by decide +kernel

end Cert.KernelIdeal.Sb
-- ==== Proof.Launch.lean ====
/-
The launch: the host operations leave the kernel's operands; the grid's points run the kernel; every
array the program names ends at known contents.
-/
module

public import proofs.«01_k».proof.Proof.Gen.KernelIdeal.Launch
public import proofs.«01_k».proof.Proof.Attn
public import proofs.«01_k».proof.Proof.Table
public import Idealize.ShloMosaic.Lib.Pipeline.FrameBody
public import Idealize.ShloMosaic.Lib.StableHlo.RunRead
public import Idealize.ShloMosaic.Lib.Ring
public import Idealize.ShloMosaic.Lib.Tactic
public import Idealize.ShloMosaic.Lib.Claim

@[expose] public section

set_option maxRecDepth 16384
set_option maxHeartbeats 1000000

noncomputable section

namespace Cert.KernelIdeal.Sb

open Idealize.ShloMosaic Idealize.ShloMosaic.TcCoe Idealize.ShloMosaic.Tactic Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open VecWindow (window put)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem out_lt (y : S1x4096x128.Idx) : (y 1).val / 256 < 17 := by
  have : (y 1).val < 4096 := (y 1).isLt
  omega

/-- Where in its tile an element of the output lies. -/
def out_at (y : S1x4096x128.Idx) : S1x256x128.Idx := fun
  | ⟨0, _⟩ => (⟨0, Nat.one_pos⟩ : Fin 1)
  | ⟨1, _⟩ => (⟨(y 1).val % 256, Nat.mod_lt _ (by decide)⟩ : Fin 256)
  | ⟨2, _⟩ => (⟨(y 2).val, (y 2).isLt⟩ : Fin 128)

/-- The output once every query tile is stored. -/
def outAll (A : Vec F S17x2x64x256 .f32) : Vec F S1x4096x128 .bf16 := fun y =>
  outTile (window A (aOff ((y 1).val / 256) 0) S1x1x64x256.size (aOff_inb (out_lt y) (by omega))) (window A (aOff ((y 1).val / 256) 1) S1x1x64x256.size (aOff_inb (out_lt y) (by omega)))
    (out_at y)

/-- Storing the tiles one after the other leaves, of the first `n` tiles, the stored ones. -/
theorem outF_apply (A : Vec F S17x2x64x256 .f32) (O : Vec F S1x4096x128 .bf16) (n : Nat) (hn : n ≤ 16) (y : S1x4096x128.Idx) :
    outF A O n y = if (y 1).val < 256 * n then outAll A y else O y := by
  have h1 := (y 1).isLt
  induction n with
  | zero => rw [if_neg (by omega)]; rfl
  | succ n ih =>
    rw [outF_succ A O n (by omega)]
    unfold put
    by_cases h : 256 * n ≤ (y 1).val ∧ (y 1).val < 256 * n + 256
    · have hq : (y 1).val / 256 = n := by omega
      rw [dif_pos (fun a => by
        fin_cases a
        · show 0 ≤ (y 0).val ∧ (y 0).val < 0 + 1
          have := (y 0).isLt
          exact ⟨Nat.zero_le _, by simpa using this⟩
        · exact h
        · show 0 ≤ (y 2).val ∧ (y 2).val < 0 + 128
          have := (y 2).isLt
          exact ⟨Nat.zero_le _, by simpa using this⟩), if_pos (by omega)]
      subst hq
      unfold outAll
      congr 1
      funext a
      apply Fin.ext
      fin_cases a
      · show (y 0).val - 0 = 0
        have := (y 0).isLt
        have : (y 0).val < 1 := this
        omega
      · show (y 1).val - 256 * ((y 1).val / 256) = (y 1).val % 256
        omega
      · show (y 2).val - 0 = (y 2).val
        omega
    · rw [dif_neg (fun hall => h (hall 1)), ih (by omega)]
      by_cases h' : (y 1).val < 256 * n
      · rw [if_pos h', if_pos (by omega)]
      · rw [if_neg h', if_neg (by omega)]

theorem outF_all (A : Vec F S17x2x64x256 .f32) (O : Vec F S1x4096x128 .bf16) : outF A O 16 = outAll A := by
  funext y
  rw [outF_apply A O 16 le_rfl y, if_pos (show (y 1).val < 256 * 16 from (y 1).isLt)]

/-! ## The host operations -/

/-- What the references hold when the call is reached. -/
abbrev V (c : Dev nD) (b : Ref sig .tc) : Buf (Elt F) ((c : Thread nD τ).loc b) :=
  StableHlo.after hostOps0 (fun b => m (c, b)) (Proc.devRef .tc b)

/-- The references the host operations write, in order. -/
def written : List (Ref sig .tc) :=
  [main_c, main_cst, main_v0, main_cst_0, main_v1, main_v2, main_v3, main_v4, main_v5, main_v6, main_v7, main_v8, main_v9, main_v10, main_v11, main_v12,
   main_v13, main_v14, main_v15, main_v16, main_v17, main_v18, main_v19, main_v20, main_v21, main_v22, main_v23, main_v24, main_cst_1, main_v25, main_cst_2, main_v26, main_v27]

theorem host_writes : (hostOps0 (F := F)).map HloOp.writes = written.map fun w => {Proc.devRef (τ := τ) .tc w} := rfl

theorem host_fresh : (hostOps0 (F := F)).Forall fun op => op.fresh = ∅ := by
  repeat' apply And.intro
  all_goals rfl

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

theorem V_main_arg0 (c : Dev nD) : V m c main_arg0 = m ((c : Thread nD τ).loc main_arg0) :=
  StableHlo.after_unwritten written host_writes (by decide) _
theorem V_main_arg1 (c : Dev nD) : V m c main_arg1 = m ((c : Thread nD τ).loc main_arg1) :=
  StableHlo.after_unwritten written host_writes (by decide) _
theorem V_main_arg2 (c : Dev nD) : V m c main_arg2 = m ((c : Thread nD τ).loc main_arg2) :=
  StableHlo.after_unwritten written host_writes (by decide) _

theorem V_main_c (c : Dev nD) : V m c main_c = tabT (F := F) := by
  show StableHlo.after hostOps0 (fun b => m (c, b)) (Proc.devRef .tc main_c) = _
  after_reads_simp
  rfl

/-! ## The table -/

def tbl : pre0.Contents (Elt F) := fun j => V m (0 : Dev nD) (pre0.ref j)

theorem V_pre (c : Dev nD) (j : Fin 1) : V m c (pre0.ref j) = tbl m j := by
  obtain rfl : c = 0 := Subsingleton.elim _ _; rfl

theorem tbl_zero : tbl m 0 = tabT (F := F) := V_main_c m 0

abbrev adm : (pcfg0 (F := F)).Adm := ⟨tbl m, trivial⟩
abbrev cfgM : Pipeline.Cfg sig Λ₀ := cfg0 (adm m)

abbrev tbM : Memref sig .tc .smem S5x144 .i32 := Memref.whole main_c
abbrev htbM : tbM.IsWhole := Memref.isWhole_whole _

theorem PhiT0_eq (c : Dev nD) : (Pipeline.ΦT pre0 (tbl m) c : sProp 𝕄) = iprop(owns (c : Thread nD τ) tbM fullShare.right (tabT (F := F))) := by
  unfold Pipeline.ΦT Pipeline.prefHeld
  rw [show (Finset.univ : Finset (Fin 1)) = {(0 : Fin 1)} from by decide, bigSep_singleton, tbl_zero, owns_whole]
  rfl

/-! ## The windows' blocks -/

def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin (cfgM m).N) : Memref sig .tc .vmem S1x1x16x128x256 .bf16 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S1x4096x128 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x1x16x128x256 .bf16 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S256x256 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x4096x128 .bf16 := spec0_4.stage ((cfgM m).slots t 4)
abbrev hs0_4 (t : Fin (cfgM m).N) : (ms0_4 m t).IsWhole := hstage0_4 (((cfgM m).slots t 4).cast nbuf0_4)

abbrev scM0 : Memref sig .tc .vmem S2x2x256x256 .f32 := Memref.whole cc0_scratch0
abbrev scM1 : Memref sig .tc .vmem S2x2x256x256 .bf16 := Memref.whole cc0_scratch1
abbrev scM2 : Memref sig .tc .vmem S17x2x64x256 .f32 := Memref.whole cc0_scratch2
abbrev scM3 : Memref sig .tc .vmem S17x2x8x256 .f32 := Memref.whole cc0_scratch3

theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- What the kernel reads at point `t`. -/
def ops (c : Dev nD) (t : Fin (cfgM m).N) : Ops F := ⟨tabT, iblk m c 0 t, iblk m c 1 t, iblk m c 2 t, iblk m c 3 t, words⟩

/-! ## The pipeline's proof data -/

def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAll (run0 (ops m c t) 144).A
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem after0_3 (c : Dev nD) (t : Fin (cfgM m).N) : (dats m 0 c).after 3 t = iblk m c 3 t := by dsimp only [dats]; try rfl
theorem after0_4 (c : Dev nD) (t : Fin (cfgM m).N) : (dats m 0 c).after 4 t = outAll (run0 (ops m c t) 144).A := by dsimp only [dats]; try rfl

theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d
theorem before0_3 (c : Dev nD) (t : Fin (cfgM m).N) (d) : (dats m 0 c).before 3 t d = iblk m c 3 t :=
  before0_3_of m (dats m 0 c) (A_eq m c 3) (after0_3 m c) t d

/-! ## The body at a point -/

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d))
    ∗ (∃ d, owns (c : Thread nD τ) (ms0_3 m t) fullShare ((dats m 0 c).before 3 t d))
    ∗ (∃ d, owns (c : Thread nD τ) (ms0_4 m t) fullShare ((dats m 0 c).before 4 t d)))

def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t)
    ∗ owns (c : Thread nD τ) (ms0_3 m t) fullShare ((dats m 0 c).after 3 t)
    ∗ owns (c : Thread nD τ) (ms0_4 m t) fullShare ((dats m 0 c).after 4 t))

/-- The kernel as the pipeline calls it at point `t`. -/
abbrev bodyAt (t : Fin (cfgM m).N) : Prog (TpuEff nD τ sig (Elt F) Λ₀ .tc) PUnit :=
  cc0_sb_attn (grid0.coords t) tbM htbM (ms0_0 m t) (hs0_0 m t) (ms0_1 m t) (hs0_1 m t) (ms0_2 m t) (hs0_2 m t) (ms0_3 m t) (hs0_3 m t) (ms0_4 m t) (hs0_4 m t)
    scM0 (Memref.isWhole_whole _) scM1 (Memref.isWhole_whole _) scM2 (Memref.isWhole_whole _) scM3 (Memref.isWhole_whole _)

theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = iprop(Pipeline.ΦA spec0 c ∗ Pipeline.ΦT pre0 (tbl m) c) from rfl, PhiT0_eq, PhiA0_eq]
  iintro ⟨⟨⟨⟨⟨%s0, S0⟩, ⟨%s1, S1⟩, ⟨%s2, S2⟩, ⟨%s3, S3⟩⟩, Hg⟩, HT0⟩, Ho, ⟨%d0, H0⟩, ⟨%d1, H1⟩, ⟨%d2, H2⟩, ⟨%d3, H3⟩, ⟨%d4, H4⟩⟩
  iapply attn_run c (grid0.coords t) tbM htbM (ms0_0 m t) (hs0_0 m t) (ms0_1 m t) (hs0_1 m t) (ms0_2 m t) (hs0_2 m t) (ms0_3 m t) (hs0_3 m t) (ms0_4 m t) (hs0_4 m t)
    scM0 (Memref.isWhole_whole _) scM1 (Memref.isWhole_whole _) scM2 (Memref.isWhole_whole _) scM3 (Memref.isWhole_whole _) fullShare.right (ops m c t) ⟨s0, s1, s2, s3⟩ ((dats m 0 c).before 4 t d4)
  unfold Held
  isplitl [HT0 H0 H1 H2 H3 S0 S1 S2 S3]
  · isplitl [HT0]; · iexact HT0
    isplitl [H0]; · iexact H0
    isplitl [H1]; · iexact H1
    isplitl [H2]; · iexact H2
    isplitl [H3]; · iexact H3
    isplitl [S0]; · iexact S0
    isplitl [S1]; · iexact S1
    isplitl [S2]; · iexact S2
    iexact S3
  isplitl [H4]; · iexact H4
  iintro ⟨⟨HT0, H0, H1, H2, H3, S0, S1, S2, S3⟩, H4⟩
  isplitl [S0 S1 S2 S3 Hg HT0]
  · isplitl [S0 S1 S2 S3 Hg]
    · isplitl [S0 S1 S2 S3]
      · isplitl [S0]; · iexists _; iexact S0
        isplitl [S1]; · iexists _; iexact S1
        isplitl [S2]; · iexists _; iexact S2
        iexists _; iexact S3
      iexact Hg
    iexact HT0
  isplitl [Ho]; · iexact Ho
  isplitl [H0]; · iexact H0
  isplitl [H1]; · iexact H1
  isplitl [H2]; · iexact H2
  isplitl [H3]; · iexact H3
  erw [outF_all (run0 (ops m c t) 144).A ((dats m 0 c).before 4 t d4)]
  iexact H4

theorem defs₀_row (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  exact triple_restated (sound_body m c t) rfl .rfl fun _ => .rfl

/-! ## The run -/

set_option backward.isDefEq.respectTransparency.types false in
theorem run_main : θ_run defs (onTc (τ := τ) (main (F := F))) (s₀ m ρ) (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The result's contents. -/
def outArr (c : Dev nD) : Buf (Elt F) ((c.tc : Thread nD τ).loc main_v28) := (dats m 0 c).arrAt 4 (cfgM m).N

/-- Every run ends with the arguments as they were, the result at `outArr`, and the counters at zero. -/
theorem run_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v28) = outArr m c)
      ∧ r.2.sem = fun _ => 0) :=
  (θ_run defs _ _).mono (fun _ h => ⟨fun c => ⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).2 main_arg2 (by decide : main_arg2 ∈ Pipeline.restRefs sig spec0)).trans (V_main_arg2 m c),
      (h.1 c).1 4⟩, h.2⟩) (run_main m ρ)

end Cert.KernelIdeal.Sb
-- ==== Proof.Frames.lean ====
/-
The frames: the kernel as compiled and over the reals, and the reference over the reals, run and leave
their arguments as they were.
-/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 65536
set_option maxHeartbeats 4000000

noncomputable section

namespace Cert.Sb

open Idealize.ShloMosaic Idealize.SL.Sem

section
open Cert.KernelIdeal

/-- The kernel runs and leaves its arguments as they were, over any float values. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (Sb.run_all (F := F) m ρ)

end

theorem frame_KernelIdeal : Cert.quiescent_KernelIdeal := fun m ρ _ => frame_any (F := Ideal) m ρ

/-! ## The compiled kernel's text is the text run above -/

variable {F : FTy → Type} [FloatOps F]

theorem body_eq : @Cert.Kernel.cc0_sb_attn F _ _ = @Cert.KernelIdeal.cc0_sb_attn F _ _ := by
  unfold Cert.Kernel.cc0_sb_attn Cert.KernelIdeal.cc0_sb_attn
  rfl

theorem defs₀_eq : @Cert.Kernel.defs₀ F _ _ = @Cert.KernelIdeal.defs₀ F _ _ := by
  unfold Cert.Kernel.defs₀ Cert.KernelIdeal.defs₀
  refine congrArg Defs.onTc ?_
  funext l x
  match l, x with
  | 0, (t, s) =>
    dsimp only
    rw [body_eq]
    rfl

theorem defs_eq : @Cert.Kernel.defs F _ _ = @Cert.KernelIdeal.defs F _ _ := by
  unfold Cert.Kernel.defs Cert.KernelIdeal.defs
  rw [defs₀_eq]
  rfl

theorem main_eq (c) : @Cert.Kernel.main F _ _ c = @Cert.KernelIdeal.main F _ _ c := by
  unfold Cert.Kernel.main Cert.KernelIdeal.main
  rfl

theorem frame_Kernel : Cert.quiescent_Kernel := fun m ρ _ => by
  have h := frame_any (F := Bits) m ρ
  rw [← funext main_eq, ← defs_eq] at h
  exact h

theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The precondition's side conditions, and the frames under it -/

theorem facts_pre : Cert.Pre_finite.Facts where
  bcast_S_S8x4096x512 := Cert.KernelIdeal.Gen.bcast_S_S8x4096x512
  reducesTo_S8x4096x512_S_d0_1_2 := by decide
  h_S_ := by decide

theorem frame_KernelIdeal_pre : Cert.quiescent_KernelIdeal_pre_finite (hPre_finite := facts_pre) := fun m ρ _ => frame_KernelIdeal m ρ trivial

theorem frame_ReferenceIdeal_pre : Cert.quiescent_ReferenceIdeal_pre_finite (hPre_finite := facts_pre) := fun m ρ _ => frame_ReferenceIdeal m ρ trivial

end Cert.Sb
-- ==== Proof.Inv.lean ====
/-
What the two phases leave: for every query tile and head the sum, over its key tiles from the diagonal's
down, of the weights times the values; as an invariant of the steps, over any float values.
-/
module

public import proofs.«01_k».proof.Proof.Attn
public import proofs.«01_k».proof.Proof.Table

@[expose] public section

set_option maxRecDepth 16384
set_option maxHeartbeats 1000000

noncomputable section

namespace Cert.KernelIdeal.Sb

open Idealize.ShloMosaic Idealize.ShloMosaic.TcCoe Cert.KernelIdeal Cert.KernelIdeal.Gen
open VecWindow (window put)

variable {F : FTy → Type} [FloatOps F]

theorem window_congr {s : Shape} {α : Type} (x : s.Idx → α) {off off' : Fin s.rank → ℕ} (size : Fin s.rank → ℕ) (h : off = off')
    (inb : ∀ a, off a + size a ≤ s.size a) (inb' : ∀ a, off' a + size a ≤ s.size a) : window x off size inb = window x off' size inb' := by
  subst h; rfl

/-! ## The tiles -/

section tiles

variable (e : Ops F)

theorem q_inb {n : Nat} (hn : n < 16) : ∀ a, (![0, 0, n, 0, 0] : Fin 5 → Nat) a + S1x1x1x128x256.size a ≤ S1x1x16x128x256.size a := by
  intro a; fin_cases a
  · show 0 + 1 ≤ 1; omega
  · show 0 + 1 ≤ 1; omega
  · show n + 1 ≤ 16; omega
  · show 0 + 128 ≤ 128; omega
  · show 0 + 256 ≤ 256; omega

theorem k_inb {n : Nat} (hn : n < 16) : ∀ a, (![0, 256 * n, 0] : Fin 3 → Nat) a + S1x256x128.size a ≤ S1x4096x128.size a := by
  intro a; fin_cases a
  · show 0 + 1 ≤ 1; omega
  · show 256 * n + 256 ≤ 4096; omega
  · show 0 + 128 ≤ 128; omega

theorem r_inb {n h : Nat} (hn : n < 17) (hh : h < 2) : ∀ a, (![n, h, 0, 0] : Fin 4 → Nat) a + S1x1x8x256.size a ≤ S17x2x8x256.size a := by
  intro a; fin_cases a
  · show n + 1 ≤ 17; omega
  · show h + 1 ≤ 2; omega
  · show 0 + 8 ≤ 8; omega
  · show 0 + 256 ≤ 256; omega

def qT (n : Nat) (hn : n < 16) : Vec F S1x1x1x128x256 .bf16 := window e.Q ![0, 0, n, 0, 0] S1x1x1x128x256.size (q_inb hn)
def vT (n : Nat) (hn : n < 16) : Vec F S1x1x1x128x256 .bf16 := window e.V ![0, 0, n, 0, 0] S1x1x1x128x256.size (q_inb hn)
def kT (n : Nat) (hn : n < 16) : Vec F S1x256x128 .bf16 := window e.K ![0, 256 * n, 0] S1x256x128.size (k_inb hn)

/-- The mask and the weighted sum of a head of the pair. -/
def msk (h : Nat) : IVec S128x256 1 := if h = 0 then m0 else m1
def mixHead (h : Nat) (v : Vec F S1x1x1x128x256 .bf16) (w : Vec F S1x1x256x256 .bf16) : FVec F S64x256 .f32 := if h = 0 then mixHead0 v w else mixHead1 v w

/-- The logits of key tile `k` against query tile `q`, with the mask when `diag`. -/
def zTile (diag : Prop) [Decidable diag] (h q k : Nat) (hq : q < 16) (hk : k < 16) : Vec F S1x1x256x256 .f32 :=
  zput (if diag then dotHeadBias (msk h) (qT e q hq) (kT e k hk) e.B else dotHead (msk h) (qT e q hq) (kT e k hk))

/-- The logits of the `j`-th key tile of query tile `q`, from the diagonal's down. -/
def zz (h q j : Nat) (hq : q < 16) : Vec F S1x1x256x256 .f32 := zTile e (j = 0) h q (q - j) hq (by omega)

/-- The carried product after it. -/
def cc (h q : Nat) (hq : q < 16) : Nat → Vec F S1x1x8x256 .f32
  | 0 => rput (total (scanOf sub (zz e h q 0 hq)))
  | j + 1 => rput (mulf (rget (cc h q hq j)) (total (scanOf sub (zz e h q (j + 1) hq))))

/-- The weights of it. -/
def ww (h q : Nat) (hq : q < 16) : Nat → Vec F S1x1x256x256 .bf16
  | 0 => wput (keep (zz e h q 0 hq)) (after sub (zz e h q 0 hq))
  | j + 1 => wput (keep (zz e h q (j + 1) hq)) (mulf (after sub (zz e h q (j + 1) hq)) (rget (cc e h q hq j)))

/-- The sums after it. -/
def aa (h q : Nat) (hq : q < 16) : Nat → Vec F S1x1x64x256 .f32
  | 0 => aput (mixHead h (vT e (q - 0) (by omega)) (ww e h q hq 0))
  | j + 1 => aput (addf (aget (aa h q hq j)) (mixHead h (vT e (q - (j + 1)) (by omega)) (ww e h q hq (j + 1))))

end tiles

/-! ## Reads over writes -/

abbrev rW {α : Type} (R : S17x2x8x256.Idx → α) (n h : Nat) (hn : n < 17) (hh : h < 2) : S1x1x8x256.Idx → α := window R ![n, h, 0, 0] S1x1x8x256.size (r_inb hn hh)
abbrev aW {α : Type} (A : S17x2x64x256.Idx → α) (n h : Nat) (hn : n < 17) (hh : h < 2) : S1x1x64x256.Idx → α := window A (aOff n h) S1x1x64x256.size (aOff_inb hn hh)

section
variable {α : Type}

theorem rW_same (R : S17x2x8x256.Idx → α) (n h : Nat) (hn : n < 17) (hh : h < 2) (w : S1x1x8x256.Idx → α) : rW (put R ![n, h, 0, 0] S1x1x8x256.size w) n h hn hh = w :=
  VecWindow.window_put_same _ _ _ _ _
theorem rW_ne (R : S17x2x8x256.Idx → α) (n h n' h' : Nat) (hn : n < 17) (hh : h < 2) (w : S1x1x8x256.Idx → α) (hne : n ≠ n' ∨ h ≠ h') :
    rW (put R ![n', h', 0, 0] S1x1x8x256.size w) n h hn hh = rW R n h hn hh := by
  rcases hne with hne | hne
  · exact VecWindow.window_put_of_disjoint R ![n', h', 0, 0] S1x1x8x256.size ![n, h, 0, 0] S1x1x8x256.size (r_inb hn hh) w 0 (by show n + 1 ≤ n' ∨ n' + 1 ≤ n; omega)
  · exact VecWindow.window_put_of_disjoint R ![n', h', 0, 0] S1x1x8x256.size ![n, h, 0, 0] S1x1x8x256.size (r_inb hn hh) w 1 (by show h + 1 ≤ h' ∨ h' + 1 ≤ h; omega)

theorem aW_same (A : S17x2x64x256.Idx → α) (n h : Nat) (hn : n < 17) (hh : h < 2) (w : S1x1x64x256.Idx → α) : aW (put A ![n, h, 0, 0] S1x1x64x256.size w) n h hn hh = w :=
  VecWindow.window_put_same _ _ _ _ _
theorem aW_ne (A : S17x2x64x256.Idx → α) (n h n' h' : Nat) (hn : n < 17) (hh : h < 2) (w : S1x1x64x256.Idx → α) (hne : n ≠ n' ∨ h ≠ h') :
    aW (put A ![n', h', 0, 0] S1x1x64x256.size w) n h hn hh = aW A n h hn hh := by
  rcases hne with hne | hne
  · exact VecWindow.window_put_of_disjoint A ![n', h', 0, 0] S1x1x64x256.size ![n, h, 0, 0] S1x1x64x256.size (aOff_inb hn hh) w 0 (by show n + 1 ≤ n' ∨ n' + 1 ≤ n; omega)
  · exact VecWindow.window_put_of_disjoint A ![n', h', 0, 0] S1x1x64x256.size ![n, h, 0, 0] S1x1x64x256.size (aOff_inb hn hh) w 1 (by show h + 1 ≤ h' ∨ h' + 1 ≤ h; omega)

theorem getT_same (Z : S2x2x256x256.Idx → α) (s h : Nat) (hs : s < 2) (hh : h < 2) (w : S1x1x256x256.Idx → α) : getT (putT Z s h w) s h hs hh = w :=
  VecWindow.window_put_same _ _ _ _ _
theorem getT_ne (Z : S2x2x256x256.Idx → α) (s h s' h' : Nat) (hs : s < 2) (hh : h < 2) (w : S1x1x256x256.Idx → α) (hne : s ≠ s' ∨ h ≠ h') :
    getT (putT Z s' h' w) s h hs hh = getT Z s h hs hh := by
  rcases hne with hne | hne
  · exact VecWindow.window_put_of_disjoint Z (slot s' h') S1x1x256x256.size (slot s h) S1x1x256x256.size (slot_inb hs hh) w 0 (by show s + 1 ≤ s' ∨ s' + 1 ≤ s; omega)
  · exact VecWindow.window_put_of_disjoint Z (slot s' h') S1x1x256x256.size (slot s h) S1x1x256x256.size (slot_inb hs hh) w 1 (by show h + 1 ≤ h' ∨ h' + 1 ≤ h; omega)

/-- Two heads' tiles written one after the other, read back. -/
theorem getT_pair (Z : S2x2x256x256.Idx → α) (s : Nat) (hs : s < 2) (w : Nat → S1x1x256x256.Idx → α) (h : Nat) (hh : h < 2) :
    getT (putT (putT Z s 0 (w 0)) s 1 (w 1)) s h hs hh = w h := by
  obtain rfl | rfl : h = 0 ∨ h = 1 := by omega
  · rw [getT_ne _ _ _ _ _ _ _ _ (.inr (by omega)), getT_same]
  · rw [getT_same]

theorem getT_pair_ne (Z : S2x2x256x256.Idx → α) (s s' : Nat) (hs : s < 2) (h : Nat) (hh : h < 2) (w w' : S1x1x256x256.Idx → α) (hne : s ≠ s') :
    getT (putT (putT Z s' 0 w) s' 1 w') s h hs hh = getT Z s h hs hh := by
  rw [getT_ne _ _ _ _ _ _ _ _ (.inl hne), getT_ne _ _ _ _ _ _ _ _ (.inl hne)]

end

/-! ## A step's operands -/

section operands

variable (e : Ops F) (he : e.T = tabT)
include he

theorem word_eq (r n : Nat) (hr : r < 5) (hn : n < 144) : word e.T r n hr hn = item ⟨r, hr⟩ ⟨n, hn⟩ := by rw [he]; exact word_tabT r n hr hn

theorem qAt_eq (n : Nat) (hn : n < 144) : e.qAt n hn = qT e (Lq ⟨n, hn⟩) (L_lt ⟨n, hn⟩).1 :=
  window_congr _ _ (by rw [word_eq e he]; rfl) _ _

theorem vAt_eq (n : Nat) (hn : n < 144) : e.vAt n hn = vT e (Mk ⟨n, hn⟩) (M_le ⟨n, hn⟩).2 :=
  window_congr _ _ (by rw [word_eq e he]; rfl) _ _

omit he in
theorem k_off : ∀ n : Fin 144, (k0_off4 (item 1 n)) 1 = 256 * Lk n := by decide +kernel

theorem kAt_eq (n : Nat) (hn : n < 144) : e.kAt n hn = kT e (Lk ⟨n, hn⟩) (L_lt ⟨n, hn⟩).2 :=
  window_congr _ _ (by
    rw [word_eq e he]
    funext a
    fin_cases a
    · rfl
    · exact k_off ⟨n, hn⟩
    · rfl) _ _

theorem off11 (n : Nat) (hn : n < 144) : k0_off11 (word e.T 2 n (by omega) hn) = ![Wq ⟨n, hn⟩, 0, 0, 0] := by rw [word_eq e he]; rfl
theorem off12 (n : Nat) (hn : n < 144) : k0_off12 (word e.T 2 n (by omega) hn) = ![Wq ⟨n, hn⟩, 1, 0, 0] := by rw [word_eq e he]; rfl
theorem off8 (n : Nat) (hn : n < 144) : k0_off8 (word e.T 3 n (by omega) hn) = ![Mq ⟨n, hn⟩, 0, 0, 0] := by rw [word_eq e he]; rfl
theorem off9 (n : Nat) (hn : n < 144) : k0_off9 (word e.T 3 n (by omega) hn) = ![Mq ⟨n, hn⟩, 1, 0, 0] := by rw [word_eq e he]; rfl

theorem rAt0_eq (R : Vec F S17x2x8x256 .f32) (n : Nat) (hn : n < 144) : rAt0 R _ (e.words.r n hn) = rW R (Wq ⟨n, hn⟩) 0 (W_le ⟨n, hn⟩) (by omega) :=
  window_congr _ _ (off11 e he n hn) _ _
theorem rAt1_eq (R : Vec F S17x2x8x256 .f32) (n : Nat) (hn : n < 144) : rAt1 R _ (e.words.r n hn) = rW R (Wq ⟨n, hn⟩) 1 (W_le ⟨n, hn⟩) (by omega) :=
  window_congr _ _ (off12 e he n hn) _ _
theorem aAt0_eq (A : Vec F S17x2x64x256 .f32) (n : Nat) (hn : n < 144) : aAt0 A _ (e.words.o n hn) = aW A (Mq ⟨n, hn⟩) 0 (M_le ⟨n, hn⟩).1 (by omega) :=
  window_congr _ _ (off8 e he n hn) _ _
theorem aAt1_eq (A : Vec F S17x2x64x256 .f32) (n : Nat) (hn : n < 144) : aAt1 A _ (e.words.o n hn) = aW A (Mq ⟨n, hn⟩) 1 (M_le ⟨n, hn⟩).1 (by omega) :=
  window_congr _ _ (off9 e he n hn) _ _

/-! ## What a step writes, read back -/

/-- The logits of step `n`. -/
def zStep (n : Nat) (hn : n < 144) (h : Nat) : Vec F S1x1x256x256 .f32 := zTile e (n < 18) h (Lq ⟨n, hn⟩) (Lk ⟨n, hn⟩) (L_lt ⟨n, hn⟩).1 (L_lt ⟨n, hn⟩).2

omit he in
theorem zStep_def (n : Nat) (hn : n < 144) (h : Nat) : zStep e n hn h = zTile e (n < 18) h (Lq ⟨n, hn⟩) (Lk ⟨n, hn⟩) (L_lt ⟨n, hn⟩).1 (L_lt ⟨n, hn⟩).2 := rfl

theorem logitsDF_eq (Z : Vec F S2x2x256x256 .f32) (s n : Nat) (hn : n < 144) (h18 : n < 18) :
    e.logitsDF m0 m1 Z s n hn = putT (putT Z s 0 (zStep e n hn 0)) s 1 (zStep e n hn 1) := by
  unfold Ops.logitsDF
  rw [qAt_eq e he, kAt_eq e he]
  rw [zStep_def, zStep_def, zTile, zTile, if_pos h18, if_pos h18]
  rfl

theorem logitsF_eq (Z : Vec F S2x2x256x256 .f32) (s n : Nat) (hn : n < 144) (h18 : ¬ n < 18) :
    e.logitsF m0 m1 Z s n hn = putT (putT Z s 0 (zStep e n hn 0)) s 1 (zStep e n hn 1) := by
  unfold Ops.logitsF
  rw [qAt_eq e he, kAt_eq e he]
  rw [zStep_def, zStep_def, zTile, zTile, if_neg h18, if_neg h18]
  rfl

theorem carryDF_at (Z : Vec F S2x2x256x256 .f32) (R : Vec F S17x2x8x256 .f32) (s : Nat) (hs : s < 2) (n : Nat) (hn : n < 144) (h : Nat) (hh : h < 2) :
    rW (e.carryDF sub Z R s hs n hn) (Wq ⟨n, hn⟩) h (W_le ⟨n, hn⟩) hh = rput (total (scanOf sub (getT Z s h hs hh))) := by
  unfold Ops.carryDF
  rw [off11 e he, off12 e he]
  obtain rfl | rfl : h = 0 ∨ h = 1 := by omega
  · rw [rW_ne _ _ _ _ _ _ _ _ (.inr (by omega)), rW_same]
  · rw [rW_same]

theorem carryDF_ne (Z : Vec F S2x2x256x256 .f32) (R : Vec F S17x2x8x256 .f32) (s : Nat) (hs : s < 2) (n : Nat) (hn : n < 144) (q h : Nat) (hq : q < 17) (hh : h < 2)
    (hne : q ≠ Wq ⟨n, hn⟩) : rW (e.carryDF sub Z R s hs n hn) q h hq hh = rW R q h hq hh := by
  unfold Ops.carryDF
  rw [off11 e he, off12 e he, rW_ne _ _ _ _ _ _ _ _ (.inl hne), rW_ne _ _ _ _ _ _ _ _ (.inl hne)]

theorem carryA_one (Z : Vec F S2x2x256x256 .f32) (R : Vec F S17x2x8x256 .f32) (s : Nat) (hs : s < 2) (n : Nat) (hn : n < 144) :
    rW (e.carryA sub Z R s hs n hn) (Wq ⟨n, hn⟩) 1 (W_le ⟨n, hn⟩) (by omega) = rW R (Wq ⟨n, hn⟩) 1 (W_le ⟨n, hn⟩) (by omega) := by
  unfold Ops.carryA
  rw [off11 e he, rW_ne _ _ _ _ _ _ _ _ (.inr (by omega))]

theorem carryF_at (Z : Vec F S2x2x256x256 .f32) (R : Vec F S17x2x8x256 .f32) (s : Nat) (hs : s < 2) (n : Nat) (hn : n < 144) (h : Nat) (hh : h < 2) :
    rW (e.carryF sub Z R s hs n hn) (Wq ⟨n, hn⟩) h (W_le ⟨n, hn⟩) hh
      = rput (mulf (rget (rW R (Wq ⟨n, hn⟩) h (W_le ⟨n, hn⟩) hh)) (total (scanOf sub (getT Z s h hs hh)))) := by
  unfold Ops.carryF
  rw [rAt1_eq e he, carryA_one e he, off12 e he]
  obtain rfl | rfl : h = 0 ∨ h = 1 := by omega
  · rw [rW_ne _ _ _ _ _ _ _ _ (.inr (by omega))]
    unfold Ops.carryA
    rw [rAt0_eq e he, off11 e he, rW_same]
  · rw [rW_same]

theorem carryF_ne (Z : Vec F S2x2x256x256 .f32) (R : Vec F S17x2x8x256 .f32) (s : Nat) (hs : s < 2) (n : Nat) (hn : n < 144) (q h : Nat) (hq : q < 17) (hh : h < 2)
    (hne : q ≠ Wq ⟨n, hn⟩) : rW (e.carryF sub Z R s hs n hn) q h hq hh = rW R q h hq hh := by
  unfold Ops.carryF
  rw [off12 e he, rW_ne _ _ _ _ _ _ _ _ (.inl hne)]
  unfold Ops.carryA
  rw [off11 e he, rW_ne _ _ _ _ _ _ _ _ (.inl hne)]

omit he in
theorem weightsDF_at (Z : Vec F S2x2x256x256 .f32) (W : Vec F S2x2x256x256 .bf16) (s : Nat) (hs : s < 2) (h : Nat) (hh : h < 2) :
    getT (weightsDF sub Z W s hs) s h hs hh = wput (keep (getT Z s h hs hh)) (after sub (getT Z s h hs hh)) := by
  unfold weightsDF
  obtain rfl | rfl : h = 0 ∨ h = 1 := by omega
  · rw [getT_ne _ _ _ _ _ _ _ _ (.inr (by omega)), getT_same]
  · rw [getT_same]

theorem weightsF_at (Z : Vec F S2x2x256x256 .f32) (W : Vec F S2x2x256x256 .bf16) (R : Vec F S17x2x8x256 .f32) (s : Nat) (hs : s < 2) (n : Nat) (hn : n < 144) (h : Nat) (hh : h < 2) :
    getT (e.weightsF sub Z W R s hs n hn) s h hs hh
      = wput (keep (getT Z s h hs hh)) (mulf (after sub (getT Z s h hs hh)) (rget (rW R (Wq ⟨n, hn⟩) h (W_le ⟨n, hn⟩) hh))) := by
  unfold Ops.weightsF
  rw [rAt0_eq e he, rAt1_eq e he, carryA_one e he]
  obtain rfl | rfl : h = 0 ∨ h = 1 := by omega
  · rw [getT_ne _ _ _ _ _ _ _ _ (.inr (by omega)), getT_same]
  · rw [getT_same]

theorem mixDF_at (W : Vec F S2x2x256x256 .bf16) (A : Vec F S17x2x64x256 .f32) (s : Nat) (hs : s < 2) (n : Nat) (hn : n < 144) (h : Nat) (hh : h < 2) :
    aW (e.mixDF W A s hs n hn) (Mq ⟨n, hn⟩) h (M_le ⟨n, hn⟩).1 hh = aput (mixHead h (vT e (Mk ⟨n, hn⟩) (M_le ⟨n, hn⟩).2) (getT W s h hs hh)) := by
  unfold Ops.mixDF
  rw [off8 e he, off9 e he, vAt_eq e he]
  obtain rfl | rfl : h = 0 ∨ h = 1 := by omega
  · rw [aW_ne _ _ _ _ _ _ _ _ (.inr (by omega)), aW_same]; rfl
  · rw [aW_same]; rfl

theorem mixDF_ne (W : Vec F S2x2x256x256 .bf16) (A : Vec F S17x2x64x256 .f32) (s : Nat) (hs : s < 2) (n : Nat) (hn : n < 144) (q h : Nat) (hq : q < 17) (hh : h < 2)
    (hne : q ≠ Mq ⟨n, hn⟩) : aW (e.mixDF W A s hs n hn) q h hq hh = aW A q h hq hh := by
  unfold Ops.mixDF
  rw [off8 e he, off9 e he, aW_ne _ _ _ _ _ _ _ _ (.inl hne), aW_ne _ _ _ _ _ _ _ _ (.inl hne)]

theorem mixF_at (W : Vec F S2x2x256x256 .bf16) (A : Vec F S17x2x64x256 .f32) (s : Nat) (hs : s < 2) (n : Nat) (hn : n < 144) (h : Nat) (hh : h < 2) :
    aW (e.mixF W A s hs n hn) (Mq ⟨n, hn⟩) h (M_le ⟨n, hn⟩).1 hh
      = aput (addf (aget (aW A (Mq ⟨n, hn⟩) h (M_le ⟨n, hn⟩).1 hh)) (mixHead h (vT e (Mk ⟨n, hn⟩) (M_le ⟨n, hn⟩).2) (getT W s h hs hh))) := by
  unfold Ops.mixF
  rw [aAt1_eq e he, off9 e he, vAt_eq e he]
  have hA : aW (e.mixA W A s hs n hn) (Mq ⟨n, hn⟩) 1 (M_le ⟨n, hn⟩).1 (by omega) = aW A (Mq ⟨n, hn⟩) 1 (M_le ⟨n, hn⟩).1 (by omega) := by
    unfold Ops.mixA
    rw [off8 e he, aW_ne _ _ _ _ _ _ _ _ (.inr (by omega))]
  rw [hA]
  obtain rfl | rfl : h = 0 ∨ h = 1 := by omega
  · rw [aW_ne _ _ _ _ _ _ _ _ (.inr (by omega))]
    unfold Ops.mixA
    rw [aAt0_eq e he, off8 e he, vAt_eq e he, aW_same]; rfl
  · rw [aW_same]; rfl

theorem mixF_ne (W : Vec F S2x2x256x256 .bf16) (A : Vec F S17x2x64x256 .f32) (s : Nat) (hs : s < 2) (n : Nat) (hn : n < 144) (q h : Nat) (hq : q < 17) (hh : h < 2)
    (hne : q ≠ Mq ⟨n, hn⟩) : aW (e.mixF W A s hs n hn) q h hq hh = aW A q h hq hh := by
  unfold Ops.mixF
  rw [off9 e he, aW_ne _ _ _ _ _ _ _ _ (.inl hne)]
  unfold Ops.mixA
  rw [off8 e he, aW_ne _ _ _ _ _ _ _ _ (.inl hne)]

end operands

end Cert.KernelIdeal.Sb
-- ==== Proof.Inv2.lean ====
/-
The invariant of the steps, and the sums the two phases leave.
-/
module

public import proofs.«01_k».proof.Proof.Inv

@[expose] public section

set_option maxRecDepth 16384
set_option maxHeartbeats 1000000

noncomputable section

namespace Cert.KernelIdeal.Sb

open Idealize.ShloMosaic Idealize.ShloMosaic.TcCoe Cert.KernelIdeal Cert.KernelIdeal.Gen
open VecWindow (window put)

variable {F : FTy → Type} [FloatOps F]

theorem zTile_congr (e : Ops F) {d d' : Prop} [Decidable d] [Decidable d'] (hd : d ↔ d') (h : Nat) {q q' k k' : Nat} (hq : q < 16) (hk : k < 16) (hq' : q' < 16) (hk' : k' < 16)
    (eq : q = q') (ek : k = k') : zTile e d h q k hq hk = zTile e d' h q' k' hq' hk' := by
  subst eq ek
  unfold zTile
  by_cases hd1 : d
  · rw [if_pos hd1, if_pos (hd.mp hd1)]
  · rw [if_neg hd1, if_neg (fun x => hd1 (hd.mpr x))]

theorem vT_congr (e : Ops F) {q q' : Nat} (h : q = q') (hq : q < 16) (hq' : q' < 16) : vT e q hq = vT e q' hq' := by
  subst h; rfl

theorem dW_succ (q n : Nat) (hn : n < 144) : dW q (n + 1) = dW q n + (if Wq ⟨n, hn⟩ = q then 1 else 0) := by
  rw [dW, dif_pos hn]

theorem dA_succ (q n : Nat) (hn : n < 144) : dA q (n + 1) = dA q n + (if Mq ⟨n, hn⟩ = q then 1 else 0) := by
  rw [dA, dif_pos hn]

/-- What holds after `n` steps. -/
structure Inv (e : Ops F) (x : St F) (n : Nat) : Prop where
  z : ∀ (t : Nat) (ht : t < 144), n = t + 1 → ∀ (h : Nat) (hh : h < 2), getT x.Z (t % 2) h (by omega) hh = zStep e t ht h
  w : ∀ (t : Nat) (ht : t < 144), n = t + 1 → ∀ (hq : Wq ⟨t, ht⟩ < 16) (h : Nat) (hh : h < 2),
    getT x.W (n % 2) h (by omega) hh = ww e h (Wq ⟨t, ht⟩) hq (dW (Wq ⟨t, ht⟩) t)
  r : ∀ (q : Nat) (hq : q < 16) (d : Nat), dW q n = d + 1 → ∀ (h : Nat) (hh : h < 2), rW x.R q h (by omega) hh = cc e h q hq d
  a : ∀ (q : Nat) (hq : q < 16) (d : Nat), dA q n = d + 1 → ∀ (h : Nat) (hh : h < 2), aW x.A q h (by omega) hh = aa e h q hq d

theorem inv_zero (e : Ops F) (x : St F) : Inv e x 0 where
  z := fun t _ h0 => absurd h0 (by omega)
  w := fun t _ h0 => absurd h0 (by omega)
  r := fun q _ d h0 => absurd h0 (by show (0 : Nat) ≠ _; omega)
  a := fun q _ d h0 => absurd h0 (by show (0 : Nat) ≠ _; omega)

section step

variable (e : Ops F) (he : e.T = tabT) (x : St F) (n : Nat) (hn : n < 144) (I : Inv e x n)
include he I

/-- The weights' operand at step `n`: the logits of its item. -/
theorem zz_at (Z' : Vec F S2x2x256x256 .f32) (w0 w1 : Vec F S1x1x256x256 .f32) (hZ : Z' = putT (putT x.Z (n % 2) 0 w0) (n % 2) 1 w1)
    (hq : Wq ⟨n, hn⟩ < 16) (h : Nat) (hh : h < 2) :
    getT Z' ((n + 1) % 2) h (by omega) hh = zz e h (Wq ⟨n, hn⟩) (dW (Wq ⟨n, hn⟩) n) hq := by
  subst hZ
  rw [getT_pair_ne _ _ _ _ _ _ _ _ (by omega)]
  obtain ⟨h1, hL, hK, hD, hO⟩ := W_item ⟨n, hn⟩ hq
  have h1' : 1 ≤ n := h1
  obtain ⟨t, rfl⟩ : ∃ t, n = t + 1 := ⟨n - 1, by omega⟩
  have hz := I.z t (by omega) rfl h hh
  have hm : (t + 1 + 1) % 2 = t % 2 := by omega
  have e1 : (⟨t + 1, hn⟩ - 1 : Fin 144) = ⟨t, by omega⟩ := by
    apply Fin.ext
    show (144 - 1 + (t + 1)) % 144 = t
    omega
  rw [e1] at hL hK
  have hz' : getT x.Z ((t + 1 + 1) % 2) h (by omega) hh = zStep e t (by omega) h := by
    rw [← hz]; congr 1
  rw [hz', zStep_def]
  unfold zz
  refine zTile_congr e ?_ h _ _ _ _ hL ?_
  · constructor
    · intro ht
      by_cases h18 : t + 1 < 18
      · exact hD h18
      · have := (hO (by show 18 ≤ t + 1; omega)).1
        have : 19 ≤ t + 1 := this
        omega
    · intro h0
      by_contra h18
      exact (hO (by show 18 ≤ t + 1; omega)).2 h0
  · have hK' : Lk ⟨t, by omega⟩ + dW (Wq ⟨t + 1, hn⟩) (t + 1) = Wq ⟨t + 1, hn⟩ := hK
    omega

/-- The sum's operand at step `n`: the weights of its item, and the values of its key tile. -/
theorem ww_at (hq : Mq ⟨n, hn⟩ < 16) (h : Nat) (hh : h < 2) :
    getT x.W (n % 2) h (by omega) hh = ww e h (Mq ⟨n, hn⟩) hq (dA (Mq ⟨n, hn⟩) n) := by
  obtain ⟨h2, hW, hK, hA, hD, hO, hdd⟩ := M_item ⟨n, hn⟩ hq
  have h2' : 2 ≤ n := h2
  obtain ⟨t, rfl⟩ : ∃ t, n = t + 1 := ⟨n - 1, by omega⟩
  have e1 : (⟨t + 1, hn⟩ - 1 : Fin 144) = ⟨t, by omega⟩ := by
    apply Fin.ext
    show (144 - 1 + (t + 1)) % 144 = t
    omega
  rw [e1] at hW hdd
  have hw := I.w t (by omega) rfl (by rw [hW]; exact hq) h hh
  rw [hw]
  have hd' : dW (Mq ⟨t + 1, hn⟩) t = dA (Mq ⟨t + 1, hn⟩) (t + 1) := hdd
  rw [← hd']
  congr 1 <;> first | exact hW | rw [hW] | simp only [hW]

end step

theorem inv_stepD (e : Ops F) (he : e.T = tabT) (x : St F) (n : Nat) (h18 : n < 18) (hn : n < 144) (I : Inv e x n) :
    Inv e (e.stepDF m0 m1 sub x (n % 2) ((n + 1) % 2) (by omega) (by omega) n hn) (n + 1) where
  z := fun t ht htn h hh => by
    obtain rfl : n = t := by omega
    show getT (e.logitsDF m0 m1 x.Z (n % 2) n hn) _ _ _ _ = _
    rw [logitsDF_eq e he _ _ _ _ h18]
    exact getT_pair _ _ _ (fun h => zStep e n hn h) h hh
  w := fun t ht htn hq h hh => by
    obtain rfl : n = t := by omega
    show getT (weightsDF sub (e.logitsDF m0 m1 x.Z (n % 2) n hn) x.W ((n + 1) % 2) _) _ _ _ _ = _
    rw [weightsDF_at, zz_at e he x n hn I _ _ _ (logitsDF_eq e he _ _ _ _ h18) hq h hh]
    rw [((W_item ⟨n, hn⟩ hq).2.2.2.1 h18)]
    rfl
  r := fun q hq d hd h hh => by
    show rW (e.carryDF sub (e.logitsDF m0 m1 x.Z (n % 2) n hn) x.R ((n + 1) % 2) _ n hn) q h _ _ = _
    rw [dW_succ q n hn] at hd
    by_cases hne : Wq ⟨n, hn⟩ = q
    · subst hne
      rw [if_pos rfl, (W_item ⟨n, hn⟩ hq).2.2.2.1 h18] at hd
      obtain rfl : d = 0 := by omega
      rw [carryDF_at e he, zz_at e he x n hn I _ _ _ (logitsDF_eq e he _ _ _ _ h18) hq h hh, (W_item ⟨n, hn⟩ hq).2.2.2.1 h18]
      rfl
    · rw [if_neg hne] at hd
      rw [carryDF_ne e he _ _ _ _ _ _ _ _ _ _ (Ne.symm hne)]
      exact I.r q hq d (by omega) h hh
  a := fun q hq d hd h hh => by
    show aW (e.mixDF x.W x.A (n % 2) _ n hn) q h _ _ = _
    rw [dA_succ q n hn] at hd
    by_cases hne : Mq ⟨n, hn⟩ = q
    · subst hne
      have hM := M_item ⟨n, hn⟩ hq
      have hz : dA (Mq ⟨n, hn⟩) n = 0 := hM.2.2.2.2.1 h18
      rw [if_pos rfl, hz] at hd
      obtain rfl : d = 0 := by omega
      rw [mixDF_at e he, ww_at e he x n hn I hq h hh, hz]
      have hk : Mk ⟨n, hn⟩ = Mq ⟨n, hn⟩ - 0 := by
        have h4 : Mk ⟨n, hn⟩ + dA (Mq ⟨n, hn⟩) n = Mq ⟨n, hn⟩ := hM.2.2.2.1
        omega
      rw [aa, vT_congr e hk]
    · rw [if_neg hne] at hd
      rw [mixDF_ne e he _ _ _ _ _ _ _ _ _ _ (Ne.symm hne)]
      exact I.a q hq d (by omega) h hh

theorem inv_step (e : Ops F) (he : e.T = tabT) (x : St F) (n : Nat) (h18 : ¬ n < 18) (hn : n < 144) (I : Inv e x n) :
    Inv e (e.stepF m0 m1 sub x (n % 2) ((n + 1) % 2) (by omega) (by omega) n hn) (n + 1) where
  z := fun t ht htn h hh => by
    obtain rfl : n = t := by omega
    show getT (e.logitsF m0 m1 x.Z (n % 2) n hn) _ _ _ _ = _
    rw [logitsF_eq e he _ _ _ _ h18]
    exact getT_pair _ _ _ (fun h => zStep e n hn h) h hh
  w := fun t ht htn hq h hh => by
    obtain rfl : n = t := by omega
    show getT (e.weightsF sub (e.logitsF m0 m1 x.Z (n % 2) n hn) x.W x.R ((n + 1) % 2) _ n hn) _ _ _ _ = _
    have hne : dW (Wq ⟨n, hn⟩) n ≠ 0 := ((W_item ⟨n, hn⟩ hq).2.2.2.2 (by show 18 ≤ n; omega)).2
    obtain ⟨d, hd⟩ : ∃ d, dW (Wq ⟨n, hn⟩) n = d + 1 := ⟨_, (Nat.succ_pred_eq_of_ne_zero hne).symm⟩
    rw [weightsF_at e he, zz_at e he x n hn I _ _ _ (logitsF_eq e he _ _ _ _ h18) hq h hh, I.r _ hq d hd h hh, hd]
    rfl
  r := fun q hq d hd h hh => by
    show rW (e.carryF sub (e.logitsF m0 m1 x.Z (n % 2) n hn) x.R ((n + 1) % 2) _ n hn) q h _ _ = _
    rw [dW_succ q n hn] at hd
    by_cases hne : Wq ⟨n, hn⟩ = q
    · subst hne
      have hne0 : dW (Wq ⟨n, hn⟩) n ≠ 0 := ((W_item ⟨n, hn⟩ hq).2.2.2.2 (by show 18 ≤ n; omega)).2
      rw [if_pos rfl] at hd
      obtain ⟨d', rfl⟩ : ∃ d', d = d' + 1 := ⟨d - 1, by omega⟩
      have hd' : dW (Wq ⟨n, hn⟩) n = d' + 1 := by omega
      rw [carryF_at e he, zz_at e he x n hn I _ _ _ (logitsF_eq e he _ _ _ _ h18) hq h hh, I.r _ hq d' hd' h hh, hd']
      rfl
    · rw [if_neg hne] at hd
      rw [carryF_ne e he _ _ _ _ _ _ _ _ _ _ (Ne.symm hne)]
      exact I.r q hq d (by omega) h hh
  a := fun q hq d hd h hh => by
    show aW (e.mixF x.W x.A (n % 2) _ n hn) q h _ _ = _
    rw [dA_succ q n hn] at hd
    by_cases hne : Mq ⟨n, hn⟩ = q
    · subst hne
      have hM := M_item ⟨n, hn⟩ hq
      have hz : dA (Mq ⟨n, hn⟩) n ≠ 0 := (hM.2.2.2.2.2.1 (by show 18 ≤ n; omega)).2
      rw [if_pos rfl] at hd
      obtain ⟨d', rfl⟩ : ∃ d', d = d' + 1 := ⟨d - 1, by omega⟩
      have hd' : dA (Mq ⟨n, hn⟩) n = d' + 1 := by omega
      rw [mixF_at e he, ww_at e he x n hn I hq h hh, I.a _ hq d' hd' h hh, hd']
      have hk : Mk ⟨n, hn⟩ = Mq ⟨n, hn⟩ - (d' + 1) := by
        have h4 : Mk ⟨n, hn⟩ + dA (Mq ⟨n, hn⟩) n = Mq ⟨n, hn⟩ := hM.2.2.2.1
        omega
      rw [aa, vT_congr e hk]
    · rw [if_neg hne] at hd
      rw [mixF_ne e he _ _ _ _ _ _ _ _ _ _ (Ne.symm hne)]
      exact I.a q hq d (by omega) h hh

theorem inv_run (e : Ops F) (he : e.T = tabT) : ∀ n, n ≤ 144 → Inv e (run0 e n) n
  | 0, _ => inv_zero e _
  | n + 1, h => by
    have hi := inv_run e he n (by omega)
    by_cases h18 : n < 18
    · show Inv e (e.run m0 m1 sub St.zero (n + 1)) (n + 1)
      rw [Ops.run_stepD _ _ _ e _ n h18]
      exact inv_stepD e he _ n h18 (by omega) hi
    · show Inv e (e.run m0 m1 sub St.zero (n + 1)) (n + 1)
      rw [Ops.run_step _ _ _ e _ n h18 (by omega)]
      exact inv_step e he _ n h18 (by omega) hi

/-- The sums at the end: query tile `q` has taken its key tiles `q, …, 0`. -/
theorem run_A (e : Ops F) (he : e.T = tabT) (q : Nat) (hq : q < 16) (h : Nat) (hh : h < 2) :
    aW (run0 e 144).A q h (by omega) hh = aa e h q hq q :=
  (inv_run e he 144 (le_refl _)).a q hq q (dA_end ⟨q, hq⟩) h hh

end Cert.KernelIdeal.Sb
-- ==== Proof.Tile.lean ====
/-
A tile's products and weights over the reals: with the kept shares of one query's keys given as a function
of the key, every product that the steps form is the product over a range of keys.
-/
module

public import proofs.«01_k».proof.Proof.Inv2
public import Idealize.ShloMosaic.Lib.Pointwise
public import Idealize.ShloMosaic.Lib.Pipeline.ValueKit

@[expose] public section

set_option maxRecDepth 16384
set_option maxHeartbeats 1000000

noncomputable section

namespace Cert.KernelIdeal.Sb

open Idealize.ShloMosaic Idealize.ShloMosaic.TcCoe Cert.KernelIdeal Cert.KernelIdeal.Gen

theorem row_lt {s i : ℕ} (hs : s < 8) (hi : i < 32) : 8 * i + s < 256 := by omega
theorem col_lt {h : ℕ} (hh : h < 2) (d : Fin 64) : 64 * h + d.val < 128 := by omega

/-- The product over the keys `a ≤ k < b`. -/
def seg (F : ℕ → ℝ) (a b : ℕ) : EReal := ((∏ k ∈ Finset.Ico a b, F k : ℝ) : EReal)

theorem seg_mul (F : ℕ → ℝ) {a b d : ℕ} (h1 : a ≤ b) (h2 : b ≤ d) : seg F a b * seg F b d = seg F a d := by
  unfold seg
  rw [← EReal.coe_mul, Finset.prod_Ico_consecutive F h1 h2]

theorem seg_mul' (F : ℕ → ℝ) {a b b' d : ℕ} (h1 : a ≤ b) (hb : b = b') (h2 : b ≤ d) : seg F a b * seg F b' d = seg F a d := by
  subst hb
  exact seg_mul F h1 h2

theorem seg_self (F : ℕ → ℝ) (a : ℕ) : seg F a a = 1 := by
  unfold seg
  rw [Finset.Ico_self, Finset.prod_empty]
  rfl

theorem seg_one (F : ℕ → ℝ) {a b : ℕ} (h : b = a + 1) : seg F a b = (F a : EReal) := by
  subst h
  unfold seg
  rw [Nat.Ico_succ_singleton, Finset.prod_singleton]

/-- Row `8 i + s` of column `c` is the kept share of key `B + 32 s + i`. -/
def IsTile (f : FVec Ideal S256x256 .f32) (F : ℕ → ℝ) (B : ℕ) (c : Fin 256) : Prop :=
  ∀ (s i : ℕ) (hs : s < 8) (hi : i < 32), f (ix2 ⟨8 * i + s, row_lt hs hi⟩ c) = (F (B + 32 * s + i) : EReal)

section

variable {f : FVec Ideal S256x256 .f32} {F : ℕ → ℝ} {B : ℕ} {c : Fin 256} (hf : IsTile f F B c)
include hf

theorem suf_seg (n : ℕ) (hn : n ≤ 31) (s : Fin 8) : suf f n (ix2 s c) = seg F (B + 32 * s + (31 - n)) (B + 32 * s + 32) := by
  induction n with
  | zero =>
    pointwise [suf]
    rw [seg_one F (by omega), show B + 32 * s.val + (31 - 0) = B + 32 * s.val + 31 by omega, ← hf s 31 s.isLt (by omega)]
    try congr 1
  | succ n ih =>
    pointwise [suf]
    rw [ih (by omega)]
    have h := hf s (31 - (n + 1)) s.isLt (by omega)
    refine (congrArg (· * _) (h.trans (seg_one F rfl).symm)).trans (seg_mul' F (by omega) (by omega) (by omega))

end

theorem lt1 : ∀ s : Fin 8, IntOp.cmpi CmpIPredicate.slt (IntOp.addi (BitVec.ofNat 32 s.val) 1#32) 8#32 = if s.val + 1 < 8 then 1#1 else 0#1 := by decide
theorem lt2 : ∀ s : Fin 8, IntOp.cmpi CmpIPredicate.slt (IntOp.addi (BitVec.ofNat 32 s.val) 2#32) 8#32 = if s.val + 2 < 8 then 1#1 else 0#1 := by decide
theorem lt4 : ∀ s : Fin 8, IntOp.cmpi CmpIPredicate.slt (IntOp.addi (BitVec.ofNat 32 s.val) 4#32) 8#32 = if s.val + 4 < 8 then 1#1 else 0#1 := by decide

/-- The rows `d` further on, or 1. -/
def upR (d : ℕ) (x : FVec Ideal S8x256 .f32) (s : Fin 8) (c : Fin 256) : EReal := if h : s.val + d < 8 then x (ix2 ⟨s.val + d, h⟩ c) else 1

theorem up1 (x : FVec Ideal S8x256 .f32) (s : Fin 8) (c : Fin 256) : up sub 1#32 7#32 x (ix2 s c) = upR 1 x s c := by
  pointwise [up, sub]
  rw [lt1, upR]
  by_cases h : s.val + 1 < 8
  · rw [if_pos h, dif_pos h]
    show x _ = _
    congr 2
    apply Fin.ext
    show (s.val + 8 - 7) % 8 = s.val + 1
    omega
  · rw [if_neg h, dif_neg h]; rfl

theorem up2 (x : FVec Ideal S8x256 .f32) (s : Fin 8) (c : Fin 256) : up sub 2#32 6#32 x (ix2 s c) = upR 2 x s c := by
  pointwise [up, sub]
  rw [lt2, upR]
  by_cases h : s.val + 2 < 8
  · rw [if_pos h, dif_pos h]
    show x _ = _
    congr 2
    apply Fin.ext
    show (s.val + 8 - 6) % 8 = s.val + 2
    omega
  · rw [if_neg h, dif_neg h]; rfl

theorem up4 (x : FVec Ideal S8x256 .f32) (s : Fin 8) (c : Fin 256) : up sub 4#32 4#32 x (ix2 s c) = upR 4 x s c := by
  pointwise [up, sub]
  rw [lt4, upR]
  by_cases h : s.val + 4 < 8
  · rw [if_pos h, dif_pos h]
    show x _ = _
    congr 2
    apply Fin.ext
    show (s.val + 8 - 4) % 8 = s.val + 4
    omega
  · rw [if_neg h, dif_neg h]; rfl

/-- One doubling of the rows' products. -/
theorem up_step {F : ℕ → ℝ} {B d : ℕ} {c : Fin 256} {x : FVec Ideal S8x256 .f32}
    (hx : ∀ s : Fin 8, x (ix2 s c) = seg F (B + 32 * s) (B + 32 * min (s.val + d) 8)) (s : Fin 8) :
    x (ix2 s c) * upR d x s c = seg F (B + 32 * s) (B + 32 * min (s.val + (d + d)) 8) := by
  have h8 := s.isLt
  rw [hx s, upR]
  by_cases h : s.val + d < 8
  · rw [dif_pos h, hx]
    exact (seg_mul' F (by omega) (by show _ = B + 32 * (s.val + d); omega) (by show _ ≤ B + 32 * min (s.val + d + d) 8; omega)).trans
      (by show seg F _ (B + 32 * min (s.val + d + d) 8) = _; congr 3; omega)
  · rw [dif_neg h, mul_one]
    congr 2
    omega

theorem mulf_ix (x y : FVec Ideal S8x256 .f32) (s : Fin 8) (c : Fin 256) : mulf x y (ix2 s c) = x (ix2 s c) * y (ix2 s c) := by
  pointwise

theorem subf_ix (x y : FVec Ideal S8x256 .f32) (s : Fin 8) (c : Fin 256) : subf x y (ix2 s c) = x (ix2 s c) - y (ix2 s c) := by
  pointwise

/-- The three doublings take each row's product to the product of the rows from it on. -/
theorem scan_seg {F : ℕ → ℝ} {B : ℕ} {c : Fin 256} {p : FVec Ideal S8x256 .f32}
    (h0 : ∀ s : Fin 8, p (ix2 s c) = seg F (B + 32 * s) (B + 32 * min (s.val + 1) 8)) (s : Fin 8) :
    scan sub p (ix2 s c) = seg F (B + 32 * s) (B + 256) := by
  have h1 : ∀ s : Fin 8, mulf p (up sub 1#32 7#32 p) (ix2 s c) = seg F (B + 32 * s) (B + 32 * min (s.val + 2) 8) := fun s => by
    rw [mulf_ix, up1]
    exact up_step h0 s
  unfold scan
  generalize mulf p (up sub 1#32 7#32 p) = x1 at h1 ⊢
  have h2 : ∀ s : Fin 8, mulf x1 (up sub 2#32 6#32 x1) (ix2 s c) = seg F (B + 32 * s) (B + 32 * min (s.val + 4) 8) := fun s => by
    rw [mulf_ix, up2]
    exact up_step h1 s
  generalize mulf x1 (up sub 2#32 6#32 x1) = x2 at h2 ⊢
  rw [mulf_ix, up4, up_step h2 s]
  have := s.isLt
  congr 1
  omega

section

variable {z : Vec Ideal S1x1x256x256 .f32} {F : ℕ → ℝ} {B : ℕ} {c : Fin 256} (hf : IsTile (keep z) F B c)
include hf

theorem scanOf_seg (s : Fin 8) : scanOf sub z (ix2 s c) = seg F (B + 32 * s) (B + 256) := by
  unfold scanOf
  refine scan_seg (fun s => ?_) s
  have := s.isLt
  rw [suf_seg hf 31 (le_refl _)]
  congr 1
  omega

theorem after_seg (s : Fin 8) : after sub z (ix2 s c) = seg F (B + 32 * s + 32) (B + 256) := by
  unfold after
  rw [up1, upR]
  have := s.isLt
  by_cases h : s.val + 1 < 8
  · rw [dif_pos h, scanOf_seg hf]
    congr 1
  · rw [dif_neg h, ← seg_self F (B + 256)]
    congr 1
    omega

theorem total_seg (s : Fin 8) : total (scanOf sub z) (ix2 s c) = seg F B (B + 256) := by
  have h : total (scanOf sub z) (ix2 s c) = scanOf sub z (ix2 0 c) := by
    pointwise [total]
  rw [h, scanOf_seg hf]
  rfl

/-- With `g` the product of the keys past the tile's row up to `T`, an edge is the product from the key on. -/
theorem edge_seg {g : FVec Ideal S8x256 .f32} {T : ℕ} (hT : B + 256 ≤ T) (s : Fin 8) (hg : g (ix2 s c) = seg F (B + 32 * s + 32) T)
    (n : ℕ) (hn : n ≤ 32) : edge (keep z) g n (ix2 s c) = seg F (B + 32 * s + (32 - n)) T := by
  have := s.isLt
  cases n with
  | zero => rw [edge, hg]
  | succ n =>
    rw [edge, mulf_ix, suf_seg hf n (by omega), hg, seg_mul F (by omega) (by omega)]
    congr 1
    omega

theorem wput_seg {g : FVec Ideal S8x256 .f32} {T : ℕ} (hT : B + 256 ≤ T) (hg : ∀ s : Fin 8, g (ix2 s c) = seg F (B + 32 * s + 32) T)
    (s i : ℕ) (hs : s < 8) (hi : i < 32) :
    wput (keep z) g (ix4 0 0 ⟨8 * i + s, row_lt hs hi⟩ c) = seg F (B + 32 * s + i + 1) T - seg F (B + 32 * s + i) T := by
  have h : wput (keep z) g (ix4 0 0 ⟨8 * i + s, row_lt hs hi⟩ c) = wtile (keep z) g (ix2 ⟨8 * i + s, row_lt hs hi⟩ c) := by
    pointwise [wput]
  have h' : wtile (keep z) g (ix2 ⟨8 * i + s, row_lt hs hi⟩ c) = diffs (keep z) g i (ix2 ⟨s, hs⟩ c) :=
    concatenate_ofFn_apply (t := S256x256) (s₁ := S8x256) (0 : Fin 2) (N := 32) (fun i : Fin 32 => diffs (keep z) g i.val) _ rfl 8 rfl _ ⟨i, hi⟩
      (by show (8 * i + s) / 8 = i; omega) _ (by show s = (8 * i + s) % 8; omega)
      (fun b hb => by
        fin_cases b
        · exact absurd rfl hb
        · rfl)
  rw [h, h', diffs, subf_ix, edge_seg hf hT ⟨s, hs⟩ (hg _) _ (by omega), edge_seg hf hT ⟨s, hs⟩ (hg _) _ (by omega)]
  congr 2 <;> (show _ + 32 * s + _ = _; omega)

end

end Cert.KernelIdeal.Sb
-- ==== Proof.Query.lean ====
/-
One query's sums over its key tiles, from the kept shares of its keys.
-/
module

public import proofs.«01_k».proof.Proof.Tile

@[expose] public section

set_option maxRecDepth 16384
set_option maxHeartbeats 1000000

noncomputable section

namespace Cert.KernelIdeal.Sb

open Idealize.ShloMosaic Idealize.ShloMosaic.TcCoe Cert.KernelIdeal Cert.KernelIdeal.Gen

/-- A sum over a tile's rows is the sum over its keys. -/
theorem sum_tile (B : ℕ) (G : Fin 256 → EReal) (g : ℕ → EReal)
    (hG : ∀ (s i : ℕ) (hs : s < 8) (hi : i < 32), G ⟨8 * i + s, row_lt hs hi⟩ = g (B + 32 * s + i)) :
    ∑ r, G r = ∑ k ∈ Finset.Ico B (B + 256), g k := by
  refine Finset.sum_bij (fun r _ => B + 32 * (r.val % 8) + r.val / 8) (fun r _ => ?_) (fun r _ r' _ h => ?_) (fun k hk => ?_) (fun r _ => ?_)
  · have := r.isLt
    rw [Finset.mem_Ico]
    omega
  · have := r.isLt
    have := r'.isLt
    apply Fin.ext
    have h' : B + 32 * (r.val % 8) + r.val / 8 = B + 32 * (r'.val % 8) + r'.val / 8 := h
    omega
  · rw [Finset.mem_Ico] at hk
    exact ⟨⟨8 * ((k - B) % 32) + (k - B) / 32, by omega⟩, Finset.mem_univ _, by
      show B + 32 * ((8 * ((k - B) % 32) + (k - B) / 32) % 8) + (8 * ((k - B) % 32) + (k - B) / 32) / 8 = k
      omega⟩
  · have := r.isLt
    rw [← hG (r.val % 8) (r.val / 8) (by omega) (by omega)]
    congr 1
    apply Fin.ext
    show r.val = 8 * (r.val / 8) + r.val % 8
    omega

/-- Row `d` of a head's half of the values' tile. -/
theorem mixHead_ix (h : ℕ) (hh : h < 2) (v : Vec Ideal S1x1x1x128x256 .bf16) (w : Vec Ideal S1x1x256x256 .bf16) (d : Fin 64) (c : Fin 256) :
    mixHead h v w (ix2 d c) = ∑ r : Fin 256, v (ix5 0 0 0 ⟨64 * h + d.val, col_lt hh d⟩ r) * w (ix4 0 0 r c) := by
  obtain rfl | rfl : h = 0 ∨ h = 1 := by omega
  · show mixHead0 v w (ix2 d c) = _
    pointwise [mixHead0]
    try rfl
  · show mixHead1 v w (ix2 d c) = _
    pointwise [mixHead1]
    try rfl

section

variable (e : Ops Ideal) (h q : ℕ) (hh : h < 2) (hq : q < 16) (c : Fin 256) (F : ℕ → ℝ)
  (hF : ∀ j ≤ q, IsTile (keep (zz e h q j hq)) F (256 * (q - j)) c)
include hF

theorem cc_seg (j : ℕ) (hj : j ≤ q) (s : Fin 8) : cc e h q hq j (ix4 0 0 s c) = seg F (256 * (q - j)) (256 * (q + 1)) := by
  induction j with
  | zero =>
    have h1 : cc e h q hq 0 (ix4 0 0 s c) = total (scanOf sub (zz e h q 0 hq)) (ix2 s c) := by
      pointwise [cc, rput]
    rw [h1, total_seg (hF 0 hj)]
    congr 1
  | succ j ih =>
    have h1 : cc e h q hq (j + 1) (ix4 0 0 s c) = cc e h q hq j (ix4 0 0 s c) * total (scanOf sub (zz e h q (j + 1) hq)) (ix2 s c) := by
      rw [cc]
      pointwise [rput, rget]
    rw [h1, ih (by omega), total_seg (hF (j + 1) hj), mul_comm]
    exact seg_mul' F (by omega) (by omega) (by omega)

theorem ww_seg (j : ℕ) (hj : j ≤ q) (s i : ℕ) (hs : s < 8) (hi : i < 32) :
    ww e h q hq j (ix4 0 0 ⟨8 * i + s, row_lt hs hi⟩ c)
      = seg F (256 * (q - j) + 32 * s + i + 1) (256 * (q + 1)) - seg F (256 * (q - j) + 32 * s + i) (256 * (q + 1)) := by
  cases j with
  | zero =>
    refine wput_seg (hF 0 hj) (by omega) (fun s => ?_) s i hs hi
    rw [after_seg (hF 0 hj)]
    congr 1
  | succ j =>
    refine wput_seg (hF (j + 1) hj) (by omega) (fun s => ?_) s i hs hi
    have := s.isLt
    have h1 : rget (cc e h q hq j) (ix2 s c) = cc e h q hq j (ix4 0 0 s c) := by
      pointwise [rget]
    rw [mulf_ix, h1, after_seg (hF (j + 1) hj), cc_seg e h q hq c F hF j (by omega)]
    exact seg_mul' F (by omega) (by omega) (by omega)

variable (d : Fin 64) (V : ℕ → EReal)
  (hV : ∀ (n : ℕ) (hn : n < 16) (s i : ℕ) (hs : s < 8) (hi : i < 32), vT e n hn (ix5 0 0 0 ⟨64 * h + d.val, col_lt hh d⟩ ⟨8 * i + s, row_lt hs hi⟩) = V (256 * n + 32 * s + i))
include hV

theorem mix_seg (j : ℕ) (hj : j ≤ q) :
    mixHead h (vT e (q - j) (by omega)) (ww e h q hq j) (ix2 d c)
      = ∑ k ∈ Finset.Ico (256 * (q - j)) (256 * (q - j) + 256), V k * (seg F (k + 1) (256 * (q + 1)) - seg F k (256 * (q + 1))) := by
  rw [mixHead_ix h hh]
  refine sum_tile (256 * (q - j)) _ (fun k => V k * (seg F (k + 1) (256 * (q + 1)) - seg F k (256 * (q + 1)))) fun s i hs hi => ?_
  exact congrArg₂ (· * ·) (hV _ _ s i hs hi) (ww_seg e h q hq c F hF j hj s i hs hi)

/-- After key tile `j` the sum is over the keys from its first on. -/
theorem aa_seg (j : ℕ) (hj : j ≤ q) :
    aa e h q hq j (ix4 0 0 d c)
      = ∑ k ∈ Finset.Ico (256 * (q - j)) (256 * (q + 1)), V k * (seg F (k + 1) (256 * (q + 1)) - seg F k (256 * (q + 1))) := by
  induction j with
  | zero =>
    have h1 : aa e h q hq 0 (ix4 0 0 d c) = mixHead h (vT e (q - 0) (by omega)) (ww e h q hq 0) (ix2 d c) := by
      rw [aa]
      pointwise [aput]
    rw [h1, mix_seg e h q hh hq c F hF d V hV 0 hj]
    rfl
  | succ j ih =>
    have h1 : aa e h q hq (j + 1) (ix4 0 0 d c)
        = aa e h q hq j (ix4 0 0 d c) + mixHead h (vT e (q - (j + 1)) (by omega)) (ww e h q hq (j + 1)) (ix2 d c) := by
      rw [aa]
      pointwise [aput, aget]
    rw [h1, ih (by omega), mix_seg e h q hh hq c F hF d V hV (j + 1) hj, add_comm,
      show 256 * (q - j) = 256 * (q - (j + 1)) + 256 by omega]
    exact Finset.sum_Ico_consecutive _ (by omega) (by omega)

end

end Cert.KernelIdeal.Sb
-- ==== Proof.Logit.lean ====
/-
The logits and the kept shares of a tile, from real queries and keys.
-/
module

public import proofs.«01_k».proof.Proof.Query

@[expose] public section

set_option maxRecDepth 16384
set_option maxHeartbeats 1000000

noncomputable section

namespace Cert.KernelIdeal.Sb

open Idealize.ShloMosaic Idealize.ShloMosaic.TcCoe Cert.KernelIdeal Cert.KernelIdeal.Gen

def halfOf (d : Fin 128) (n : BitVec 32) : BitVec 1 :=
  IntOp.cmpi CmpIPredicate.eq
      (Scalar.select
        (IntOp.andi
          (IntOp.cmpi CmpIPredicate.ne
            (IntOp.subi (BitVec.setWidth 32 (IntOp.cmpi CmpIPredicate.sgt (BitVec.ofNat 32 d.val) 0#32))
              (BitVec.setWidth 32 (IntOp.cmpi CmpIPredicate.slt (BitVec.ofNat 32 d.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 d.val) 64#32) 0#32))
        (IntOp.subi (IntOp.divsi ArithUnit.vector (BitVec.ofNat 32 d.val) 64#32) 1#32)
        (IntOp.divsi ArithUnit.vector (BitVec.ofNat 32 d.val) 64#32))
      n

theorem half0 : ∀ d : Fin 128, halfOf d 0#32 = if d.val < 64 then 1#1 else 0#1 := by decide +kernel
theorem half1 : ∀ d : Fin 128, halfOf d 1#32 = if d.val < 64 then 0#1 else 1#1 := by decide +kernel

theorem m0_ix (d : Fin 128) (c : Fin 256) : m0 (ix2 d c) = if d.val < 64 then 1#1 else 0#1 := by
  refine Eq.trans ?_ (half0 d)
  pointwise [m0, k0_pay1941]
  rfl

theorem m1_ix (d : Fin 128) (c : Fin 256) : m1 (ix2 d c) = if d.val < 64 then 0#1 else 1#1 := by
  refine Eq.trans ?_ (half1 d)
  pointwise [m1, k0_pay1945, k0_pay1944, k0_pay1943, k0_pay1942]
  rfl

theorem dotHead_ix (h : ℕ) (hh : h < 2) (q : Vec Ideal S1x1x1x128x256 .bf16) (k : Vec Ideal S1x256x128 .bf16) (r c : Fin 256) :
    dotHead (msk h) q k (ix2 r c) = ∑ d : Fin 64, k (ix3 0 r ⟨64 * h + d.val, col_lt hh d⟩) * q (ix5 0 0 0 ⟨64 * h + d.val, col_lt hh d⟩ c) := by
  have h1 : dotHead (msk h) q k (ix2 r c) = ∑ x : Fin 128, Scalar.select (msk h (ix2 x c)) (k (ix3 0 r x) * q (ix5 0 0 0 x c)) 0 := by
    pointwise [dotHead]
  rw [h1, Fin.sum_univ_two_halves 64 64 rfl]
  obtain rfl | rfl : h = 0 ∨ h = 1 := by omega
  · refine (congrArg₂ (· + ·) (Finset.sum_congr rfl fun d _ => ?_) (Finset.sum_eq_zero fun d _ => ?_)).trans (add_zero _)
    · show Scalar.select (m0 (ix2 _ c)) _ _ = _
      rw [m0_ix, if_pos (by show d.val < 64; omega)]
      show k _ * q _ = _
      have e : (⟨d.val, by omega⟩ : Fin 128) = ⟨64 * 0 + d.val, by omega⟩ := Fin.ext (by show d.val = 64 * 0 + d.val; omega)
      rw [e]
    · show Scalar.select (m0 (ix2 _ c)) _ _ = _
      rw [m0_ix, if_neg (by show ¬ 64 + d.val < 64; omega)]
      rfl
  · refine (congrArg₂ (· + ·) (Finset.sum_eq_zero fun d _ => ?_) (Finset.sum_congr rfl fun d _ => ?_)).trans (zero_add _)
    · show Scalar.select (m1 (ix2 _ c)) _ _ = _
      rw [m1_ix, if_pos (by show d.val < 64; omega)]
      rfl
    · show Scalar.select (m1 (ix2 _ c)) _ _ = _
      rw [m1_ix, if_neg (by show ¬ 64 + d.val < 64; omega)]
      rfl

theorem keep_ix (z : Vec Ideal S1x1x256x256 .f32) (r c : Fin 256) : keep z (ix2 r c) = Ideal.div 1 (1 + Ideal.exp2 (z (ix4 0 0 r c))) := by
  pointwise [keep]
  rfl

theorem share_coe (x : ℝ) : Ideal.div 1 (1 + Ideal.exp2 (x : EReal)) = ((1 / (1 + Real.rpow 2 x) : ℝ) : EReal) := by
  have hp : (0 : ℝ) < Real.rpow 2 x := Real.rpow_pos_of_pos (by norm_num) x
  rw [Ideal.exp2_coe, show (1 : EReal) + ((Real.rpow 2 x : ℝ) : EReal) = ((1 + Real.rpow 2 x : ℝ) : EReal) from (EReal.coe_add 1 _).symm,
    Ideal.div_coe (by positivity), one_mul]

theorem share_bot : Ideal.div 1 (1 + Ideal.exp2 (⊥ : EReal)) = 1 := by
  rw [Ideal.exp2_bot, add_zero]
  have := Ideal.div_coe (y := 1) one_ne_zero 1
  rw [EReal.coe_one] at this
  rw [this, one_mul, one_div_one, EReal.coe_one]

/-- A query's logit against key `k`. -/
def zlog (kr : ℕ → Fin 64 → ℝ) (qr : Fin 64 → ℝ) (k : ℕ) : ℝ := (∑ d, qr d * kr k d) * (1 / 8)

/-- The share of what remains that key `k` leaves: all of it from the query's own position on. -/
def left (z : ℕ → ℝ) (p k : ℕ) : ℝ := if k < p then 1 / (1 + Real.exp (z k)) else 1

theorem rpow_scaled (x : ℝ) : Real.rpow 2 (x * ((1 / 8) / Real.log 2)) = Real.exp (x * (1 / 8)) := by
  have hl : Real.log 2 ≠ 0 := (Real.log_pos (by norm_num)).ne'
  show (2 : ℝ) ^ (x * ((1 / 8) / Real.log 2)) = _
  rw [Real.rpow_def_of_pos (by norm_num)]
  congr 1
  field_simp

section

variable (e : Ops Ideal) (h q : ℕ) (hh : h < 2) (hq : q < 16) (c : Fin 256) (kr : ℕ → Fin 64 → ℝ) (qr : Fin 64 → ℝ)
  (hK : ∀ (n : ℕ) (hn : n < 16) (s i : ℕ) (hs : s < 8) (hi : i < 32) (d : Fin 64),
    kT e n hn (ix3 0 ⟨8 * i + s, row_lt hs hi⟩ ⟨64 * h + d.val, col_lt hh d⟩) = (kr (256 * n + 32 * s + i) d : EReal))
  (hQ : ∀ d : Fin 64, qT e q hq (ix5 0 0 0 ⟨64 * h + d.val, col_lt hh d⟩ c) = ((qr d * ((1 / 8) / Real.log 2) : ℝ) : EReal))
  (hB : ∀ (s i : ℕ) (hs : s < 8) (hi : i < 32), e.B (ix2 ⟨8 * i + s, row_lt hs hi⟩ c) = if 32 * s + i < c.val then (0 : EReal) else ⊥)
include hK hQ

theorem dotHead_val (n : ℕ) (hn : n < 16) (s i : ℕ) (hs : s < 8) (hi : i < 32) :
    dotHead (msk h) (qT e q hq) (kT e n hn) (ix2 ⟨8 * i + s, row_lt hs hi⟩ c)
      = ((((∑ d, qr d * kr (256 * n + 32 * s + i) d) * ((1 / 8) / Real.log 2) : ℝ)) : EReal) := by
  rw [dotHead_ix h hh]
  have h1 : ∀ d : Fin 64, kT e n hn (ix3 0 ⟨8 * i + s, row_lt hs hi⟩ ⟨64 * h + d.val, col_lt hh d⟩) * qT e q hq (ix5 0 0 0 ⟨64 * h + d.val, col_lt hh d⟩ c)
      = ((qr d * kr (256 * n + 32 * s + i) d * ((1 / 8) / Real.log 2) : ℝ) : EReal) := fun d => by
    refine (congrArg₂ (· * ·) (hK n hn s i hs hi d) (hQ d)).trans ?_
    rw [← EReal.coe_mul]
    congr 1
    ring
  refine (Finset.sum_congr rfl fun d _ => h1 d).trans ?_
  rw [Finset.sum_mul]
  exact (map_sum (⟨⟨fun x : ℝ => (x : EReal), EReal.coe_zero⟩, EReal.coe_add⟩ : ℝ →+ EReal) _ _).symm

include hB

theorem left_tile (j : ℕ) (hj : j ≤ q) : IsTile (keep (zz e h q j hq)) (left (zlog kr qr) (256 * q + c.val)) (256 * (q - j)) c := by
  intro s i hs hi
  rw [keep_ix]
  have hd := dotHead_val e h q hh hq c kr qr hK hQ (q - j) (by omega) s i hs hi
  have hc := c.isLt
  by_cases hj0 : j = 0
  · subst hj0
    have h1 : zz e h q 0 hq (ix4 0 0 ⟨8 * i + s, row_lt hs hi⟩ c)
        = dotHead (msk h) (qT e q hq) (kT e (q - 0) (by omega)) (ix2 ⟨8 * i + s, row_lt hs hi⟩ c) + e.B (ix2 ⟨8 * i + s, row_lt hs hi⟩ c) := by
      unfold zz zTile
      rw [if_pos rfl]
      pointwise [zput, dotHeadBias]
    rw [h1, hd, hB s i hs hi, left]
    by_cases hlt : 32 * s + i < c.val
    · rw [if_pos hlt, add_zero, share_coe, rpow_scaled, if_pos (by omega)]
      rfl
    · rw [if_neg hlt, EReal.add_bot, share_bot, if_neg (by omega)]
      rfl
  · have h1 : zz e h q j hq (ix4 0 0 ⟨8 * i + s, row_lt hs hi⟩ c)
        = dotHead (msk h) (qT e q hq) (kT e (q - j) (by omega)) (ix2 ⟨8 * i + s, row_lt hs hi⟩ c) := by
      unfold zz zTile
      rw [if_neg hj0]
      pointwise [zput]
    rw [h1, hd, left, share_coe, rpow_scaled, if_pos (by omega)]
    rfl

end

end Cert.KernelIdeal.Sb
-- ==== Proof.Blocks.lean ====
/-
The operands of the call at an index, from the arguments, and the result's array from its blocks.
-/
module

public import proofs.«01_k».proof.Proof.Logit
public import proofs.«01_k».proof.Proof.Launch
public import Idealize.ShloMosaic.Lib.Pipeline.Covers

@[expose] public section

set_option maxRecDepth 16384
set_option maxHeartbeats 1000000

noncomputable section

namespace Cert.KernelIdeal.Sb

open Idealize.ShloMosaic Idealize.ShloMosaic.TcCoe Cert.KernelIdeal Cert.KernelIdeal.Gen
open Idealize.SL.Sem
open VecWindow (window put)

variable (m : (ℓ : Loc nD τ sig) → Buf (Elt Ideal) ℓ) (c : Dev nD)

/-- The queries, keys and values. -/
abbrev aQ : S8x4096x512.Idx → EReal := m (c, Proc.tc.devRef main_arg0)
abbrev aK : S8x4096x512.Idx → EReal := m (c, Proc.tc.devRef main_arg1)
abbrev aV : S8x4096x512.Idx → EReal := m (c, Proc.tc.devRef main_arg2)

theorem V_q (b : Fin 8) (p : Fin 4) (n : Fin 16) (d : Fin 128) (r : Fin 256) :
    V m c main_v6 (ix5 b p n d r) = aQ m c (ix3 b ⟨n.val * 256 + r.val, by omega⟩ ⟨p.val * 128 + d.val, by omega⟩)
      * Ideal.div (Ideal.ofBits FTy.f32 1040187392#32) (Ideal.log (Ideal.ofBits FTy.f32 1073741824#32)) := by
  unfold V
  after_reads_simp
  pointwise

theorem V_k (b : Fin 8) (n : Fin 4096) (d : Fin 512) :
    V m c main_v10 (ix3 b n d) = aK m c (ix3 b ⟨n.val / 256 * 256 + n.val % 8 * 32 + n.val / 8 % 32, by omega⟩ d) := by
  unfold V
  after_reads_simp
  pointwise

theorem V_v (b : Fin 8) (p : Fin 4) (n : Fin 16) (d : Fin 128) (r : Fin 256) :
    V m c main_v15 (ix5 b p n d r) = aV m c (ix3 b ⟨n.val * 256 + r.val % 8 * 32 + r.val / 8, by omega⟩ ⟨p.val * 128 + d.val, by omega⟩) := by
  unfold V
  after_reads_simp
  pointwise

theorem V_b (r q : Fin 256) :
    V m c main_v27 (ix2 r q) = Scalar.select (IntOp.cmpi CmpIPredicate.slt (BitVec.ofNat 32 (r.val % 8 * 32 + r.val / 8)) (BitVec.ofNat 32 q.val)) (0 : EReal)
      (Ideal.ofBits FTy.f32 4286578688#32) := by
  unfold V
  after_reads_simp
  pointwise

/-! ## The blocks -/

theorem idx0 (t : Fin grid0.N) : (pcfg0.win (adm m) 0).index t = ![t.val / 4, t.val % 4, 0, 0, 0] := by
  revert t
  have h : ∀ t : Fin grid0.N, cc0_transform_0 (grid0.coords t) = ![t.val / 4, t.val % 4, 0, 0, 0] := by decide +kernel
  exact h
theorem idx1 (t : Fin grid0.N) : (pcfg0.win (adm m) 1).index t = ![t.val / 4, 0, t.val % 4] := by
  revert t
  have h : ∀ t : Fin grid0.N, cc0_transform_1 (grid0.coords t) = ![t.val / 4, 0, t.val % 4] := by decide +kernel
  exact h
theorem idx2 (t : Fin grid0.N) : (pcfg0.win (adm m) 2).index t = ![t.val / 4, t.val % 4, 0, 0, 0] := by
  revert t
  have h : ∀ t : Fin grid0.N, cc0_transform_2 (grid0.coords t) = ![t.val / 4, t.val % 4, 0, 0, 0] := by decide +kernel
  exact h
theorem idx3 (t : Fin grid0.N) : (pcfg0.win (adm m) 3).index t = ![0, 0] := by
  revert t
  have h : ∀ t : Fin grid0.N, cc0_transform_3 (grid0.coords t) = ![0, 0] := by decide +kernel
  exact h
theorem idx4 (t : Fin grid0.N) : (pcfg0.win (adm m) 4).index t = ![t.val / 4, 0, t.val % 4] := by
  revert t
  have h : ∀ t : Fin grid0.N, cc0_transform_4 (grid0.coords t) = ![t.val / 4, 0, t.val % 4] := by decide +kernel
  exact h

theorem N32 (t : Fin grid0.N) : t.val < 32 := t.isLt

theorem ops_Q (t : Fin grid0.N) (n : Fin 16) (d : Fin 128) (r : Fin 256) :
    (ops m c t).Q (ix5 0 0 n d r) = V m c main_v6 (ix5 ⟨t.val / 4, by have := N32 t; omega⟩ ⟨t.val % 4, by omega⟩ n d r) := by
  show iblk m c 0 t (ix5 0 0 n d r) = _
  blk_simp [iblk]
  blk_ext
  case «0» => exact congrArg (· + 0) (congrFun (idx0 m t) 0)
  case «1» => exact congrArg (· + 0) (congrFun (idx0 m t) 1)
  case «2» => exact (congrArg (· * 16 + n.val) (congrFun (idx0 m t) 2)).trans (by show 0 * 16 + n.val = n.val; omega)
  case «3» => exact (congrArg (· * 128 + d.val) (congrFun (idx0 m t) 3)).trans (by show 0 * 128 + d.val = d.val; omega)
  case «4» => exact (congrArg (· * 256 + r.val) (congrFun (idx0 m t) 4)).trans (by show 0 * 256 + r.val = r.val; omega)

theorem ops_V (t : Fin grid0.N) (n : Fin 16) (d : Fin 128) (r : Fin 256) :
    (ops m c t).V (ix5 0 0 n d r) = V m c main_v15 (ix5 ⟨t.val / 4, by have := N32 t; omega⟩ ⟨t.val % 4, by omega⟩ n d r) := by
  show iblk m c 2 t (ix5 0 0 n d r) = _
  blk_simp [iblk]
  blk_ext
  case «0» => exact congrArg (· + 0) (congrFun (idx2 m t) 0)
  case «1» => exact congrArg (· + 0) (congrFun (idx2 m t) 1)
  case «2» => exact (congrArg (· * 16 + n.val) (congrFun (idx2 m t) 2)).trans (by show 0 * 16 + n.val = n.val; omega)
  case «3» => exact (congrArg (· * 128 + d.val) (congrFun (idx2 m t) 3)).trans (by show 0 * 128 + d.val = d.val; omega)
  case «4» => exact (congrArg (· * 256 + r.val) (congrFun (idx2 m t) 4)).trans (by show 0 * 256 + r.val = r.val; omega)

theorem ops_K (t : Fin grid0.N) (n : Fin 4096) (d : Fin 128) :
    (ops m c t).K (ix3 0 n d) = V m c main_v10 (ix3 ⟨t.val / 4, by have := N32 t; omega⟩ n ⟨t.val % 4 * 128 + d.val, by omega⟩) := by
  show iblk m c 1 t (ix3 0 n d) = _
  blk_simp [iblk]
  blk_ext
  case «0» => exact congrArg (· + 0) (congrFun (idx1 m t) 0)
  case «1» => exact (congrArg (· * 4096 + n.val) (congrFun (idx1 m t) 1)).trans (by show 0 * 4096 + n.val = n.val; omega)
  case «2» => exact congrArg (· * 128 + d.val) (congrFun (idx1 m t) 2)

theorem ops_B (t : Fin grid0.N) (r q : Fin 256) : (ops m c t).B (ix2 r q) = V m c main_v27 (ix2 r q) := by
  show iblk m c 3 t (ix2 r q) = _
  blk_simp [iblk]
  blk_ext
  case «0» => exact (congrArg (· * 256 + r.val) (congrFun (idx3 m t) 0)).trans (by show 0 * 256 + r.val = r.val; omega)
  case «1» => exact (congrArg (· * 256 + q.val) (congrFun (idx3 m t) 1)).trans (by show 0 * 256 + q.val = q.val; omega)

/-! ## The result -/

theorem onto4 : ∀ b : Fin 8, ∀ p : Fin 4, ∃ t : Fin grid0.N, cc0_transform_4 (grid0.coords t) = ![b.val, 0, p.val] := by decide +kernel

theorem cover4 : ((cfgM m).win 4).Covers :=
  Pipeline.Window.covers_of_indexMap_surj _ rfl (show ∀ a : Fin 3, 0 < S1x4096x128.size a by decide) fun β => by
    have h0 : (β (0 : Fin 3)).val < 8 := lt_of_lt_of_eq (β (0 : Fin 3)).isLt (show (8 + 1 - 1) / 1 = 8 by rfl)
    have h1 : (β (1 : Fin 3)).val < 1 := lt_of_lt_of_eq (β (1 : Fin 3)).isLt (show (4096 + 4096 - 1) / 4096 = 1 by rfl)
    have h2 : (β (2 : Fin 3)).val < 4 := lt_of_lt_of_eq (β (2 : Fin 3)).isLt (show (512 + 128 - 1) / 128 = 4 by rfl)
    obtain ⟨t, ht⟩ := onto4 ⟨_, h0⟩ ⟨_, h2⟩
    refine ⟨grid0.coords t, fun a => (congrFun ht a).trans ?_⟩
    match a with
    | ⟨0, _⟩ => rfl
    | ⟨1, _⟩ => exact (by show 0 = (β (1 : Fin 3)).val; omega)
    | ⟨2, _⟩ => rfl

theorem outAll_congr {t t' : Fin grid0.N} {y y' : S1x4096x128.Idx} (ht : t.val = t'.val) (hy : y = y') :
    outAll (run0 (ops m c t) 144).A y = outAll (run0 (ops m c t') 144).A y' := by
  rw [Fin.ext ht, hy]

theorem outArr_ix (b : Fin 8) (s : Fin 4096) (w : Fin 512) :
    outArr m c (ix3 b s w) = outAll (run0 (ops m c ⟨b.val * 4 + w.val / 128, by show _ < 32; omega⟩) 144).A (ix3 0 s ⟨w.val % 128, by omega⟩) := by
  have h : outArr m c = fun i => outAll (run0 (ops m c ⟨(i 0).val * 4 + (i 2).val / 128, by
      have h0 : (i 0).val < 8 := (i 0).isLt
      have h2 : (i 2).val < 512 := (i 2).isLt
      show _ < 32; omega⟩) 144).A (ix3 0 (i 1) ⟨(i 2).val % 128, Nat.mod_lt _ (by decide)⟩) := by
    refine (dats m 0 c).arrAt_eq_of_covers 4 _ (cover4 m) fun t hf y => ?_
    have e0 : ((cfgM m).win 4).index t (0 : Fin 3) = t.val / 4 := congrFun (idx4 m t) 0
    have e1 : ((cfgM m).win 4).index t (1 : Fin 3) = 0 := congrFun (idx4 m t) 1
    have e2 : ((cfgM m).win 4).index t (2 : Fin 3) = t.val % 4 := congrFun (idx4 m t) 2
    have l0 : (y (0 : Fin 3)).val < 1 := (y (0 : Fin 3)).isLt
    have l2 : (y (2 : Fin 3)).val < 128 := (y (2 : Fin 3)).isLt
    have x0 : ((((cfgM m).win 4).blk t).view.emb y (0 : Fin 3)).val = t.val / 4 * 1 + (y (0 : Fin 3)).val := by blk_simp; exact e0
    have x1 : ((((cfgM m).win 4).blk t).view.emb y (1 : Fin 3)).val = 0 * 4096 + (y (1 : Fin 3)).val := by blk_simp; exact (congrArg (· * 4096 + (y (1 : Fin 3)).val) e1).trans (by show 0 * 4096 + (y (1 : Fin 3)).val = (y (1 : Fin 3)).val; omega)
    have x2 : ((((cfgM m).win 4).blk t).view.emb y (2 : Fin 3)).val = t.val % 4 * 128 + (y (2 : Fin 3)).val := by blk_simp; exact congrArg (· * 128 + (y (2 : Fin 3)).val) e2
    beta_reduce
    rw [after0_4]
    refine outAll_congr m c (t := t) (y := y) ?_ (funext fun a => ?_)
    · refine Eq.trans ?_ (congrArg₂ (fun u v => u * 4 + v / 128) x0 x2).symm
      show t.val = (t.val / 4 * 1 + (y (0 : Fin 3)).val) * 4 + (t.val % 4 * 128 + (y (2 : Fin 3)).val) / 128
      omega
    · match a with
      | ⟨0, _⟩ => exact Fin.ext (by show (y (0 : Fin 3)).val = 0; omega)
      | ⟨1, _⟩ => exact Fin.ext ((by omega : (y (1 : Fin 3)).val = 0 * 4096 + (y (1 : Fin 3)).val).trans x1.symm)
      | ⟨2, _⟩ => exact Fin.ext ((by omega : (y (2 : Fin 3)).val = (t.val % 4 * 128 + (y (2 : Fin 3)).val) % 128).trans (congrArg (· % 128) x2).symm)
  exact congrFun h _

end Cert.KernelIdeal.Sb
-- ==== Proof.Sum.lean ====
/-
The call's result at an index, from real queries and keys: for every query the values weighted by what each
key takes of what the keys after it leave.
-/
module

public import proofs.«01_k».proof.Proof.Blocks

@[expose] public section

set_option maxRecDepth 16384
set_option maxHeartbeats 1000000

noncomputable section

namespace Cert.KernelIdeal.Sb

open Idealize.ShloMosaic Idealize.ShloMosaic.TcCoe Cert.KernelIdeal Cert.KernelIdeal.Gen
open Idealize.SL.Sem
open VecWindow (window put)

theorem qT_ix (e : Ops Ideal) (n : ℕ) (hn : n < 16) (d : Fin 128) (r : Fin 256) : qT e n hn (ix5 0 0 0 d r) = e.Q (ix5 0 0 ⟨n, hn⟩ d r) := by
  refine congrArg e.Q (funext fun a => Fin.ext ?_)
  match a with
  | ⟨0, _⟩ => exact (by show 0 + 1 * 0 = 0; omega)
  | ⟨1, _⟩ => exact (by show 0 + 1 * 0 = 0; omega)
  | ⟨2, _⟩ => exact (by show n + 1 * 0 = n; omega)
  | ⟨3, _⟩ => exact (by show 0 + 1 * d.val = d.val; omega)
  | ⟨4, _⟩ => exact (by show 0 + 1 * r.val = r.val; omega)

theorem vT_ix (e : Ops Ideal) (n : ℕ) (hn : n < 16) (d : Fin 128) (r : Fin 256) : vT e n hn (ix5 0 0 0 d r) = e.V (ix5 0 0 ⟨n, hn⟩ d r) := by
  refine congrArg e.V (funext fun a => Fin.ext ?_)
  match a with
  | ⟨0, _⟩ => exact (by show 0 + 1 * 0 = 0; omega)
  | ⟨1, _⟩ => exact (by show 0 + 1 * 0 = 0; omega)
  | ⟨2, _⟩ => exact (by show n + 1 * 0 = n; omega)
  | ⟨3, _⟩ => exact (by show 0 + 1 * d.val = d.val; omega)
  | ⟨4, _⟩ => exact (by show 0 + 1 * r.val = r.val; omega)

theorem kT_ix (e : Ops Ideal) (n : ℕ) (hn : n < 16) (r : Fin 256) (d : Fin 128) : kT e n hn (ix3 0 r d) = e.K (ix3 0 ⟨256 * n + r.val, by omega⟩ d) := by
  refine congrArg e.K (funext fun a => Fin.ext ?_)
  match a with
  | ⟨0, _⟩ => exact (by show 0 + 1 * 0 = 0; omega)
  | ⟨1, _⟩ => exact (by show 256 * n + 1 * r.val = 256 * n + r.val; omega)
  | ⟨2, _⟩ => exact (by show 0 + 1 * d.val = d.val; omega)

theorem eighth : Ideal.ofBits FTy.f32 1040187392#32 = (((1 : ℝ) / 8 : ℝ) : EReal) := by
  simp [Ideal.ofBits, Ideal.ieee, -EReal.coe_mul]; norm_num

theorem two_f32 : Ideal.ofBits FTy.f32 1073741824#32 = ((2 : ℝ) : EReal) := by
  simp [Ideal.ofBits, Ideal.ieee, -EReal.coe_mul]; norm_num

theorem neg_inf_f32 : Ideal.ofBits FTy.f32 4286578688#32 = ⊥ := by
  simp [Ideal.ofBits, Ideal.ieee]

theorem scale_val : Ideal.div (Ideal.ofBits FTy.f32 1040187392#32) (Ideal.log (Ideal.ofBits FTy.f32 1073741824#32)) = (((1 / 8) / Real.log 2 : ℝ) : EReal) := by
  have hl : Real.log 2 ≠ 0 := (Real.log_pos (by norm_num)).ne'
  rw [eighth, two_f32, Ideal.log_coe, if_neg (by norm_num), Ideal.div_coe hl, ← EReal.coe_mul]
  congr 1
  field_simp

theorem mask_val : ∀ r q : Fin 256, IntOp.cmpi CmpIPredicate.slt (BitVec.ofNat 32 (r.val % 8 * 32 + r.val / 8)) (BitVec.ofNat 32 q.val)
    = if r.val % 8 * 32 + r.val / 8 < q.val then 1#1 else 0#1 := by decide +kernel

variable (m : (ℓ : Loc nD τ sig) → Buf (Elt Ideal) ℓ) (c : Dev nD)

/-- The keys of a head as real numbers, and a query of it. -/
def keyR (rk : S8x4096x512.Idx → ℝ) (b : Fin 8) (g : Fin 8) (k : ℕ) (d : Fin 64) : ℝ :=
  rk (ix3 b ⟨k % 4096, Nat.mod_lt _ (by decide)⟩ ⟨64 * g.val + d.val, by omega⟩)
def qryR (rq : S8x4096x512.Idx → ℝ) (b : Fin 8) (g : Fin 8) (s : Fin 4096) (d : Fin 64) : ℝ :=
  rq (ix3 b s ⟨64 * g.val + d.val, by omega⟩)
/-- A column of the values. -/
def colV (v : S8x4096x512.Idx → EReal) (b : Fin 8) (w : Fin 512) (k : ℕ) : EReal := v (ix3 b ⟨k % 4096, Nat.mod_lt _ (by decide)⟩ w)

/-- What each key leaves of what the keys after it leave, for the query at position `s`. -/
def leftR (rq rk : S8x4096x512.Idx → ℝ) (b : Fin 8) (g : Fin 8) (s : Fin 4096) : ℕ → ℝ :=
  left (zlog (keyR rk b g) (qryR rq b g s)) s.val

theorem ix3_same {b b' : Fin 8} {s s' : Fin 4096} {w w' : Fin 512} (h0 : b.val = b'.val) (h1 : s.val = s'.val) (h2 : w.val = w'.val) :
    (ix3 b s w : S8x4096x512.Idx) = ix3 b' s' w' := by
  rw [Fin.ext h0, Fin.ext h1, Fin.ext h2]

theorem tile_val (rq rk : S8x4096x512.Idx → ℝ) (hq : ∀ i, aQ m c i = (rq i : EReal)) (hk : ∀ i, aK m c i = (rk i : EReal))
    (t : Fin grid0.N) (b : Fin 8) (hb : b.val = t.val / 4) (h : ℕ) (hh : h < 2) (g : Fin 8) (hg : g.val = 2 * (t.val % 4) + h)
    (q : ℕ) (hq16 : q < 16) (d : Fin 64) (r : Fin 256) (s : Fin 4096) (hs : s.val = 256 * q + r.val) (w : Fin 512) (hw : w.val = 64 * g.val + d.val) :
    aW (run0 (ops m c t) 144).A q h (by omega) hh (ix4 0 0 d r)
      = ∑ k ∈ Finset.Ico 0 (256 * (q + 1)), colV (aV m c) b w k * (seg (leftR rq rk b g s) (k + 1) (256 * (q + 1)) - seg (leftR rq rk b g s) k (256 * (q + 1))) := by
  have hN := N32 t
  rw [run_A (ops m c t) rfl q hq16 h hh]
  have hK : ∀ (n : ℕ) (hn : n < 16) (s i : ℕ) (hs : s < 8) (hi : i < 32) (d : Fin 64),
      kT (ops m c t) n hn (ix3 0 ⟨8 * i + s, row_lt hs hi⟩ ⟨64 * h + d.val, col_lt hh d⟩) = (keyR rk b g (256 * n + 32 * s + i) d : EReal) := by
    intro n hn s i hs hi d
    rw [kT_ix, ops_K, V_k, hk]
    unfold keyR
    refine congrArg (fun x : ℝ => (x : EReal)) (congrArg rk (ix3_same ?_ ?_ ?_))
    · show t.val / 4 = b.val; omega
    · show (256 * n + (8 * i + s)) / 256 * 256 + (256 * n + (8 * i + s)) % 8 * 32 + (256 * n + (8 * i + s)) / 8 % 32 = (256 * n + 32 * s + i) % 4096
      have e1 : (256 * n + (8 * i + s)) / 8 = 32 * n + i := by omega
      have e2 : (256 * n + (8 * i + s)) / 256 = n := by omega
      have e3 : (256 * n + (8 * i + s)) % 8 = s := by omega
      have e4 : (32 * n + i) % 32 = i := by omega
      have e5 : (256 * n + 32 * s + i) % 4096 = 256 * n + 32 * s + i := by omega
      rw [e1, e2, e3, e4, e5]
      omega
    · show t.val % 4 * 128 + (64 * h + d.val) = 64 * g.val + d.val; omega
  have hQ : ∀ d : Fin 64, qT (ops m c t) q hq16 (ix5 0 0 0 ⟨64 * h + d.val, col_lt hh d⟩ r) = ((qryR rq b g s d * ((1 / 8) / Real.log 2) : ℝ) : EReal) := by
    intro d
    rw [qT_ix, ops_Q, V_q, scale_val, hq, ← EReal.coe_mul]
    unfold qryR
    refine congrArg (fun x : ℝ => ((x * ((1 / 8) / Real.log 2) : ℝ) : EReal)) (congrArg rq (ix3_same ?_ ?_ ?_))
    · show t.val / 4 = b.val; omega
    · show q * 256 + r.val = s.val; omega
    · show t.val % 4 * 128 + (64 * h + d.val) = 64 * g.val + d.val; omega
  have hB : ∀ (s i : ℕ) (hs : s < 8) (hi : i < 32), (ops m c t).B (ix2 ⟨8 * i + s, row_lt hs hi⟩ r) = if 32 * s + i < r.val then (0 : EReal) else ⊥ := by
    intro s i hs hi
    rw [ops_B, V_b, mask_val, neg_inf_f32]
    have e : (8 * i + s) % 8 * 32 + (8 * i + s) / 8 = 32 * s + i := by omega
    simp only [e]
    split <;> rfl
  have hV : ∀ (n : ℕ) (hn : n < 16) (s i : ℕ) (hs : s < 8) (hi : i < 32),
      vT (ops m c t) n hn (ix5 0 0 0 ⟨64 * h + d.val, col_lt hh d⟩ ⟨8 * i + s, row_lt hs hi⟩) = colV (aV m c) b w (256 * n + 32 * s + i) := by
    intro n hn s i hs hi
    rw [vT_ix, ops_V, V_v]
    unfold colV
    refine congrArg (aV m c) (ix3_same ?_ ?_ ?_)
    · show t.val / 4 = b.val; omega
    · show n * 256 + (8 * i + s) % 8 * 32 + (8 * i + s) / 8 = (256 * n + 32 * s + i) % 4096
      have e1 : (8 * i + s) / 8 = i := by omega
      have e3 : (8 * i + s) % 8 = s := by omega
      rw [e1, e3]
      omega
    · show t.val % 4 * 128 + (64 * h + d.val) = w.val; omega
  have hF : ∀ j ≤ q, IsTile (keep (zz (ops m c t) h q j hq16)) (leftR rq rk b g s) (256 * (q - j)) r := fun j hj => by
    have := left_tile (ops m c t) h q hh hq16 r (keyR rk b g) (qryR rq b g s) hK hQ hB j hj
    rw [← hs] at this
    exact this
  have := aa_seg (ops m c t) h q hh hq16 r (leftR rq rk b g s) hF d (colV (aV m c) b w) hV q (le_refl _)
  rw [this, Nat.sub_self]

theorem outTile_ix (a b : Vec Ideal S1x1x64x256 .f32) (s : Fin 256) (w : Fin 128) :
    outTile a b (ix3 0 s w) = if h : w.val < 64 then a (ix4 0 0 ⟨w.val, h⟩ s) else b (ix4 0 0 ⟨w.val - 64, by omega⟩ s) := by
  pointwise [outTile, aget]

/-- The call's result at an index. -/
theorem out_val (rq rk : S8x4096x512.Idx → ℝ) (hq : ∀ i, aQ m c i = (rq i : EReal)) (hk : ∀ i, aK m c i = (rk i : EReal))
    (b : Fin 8) (s : Fin 4096) (w : Fin 512) :
    outArr m c (ix3 b s w) = ∑ k ∈ Finset.Ico 0 (256 * (s.val / 256 + 1)), colV (aV m c) b w k
      * (seg (leftR rq rk b ⟨w.val / 64, by omega⟩ s) (k + 1) (256 * (s.val / 256 + 1)) - seg (leftR rq rk b ⟨w.val / 64, by omega⟩ s) k (256 * (s.val / 256 + 1))) := by
  rw [outArr_ix]
  have h0 : outAll (run0 (ops m c ⟨b.val * 4 + w.val / 128, by show _ < 32; omega⟩) 144).A (ix3 0 s ⟨w.val % 128, by omega⟩)
      = outTile (aW (run0 (ops m c ⟨b.val * 4 + w.val / 128, by show _ < 32; omega⟩) 144).A (s.val / 256) 0 (by omega) (by omega))
        (aW (run0 (ops m c ⟨b.val * 4 + w.val / 128, by show _ < 32; omega⟩) 144).A (s.val / 256) 1 (by omega) (by omega))
        (ix3 0 ⟨s.val % 256, by omega⟩ ⟨w.val % 128, by omega⟩) := by
    refine congrArg (outTile _ _) (funext fun a => ?_)
    match a with
    | ⟨0, _⟩ => rfl
    | ⟨1, _⟩ => rfl
    | ⟨2, _⟩ => rfl
  rw [h0, outTile_ix]
  by_cases h : w.val % 128 < 64
  · rw [dif_pos h]
    exact tile_val m c rq rk hq hk _ b (by show b.val = (b.val * 4 + w.val / 128) / 4; omega) 0 (by omega) _
      (by show w.val / 64 = 2 * ((b.val * 4 + w.val / 128) % 4) + 0; omega) _ (by omega) _ _ s (by show s.val = 256 * (s.val / 256) + s.val % 256; omega) w
      (by show w.val = 64 * (w.val / 64) + w.val % 128; omega)
  · rw [dif_neg h]
    exact tile_val m c rq rk hq hk _ b (by show b.val = (b.val * 4 + w.val / 128) / 4; omega) 1 (by omega) _
      (by show w.val / 64 = 2 * ((b.val * 4 + w.val / 128) % 4) + 1; omega) _ (by omega) _ _ s (by show s.val = 256 * (s.val / 256) + s.val % 256; omega) w
      (by show w.val = 64 * (w.val / 64) + (w.val % 128 - 64); omega)

end Cert.KernelIdeal.Sb
-- ==== Proof.Ref.lean ====
/-
The reference at an index: for every query the values weighted by the stick-breaking weights, which from real
queries and keys are the differences of the products of what is left.
-/
module

public import proofs.«01_k».proof.Proof.Logit
public import proofs.«01_k».proof.Proof.Gen.ReferenceIdeal.Run
public import Idealize.ShloMosaic.Lib.WordCmp

@[expose] public section

set_option maxRecDepth 16384
set_option maxHeartbeats 2000000

noncomputable section

namespace Cert.ReferenceIdeal.Sb

open Idealize.ShloMosaic Idealize.ShloMosaic.TcCoe Cert.ReferenceIdeal Cert.ReferenceIdeal.Gen
open Idealize.SL.Sem
open Cert.KernelIdeal.Sb (left)

/-! ## Real numbers -/

theorem left_pos (z : ℕ → ℝ) (s k : ℕ) : 0 < left z s k := by
  unfold left
  split
  · have := Real.exp_pos (z k); positivity
  · exact one_pos

theorem left_of_le (z : ℕ → ℝ) (s k : ℕ) (h : s ≤ k) : left z s k = 1 := if_neg (by omega)

/-- What is left up to the end of the query's tile is what is left up to the end of the keys. -/
theorem prod_left (z : ℕ → ℝ) (s a T : ℕ) (hs : s ≤ T) (ha : a ≤ T) (hT : T ≤ 4096) :
    ∏ k ∈ Finset.Ico a 4096, left z s k = ∏ k ∈ Finset.Ico a T, left z s k := by
  rw [← Finset.prod_Ico_consecutive _ ha hT, Finset.prod_eq_one (s := Finset.Ico T 4096), mul_one]
  intro k hk
  rw [Finset.mem_Ico] at hk
  exact left_of_le z s k (by omega)

theorem weight_real (z : ℕ → ℝ) (s T k : ℕ) (hs : s ≤ T) (hT : T ≤ 4096) (hk : k < s) :
    Real.exp (-Real.log (1 + Real.exp (-z k)) + ((∑ j ∈ Finset.Ico k 4096, Real.log (left z s j)) - Real.log (left z s k)))
      = (∏ j ∈ Finset.Ico (k + 1) T, left z s j) - ∏ j ∈ Finset.Ico k T, left z s j := by
  have h1 : (∑ j ∈ Finset.Ico k 4096, Real.log (left z s j)) - Real.log (left z s k) = Real.log (∏ j ∈ Finset.Ico (k + 1) T, left z s j) := by
    rw [← Real.log_prod (fun j _ => (left_pos z s j).ne'), prod_left z s k T hs (by omega) hT, ← Finset.prod_Ico_consecutive _ (Nat.le_succ k) (by omega : k + 1 ≤ T),
      Nat.Ico_succ_singleton, Finset.prod_singleton, Real.log_mul (left_pos z s k).ne' (Finset.prod_pos fun j _ => left_pos z s j).ne']
    ring
  have h2 : ∏ j ∈ Finset.Ico k T, left z s j = left z s k * ∏ j ∈ Finset.Ico (k + 1) T, left z s j := by
    rw [← Finset.prod_Ico_consecutive _ (Nat.le_succ k) (by omega : k + 1 ≤ T), Nat.Ico_succ_singleton, Finset.prod_singleton]
  have hp : 0 < ∏ j ∈ Finset.Ico (k + 1) T, left z s j := Finset.prod_pos fun j _ => left_pos z s j
  have he := Real.exp_pos (z k)
  have h3 : (1 + Real.exp (-z k))⁻¹ = 1 - left z s k := by
    rw [left, if_pos hk, Real.exp_neg]
    field_simp
    ring
  rw [h1, Real.exp_add, Real.exp_neg, Real.exp_log (by positivity), Real.exp_log hp, h2, h3]
  ring

theorem softplus_real (r : ℝ) : max r 0 + Real.log (1 + Real.exp (-|r|)) = Real.log (1 + Real.exp r) := by
  have he := Real.exp_pos r
  rcases le_total 0 r with h | h
  · rw [max_eq_left h, abs_of_nonneg h]
    nth_rw 1 [← Real.log_exp r]
    rw [← Real.log_mul he.ne' (by positivity), mul_add, mul_one, ← Real.exp_add, add_neg_cancel, Real.exp_zero, add_comm]
  · rw [max_eq_right h, abs_of_nonpos h, zero_add, neg_neg]

/-! ## Sums of a row's tail -/

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

abbrev Wn : Shape := ⟨4, ![1, 1, 1, 4096]⟩

def wnEquiv : Wn.Idx ≃ Fin 4096 where
  toFun i := i (3 : Fin 4)
  invFun k := ix4 0 0 0 k
  left_inv i := funext fun a => by
    match a with
    | ⟨0, _⟩ => exact Fin.ext (by have := (i (0 : Fin 4)).isLt; change (i (0 : Fin 4)).val < 1 at this; show 0 = (i (0 : Fin 4)).val; omega)
    | ⟨1, _⟩ => exact Fin.ext (by have := (i (1 : Fin 4)).isLt; change (i (1 : Fin 4)).val < 1 at this; show 0 = (i (1 : Fin 4)).val; omega)
    | ⟨2, _⟩ => exact Fin.ext (by have := (i (2 : Fin 4)).isLt; change (i (2 : Fin 4)).val < 1 at this; show 0 = (i (2 : Fin 4)).val; omega)
    | ⟨3, _⟩ => rfl
  right_inv k := rfl

theorem tail_fold (x : S8x8x4096x4096.Idx → EReal) (v : EReal) (b g : Fin 8) (s k : Fin 4096) (h) :
    Ideal.hostReduceWindowAdd (s := S8x8x4096x4096) (t := S8x8x4096x4096) ![1, 1, 1, 4096] ![1, 1, 1, 1] ![0, 0, 0, 0] ![0, 0, 0, 4095] h x v (ix4 b g s k)
      = v + ∑ n : Fin 4096, if hn : k.val + n.val < 4096 then x (ix4 b g s ⟨k.val + n.val, hn⟩) else v := by
  unfold Ideal.hostReduceWindowAdd Host.reduceWindow
  refine (foldl_sum _ _ _).trans (congrArg (v + ·) ?_)
  rw [← Fin.sum_univ_def]
  let G : Wn.Idx → EReal := fun i => if hn : k.val + (i (3 : Fin 4)).val < 4096 then x (ix4 b g s ⟨k.val + (i (3 : Fin 4)).val, hn⟩) else v
  refine Eq.trans (Finset.sum_congr rfl fun n _ => ?_) ((Equiv.sum_comp Wn.rowMajor.symm G).trans (Fintype.sum_equiv wnEquiv G _ fun i => rfl))
  let i : Wn.Idx := Wn.rowMajor.symm n
  show _ = if hn : k.val + (i (3 : Fin 4)).val < 4096 then x (ix4 b g s ⟨k.val + (i (3 : Fin 4)).val, hn⟩) else v
  have l0 : (i (0 : Fin 4)).val < 1 := (i (0 : Fin 4)).isLt
  have l1 : (i (1 : Fin 4)).val < 1 := (i (1 : Fin 4)).isLt
  have l2 : (i (2 : Fin 4)).val < 1 := (i (2 : Fin 4)).isLt
  by_cases hn : k.val + (i (3 : Fin 4)).val < 4096
  · rw [dif_pos hn]
    refine (dif_pos ?_).trans (congrArg x (funext fun a => Fin.ext ?_))
    · intro a
      match a with
      | ⟨0, _⟩ => exact (by show 0 ≤ b.val * 1 + (i (0 : Fin 4)).val ∧ b.val * 1 + (i (0 : Fin 4)).val - 0 < 8; omega)
      | ⟨1, _⟩ => exact (by show 0 ≤ g.val * 1 + (i (1 : Fin 4)).val ∧ g.val * 1 + (i (1 : Fin 4)).val - 0 < 8; omega)
      | ⟨2, _⟩ => exact (by show 0 ≤ s.val * 1 + (i (2 : Fin 4)).val ∧ s.val * 1 + (i (2 : Fin 4)).val - 0 < 4096; omega)
      | ⟨3, _⟩ => exact (by show 0 ≤ k.val * 1 + (i (3 : Fin 4)).val ∧ k.val * 1 + (i (3 : Fin 4)).val - 0 < 4096; omega)
    · match a with
      | ⟨0, _⟩ => exact (by show b.val * 1 + (i (0 : Fin 4)).val - 0 = b.val; omega)
      | ⟨1, _⟩ => exact (by show g.val * 1 + (i (1 : Fin 4)).val - 0 = g.val; omega)
      | ⟨2, _⟩ => exact (by show s.val * 1 + (i (2 : Fin 4)).val - 0 = s.val; omega)
      | ⟨3, _⟩ => exact (by show k.val * 1 + (i (3 : Fin 4)).val - 0 = k.val + (i (3 : Fin 4)).val; omega)
  · rw [dif_neg hn]
    refine dif_neg fun hc => hn ?_
    have := (hc (3 : Fin 4)).2
    change k.val * 1 + (i (3 : Fin 4)).val - 0 < 4096 at this
    omega

theorem coe_max (a b : ℝ) : ((max a b : ℝ) : EReal) = max (a : EReal) b := EReal.coe_strictMono.monotone.map_max

theorem coe_sum {ι : Type} (S : Finset ι) (f : ι → ℝ) : ∑ i ∈ S, ((f i : ℝ) : EReal) = ((∑ i ∈ S, f i : ℝ) : EReal) :=
  (map_sum (⟨⟨fun x : ℝ => (x : EReal), EReal.coe_zero⟩, EReal.coe_add⟩ : ℝ →+ EReal) _ _).symm

theorem tail_sum (x : S8x8x4096x4096.Idx → EReal) (b g : Fin 8) (s k : Fin 4096) (h) (φ : ℕ → ℝ) (hx : ∀ j : Fin 4096, x (ix4 b g s j) = (φ j.val : EReal)) :
    Ideal.hostReduceWindowAdd (s := S8x8x4096x4096) (t := S8x8x4096x4096) ![1, 1, 1, 4096] ![1, 1, 1, 1] ![0, 0, 0, 0] ![0, 0, 0, 4095] h x 0 (ix4 b g s k)
      = ((∑ j ∈ Finset.Ico k.val 4096, φ j : ℝ) : EReal) := by
  rw [tail_fold, zero_add]
  have h1 : ∀ n : Fin 4096, (if hn : k.val + n.val < 4096 then x (ix4 b g s ⟨k.val + n.val, hn⟩) else 0)
      = ((if k.val + n.val < 4096 then φ (k.val + n.val) else 0 : ℝ) : EReal) := fun n => by
    by_cases hn : k.val + n.val < 4096
    · rw [dif_pos hn, if_pos hn, hx]
    · rw [dif_neg hn, if_neg hn, EReal.coe_zero]
  rw [Finset.sum_congr rfl fun n _ => h1 n, coe_sum]
  congr 1
  rw [Fin.sum_univ_eq_sum_range (fun n => if k.val + n < 4096 then φ (k.val + n) else 0) 4096, ← Finset.sum_filter, Finset.sum_Ico_eq_sum_range]
  refine Finset.sum_congr (Finset.ext fun n => ?_) fun _ _ => rfl
  rw [Finset.mem_filter, Finset.mem_range, Finset.mem_range]
  omega

/-! ## The reference's values -/

variable (m : (ℓ : Loc nD τ sig) → Buf (Elt Ideal) ℓ) (c : Dev nD)

abbrev rQ : S8x4096x512.Idx → EReal := m ((c.tc : Thread nD τ).loc main_arg0)
abbrev rK : S8x4096x512.Idx → EReal := m ((c.tc : Thread nD τ).loc main_arg1)
abbrev rV : S8x4096x512.Idx → EReal := m ((c.tc : Thread nD τ).loc main_arg2)

def heads (x : FVec Ideal S8x4096x512 .f32) : FVec Ideal S8x8x4096x64 .f32 :=
  transpose S8x8x4096x64 [0, 2, 1, 3] (shapeCast S8x4096x8x64 x shapeCasts_S8x4096x512_S8x4096x8x64) transposes_S8x4096x8x64_S8x8x4096x64_0_2_1_3

def scores (q k : FVec Ideal S8x4096x512 .f32) : FVec Ideal S8x8x4096x4096 .f32 :=
  mulf (Host.dotGeneral dot_S8x8x4096x64_S8x8x4096x64_S8x8x4096x4096_3_3_2_2_01_01 none (heads q) (heads k))
    (broadcastInDim S8x8x4096x4096 ![] bcast_S_S8x8x4096x4096 (constant S_ .f32 0x3E000000#32))

def zeros : FVec Ideal S8x8x4096x4096 .f32 := broadcastInDim S8x8x4096x4096 ![] bcast_S_S8x8x4096x4096 (constant S_ .f32 0x00000000#32)

def softplus (x : FVec Ideal S8x8x4096x4096 .f32) : FVec Ideal S8x8x4096x4096 .f32 :=
  select (cmpf .une (subf x zeros) (subf x zeros)) (addf x zeros) (addf (maximumf x zeros) (Host.log1p (Host.exp (Host.negf (Host.absf (subf x zeros))))))

def before : IVec S8x8x4096x4096 1 :=
  broadcastInDim S8x8x4096x4096 ![2, 3] bcast_S4096x4096_S8x8x4096x4096_2_3 (cmpi .slt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

def fails (z : FVec Ideal S8x8x4096x4096 .f32) : FVec Ideal S8x8x4096x4096 .f32 := select before (Host.negf (softplus (Host.negf (Host.negf z)))) zeros

def tails (z : FVec Ideal S8x8x4096x4096 .f32) : FVec Ideal S8x8x4096x4096 .f32 :=
  Host.reduceWindowAdd ![1, 1, 1, 4096] ![1, 1, 1, 1] ![0, 0, 0, 0] ![0, 0, 0, 4095] (fails z) (broadcastInDim S_ ![] bcast_S_S_ (constant S_ .f32 0x00000000#32)) reduceWindows_S8x8x4096x4096_S8x8x4096x4096_w1s1p0_0_w1s1p0_0_w1s1p0_0_w4096s1p0_4095 h_S_

def weights (z : FVec Ideal S8x8x4096x4096 .f32) : FVec Ideal S8x8x4096x4096 .f32 :=
  select before (Host.exp (addf (Host.negf (softplus (Host.negf z))) (subf (tails z) (fails z)))) zeros

def mixed (w : FVec Ideal S8x8x4096x4096 .f32) (v : FVec Ideal S8x4096x512 .f32) : FVec Ideal S8x4096x512 .bf16 :=
  truncf .bf16 (shapeCast S8x4096x512 (transpose S8x4096x8x64 [0, 2, 1, 3] (Host.dotGeneral dot_S8x8x4096x4096_S8x8x4096x64_S8x8x4096x64_3_2_2_3_01_01 none w (heads v)) transposes_S8x8x4096x64_S8x4096x8x64_0_2_1_3) shapeCasts_S8x4096x8x64_S8x4096x512) bitsLt_bf16_f32

theorem res_eq : Value.res_main_v27 m c = mixed (weights (scores (rQ m c) (rK m c))) (rV m c) := by
  unfold Value.res_main_v27
  rfl

theorem scores_ix (q k : FVec Ideal S8x4096x512 .f32) (b g : Fin 8) (s j : Fin 4096) :
    scores q k (ix4 b g s j) = (∑ d : Fin 64, q (ix3 b s ⟨g.val * 64 + d.val, by omega⟩) * k (ix3 b j ⟨g.val * 64 + d.val, by omega⟩)) * Ideal.ofBits .f32 0x3E000000#32 := by
  pointwise [scores, heads]

theorem zeros_ix (i : S8x8x4096x4096.Idx) : zeros i = 0 := by
  show Ideal.ofBits .f32 0x00000000#32 = 0
  exact Ideal.ofBits_zero_f32

theorem exp_neg_abs (r : ℝ) : Ideal.exp (-FloatOps.absf (F := Ideal) (φ := .f32) (r : EReal)) = ((Real.exp (-|r|) : ℝ) : EReal) := by
  have h : FloatOps.absf (F := Ideal) (φ := .f32) (r : EReal) = ((|r| : ℝ) : EReal) := by
    show max (r : EReal) (-(r : EReal)) = _
    rw [← EReal.coe_neg, ← coe_max]
    rfl
  rw [h, ← EReal.coe_neg, Ideal.exp_coe]

theorem softplus_ix (x : FVec Ideal S8x8x4096x4096 .f32) (b g : Fin 8) (s j : Fin 4096) (r : ℝ) (hx : x (ix4 b g s j) = (r : EReal)) :
    softplus x (ix4 b g s j) = ((Real.log (1 + Real.exp r) : ℝ) : EReal) := by
  have h : softplus x (ix4 b g s j) = if x (ix4 b g s j) ≠ x (ix4 b g s j) then x (ix4 b g s j)
      else max (x (ix4 b g s j)) 0 + Ideal.log1p (Ideal.exp (-FloatOps.absf (F := Ideal) (φ := .f32) (x (ix4 b g s j)))) := by
    pointwise [softplus, zeros]
  have hp : (0 : ℝ) < 1 + Real.exp (-|r|) := by have := Real.exp_pos (-|r|); positivity
  have h1 : Ideal.log1p ((Real.exp (-|r|) : ℝ) : EReal) = ((Real.log (1 + Real.exp (-|r|)) : ℝ) : EReal) := by
    show Ideal.log (1 + ((Real.exp (-|r|) : ℝ) : EReal)) = _
    rw [show (1 : EReal) + ((Real.exp (-|r|) : ℝ) : EReal) = ((1 + Real.exp (-|r|) : ℝ) : EReal) from (EReal.coe_add 1 _).symm, Ideal.log_coe, if_neg (not_le.mpr hp)]
  rw [h, if_neg (by simp), hx, exp_neg_abs, h1, ← EReal.coe_zero, ← coe_max, ← EReal.coe_add, softplus_real]

theorem before_ix (b g : Fin 8) (s j : Fin 4096) : before (ix4 b g s j) = if j.val < s.val then 1#1 else 0#1 := by
  have h : before (ix4 b g s j) = IntOp.cmpi CmpIPredicate.slt (BitVec.ofNat 32 j.val) (BitVec.ofNat 32 s.val) := by
    pointwise [before]
  rw [h, WordCmp.cmpi_slt_ofNat (lt_of_lt_of_le j.isLt (by norm_num)) (lt_of_lt_of_le s.isLt (by norm_num))]
  by_cases hl : j.val < s.val <;> simp [hl]

section
variable (z4 : FVec Ideal S8x8x4096x4096 .f32) (b g : Fin 8) (s : Fin 4096) (z : ℕ → ℝ) (hz : ∀ j : Fin 4096, z4 (ix4 b g s j) = (z j.val : EReal))
include hz

theorem fails_ix (j : Fin 4096) : fails z4 (ix4 b g s j) = ((Real.log (left z s.val j.val) : ℝ) : EReal) := by
  have h : fails z4 (ix4 b g s j) = Scalar.select (before (ix4 b g s j)) (-softplus (Host.negf (Host.negf z4)) (ix4 b g s j)) (zeros (ix4 b g s j)) := by
    pointwise [fails]
  have hn : Host.negf (Host.negf z4) (ix4 b g s j) = (z j.val : EReal) := by
    have : Host.negf (Host.negf z4) (ix4 b g s j) = - -z4 (ix4 b g s j) := by pointwise
    rw [this, neg_neg, hz]
  have he := Real.exp_pos (z j.val)
  rw [h, before_ix, softplus_ix _ b g s j _ hn, zeros_ix, left]
  by_cases hl : j.val < s.val
  · rw [if_pos hl, if_pos hl, one_div, Real.log_inv, EReal.coe_neg]
    rfl
  · rw [if_neg hl, if_neg hl, Real.log_one, EReal.coe_zero]
    rfl

theorem tails_ix (k : Fin 4096) : tails z4 (ix4 b g s k) = ((∑ j ∈ Finset.Ico k.val 4096, Real.log (left z s.val j) : ℝ) : EReal) := by
  have h0 : (broadcastInDim S_ ![] bcast_S_S_ (constant S_ .f32 0x00000000#32) : FVec Ideal S_ .f32) (Shape.Idx.first h_S_) = 0 := by
    show Ideal.ofBits .f32 0x00000000#32 = 0
    exact Ideal.ofBits_zero_f32
  unfold tails Host.reduceWindowAdd
  rw [Ideal.hostReduceWindowAdd_def, h0]
  exact tail_sum (fails z4) b g s k _ _ (fails_ix z4 b g s z hz)

theorem weights_ix (T : ℕ) (hs : s.val ≤ T) (hT : T ≤ 4096) (k : Fin 4096) :
    weights z4 (ix4 b g s k) = if k.val < s.val then (((∏ j ∈ Finset.Ico (k.val + 1) T, left z s.val j) - ∏ j ∈ Finset.Ico k.val T, left z s.val j : ℝ) : EReal) else 0 := by
  have h : weights z4 (ix4 b g s k) = Scalar.select (before (ix4 b g s k))
      (Ideal.exp (-softplus (Host.negf z4) (ix4 b g s k) + (tails z4 (ix4 b g s k) - fails z4 (ix4 b g s k)))) (zeros (ix4 b g s k)) := by
    pointwise [weights]
  have hn : Host.negf z4 (ix4 b g s k) = ((-z k.val : ℝ) : EReal) := by
    have : Host.negf z4 (ix4 b g s k) = -z4 (ix4 b g s k) := by pointwise
    rw [this, hz, EReal.coe_neg]
  rw [h, before_ix, zeros_ix]
  by_cases hl : k.val < s.val
  · rw [if_pos hl, if_pos hl, softplus_ix _ b g s k _ hn, tails_ix z4 b g s z hz, fails_ix z4 b g s z hz, ← EReal.coe_neg, ← EReal.coe_sub, ← EReal.coe_add, Ideal.exp_coe,
      weight_real z s.val T k.val hs hT hl]
    rfl
  · rw [if_neg hl, if_neg hl]
    rfl

end

theorem mixed_ix (w : FVec Ideal S8x8x4096x4096 .f32) (v : FVec Ideal S8x4096x512 .f32) (b : Fin 8) (s : Fin 4096) (d : Fin 512) :
    mixed w v (ix3 b s d) = ∑ x : Fin 4096, w (ix4 b ⟨d.val / 64, by omega⟩ s x) * v (ix3 b x d) := by
  pointwise [mixed, heads]

/-- The weighted sum, over the keys up to the end of the query's tile. -/
theorem mix_sum (wt vx : Fin 4096 → EReal) (V : ℕ → EReal) (z : ℕ → ℝ) (s T : ℕ) (hs : s ≤ T) (hT : T ≤ 4096)
    (hw : ∀ k : Fin 4096, wt k = if k.val < s then (((∏ j ∈ Finset.Ico (k.val + 1) T, left z s j) - ∏ j ∈ Finset.Ico k.val T, left z s j : ℝ) : EReal) else 0)
    (hv : ∀ k : Fin 4096, vx k = V k.val) :
    ∑ k, wt k * vx k = ∑ k ∈ Finset.Ico 0 T, V k * (Cert.KernelIdeal.Sb.seg (left z s) (k + 1) T - Cert.KernelIdeal.Sb.seg (left z s) k T) := by
  let f : ℕ → EReal := fun k => V k * if k < s then (((∏ j ∈ Finset.Ico (k + 1) T, left z s j) - ∏ j ∈ Finset.Ico k T, left z s j : ℝ) : EReal) else 0
  have h1 : ∑ k, wt k * vx k = ∑ k ∈ Finset.range 4096, f k := by
    rw [← Fin.sum_univ_eq_sum_range]
    exact Finset.sum_congr rfl fun k _ => by rw [hw, hv, mul_comm]
  have h2 : ∑ k ∈ Finset.range 4096, f k = ∑ k ∈ Finset.Ico 0 T, f k := by
    rw [← Finset.range_eq_Ico]
    refine (Finset.sum_subset (Finset.range_subset_range.mpr hT) fun k _ hk => ?_).symm
    rw [Finset.mem_range] at hk
    show V k * (if k < s then _ else 0) = 0
    rw [if_neg (by omega), mul_zero]
  rw [h1, h2]
  refine Finset.sum_congr rfl fun k hk => ?_
  show V k * (if k < s then _ else 0) = _
  rw [Finset.mem_Ico] at hk
  unfold Cert.KernelIdeal.Sb.seg
  by_cases hl : k < s
  · rw [if_pos hl, EReal.coe_sub]
  · have e1 : ∀ a, s ≤ a → ∏ j ∈ Finset.Ico a T, left z s j = 1 := fun a ha => Finset.prod_eq_one fun j hj => by
      rw [Finset.mem_Ico] at hj
      exact left_of_le z s j (by omega)
    rw [if_neg hl, e1 (k + 1) (by omega), e1 k (by omega), ← EReal.coe_sub, sub_self, EReal.coe_zero]

end Cert.ReferenceIdeal.Sb
-- ==== Proof.Alg.lean ====
/-
The kernel's result is the reference's, on finite queries and keys.
-/
module

public import proofs.«01_k».proof.Proof.Frames
public import proofs.«01_k».proof.Proof.Sum
public import proofs.«01_k».proof.Proof.Ref
public import Idealize.ShloMosaic.Lib.ReduceAll

@[expose] public section

set_option maxRecDepth 16384
set_option maxHeartbeats 2000000

noncomputable section

namespace Cert.Sb

open Idealize.ShloMosaic Idealize.SL.Sem
open Cert.KernelIdeal.Sb (outArr aQ aK aV keyR qryR colV leftR out_val zlog ix3_same left eighth)
open Cert.ReferenceIdeal.Sb (rQ rK rV scores weights mixed res_eq scores_ix mixed_ix mix_sum weights_ix coe_sum)

abbrev Arr : Shape := Cert.KernelIdeal.S8x4096x512

/-! ## The precondition -/

theorem inf_f32 : Ideal.ofBits FTy.f32 0x7F800000#32 = ⊤ := by
  simp [Ideal.ofBits, Ideal.ieee]

theorem finite_of (x : EReal) (h : FloatOps.cmpf (F := Ideal) (φ := .f32) .olt (FloatOps.absf (F := Ideal) (φ := .f32) x) (Ideal.ofBits FTy.f32 0x7F800000#32) = 1#1) :
    x = ((x.toReal : ℝ) : EReal) := by
  rw [inf_f32] at h
  have hl : max x (-x) < ⊤ := by
    by_contra hc
    have : Ideal.cmp .olt (max x (-x)) ⊤ = 0#1 := by
      simp [Ideal.cmp, hc]
    rw [show FloatOps.cmpf (F := Ideal) (φ := .f32) .olt (FloatOps.absf (F := Ideal) (φ := .f32) x) ⊤ = Ideal.cmp .olt (max x (-x)) ⊤ from rfl, this] at h
    exact absurd h (by decide)
  refine (EReal.coe_toReal ?_ ?_).symm
  · rintro rfl
    simp at hl
  · rintro rfl
    simp at hl

theorem both_one : ∀ a b : BitVec 1, IntOp.andi a b = 1#1 → a = 1#1 ∧ b = 1#1 := by decide

theorem pre_finite (q k v : Arr.Idx → EReal) (h : @Cert.Pre_finite.fn facts_pre Ideal _ q k v = fun _ => 1#1) :
    (∀ i, q i = (((q i).toReal : ℝ) : EReal)) ∧ ∀ i, k i = (((k i).toReal : ℝ) : EReal) := by
  have h0 := congrFun h ix0
  dsimp only [Cert.Pre_finite.fn] at h0
  have h1 := both_one _ _ h0
  refine ⟨fun i => finite_of _ ?_, fun i => finite_of _ ?_⟩
  · exact Host.reduce_andi_all _ _ _ _ _ h1.1 i
  · exact Host.reduce_andi_all _ _ _ _ _ h1.2 i

/-! ## The two results -/

theorem same (m : (ℓ : Loc Cert.KernelIdeal.nD Cert.KernelIdeal.τ Cert.KernelIdeal.sig) → Buf (Elt Ideal) ℓ) (c : Dev Cert.KernelIdeal.nD)
    (q k v : Arr.Idx → EReal) (eq : aQ m c = q) (ek : aK m c = k) (ev : aV m c = v)
    (hq : ∀ i, q i = (((q i).toReal : ℝ) : EReal)) (hk : ∀ i, k i = (((k i).toReal : ℝ) : EReal)) :
    mixed (weights (scores q k)) v = outArr m c := by
  funext i
  obtain ⟨b, s, w, rfl⟩ : ∃ (b : Fin 8) (s : Fin 4096) (w : Fin 512), i = ix3 b s w := ⟨i (0 : Fin 3), i (1 : Fin 3), i (2 : Fin 3), funext fun a => by
    match a with
    | ⟨0, _⟩ => rfl
    | ⟨1, _⟩ => rfl
    | ⟨2, _⟩ => rfl⟩
  have ho := out_val m c (fun i => (q i).toReal) (fun i => (k i).toReal) (fun i => by rw [eq]; exact hq i) (fun i => by rw [ek]; exact hk i) b s w
  rw [ho, mixed_ix]
  have hz : ∀ j : Fin 4096, scores q k (ix4 b ⟨w.val / 64, by omega⟩ s j)
      = ((zlog (keyR (fun i => (k i).toReal) b ⟨w.val / 64, by omega⟩) (qryR (fun i => (q i).toReal) b ⟨w.val / 64, by omega⟩ s) j.val : ℝ) : EReal) := fun j => by
    rw [scores_ix, show (0x3E000000#32 : BitVec 32) = 1040187392#32 from rfl, eighth]
    have hd : ∀ d : Fin 64, q (ix3 b s ⟨w.val / 64 * 64 + d.val, by omega⟩) * k (ix3 b j ⟨w.val / 64 * 64 + d.val, by omega⟩)
        = ((qryR (fun i => (q i).toReal) b ⟨w.val / 64, by omega⟩ s d * keyR (fun i => (k i).toReal) b ⟨w.val / 64, by omega⟩ j.val d : ℝ) : EReal) := fun d => by
      rw [hq, hk, ← EReal.coe_mul]
      unfold qryR keyR
      refine congrArg (fun x : ℝ => (x : EReal)) (congrArg₂ (fun x y : ℝ => x * y) (congrArg (fun i => (q i).toReal) (ix3_same rfl rfl ?_)) (congrArg (fun i => (k i).toReal) (ix3_same rfl ?_ ?_)))
      · show w.val / 64 * 64 + d.val = 64 * (w.val / 64) + d.val; omega
      · show j.val = j.val % 4096; have := j.isLt; omega
      · show w.val / 64 * 64 + d.val = 64 * (w.val / 64) + d.val; omega
    refine (congrArg (· * (((1 : ℝ) / 8 : ℝ) : EReal)) ((Finset.sum_congr rfl fun d _ => hd d).trans (coe_sum _ _))).trans ?_
    show ((_ : ℝ) : EReal) * _ = _
    rw [← EReal.coe_mul]
    rfl
  have hs := s.isLt
  refine mix_sum (fun x => weights (scores q k) (ix4 b ⟨w.val / 64, by omega⟩ s x)) (fun x => v (ix3 b x w)) (colV (aV m c) b w) _ s.val (256 * (s.val / 256 + 1)) (by omega) (by omega)
    (fun k => weights_ix _ b _ s _ hz (256 * (s.val / 256 + 1)) (by omega) (by omega) k) fun k => ?_
  rw [ev]
  unfold colV
  exact congrArg v (ix3_same rfl (by show k.val = k.val % 4096; have := k.isLt; omega) rfl)

theorem algebraic : Cert.algebraic_KernelIdeal_ReferenceIdeal_pre_finite (hPre_finite := facts_pre) := by
  intro m g m' g' hp he
  refine ⟨fun c => outArr m c, ?_, ?_⟩
  · exact (θ_run Cert.KernelIdeal.defs _ _).mono (fun _ h c => ⟨(h.1 c).2.2.2, (h.1 c).1, (h.1 c).2.1, (h.1 c).2.2.1⟩) (Cert.KernelIdeal.Sb.run_all (F := Ideal) m g)
  · refine (θ_run Cert.ReferenceIdeal.defs _ _).mono (fun _ h c => ⟨(h c).1.trans ?_, (h c).2⟩) (Cert.ReferenceIdeal.Value.run (F := Ideal) m' g')
    have hf := pre_finite _ _ _ (hp c)
    rw [res_eq m' c]
    exact same m c (rQ m' c) (rK m' c) (rV m' c) (he c).1.symm (he c).2.1.symm (he c).2.2.symm (by rw [show rQ m' c = aQ m c from (he c).1]; exact hf.1)
      (by rw [show rK m' c = aK m c from (he c).2.1]; exact hf.2)

end Cert.Sb
-- ==== Proof.FfnBlk.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read

@[expose] public section

end
-- ==== Proof.FfnGelu.lean ====
/-
The two spellings of the gelu: with the logistic function of twice the argument, and with the hyperbolic
tangent. They agree at every extended real.
-/
module

public import Idealize.ShloMosaic.PureOps.Ideal.Laws

@[expose] public section

noncomputable section

namespace Cert.FfnMath

open Idealize.ShloMosaic

/-- The scale of the tangent's argument, twice over `log 2` and negative. -/
def cA : ℝ := (-2) * (6693141 / 8388608) * (Real.log 2)⁻¹
/-- The same times the weight of the cube. -/
def cB : ℝ := (-2) * (6693141 / 8388608) * (Real.log 2)⁻¹ * (12003091 / 268435456)

theorem cB_neg : cB < 0 := by
  have : 0 < Real.log 2 := Real.log_pos (by norm_num)
  have h : 0 < (Real.log 2)⁻¹ := inv_pos.mpr this
  unfold cB
  nlinarith

theorem logistic_two (y : ℝ) : (1 + Real.exp (-2 * y))⁻¹ = 1 / 2 * (1 + Real.tanh y) := by
  have hs : Real.exp (-2 * y) = Real.exp (-y) * Real.exp (-y) := by
    rw [← Real.exp_add]; congr 1; ring
  have hi : Real.exp y * Real.exp (-y) = 1 := by rw [← Real.exp_add]; simp
  have h1 : 0 < Real.exp y := Real.exp_pos _
  have h2 : 0 < Real.exp (-y) := Real.exp_pos _
  rw [Real.tanh_eq_sinh_div_cosh, Real.sinh_eq, Real.cosh_eq, hs]
  field_simp
  nlinarith

theorem pow_scaled (x : ℝ) : (2 : ℝ) ^ (x * (cA + cB * (x * x))) =
    Real.exp (-2 * (6693141 / 8388608 * (x + 12003091 / 268435456 * (x * x * x)))) := by
  have hl : Real.log 2 ≠ 0 := (Real.log_pos (by norm_num)).ne'
  rw [Real.rpow_def_of_pos (by norm_num)]
  congr 1
  unfold cA cB
  field_simp
  ring

theorem gelu_eq (x : EReal) :
    Ideal.div x (1 + Ideal.exp2 (x * ((cA : ℝ) + (cB : ℝ) * (x * x)))) =
      ((1 / 2 : ℝ) : EReal) * x *
        (1 + Ideal.tanh (((6693141 / 8388608 : ℝ) : EReal) * (x + ((12003091 / 268435456 : ℝ) : EReal) * (x * x * x)))) := by
  induction x with
  | bot =>
    rw [EReal.bot_mul_bot, EReal.coe_mul_top_of_neg cB_neg, EReal.add_bot, EReal.bot_mul_bot, EReal.top_mul_bot,
      EReal.coe_mul_bot_of_pos (by norm_num), EReal.bot_add, EReal.coe_mul_bot_of_pos (by norm_num)]
    have h1 : Ideal.exp2 (⊤ : EReal) = ⊤ := rfl
    have h2 : Ideal.tanh (⊥ : EReal) = -1 := rfl
    have h3 : (1 : EReal) + -1 = 0 := by
      rw [← EReal.coe_one, ← EReal.coe_neg, ← EReal.coe_add]; simp
    have h4 : (1 : EReal) + ⊤ = ⊤ := by rw [← EReal.coe_one, EReal.coe_add_top]
    rw [h1, h2, h3, h4, mul_zero]
    unfold Ideal.div
    simp
  | top =>
    rw [EReal.top_mul_top, EReal.coe_mul_top_of_neg cB_neg, EReal.add_bot, EReal.top_mul_bot, EReal.top_mul_top,
      EReal.coe_mul_top_of_pos (by norm_num), EReal.coe_mul_top_of_pos (by norm_num), EReal.top_add_top,
      EReal.coe_mul_top_of_pos (by norm_num)]
    have h1 : Ideal.exp2 (⊥ : EReal) = 0 := rfl
    have h2 : Ideal.tanh (⊤ : EReal) = 1 := rfl
    have h3 : (1 : EReal) + 1 = ((2 : ℝ) : EReal) := by
      rw [← EReal.coe_one, ← EReal.coe_add]; norm_num
    rw [h1, h2, h3, add_zero, EReal.top_mul_coe_of_pos (by norm_num)]
    unfold Ideal.div
    simp
  | coe x =>
    have e1 : (x : EReal) * ((cA : ℝ) + (cB : ℝ) * ((x : EReal) * x)) = ((x * (cA + cB * (x * x)) : ℝ) : EReal) := by
      push_cast; rfl
    have e2 : ((6693141 / 8388608 : ℝ) : EReal) * ((x : EReal) + ((12003091 / 268435456 : ℝ) : EReal) * ((x : EReal) * x * x)) =
        ((6693141 / 8388608 * (x + 12003091 / 268435456 * (x * x * x)) : ℝ) : EReal) := by
      simp only [EReal.coe_mul, EReal.coe_add]
    have hp : (1 : EReal) + ((Real.exp (-2 * (6693141 / 8388608 * (x + 12003091 / 268435456 * (x * x * x)))) : ℝ) : EReal) =
        ((1 + Real.exp (-2 * (6693141 / 8388608 * (x + 12003091 / 268435456 * (x * x * x)))) : ℝ) : EReal) := by
      rw [EReal.coe_add, EReal.coe_one]
    rw [e1, e2, Ideal.exp2_coe, Ideal.tanh_coe]
    rw [show Real.rpow 2 (x * (cA + cB * (x * x))) = (2 : ℝ) ^ (x * (cA + cB * (x * x))) from rfl, pow_scaled, hp, Ideal.div_coe (by positivity), one_div, logistic_two]
    generalize Real.tanh _ = y
    rw [← EReal.coe_one, ← EReal.coe_add, ← EReal.coe_mul, ← EReal.coe_mul, ← EReal.coe_mul]
    congr 1
    ring

/-- The row `v` over the root of its mean square, times the gain. -/
def rmsE (v g : Fin 1024 → EReal) (k : Fin 1024) : EReal :=
  v k * Ideal.rsqrt (Ideal.div (∑ x, v x * v x) (Ideal.ofBits FTy.f32 0x44800000#32) + Ideal.ofBits FTy.f32 0x358637BD#32) * g k

/-- The convolution of three positions of one channel. -/
def convE (b w2 w1 w0 p0 p1 p2 : EReal) : EReal := b + w2 * p0 + w1 * p1 + w0 * p2

def geluE (x : EReal) : EReal := Ideal.div x (1 + Ideal.exp2 (x * ((cA : ℝ) + (cB : ℝ) * (x * x))))

/-- The value `n` rows before row `r` of a tile: of the tile itself, or of the eight rows before it. -/
def tapE (u : Fin 512 → EReal) (p : Fin 8 → EReal) (r : Fin 512) (n : ℕ) (hn : n < 8) : EReal :=
  if h : n ≤ r.val then u ⟨r.val - n, Nat.lt_of_le_of_lt (Nat.sub_le _ _) r.isLt⟩
  else p ⟨8 + r.val - n, by clear u p; omega⟩

theorem tap_eq (u : Fin 512 → EReal) (p : Fin 8 → EReal) (r : Fin 512) (n : ℕ) (hn : n < 8)
    (h1 : (8 + r.val + 520 - n) % 520 < 8 → (8 + r.val + 520 - n) % 520 < 8)
    (h2 : ¬ (8 + r.val + 520 - n) % 520 < 8 → (8 + r.val + 520 - n) % 520 - 8 < 512) :
    (if h : (8 + r.val + 520 - n) % 520 < 8 then p ⟨(8 + r.val + 520 - n) % 520, h1 h⟩
      else u ⟨(8 + r.val + 520 - n) % 520 - 8, h2 h⟩) = tapE u p r n hn := by
  have hr := r.isLt
  have e : (8 + r.val + 520 - n) % 520 = 8 + r.val - n := by omega
  unfold tapE
  by_cases h : n ≤ r.val
  · rw [dif_pos h, dif_neg (by omega)]
    exact congrArg u (Fin.ext (by simp only [e]; omega))
  · rw [dif_neg h, dif_pos (by omega)]
    exact congrArg p (Fin.ext e)

end Cert.FfnMath
-- ==== Proof.FfnTile.lean ====
/-
What the second call's tile computes, one stored value at an index.
-/
module

public import proofs.«01_k».proof.Proof.Gen.FfnIdeal.Skeleton
public import proofs.«01_k».proof.Proof.FfnGelu
public import Idealize.ShloMosaic.Lib.Pointwise
public import Idealize.ShloMosaic.Lib.Pipeline.ValueKit

@[expose] public section

set_option maxRecDepth 16384
set_option maxHeartbeats 1000000

noncomputable section

namespace Cert.FfnIdeal.Tile

open Idealize.ShloMosaic Idealize.ShloMosaic.TcCoe Cert.FfnIdeal Cert.FfnIdeal.Gen Cert.FfnMath

theorem lit_zero : Ideal.ofBits .f32 0x00000000#32 = 0 := by
  simp [Ideal.ofBits, Ideal.ieee]

theorem fresh_at (y : S8x5632.Idx) : k0_pay2 (F := Ideal) y = 0 := by
  pointwise [k0_pay2]

theorem rmsRow_at (x : Vec Ideal S1x512x1024 .f32) (g : Vec Ideal S1x1024 .f32) (r : Fin 512) (k : Fin 1024) :
    k0_pay3 x g (ix2 r k) = rmsE (fun k => x (ix3 0 r k)) (fun k => g (ix2 0 k)) k := by
  pointwise [k0_pay3]
  rfl

theorem up_at (h : Vec Ideal S512x1024 .bf16) (w : Vec Ideal S1024x256 .bf16) (r : Fin 512) (j : Fin 256) :
    k0_pay4 h w (ix4 0 0 r j) = ∑ k : Fin 1024, h (ix2 r k) * w (ix2 k j) := by
  pointwise [k0_pay4]

theorem tail_at (u : Vec Ideal S1x1x512x256 .f32) (a : Fin 8) (j : Fin 256) :
    k0_pay7 u (ix2 a j) = u (ix4 0 0 ⟨504 + a.val, by omega⟩ j) := by
  pointwise [k0_pay7, k0_pay6]

theorem conv_at (u : Vec Ideal S1x1x512x256 .f32) (p : Vec Ideal S8x256 .f32) (b w2 w1 w0 : Vec Ideal S1x256 .f32)
    (r : Fin 512) (j : Fin 256) : k0_pay8 u p b w2 w1 w0 (ix2 r j) =
      convE (b (ix2 0 j)) (w2 (ix2 0 j)) (w1 (ix2 0 j)) (w0 (ix2 0 j)) (u (ix4 0 0 r j))
        (tapE (fun r => u (ix4 0 0 r j)) (fun a => p (ix2 a j)) r 1 (by decide))
        (tapE (fun r => u (ix4 0 0 r j)) (fun a => p (ix2 a j)) r 2 (by decide)) := by
  pointwise [k0_pay8, k0_pay6]
  exact congrArg₂ (· + ·)
    (congrArg₂ (· + ·) rfl (congrArg (w1 (ix2 0 j) * ·)
      (tap_eq (fun r => u (ix4 0 0 r j)) (fun a => p (ix2 a j)) r 1 (by decide) _ _)))
    (congrArg (w0 (ix2 0 j) * ·) (tap_eq (fun r => u (ix4 0 0 r j)) (fun a => p (ix2 a j)) r 2 (by decide) _ _))

theorem named_a : (Named.named (F := Ideal) κ (φ := .f32) "gelu_a" 3222493025#32 : EReal) = ((cA : ℝ) : EReal) :=
  IdealRules.named_const.ideal_named_scalar _ _ _ _ rfl

theorem named_b : (Named.named (F := Ideal) κ (φ := .f32) "gelu_b" 3184710632#32 : EReal) = ((cB : ℝ) : EReal) :=
  IdealRules.named_const.ideal_named_scalar _ _ _ _ rfl

theorem act_at (v : Vec Ideal S512x256 .f32) (u : Vec Ideal S1x1x512x256 .f32) (p : Vec Ideal S8x256 .f32) (b w2 w1 w0 : Vec Ideal S1x256 .f32)
    (r : Fin 512) (j : Fin 256) : k0_pay12 (k0_pay11 v u p b w2 w1 w0) (ix3 0 r j) =
      geluE (v (ix2 r j)) *
        convE (b (ix2 0 j)) (w2 (ix2 0 j)) (w1 (ix2 0 j)) (w0 (ix2 0 j)) (u (ix4 0 0 r j))
          (tapE (fun r => u (ix4 0 0 r j)) (fun a => p (ix2 a j)) r 1 (by decide))
          (tapE (fun r => u (ix4 0 0 r j)) (fun a => p (ix2 a j)) r 2 (by decide)) := by
  pointwise [k0_pay12, k0_pay11, k0_pay9]
  rw [named_a, named_b]
  exact congrArg₂ (· * ·) rfl (congrArg₂ (· + ·)
    (congrArg₂ (· + ·) rfl (congrArg (w1 (ix2 0 j) * ·)
      (tap_eq (fun r => u (ix4 0 0 r j)) (fun a => p (ix2 a j)) r 1 (by decide) _ _)))
    (congrArg (w0 (ix2 0 j) * ·) (tap_eq (fun r => u (ix4 0 0 r j)) (fun a => p (ix2 a j)) r 2 (by decide) _ _)))

theorem part_at (a : Vec Ideal S1x512x256 .bf16) (w : Vec Ideal S256x1024 .bf16) (r : Fin 512) (k : Fin 1024) :
    k0_pay15 a w (ix2 r k) = ∑ j : Fin 256, a (ix3 0 r j) * w (ix2 j k) := by
  pointwise [k0_pay15]

theorem acc_at (a : Vec Ideal S1x512x256 .bf16) (w : Vec Ideal S256x1024 .bf16) (s : Vec Ideal S512x1024 .f32) (r : Fin 512) (k : Fin 1024) :
    k0_pay26 a w s (ix2 r k) = s (ix2 r k) + ∑ j : Fin 256, a (ix3 0 r j) * w (ix2 j k) := by
  pointwise [k0_pay26]

theorem fin_at (x : Vec Ideal S1x512x1024 .f32) (s : Vec Ideal S512x1024 .f32) (g : Vec Ideal S1x1024 .f32) (r : Fin 512) (k : Fin 1024) :
    k0_pay1 (k0_pay148 x) (k0_pay149 s) (k0_pay150 g) (ix3 0 r k) =
      x (ix3 0 r k) + rmsE (fun k => s (ix2 r k)) (fun k => g (ix2 0 k)) k := by
  pointwise [k0_pay1, k0_pay148, k0_pay149, k0_pay150]
  rfl

end Cert.FfnIdeal.Tile
-- ==== Proof.FfnOpen.lean ====
/-
What one point of the second call leaves in the result's tile and in the eight carried rows, at an index.
-/
module

public import proofs.«01_k».proof.Proof.FfnTile
public import proofs.«01_k».proof.Proof.Gen.FfnIdeal.Value
public import Idealize.ShloMosaic.Lib.Pipeline.ReadBack

@[expose] public section

set_option maxRecDepth 65536
set_option maxHeartbeats 4000000

noncomputable section

namespace Cert.FfnIdeal.Tile

open Idealize.ShloMosaic Idealize.ShloMosaic.TcCoe Idealize.SL.Sem Cert.FfnIdeal Cert.FfnIdeal.Gen Cert.FfnMath

theorem inb_w {e : ℕ} (h : e + 256 ≤ 5632) : ∀ a, (![0, e] : Fin 2 → ℕ) a + (![1024, 256] : Fin 2 → ℕ) a ≤ S1024x5632.size a := by
  intro a; fin_cases a
  · exact le_refl 1024
  · exact h
theorem inb_s {e : ℕ} (h : e + 256 ≤ 5632) : ∀ a, (![0, e] : Fin 2 → ℕ) a + (![8, 256] : Fin 2 → ℕ) a ≤ S8x5632.size a := by
  intro a; fin_cases a
  · exact le_refl 8
  · exact h
theorem inb_b {e : ℕ} (h : e + 256 ≤ 5632) : ∀ a, (![0, e] : Fin 2 → ℕ) a + (![1, 256] : Fin 2 → ℕ) a ≤ S1x5632.size a := by
  intro a; fin_cases a
  · exact le_refl 1
  · exact h
theorem inb_k {i e : ℕ} (hi : i < 3) (h : e + 256 ≤ 5632) : ∀ a, (![i, e] : Fin 2 → ℕ) a + (![1, 256] : Fin 2 → ℕ) a ≤ S3x5632.size a := by
  intro a; fin_cases a
  · exact hi
  · exact h
theorem inb_d {e : ℕ} (h : e + 256 ≤ 2816) : ∀ a, (![e, 0] : Fin 2 → ℕ) a + (![256, 1024] : Fin 2 → ℕ) a ≤ S2816x1024.size a := by
  intro a; fin_cases a
  · exact h
  · exact le_refl 1024

theorem lane_lt {e : ℕ} (h : e + 256 ≤ 5632) (j : Fin 256) : e + j.val < 5632 := by omega
theorem row_lt {e : ℕ} (h : e + 256 ≤ 2816) (j : Fin 256) : e + j.val < 2816 := by omega
theorem gate_le {e : ℕ} (h : e + 256 ≤ 2816) : e + 256 ≤ 5632 := by omega
theorem val_le {e : ℕ} (h : e + 256 ≤ 2816) : (2816 + e) + 256 ≤ 5632 := by omega
theorem gate_lt (j : Fin 2816) : j.val < 5632 := by omega
theorem val_lt (j : Fin 2816) : 2816 + j.val < 5632 := by omega

section Blocks
variable (x0 : Vec Ideal S1x512x1024 .f32) (x1 : Vec Ideal S1x1024 .f32) (x2 : Vec Ideal S1024x5632 .bf16)
  (x3 : Vec Ideal S3x5632 .f32) (x4 : Vec Ideal S1x5632 .f32) (x5 : Vec Ideal S2816x1024 .bf16) (x6 : Vec Ideal S1x1024 .f32)
  (xs : Vec Ideal S8x5632 .f32)

/-- 256 columns of the first product, from column `e`. -/
def upV (e : ℕ) (h : e + 256 ≤ 5632) : Vec Ideal S1x1x512x256 .f32 :=
  k0_pay4 (k0_pay3 x0 x1) (View.ld x2 (Rect.unit (s := S1024x5632) ![0, e] ![1024, 256] (inb_w h)))

/-- The convolution of the same columns. -/
def convV (e : ℕ) (h : e + 256 ≤ 5632) : Vec Ideal S512x256 .f32 :=
  k0_pay8 (upV x0 x1 x2 e h) (View.ld xs (Rect.unit (s := S8x5632) ![0, e] ![8, 256] (inb_s h)))
    (View.ld x4 (Rect.unit (s := S1x5632) ![0, e] ![1, 256] (inb_b h)))
    (View.ld x3 (Rect.unit (s := S3x5632) ![2, e] ![1, 256] (inb_k (by decide) h)))
    (View.ld x3 (Rect.unit (s := S3x5632) ![1, e] ![1, 256] (inb_k (by decide) h)))
    (View.ld x3 (Rect.unit (s := S3x5632) ![0, e] ![1, 256] (inb_k (by decide) h)))

/-- The gate's columns `e`, activated, times the value's columns. -/
def actV (e f : ℕ) (h : e + 256 ≤ 5632) (h' : f + 256 ≤ 5632) : Vec Ideal S1x512x256 .bf16 :=
  k0_pay12 (k0_pay11 (convV x0 x1 x2 x3 x4 xs e h) (upV x0 x1 x2 f h')
    (View.ld xs (Rect.unit (s := S8x5632) ![0, f] ![8, 256] (inb_s h')))
    (View.ld x4 (Rect.unit (s := S1x5632) ![0, f] ![1, 256] (inb_b h')))
    (View.ld x3 (Rect.unit (s := S3x5632) ![2, f] ![1, 256] (inb_k (by decide) h')))
    (View.ld x3 (Rect.unit (s := S3x5632) ![1, f] ![1, 256] (inb_k (by decide) h')))
    (View.ld x3 (Rect.unit (s := S3x5632) ![0, f] ![1, 256] (inb_k (by decide) h'))))

def downV (e : ℕ) (h : e + 256 ≤ 2816) : Vec Ideal S256x1024 .bf16 :=
  View.ld x5 (Rect.unit (s := S2816x1024) ![e, 0] ![256, 1024] (inb_d h))

def stepV (e f : ℕ) (h : e + 256 ≤ 2816) (hf : f + 256 ≤ 5632) (s : Vec Ideal S512x1024 .f32) : Vec Ideal S512x1024 .f32 :=
  k0_pay26 (actV x0 x1 x2 x3 x4 xs e f (gate_le h) hf) (downV x5 e h) s

/-- The sum of the second product's first `n + 1` parts, for the eleven parts. -/
def sumV : Vec Ideal S512x1024 .f32 :=
  stepV x0 x1 x2 x3 x4 x5 xs 2560 5376 (by decide) (by decide) <|
  stepV x0 x1 x2 x3 x4 x5 xs 2304 5120 (by decide) (by decide) <|
  stepV x0 x1 x2 x3 x4 x5 xs 2048 4864 (by decide) (by decide) <|
  stepV x0 x1 x2 x3 x4 x5 xs 1792 4608 (by decide) (by decide) <|
  stepV x0 x1 x2 x3 x4 x5 xs 1536 4352 (by decide) (by decide) <|
  stepV x0 x1 x2 x3 x4 x5 xs 1280 4096 (by decide) (by decide) <|
  stepV x0 x1 x2 x3 x4 x5 xs 1024 3840 (by decide) (by decide) <|
  stepV x0 x1 x2 x3 x4 x5 xs 768 3584 (by decide) (by decide) <|
  stepV x0 x1 x2 x3 x4 x5 xs 512 3328 (by decide) (by decide) <|
  stepV x0 x1 x2 x3 x4 x5 xs 256 3072 (by decide) (by decide) <|
  k0_pay15 (actV x0 x1 x2 x3 x4 xs 0 2816 (by decide) (by decide)) (downV x5 0 (by decide))

def finV : Vec Ideal S1x512x1024 .f32 :=
  k0_pay1 (k0_pay148 x0) (k0_pay149 (sumV x0 x1 x2 x3 x4 x5 xs)) (k0_pay150 x6)

/-- Row `r` of the tile, channel `e`, of the first product. -/
def upT (r : Fin 512) (e : Fin 5632) : EReal :=
  ∑ k : Fin 1024, rmsE (fun k => x0 (ix3 0 r k)) (fun k => x1 (ix2 0 k)) k * x2 (ix2 k e)

def convT (r : Fin 512) (e : Fin 5632) : EReal :=
  convE (x4 (ix2 0 e)) (x3 (ix2 2 e)) (x3 (ix2 1 e)) (x3 (ix2 0 e)) (upT x0 x1 x2 r e)
    (tapE (fun r => upT x0 x1 x2 r e) (fun a => xs (ix2 a e)) r 1 (by decide))
    (tapE (fun r => upT x0 x1 x2 r e) (fun a => xs (ix2 a e)) r 2 (by decide))

def actT (r : Fin 512) (j : Fin 2816) : EReal :=
  geluE (convT x0 x1 x2 x3 x4 xs r ⟨j.val, gate_lt j⟩) * convT x0 x1 x2 x3 x4 xs r ⟨2816 + j.val, val_lt j⟩

def outT (r : Fin 512) (k : Fin 1024) : EReal :=
  x0 (ix3 0 r k) + rmsE (fun k => ∑ j : Fin 2816, actT x0 x1 x2 x3 x4 xs r j * x5 (ix2 j k)) (fun k => x6 (ix2 0 k)) k

theorem ldW (e : ℕ) (h : e + 256 ≤ 5632) (k : Fin 1024) (j : Fin 256) :
    View.ld x2 (Rect.unit (s := S1024x5632) ![0, e] ![1024, 256] (inb_w h)) (ix2 k j) = x2 (ix2 k ⟨e + j.val, lane_lt h j⟩) :=
  View.ld_unit_apply_of _ _ _ _ _ _ fun a => by fin_cases a <;> simp [ix2]
theorem ldS (e : ℕ) (h : e + 256 ≤ 5632) (k : Fin 8) (j : Fin 256) :
    View.ld xs (Rect.unit (s := S8x5632) ![0, e] ![8, 256] (inb_s h)) (ix2 k j) = xs (ix2 k ⟨e + j.val, lane_lt h j⟩) :=
  View.ld_unit_apply_of _ _ _ _ _ _ fun a => by fin_cases a <;> simp [ix2]
theorem ldB (e : ℕ) (h : e + 256 ≤ 5632) (j : Fin 256) :
    View.ld x4 (Rect.unit (s := S1x5632) ![0, e] ![1, 256] (inb_b h)) (ix2 0 j) = x4 (ix2 0 ⟨e + j.val, lane_lt h j⟩) :=
  View.ld_unit_apply_of _ _ _ _ _ _ fun a => by fin_cases a <;> simp [ix2]
theorem ldK (i : Fin 3) (e : ℕ) (h : e + 256 ≤ 5632) (j : Fin 256) :
    View.ld x3 (Rect.unit (s := S3x5632) ![i.val, e] ![1, 256] (inb_k i.isLt h)) (ix2 0 j) = x3 (ix2 i ⟨e + j.val, lane_lt h j⟩) :=
  View.ld_unit_apply_of _ _ _ _ _ _ fun a => by fin_cases a <;> simp [ix2]
theorem ldD (e : ℕ) (h : e + 256 ≤ 2816) (j : Fin 256) (k : Fin 1024) :
    downV x5 e h (ix2 j k) = x5 (ix2 ⟨e + j.val, row_lt h j⟩ k) :=
  View.ld_unit_apply_of _ _ _ _ _ _ fun a => by fin_cases a <;> simp [ix2]

theorem upV_at (e : ℕ) (h : e + 256 ≤ 5632) (r : Fin 512) (j : Fin 256) :
    upV x0 x1 x2 e h (ix4 0 0 r j) = upT x0 x1 x2 r ⟨e + j.val, lane_lt h j⟩ := by
  unfold upV
  rw [up_at]
  refine Fin.sum_fin_congr fun k => ?_
  rw [rmsRow_at, ldW x2 e h]

theorem convV_at (e : ℕ) (h : e + 256 ≤ 5632) (r : Fin 512) (j : Fin 256) :
    convV x0 x1 x2 x3 x4 xs e h (ix2 r j) = convT x0 x1 x2 x3 x4 xs r ⟨e + j.val, lane_lt h j⟩ := by
  unfold convV convT
  rw [conv_at]
  simp only [upV_at, ldS xs e h]
  rw [ldB x4 e h, ← ldK x3 2 e h j, ← ldK x3 1 e h j, ← ldK x3 0 e h j]
  rfl

theorem actV_at (e f : ℕ) (h : e + 256 ≤ 2816) (hf : f + 256 ≤ 5632) (hef : f = 2816 + e) (r : Fin 512) (j : Fin 256) :
    actV x0 x1 x2 x3 x4 xs e f (gate_le h) hf (ix3 0 r j) = actT x0 x1 x2 x3 x4 xs r ⟨e + j.val, row_lt h j⟩ := by
  subst hef
  unfold actV actT
  rw [act_at, convV_at]
  refine congrArg₂ (· * ·) rfl ?_
  simp only [upV_at, ldS xs _ hf]
  rw [ldB x4 _ hf]
  have e1 : (⟨2816 + e + j.val, lane_lt hf j⟩ : Fin 5632) = ⟨2816 + (e + j.val), val_lt ⟨e + j.val, row_lt h j⟩⟩ :=
    Fin.ext (Nat.add_assoc _ _ _)
  unfold convT
  rw [← e1, ← ldK x3 2 _ hf j, ← ldK x3 1 _ hf j, ← ldK x3 0 _ hf j]
  rfl

/-- Lane `i` of the second product's sum, by number. -/
def term (r : Fin 512) (k : Fin 1024) (i : ℕ) : EReal :=
  if h : i < 2816 then actT x0 x1 x2 x3 x4 xs r ⟨i, h⟩ * x5 (ix2 ⟨i, h⟩ k) else 0

theorem part_term (e f : ℕ) (h : e + 256 ≤ 2816) (hf : f + 256 ≤ 5632) (hef : f = 2816 + e) (r : Fin 512) (k : Fin 1024) :
    ∑ j : Fin 256, actV x0 x1 x2 x3 x4 xs e f (gate_le h) hf (ix3 0 r j) * downV x5 e h (ix2 j k) =
      ∑ j : Fin 256, term x0 x1 x2 x3 x4 x5 xs r k (e + j.val) := by
  refine Fin.sum_fin_congr fun j => ?_
  rw [actV_at x0 x1 x2 x3 x4 xs e f h hf hef, ldD, term, dif_pos (row_lt h j)]

theorem stepV_at (e f : ℕ) (h : e + 256 ≤ 2816) (hf : f + 256 ≤ 5632) (hef : f = 2816 + e) (s : Vec Ideal S512x1024 .f32) (r : Fin 512) (k : Fin 1024) :
    stepV x0 x1 x2 x3 x4 x5 xs e f h hf s (ix2 r k) = s (ix2 r k) + ∑ j : Fin 256, term x0 x1 x2 x3 x4 x5 xs r k (e + j.val) := by
  unfold stepV
  rw [acc_at, part_term x0 x1 x2 x3 x4 x5 xs e f h hf hef]

theorem parts_sum (f : ℕ → EReal) :
    (∑ j : Fin 256, f (0 + j.val)) + (∑ j : Fin 256, f (256 + j.val)) + (∑ j : Fin 256, f (512 + j.val)) + (∑ j : Fin 256, f (768 + j.val)) +
      (∑ j : Fin 256, f (1024 + j.val)) + (∑ j : Fin 256, f (1280 + j.val)) + (∑ j : Fin 256, f (1536 + j.val)) + (∑ j : Fin 256, f (1792 + j.val)) +
      (∑ j : Fin 256, f (2048 + j.val)) + (∑ j : Fin 256, f (2304 + j.val)) + (∑ j : Fin 256, f (2560 + j.val)) = ∑ l : Fin 2816, f l.val := by
  rw [show (∑ l : Fin 2816, f l.val) = ∑ l : Fin (11 * 256), f l.val from rfl, ← Fin.sum_univ_univ_mul_add 11 256 f,
    Fin.sum_univ_eq_sum_range (fun s => ∑ k : Fin 256, f (s * 256 + k.val)) 11]
  simp only [Finset.sum_range_succ, Finset.sum_range_zero, zero_add, Nat.zero_mul, Nat.one_mul, Nat.reduceMul]

theorem sumV_at (r : Fin 512) (k : Fin 1024) :
    sumV x0 x1 x2 x3 x4 x5 xs (ix2 r k) = ∑ j : Fin 2816, actT x0 x1 x2 x3 x4 xs r j * x5 (ix2 j k) := by
  unfold sumV
  rw [stepV_at _ _ _ _ _ _ _ _ _ _ _ rfl, stepV_at _ _ _ _ _ _ _ _ _ _ _ rfl, stepV_at _ _ _ _ _ _ _ _ _ _ _ rfl,
    stepV_at _ _ _ _ _ _ _ _ _ _ _ rfl, stepV_at _ _ _ _ _ _ _ _ _ _ _ rfl, stepV_at _ _ _ _ _ _ _ _ _ _ _ rfl,
    stepV_at _ _ _ _ _ _ _ _ _ _ _ rfl, stepV_at _ _ _ _ _ _ _ _ _ _ _ rfl, stepV_at _ _ _ _ _ _ _ _ _ _ _ rfl,
    stepV_at _ _ _ _ _ _ _ _ _ _ _ rfl, part_at, part_term x0 x1 x2 x3 x4 x5 xs 0 2816 (by decide) (by decide) rfl,
    parts_sum (term x0 x1 x2 x3 x4 x5 xs r k)]
  refine Fin.sum_fin_congr fun j => ?_
  rw [term, dif_pos j.isLt]

theorem finV_at (r : Fin 512) (k : Fin 1024) :
    finV x0 x1 x2 x3 x4 x5 x6 xs (ix3 0 r k) = outT x0 x1 x2 x3 x4 x5 x6 xs r k := by
  unfold finV outT
  rw [fin_at]
  simp only [sumV_at]

theorem tail_lt (a : Fin 8) : 504 + a.val < 512 := by omega

/-- The eight carried rows: the last rows of the tile's first product. -/
def tailT (y : S8x5632.Idx) : EReal := upT x0 x1 x2 ⟨504 + (y 0).val, tail_lt (y 0)⟩ (y 1)

theorem tail_piece (e : ℕ) (h : e + 256 ≤ 5632) (x : S8x256.Idx) :
    k0_pay7 (upV x0 x1 x2 e h) x = tailT x0 x1 x2 ((Rect.unit (s := S8x5632) ![0, e] ![8, 256] (inb_s h)).emb x) := by
  obtain ⟨a, j, rfl⟩ : ∃ a j, x = ix2 a j := ⟨x 0, x 1, funext fun b => by fin_cases b <;> rfl⟩
  rw [tail_at, upV_at]
  unfold tailT
  refine congrArg₂ (upT x0 x1 x2) (Fin.ext ?_) (Fin.ext ?_)
  · simp [ix2]
  · simp [ix2]

end Blocks

theorem canon_take (G : S8x5632.Idx → EReal) (n : ℕ) (L : List (View.Piece (Elt Ideal) S8x5632 .f32)) (h : View.PiecesOf (e := .f32) G (L.take n))
    (hc : View.Piece.tiledL (L.take n) ![8, 256] = true) (y : S8x5632.Idx) : View.canon L y = G y := by
  rw [← List.take_append_drop n L]
  exact View.canon_append_of_piecesOf (e := .f32) G _ _ h y (View.cover_of_tiledL _ _ hc y)

variable (m : (ℓ : Loc nD τ sig) → Buf (Elt Ideal) ℓ)

theorem out_B (c : Dev nD) (t : Fin cfg0.N) (h : ¬ t.val % 8 = 0) :
    (outsAt0 m c t.val t.isLt).1 = finV (iblk m c 0 t) (iblk m c 1 t) (iblk m c 2 t) (iblk m c 3 t) (iblk m c 4 t)
      (iblk m c 5 t) (iblk m c 6 t) (outsAt0 m c (t.val - 1) (Nat.lt_of_le_of_lt (Nat.sub_le _ _) t.isLt)).2 := by
  rw [outsAt0_B m c t h]
  frame_open
  simp (disch := decide) only [↓ View.readCov_skip, ↓ View.readCov_cons_toLoadRect, ↓ View.readCov_fill]
  frame_out
  simp only [read_unread_whole]
  rfl

theorem out_A (c : Dev nD) (t : Fin cfg0.N) (h : t.val % 8 = 0) :
    (outsAt0 m c t.val t.isLt).1 = finV (iblk m c 0 t) (iblk m c 1 t) (iblk m c 2 t) (iblk m c 3 t) (iblk m c 4 t)
      (iblk m c 5 t) (iblk m c 6 t) (k0_pay2 (F := Ideal)) := by
  rw [outsAt0_A m c t h]
  frame_open
  simp (disch := decide) only [↓ View.readCov_skip, ↓ View.readCov_cons_toLoadRect, ↓ View.readCov_fill]
  frame_out
  rfl

theorem tail_A (c : Dev nD) (t : Fin cfg0.N) (h : t.val % 8 = 0) (y : S8x5632.Idx) :
    (outsAt0 m c t.val t.isLt).2 y = tailT (iblk m c 0 t) (iblk m c 1 t) (iblk m c 2 t) y := by
  rw [outsAt0_A m c t h]
  frame_open
  simp (disch := decide) only [↓ View.readCov_skip, ↓ View.readCov_cons_toLoadRect, ↓ View.readCov_fill]
  frame_out
  refine canon_take _ 22 _ ?_ rfl y
  dsimp only [List.take, View.PiecesOf]
  refine ⟨?_, ?_, ?_, ?_, ?_, ?_, ?_, ?_, ?_, ?_, ?_, ?_, ?_, ?_, ?_, ?_, ?_, ?_, ?_, ?_, ?_, ?_, trivial⟩
  all_goals exact tail_piece _ _ _ _ (by decide)

theorem tail_B (c : Dev nD) (t : Fin cfg0.N) (h : ¬ t.val % 8 = 0) (y : S8x5632.Idx) :
    (outsAt0 m c t.val t.isLt).2 y = tailT (iblk m c 0 t) (iblk m c 1 t) (iblk m c 2 t) y := by
  rw [outsAt0_B m c t h]
  frame_open
  simp (disch := decide) only [↓ View.readCov_skip, ↓ View.readCov_cons_toLoadRect, ↓ View.readCov_fill]
  frame_out
  refine canon_take _ 22 _ ?_ rfl y
  dsimp only [List.take, View.PiecesOf]
  refine ⟨?_, ?_, ?_, ?_, ?_, ?_, ?_, ?_, ?_, ?_, ?_, ?_, ?_, ?_, ?_, ?_, ?_, ?_, ?_, ?_, ?_, ?_, trivial⟩
  all_goals exact tail_piece _ _ _ _ (by decide)

end Cert.FfnIdeal.Tile
-- ==== Proof.FfnSpec.lean ====
/-
The feed forward block, one output element at a time, on plain functions of the coordinates.
-/
module

public import proofs.«01_k».proof.Proof.FfnGelu

@[expose] public section

noncomputable section

namespace Cert.FfnMath

open Idealize.ShloMosaic

variable (X : Fin 8 → Fin 4096 → Fin 1024 → EReal) (g : Fin 1024 → EReal) (W : Fin 1024 → Fin 5632 → EReal)
  (cw : Fin 3 → Fin 5632 → EReal) (cb : Fin 5632 → EReal) (Wd : Fin 2816 → Fin 1024 → EReal) (g2 : Fin 1024 → EReal)

/-- The normalised row times a column of the first weight. -/
def specUp (b : Fin 8) (s : Fin 4096) (e : Fin 5632) : EReal := ∑ k : Fin 1024, rmsE (X b s) g k * W k e

theorem back_lt (s : Fin 4096) (n : ℕ) : s.val - n < 4096 := lt_of_le_of_lt (Nat.sub_le _ _) s.isLt

/-- The same `n` rows earlier, and zero before the sequence starts. -/
def specBack (b : Fin 8) (s : Fin 4096) (e : Fin 5632) (n : ℕ) : EReal :=
  if n ≤ s.val then specUp X g W b ⟨s.val - n, back_lt s n⟩ e else 0

def specConv (b : Fin 8) (s : Fin 4096) (e : Fin 5632) : EReal :=
  convE (cb e) (cw 2 e) (cw 1 e) (cw 0 e) (specUp X g W b s e) (specBack X g W b s e 1) (specBack X g W b s e 2)

theorem lo_lt (j : Fin 2816) : j.val < 5632 := by omega
theorem hi_lt (j : Fin 2816) : 2816 + j.val < 5632 := by omega

def specAct (b : Fin 8) (s : Fin 4096) (j : Fin 2816) : EReal :=
  geluE (specConv X g W cw cb b s ⟨j.val, lo_lt j⟩) * specConv X g W cw cb b s ⟨2816 + j.val, hi_lt j⟩

def specOut (b : Fin 8) (s : Fin 4096) (k : Fin 1024) : EReal :=
  X b s k + rmsE (fun k => ∑ j : Fin 2816, specAct X g W cw cb b s j * Wd j k) g2 k

end Cert.FfnMath

end
-- ==== Proof.FfnArr.lean ====
/-
The array the feed forward call leaves, at an index, from the arguments.
-/
module

public import proofs.«01_k».proof.Proof.FfnOpen
public import proofs.«01_k».proof.Proof.FfnSpec
public import Idealize.ShloMosaic.Lib.StableHlo.RunRead

@[expose] public section

set_option maxRecDepth 16384
set_option maxHeartbeats 1000000

noncomputable section

namespace Cert.FfnIdeal.Tile

open Idealize.ShloMosaic Idealize.ShloMosaic.TcCoe Cert.FfnIdeal Cert.FfnIdeal.Gen
open Idealize.SL.Sem
open Cert.FfnMath Cert.FfnIdeal.Value

variable (m : (ℓ : Loc nD τ sig) → Buf (Elt Ideal) ℓ) (c : Dev nD)

/-- The arguments, by coordinates. -/
def aX (b : Fin 8) (s : Fin 4096) (k : Fin 1024) : EReal := m ((c : Thread nD τ).loc main_arg0) (ix3 b s k)
def aG (k : Fin 1024) : EReal := m ((c : Thread nD τ).loc main_arg1) (ix1 k)
def aW (k : Fin 1024) (e : Fin 5632) : EReal := m ((c : Thread nD τ).loc main_arg2) (ix2 k e)
def aC (n : Fin 3) (e : Fin 5632) : EReal := m ((c : Thread nD τ).loc main_arg3) (ix2 n e)
def aB (e : Fin 5632) : EReal := m ((c : Thread nD τ).loc main_arg4) (ix1 e)
def aD (j : Fin 2816) (k : Fin 1024) : EReal := m ((c : Thread nD τ).loc main_arg5) (ix2 j k)
def aH (k : Fin 1024) : EReal := m ((c : Thread nD τ).loc main_arg6) (ix1 k)

theorem V_x (b : Fin 8) (s : Fin 4096) (k : Fin 1024) : V m c main_arg0 (ix3 b s k) = aX m c b s k := by
  unfold V aX
  after_reads_simp
theorem V_c (n : Fin 3) (e : Fin 5632) : V m c main_arg3 (ix2 n e) = aC m c n e := by
  unfold V aC
  after_reads_simp
theorem V_g (k : Fin 1024) : V m c main_v0 (ix2 0 k) = aG m c k := by
  unfold V aG
  after_reads_simp
  pointwise
theorem V_w (k : Fin 1024) (e : Fin 5632) : V m c main_v1 (ix2 k e) = aW m c k e := by
  unfold V aW
  after_reads_simp
  pointwise
theorem V_b (e : Fin 5632) : V m c main_v2 (ix2 0 e) = aB m c e := by
  unfold V aB
  after_reads_simp
  pointwise
theorem V_d (j : Fin 2816) (k : Fin 1024) : V m c main_v3 (ix2 j k) = aD m c j k := by
  unfold V aD
  after_reads_simp
  pointwise
theorem V_h (k : Fin 1024) : V m c main_v4 (ix2 0 k) = aH m c k := by
  unfold V aH
  after_reads_simp
  pointwise

/-! ## The blocks -/

theorem N64 (t : Fin cfg0.N) : t.val < 64 := lt_of_lt_of_eq t.isLt N_0

theorem win0_at (t : Fin grid0.N) : win0_0.index t = ![t.val / 8, t.val % 8, 0] := by
  revert t
  have h : ∀ t : Fin grid0.N, cc0_transform_0 (grid0.coords t) = ![t.val / 8, t.val % 8, 0] := by decide +kernel
  exact h

theorem win1_at (t : Fin grid0.N) : win0_1.index t = ![0, 0] := by
  revert t
  have h : ∀ t : Fin grid0.N, cc0_transform_1 (grid0.coords t) = ![0, 0] := by decide +kernel
  exact h
theorem win2_at (t : Fin grid0.N) : win0_2.index t = ![0, 0] := by
  revert t
  have h : ∀ t : Fin grid0.N, cc0_transform_2 (grid0.coords t) = ![0, 0] := by decide +kernel
  exact h
theorem win3_at (t : Fin grid0.N) : win0_3.index t = ![0, 0] := by
  revert t
  have h : ∀ t : Fin grid0.N, cc0_transform_3 (grid0.coords t) = ![0, 0] := by decide +kernel
  exact h
theorem win4_at (t : Fin grid0.N) : win0_4.index t = ![0, 0] := by
  revert t
  have h : ∀ t : Fin grid0.N, cc0_transform_4 (grid0.coords t) = ![0, 0] := by decide +kernel
  exact h
theorem win5_at (t : Fin grid0.N) : win0_5.index t = ![0, 0] := by
  revert t
  have h : ∀ t : Fin grid0.N, cc0_transform_5 (grid0.coords t) = ![0, 0] := by decide +kernel
  exact h
theorem win6_at (t : Fin grid0.N) : win0_6.index t = ![0, 0] := by
  revert t
  have h : ∀ t : Fin grid0.N, cc0_transform_6 (grid0.coords t) = ![0, 0] := by decide +kernel
  exact h

theorem bat_lt (t : Fin cfg0.N) : t.val / 8 < 8 := by have := N64 t; omega
theorem srow_lt (t : Fin cfg0.N) (r : Fin 512) : t.val % 8 * 512 + r.val < 4096 := by omega

theorem blk0_at (t : Fin cfg0.N) (r : Fin 512) (k : Fin 1024) :
    iblk m c 0 t (ix3 0 r k) = aX m c ⟨t.val / 8, bat_lt t⟩ ⟨t.val % 8 * 512 + r.val, srow_lt t r⟩ k := by
  rw [← V_x]
  blk_simp [iblk]
  blk_ext
  case «0» => exact congrArg (· + 0) (congrFun (win0_at t) 0)
  case «1» => exact congrArg (· * 512 + r.val) (congrFun (win0_at t) 1)
  case «2» => exact (congrArg (· * 1024 + k.val) (congrFun (win0_at t) 2)).trans (by show 0 * 1024 + k.val = k.val; omega)

theorem blk1_at (t : Fin cfg0.N) (k : Fin 1024) : iblk m c 1 t (ix2 0 k) = aG m c k := by
  rw [← V_g]
  blk_simp [iblk]
  blk_ext
  case «0» => exact congrArg (· + 0) (congrFun (win1_at t) 0)
  case «1» => exact (congrArg (· * 1024 + k.val) (congrFun (win1_at t) 1)).trans (by show 0 * 1024 + k.val = k.val; omega)
theorem blk2_at (t : Fin cfg0.N) (k : Fin 1024) (e : Fin 5632) : iblk m c 2 t (ix2 k e) = aW m c k e := by
  rw [← V_w]
  blk_simp [iblk]
  blk_ext
  case «0» => exact (congrArg (· * 1024 + k.val) (congrFun (win2_at t) 0)).trans (by show 0 * 1024 + k.val = k.val; omega)
  case «1» => exact (congrArg (· * 5632 + e.val) (congrFun (win2_at t) 1)).trans (by show 0 * 5632 + e.val = e.val; omega)
theorem blk3_at (t : Fin cfg0.N) (n : Fin 3) (e : Fin 5632) : iblk m c 3 t (ix2 n e) = aC m c n e := by
  rw [← V_c]
  blk_simp [iblk]
  blk_ext
  case «0» => exact (congrArg (· * 3 + n.val) (congrFun (win3_at t) 0)).trans (by show 0 * 3 + n.val = n.val; omega)
  case «1» => exact (congrArg (· * 5632 + e.val) (congrFun (win3_at t) 1)).trans (by show 0 * 5632 + e.val = e.val; omega)
theorem blk4_at (t : Fin cfg0.N) (e : Fin 5632) : iblk m c 4 t (ix2 0 e) = aB m c e := by
  rw [← V_b]
  blk_simp [iblk]
  blk_ext
  case «0» => exact congrArg (· + 0) (congrFun (win4_at t) 0)
  case «1» => exact (congrArg (· * 5632 + e.val) (congrFun (win4_at t) 1)).trans (by show 0 * 5632 + e.val = e.val; omega)
theorem blk5_at (t : Fin cfg0.N) (j : Fin 2816) (k : Fin 1024) : iblk m c 5 t (ix2 j k) = aD m c j k := by
  rw [← V_d]
  blk_simp [iblk]
  blk_ext
  case «0» => exact (congrArg (· * 2816 + j.val) (congrFun (win5_at t) 0)).trans (by show 0 * 2816 + j.val = j.val; omega)
  case «1» => exact (congrArg (· * 1024 + k.val) (congrFun (win5_at t) 1)).trans (by show 0 * 1024 + k.val = k.val; omega)
theorem blk6_at (t : Fin cfg0.N) (k : Fin 1024) : iblk m c 6 t (ix2 0 k) = aH m c k := by
  rw [← V_h]
  blk_simp [iblk]
  blk_ext
  case «0» => exact congrArg (· + 0) (congrFun (win6_at t) 0)
  case «1» => exact (congrArg (· * 1024 + k.val) (congrFun (win6_at t) 1)).trans (by show 0 * 1024 + k.val = k.val; omega)

/-! ## A tile's rows -/

theorem up_tile (t : Fin cfg0.N) (r : Fin 512) (e : Fin 5632) :
    upT (iblk m c 0 t) (iblk m c 1 t) (iblk m c 2 t) r e
      = specUp (aX m c) (aG m c) (aW m c) ⟨t.val / 8, bat_lt t⟩ ⟨t.val % 8 * 512 + r.val, srow_lt t r⟩ e := by
  unfold upT specUp
  refine Finset.sum_congr rfl fun k _ => ?_
  rw [blk2_at]
  refine congrArg (· * aW m c k e) ?_
  unfold rmsE
  simp only [blk0_at, blk1_at]

theorem prev_lt (t : Fin cfg0.N) (a : Fin 8) : t.val % 8 * 512 - 8 + a.val < 4096 := by omega

/-- What a tile must find kept from the tile before it. -/
def Kept (t : Fin cfg0.N) (xs : FVec Ideal S8x5632 .f32) : Prop :=
  (t.val % 8 = 0 → ∀ (a : Fin 8) (e : Fin 5632), xs (ix2 a e) = (0 : EReal))
    ∧ (¬ t.val % 8 = 0 → ∀ (a : Fin 8) (e : Fin 5632), xs (ix2 a e)
        = specUp (aX m c) (aG m c) (aW m c) ⟨t.val / 8, bat_lt t⟩ ⟨t.val % 8 * 512 - 8 + a.val, prev_lt t a⟩ e)

variable {m c}

theorem tap_tile {t : Fin cfg0.N} {xs : FVec Ideal S8x5632 .f32} (hk : Kept m c t xs) (r : Fin 512) (e : Fin 5632)
    (n : ℕ) (hn : n < 8) :
    tapE (fun r => upT (iblk m c 0 t) (iblk m c 1 t) (iblk m c 2 t) r e) (fun a => xs (ix2 a e)) r n hn
      = specBack (aX m c) (aG m c) (aW m c) ⟨t.val / 8, bat_lt t⟩ ⟨t.val % 8 * 512 + r.val, srow_lt t r⟩ e n := by
  unfold tapE specBack
  by_cases h : n ≤ r.val
  · rw [dif_pos h, if_pos (show n ≤ t.val % 8 * 512 + r.val by omega)]
    refine (up_tile m c t _ e).trans ?_
    refine congrArg (fun s => specUp (aX m c) (aG m c) (aW m c) ⟨t.val / 8, bat_lt t⟩ s e) (Fin.ext ?_)
    show t.val % 8 * 512 + (r.val - n) = t.val % 8 * 512 + r.val - n
    omega
  · rw [dif_neg h]
    by_cases h0 : t.val % 8 = 0
    · rw [if_neg (show ¬ n ≤ t.val % 8 * 512 + r.val by omega)]
      exact hk.1 h0 _ e
    · rw [if_pos (show n ≤ t.val % 8 * 512 + r.val by omega)]
      refine (hk.2 h0 _ e).trans ?_
      refine congrArg (fun s => specUp (aX m c) (aG m c) (aW m c) ⟨t.val / 8, bat_lt t⟩ s e) (Fin.ext ?_)
      show t.val % 8 * 512 - 8 + (8 + r.val - n) = t.val % 8 * 512 + r.val - n
      omega

theorem conv_tile {t : Fin cfg0.N} {xs : FVec Ideal S8x5632 .f32} (hk : Kept m c t xs) (r : Fin 512) (e : Fin 5632) :
    convT (iblk m c 0 t) (iblk m c 1 t) (iblk m c 2 t) (iblk m c 3 t) (iblk m c 4 t) xs r e
      = specConv (aX m c) (aG m c) (aW m c) (aC m c) (aB m c) ⟨t.val / 8, bat_lt t⟩ ⟨t.val % 8 * 512 + r.val, srow_lt t r⟩ e := by
  unfold convT specConv
  rw [tap_tile hk, tap_tile hk, up_tile, blk4_at, blk3_at, blk3_at, blk3_at]

theorem out_tile {t : Fin cfg0.N} {xs : FVec Ideal S8x5632 .f32} (hk : Kept m c t xs) (r : Fin 512) (k : Fin 1024) :
    outT (iblk m c 0 t) (iblk m c 1 t) (iblk m c 2 t) (iblk m c 3 t) (iblk m c 4 t) (iblk m c 5 t) (iblk m c 6 t) xs r k
      = specOut (aX m c) (aG m c) (aW m c) (aC m c) (aB m c) (aD m c) (aH m c) ⟨t.val / 8, bat_lt t⟩
          ⟨t.val % 8 * 512 + r.val, srow_lt t r⟩ k := by
  unfold outT specOut actT specAct
  simp only [conv_tile hk, blk0_at, blk5_at, blk6_at]

variable (m c)

theorem tail_at_pt (t : Fin cfg0.N) (y : S8x5632.Idx) :
    (outsAt0 m c t.val t.isLt).2 y = tailT (iblk m c 0 t) (iblk m c 1 t) (iblk m c 2 t) y := by
  by_cases h : t.val % 8 = 0
  · exact tail_A m c t h y
  · exact tail_B m c t h y

theorem kept_A (t : Fin cfg0.N) (h : t.val % 8 = 0) : Kept m c t (k0_pay2 (F := Ideal)) :=
  ⟨fun _ a e => fresh_at _, fun h' => absurd h h'⟩

theorem before_lt (t : Fin cfg0.N) : t.val - 1 < cfg0.N := lt_of_le_of_lt (Nat.sub_le _ _) t.isLt

theorem kept_B (t : Fin cfg0.N) (h : ¬ t.val % 8 = 0) : Kept m c t (outsAt0 m c (t.val - 1) (before_lt t)).2 := by
  refine ⟨fun h' => absurd h' h, fun _ a e => ?_⟩
  refine (tail_at_pt m c ⟨t.val - 1, before_lt t⟩ (ix2 a e)).trans ?_
  refine (up_tile m c ⟨t.val - 1, before_lt t⟩ ⟨504 + a.val, tail_lt a⟩ e).trans ?_
  have hb : (t.val - 1) / 8 = t.val / 8 := by omega
  have hs : (t.val - 1) % 8 * 512 + (504 + a.val) = t.val % 8 * 512 - 8 + a.val := by omega
  refine congrArg₂ (fun b s => specUp (aX m c) (aG m c) (aW m c) b s e) (Fin.ext hb) (Fin.ext hs)

/-- The block each point writes back. -/
theorem block_at (t : Fin cfg0.N) (r : Fin 512) (k : Fin 1024) :
    (outsAt0 m c t.val t.isLt).1 (ix3 0 r k)
      = specOut (aX m c) (aG m c) (aW m c) (aC m c) (aB m c) (aD m c) (aH m c) ⟨t.val / 8, bat_lt t⟩
          ⟨t.val % 8 * 512 + r.val, srow_lt t r⟩ k := by
  by_cases h : t.val % 8 = 0
  · rw [out_A m c t h, finV_at]
    exact out_tile (kept_A m c t h) r k
  · rw [out_B m c t h, finV_at]
    exact out_tile (kept_B m c t h) r k

/-- The whole array. -/
theorem G7_at (b : Fin 8) (s : Fin 4096) (k : Fin 1024) :
    G7 m c (ix3 b s k) = specOut (aX m c) (aG m c) (aW m c) (aC m c) (aB m c) (aD m c) (aH m c) b s k := by
  have hp : pt7Of (ix3 b s k) = 8 * b.val + s.val / 512 := by
    show 8 * (b.val / 1 - 0) + 1 * (s.val / 512 - 0) + 1 * (k.val / 1024 - 0) = _
    omega
  have hN : pt7Of (ix3 b s k) < cfg0.N := by
    rw [hp]
    exact lt_of_lt_of_eq (by omega) N_0.symm
  have hl : loc7Of (ix3 b s k) = ix3 0 ⟨s.val % 512, Nat.mod_lt _ (by decide)⟩ k := by
    funext a
    apply Fin.ext
    match a with
    | ⟨0, _⟩ => show b.val % 1 = 0; omega
    | ⟨1, _⟩ => rfl
    | ⟨2, _⟩ => show k.val % 1024 = k.val; omega
  unfold G7
  rw [dif_pos hN, ← outsAt0_sweep m c _ hN, hl, block_at m c ⟨pt7Of (ix3 b s k), hN⟩]
  have hb : pt7Of (ix3 b s k) / 8 = b.val := by omega
  have hs : pt7Of (ix3 b s k) % 8 * 512 + s.val % 512 = s.val := by omega
  exact congrArg₂ (fun b s => specOut (aX m c) (aG m c) (aW m c) (aC m c) (aB m c) (aD m c) (aH m c) b s k) (Fin.ext hb) (Fin.ext hs)

end Cert.FfnIdeal.Tile

end
-- ==== Proof.FfnRef.lean ====
/-
The reference's result at an index.
-/
module

public import proofs.«01_k».proof.Proof.FfnSpec
public import proofs.«01_k».proof.Proof.Gen.FfnReferenceIdeal.Read
public import Idealize.ShloMosaic.Lib.Pointwise

@[expose] public section

set_option maxRecDepth 16384
set_option maxHeartbeats 1000000

noncomputable section

namespace Cert.FfnReferenceIdeal.Math

open Idealize.ShloMosaic Idealize.ShloMosaic.TcCoe Cert.FfnReferenceIdeal Cert.FfnReferenceIdeal.Read
open Cert.FfnMath

variable (x0 : (⟨S8x4096x1024, .f32⟩ : BufTy).Contents (Elt Ideal)) (x1 : (⟨S1024, .f32⟩ : BufTy).Contents (Elt Ideal)) (x2 : (⟨S1024x5632, .f32⟩ : BufTy).Contents (Elt Ideal))
  (x3 : (⟨S3x5632, .f32⟩ : BufTy).Contents (Elt Ideal)) (x4 : (⟨S5632, .f32⟩ : BufTy).Contents (Elt Ideal)) (x5 : (⟨S2816x1024, .f32⟩ : BufTy).Contents (Elt Ideal)) (x6 : (⟨S1024, .f32⟩ : BufTy).Contents (Elt Ideal))

abbrev fX (b : Fin 8) (s : Fin 4096) (k : Fin 1024) : EReal := x0 (ix3 b s k)
abbrev fG (k : Fin 1024) : EReal := x1 (ix1 k)
abbrev fW (k : Fin 1024) (e : Fin 5632) : EReal := x2 (ix2 k e)
abbrev fC (n : Fin 3) (e : Fin 5632) : EReal := x3 (ix2 n e)
abbrev fB (e : Fin 5632) : EReal := x4 (ix1 e)
abbrev fD (j : Fin 2816) (k : Fin 1024) : EReal := x5 (ix2 j k)
abbrev fH (k : Fin 1024) : EReal := x6 (ix1 k)

theorem lit0 : Ideal.ofBits .f32 0x00000000#32 = 0 := by
  simp [Ideal.ofBits, Ideal.ieee]
theorem lit_half : Ideal.ofBits .f32 0x3F000000#32 = ((1 / 2 : ℝ) : EReal) := by
  simp [Ideal.ofBits, Ideal.ieee, -EReal.coe_mul]
  norm_num
theorem lit_one : Ideal.ofBits .f32 0x3F800000#32 = 1 := by
  simp [Ideal.ofBits, Ideal.ieee, -EReal.coe_mul]
  norm_num
theorem lit_c : Ideal.ofBits .f32 0x3F4C422A#32 = ((6693141 / 8388608 : ℝ) : EReal) := by
  simp [Ideal.ofBits, Ideal.ieee, -EReal.coe_mul]
  norm_num
theorem lit_k : Ideal.ofBits .f32 0x3D372713#32 = ((12003091 / 268435456 : ℝ) : EReal) := by
  simp [Ideal.ofBits, Ideal.ieee, -EReal.coe_mul]
  norm_num

theorem up_ref (b : Fin 8) (s : Fin 4096) (e : Fin 5632) :
    val_main_v13 x0 x1 x2 (ix3 b s e) = specUp (fX x0) (fG x1) (fW x2) b s e := by
  unfold specUp rmsE fX fG fW
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise

theorem pad_lt (s : Fin 4096) (n : ℕ) (h : n < 3) : n + s.val < 4098 := by omega

/-- The padded array: two zero rows, then the rows. -/
theorem pad_at (b : Fin 8) (s : Fin 4096) (e : Fin 5632) (n : ℕ) (h : n < 3) :
    val_main_v15 x0 x1 x2 (ix3 b ⟨n + s.val, pad_lt s n h⟩ e) = specBack (fX x0) (fG x1) (fW x2) b s e (2 - n) := by
  unfold specBack
  unfold val_main_v15
  pointwise [val_main_v14, val_main_cst_2, up_ref]
  by_cases hs : 2 - n ≤ s.val
  · rw [dif_neg (by omega), if_pos hs]
    refine congrArg (fun s => specUp (fX x0) (fG x1) (fW x2) b s e) (Fin.ext ?_)
    show n + s.val - 2 = s.val - (2 - n)
    omega
  · rw [dif_pos (by omega), if_neg hs]

theorem pad0 (b : Fin 8) (s : Fin 4096) (e : Fin 5632) (h : s.val < 4098) :
    val_main_v15 x0 x1 x2 (ix3 b ⟨s.val, h⟩ e) = specBack (fX x0) (fG x1) (fW x2) b s e 2 := by
  refine Eq.trans ?_ (pad_at x0 x1 x2 b s e 0 (by decide))
  exact congrArg (fun s => val_main_v15 x0 x1 x2 (ix3 b s e)) (Fin.ext (by show s.val = 0 + s.val; omega))

theorem back_zero (X : Fin 8 → Fin 4096 → Fin 1024 → EReal) (g : Fin 1024 → EReal) (W : Fin 1024 → Fin 5632 → EReal)
    (b : Fin 8) (s : Fin 4096) (e : Fin 5632) : specBack X g W b s e 0 = specUp X g W b s e := by
  unfold specBack
  rw [if_pos (Nat.zero_le _)]
  rfl

theorem conv_ref (b : Fin 8) (s : Fin 4096) (e : Fin 5632) :
    val_main_v38 x0 x1 x2 x3 x4 (ix3 b s e) = specConv (fX x0) (fG x1) (fW x2) (fC x3) (fB x4) b s e := by
  unfold specConv convE fC fB
  unfold val_main_v38 val_main_v37 val_main_v36 val_main_v35 val_main_v34 val_main_v33 val_main_v32 val_main_v31 val_main_v30
    val_main_v29 val_main_v28 val_main_v27 val_main_v26 val_main_v25 val_main_v24 val_main_v23 val_main_v22 val_main_v21
    val_main_v20 val_main_v19 val_main_v18 val_main_v17 val_main_v16
  pointwise
  rw [pad0, pad_at x0 x1 x2 b s e 1 (by decide), pad_at x0 x1 x2 b s e 2 (by decide), back_zero]
  rw [mul_comm (x3 (ix2 2 e)), mul_comm (x3 (ix2 1 e)), mul_comm (x3 (ix2 0 e))]
  show specBack (fX x0) (fG x1) (fW x2) b s e 2 * x3 (ix2 0 e) + specBack (fX x0) (fG x1) (fW x2) b s e 1 * x3 (ix2 1 e)
    + specUp (fX x0) (fG x1) (fW x2) b s e * x3 (ix2 2 e) + x4 (ix1 e) = _
  ac_rfl

theorem act_ref (b : Fin 8) (s : Fin 4096) (j : Fin 2816) :
    val_main_v54 x0 x1 x2 x3 x4 (ix3 b s j) = specAct (fX x0) (fG x1) (fW x2) (fC x3) (fB x4) b s j := by
  unfold specAct geluE
  unfold val_main_v54 val_main_v53 val_main_v52 val_main_v51 val_main_v50 val_main_v49 val_main_v48 val_main_v47 val_main_v46 val_main_v45
    val_main_v44 val_main_v43 val_main_v42 val_main_v41 val_main_v40 val_main_v39 val_main_cst_3
    val_main_cst_4 val_main_cst_5 val_main_cst_6
  pointwise [conv_ref]
  rw [gelu_eq]
  simp only [lit_half, lit_one, lit_c, lit_k]

theorem out_ref (b : Fin 8) (s : Fin 4096) (k : Fin 1024) :
    val_main_v69 x0 x1 x2 x3 x4 x5 x6 (ix3 b s k)
      = specOut (fX x0) (fG x1) (fW x2) (fC x3) (fB x4) (fD x5) (fH x6) b s k := by
  unfold specOut rmsE
  unfold val_main_v69 val_main_v68 val_main_v67 val_main_v66 val_main_v65 val_main_v64 val_main_v63 val_main_v62 val_main_v61 val_main_v60
    val_main_v59 val_main_v58 val_main_v57 val_main_v56 val_main_v55
    val_main_cst_7 val_main_cst_8 val_main_cst_9
  pointwise [act_ref]

end Cert.FfnReferenceIdeal.Math

end
-- ==== Proof.FfnAlg.lean ====
/-
The claims about the feed forward call.
-/
module

public import proofs.«01_k».proof.Defs
public import proofs.«01_k».proof.Proof.FfnBlk
public import proofs.«01_k».proof.Proof.FfnArr
public import proofs.«01_k».proof.Proof.FfnRef

@[expose] public section

set_option maxRecDepth 65536
set_option maxHeartbeats 4000000

noncomputable section

namespace Cert.FfnClaims

open Idealize.ShloMosaic Idealize.ShloMosaic.TcCoe Idealize.SL.Sem

theorem frame_Ffn : Cert.quiescent_Ffn (hFfn := Cert.Ffn.Gen.facts) := fun m ρ _ => Cert.Ffn.Gen.frame m ρ
theorem frame_FfnIdeal : Cert.quiescent_FfnIdeal (hFfnIdeal := Cert.FfnIdeal.Gen.facts) := fun m ρ _ => Cert.FfnIdeal.Gen.frame m ρ
theorem frame_FfnReferenceIdeal : Cert.quiescent_FfnReferenceIdeal (hFfnReferenceIdeal := Cert.FfnReferenceIdeal.Gen.facts) :=
  fun m ρ _ => (θ_run Cert.FfnReferenceIdeal.defs _ _).mono (fun r h => ⟨fun c => (h c).2, sem_eq_zero_of_no_sems (by decide) r.2⟩)
    (Cert.FfnReferenceIdeal.Value.run (F := Ideal) m ρ)

theorem preserves : Cert.preserves_Ffn_FfnIdeal := by
  unfold Cert.preserves_Ffn_FfnIdeal
  exact ⟨IdealRules.named_const.statement Cert.FfnIdeal.κ "gelu_b" .f32 0xBDD2D3E8#32 _ rfl,
    IdealRules.named_const.statement Cert.FfnIdeal.κ "gelu_a" .f32 0xC0135761#32 _ rfl⟩

theorem same (m : (ℓ : Loc Cert.FfnIdeal.nD Cert.FfnIdeal.τ Cert.FfnIdeal.sig) → Buf (Elt Ideal) ℓ) (c : Dev Cert.FfnIdeal.nD) :
    Cert.FfnReferenceIdeal.Read.val_main_v69 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1))
      (m ((c.tc : Thread Cert.FfnIdeal.nD Cert.FfnIdeal.τ).loc Cert.FfnIdeal.main_arg2)) (m ((c.tc : Thread Cert.FfnIdeal.nD Cert.FfnIdeal.τ).loc Cert.FfnIdeal.main_arg3))
      (m ((c.tc : Thread Cert.FfnIdeal.nD Cert.FfnIdeal.τ).loc Cert.FfnIdeal.main_arg4)) (m ((c.tc : Thread Cert.FfnIdeal.nD Cert.FfnIdeal.τ).loc Cert.FfnIdeal.main_arg5))
      (m ((c.tc : Thread Cert.FfnIdeal.nD Cert.FfnIdeal.τ).loc Cert.FfnIdeal.main_arg6)) = Cert.FfnIdeal.Value.G7 m c := by
  funext i
  obtain ⟨b, s, k, rfl⟩ : ∃ (b : Fin 8) (s : Fin 4096) (k : Fin 1024), i = ix3 b s k := ⟨i (0 : Fin 3), i (1 : Fin 3), i (2 : Fin 3), funext fun a => by
    match a with
    | ⟨0, _⟩ => rfl
    | ⟨1, _⟩ => rfl
    | ⟨2, _⟩ => rfl⟩
  exact (Cert.FfnReferenceIdeal.Math.out_ref _ _ _ _ _ _ _ b s k).trans (Cert.FfnIdeal.Tile.G7_at m c b s k).symm

theorem algebraic : Cert.algebraic_FfnIdeal_FfnReferenceIdeal := by
  intro m g m' g' _ he
  refine ⟨fun c => Cert.FfnIdeal.Value.G7 m c, Cert.FfnIdeal.Value.run (F := Ideal) m g, ?_⟩
  refine (θ_run Cert.FfnReferenceIdeal.defs _ _).mono (fun _ h c => ⟨(h c).1.trans ?_, (h c).2⟩) (Cert.FfnReferenceIdeal.Value.run (F := Ideal) m' g')
  obtain ⟨h0, h1, h2, h3, h4, h5, h6⟩ := he c
  rw [Cert.FfnReferenceIdeal.Read.val_main_v69_eq, h0, h1, h2, h3, h4, h5, h6]
  exact same m c

end Cert.FfnClaims

end
-- ==== Proof.MixBlk.lean ====
module

public import proofs.«01_k».proof.Defs
public import proofs.«01_k».proof.Proof.Gen.Mix
public import proofs.«01_k».proof.Proof.Gen.Mix.Frame
public import proofs.«01_k».proof.Proof.Gen.MixIdeal
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read

@[expose] public section

end
-- ==== Proof.MixSpec.lean ====
/-
The mixing and cross attention of one position, as functions of coordinates, in the kernel's order and in the
reference's, and their agreement on finite scores.
-/
module

public import proofs.«01_k».proof.Proof.FfnGelu

@[expose] public section

set_option maxRecDepth 16384
set_option maxHeartbeats 1000000

noncomputable section

namespace Cert.MixMath

open Idealize.ShloMosaic Cert.FfnMath

/-- The two branches' products, gated and added. -/
def mixE (oa os : Fin 512 → EReal) (ga gs : Fin 1024 → EReal) (wa ws : Fin 512 → Fin 1024 → EReal) (j : Fin 1024) : EReal :=
  ga j * (∑ d, oa d * wa d j) + gs j * ∑ d, os d * ws d j

/-- A row times a square matrix. -/
def projE (u : Fin 1024 → EReal) (w : Fin 1024 → Fin 1024 → EReal) (j : Fin 1024) : EReal := ∑ k, u k * w k j

/-- A row plus another row's root mean square norm. -/
def sumE (x y g : Fin 1024 → EReal) (j : Fin 1024) : EReal := x j + rmsE y g j

/-- Channel `d` of the head that channel `e` is of. -/
def lane (e : Fin 1024) (d : Fin 256) : Fin 1024 := ⟨e.val / 256 * 256 + d.val, by omega⟩

/-- The least value and a sixteenth, as written. -/
def low : EReal := Ideal.ofBits FTy.f32 0xFF800000#32
def sixteenth : EReal := Ideal.ofBits FTy.f32 0x3D800000#32

def topE (s : Fin 256 → EReal) : EReal := Finset.fold max low s Finset.univ

def attK (s v : Fin 256 → EReal) : EReal := (∑ m, Ideal.exp (s m - topE s) * v m) * Ideal.div 1 (∑ m, Ideal.exp (s m - topE s))

def attR (s v : Fin 256 → EReal) : EReal :=
  ∑ m, v m * Ideal.div (Ideal.exp (s m - max low (topE s))) (∑ x, Ideal.exp (s x - max low (topE s)))

def scoreK (q : Fin 1024 → EReal) (k : Fin 256 → Fin 1024 → EReal) (e : Fin 1024) (m : Fin 256) : EReal :=
  ∑ d, (q (lane e d) * sixteenth) * k m (lane e d)

def scoreR (q : Fin 1024 → EReal) (k : Fin 256 → Fin 1024 → EReal) (e : Fin 1024) (m : Fin 256) : EReal :=
  (∑ d, q (lane e d) * k m (lane e d)) * sixteenth

def rowX (oa os : Fin 512 → EReal) (ga gs : Fin 1024 → EReal) (wa ws : Fin 512 → Fin 1024 → EReal) (wm : Fin 1024 → Fin 1024 → EReal) (x gm : Fin 1024 → EReal) :
    Fin 1024 → EReal := sumE x (projE (mixE oa os ga gs wa ws) wm) gm

def rowQ (x gp : Fin 1024 → EReal) (wq : Fin 1024 → Fin 1024 → EReal) : Fin 1024 → EReal := projE (rmsE x gp) wq

def outK (x gp : Fin 1024 → EReal) (wq : Fin 1024 → Fin 1024 → EReal) (k v : Fin 256 → Fin 1024 → EReal) (wo : Fin 1024 → Fin 1024 → EReal) (go : Fin 1024 → EReal) :
    Fin 1024 → EReal := sumE x (projE (fun e => attK (scoreK (rowQ x gp wq) k e) (fun m => v m e)) wo) go

def outR (x gp : Fin 1024 → EReal) (wq : Fin 1024 → Fin 1024 → EReal) (k v : Fin 256 → Fin 1024 → EReal) (wo : Fin 1024 → Fin 1024 → EReal) (go : Fin 1024 → EReal) :
    Fin 1024 → EReal := sumE x (projE (fun e => attR (scoreR (rowQ x gp wq) k e) (fun m => v m e)) wo) go

/-! ## Literals -/

theorem low_eq : low = ⊥ := by
  simp [low, Ideal.ofBits, Ideal.ieee]
theorem sixteenth_eq : sixteenth = ((1 / 16 : ℝ) : EReal) := by
  simp [sixteenth, Ideal.ofBits, Ideal.ieee, -EReal.coe_mul]
  norm_num
theorem width_eq : Ideal.ofBits FTy.f32 0x44800000#32 = ((1024 : ℝ) : EReal) := by
  simp [Ideal.ofBits, Ideal.ieee, -EReal.coe_mul]
  norm_num
theorem eps_pos : ∃ r : ℝ, 0 < r ∧ Ideal.ofBits FTy.f32 0x358637BD#32 = (r : EReal) := by
  refine ⟨8796093 / 8796093022208, by norm_num, ?_⟩
  simp [Ideal.ofBits, Ideal.ieee, -EReal.coe_mul]
  norm_num

/-! ## Real numbers among the extended ones -/

def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem coe_sum' {ι : Type} (S : Finset ι) (f : ι → ℝ) : ∑ i ∈ S, ((f i : ℝ) : EReal) = ((∑ i ∈ S, f i : ℝ) : EReal) :=
  (map_sum (⟨⟨fun x : ℝ => (x : EReal), EReal.coe_zero⟩, EReal.coe_add⟩ : ℝ →+ EReal) _ _).symm
theorem IsR.sum {n : ℕ} {f : Fin n → EReal} (h : ∀ i, IsR (f i)) : IsR (∑ i, f i) := by
  choose g hg using h
  exact ⟨∑ i, g i, by rw [← coe_sum']; exact Finset.sum_congr rfl fun i _ => hg i⟩

theorem sum_mul_real {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (EReal.coe_nonneg.2 hc) (EReal.coe_ne_top c), ih]

theorem div_real (x : EReal) (r : ℝ) (h : r ≠ 0) : Ideal.div x (r : EReal) = x * ((r⁻¹ : ℝ) : EReal) := by
  unfold Ideal.div
  rw [if_neg (by exact_mod_cast h), EReal.coe_inv]

theorem rms_real {v g : Fin 1024 → EReal} (hv : ∀ i, IsR (v i)) (hg : ∀ i, IsR (g i)) (k : Fin 1024) : IsR (rmsE v g k) := by
  refine ((hv k).mul ?_).mul (hg k)
  choose f hf using hv
  obtain ⟨e, he, hE⟩ := eps_pos
  have hs : ∑ x, v x * v x = ((∑ x, f x * f x : ℝ) : EReal) := by
    rw [← coe_sum']
    exact Finset.sum_congr rfl fun i _ => by rw [hf, ← EReal.coe_mul]
  have h0 : 0 ≤ ∑ x, f x * f x := Finset.sum_nonneg fun i _ => mul_self_nonneg _
  rw [hs, width_eq, hE, div_real _ _ (by norm_num), ← EReal.coe_mul, ← EReal.coe_add]
  have hp : 0 < (∑ x, f x * f x) * (1024 : ℝ)⁻¹ + e := by positivity
  generalize (∑ x, f x * f x) * (1024 : ℝ)⁻¹ + e = r at hp
  refine ⟨(Real.sqrt r)⁻¹, ?_⟩
  show (if r < 0 then (⊥ : EReal) else if r = 0 then ⊤ else (((Real.sqrt r)⁻¹ : ℝ) : EReal)) = _
  rw [if_neg (not_lt.2 hp.le), if_neg hp.ne']

/-! ## The scores and the attention -/

theorem score_eq (q : Fin 1024 → EReal) (k : Fin 256 → Fin 1024 → EReal) (e : Fin 1024) : scoreK q k e = scoreR q k e := by
  funext m
  unfold scoreK scoreR
  rw [sixteenth_eq, sum_mul_real _ _ _ (by norm_num)]
  exact Finset.sum_congr rfl fun d _ => by ac_rfl

theorem top_real (s : Fin 256 → EReal) (hs : ∀ m, IsR (s m)) : IsR (topE s) := by
  refine ⟨(topE s).toReal, (EReal.coe_toReal (ne_of_lt ?_) (ne_of_gt ?_)).symm⟩
  · unfold topE
    rw [Finset.fold_max_lt, low_eq]
    refine ⟨bot_lt_top, fun m _ => ?_⟩
    obtain ⟨r, hr⟩ := hs m
    rw [hr]
    exact EReal.coe_lt_top r
  · unfold topE
    rw [Finset.lt_fold_max]
    refine Or.inr ⟨0, Finset.mem_univ _, ?_⟩
    obtain ⟨r, hr⟩ := hs 0
    rw [hr]
    exact EReal.bot_lt_coe r

theorem att_eq (s v : Fin 256 → EReal) (hs : ∀ m, IsR (s m)) : attK s v = attR s v := by
  obtain ⟨t, ht⟩ := top_real s hs
  choose f hf using hs
  unfold attK attR
  rw [low_eq, max_eq_right bot_le, ht]
  have hp : ∀ m, Ideal.exp (s m - (t : EReal)) = ((Real.exp (f m - t) : ℝ) : EReal) := fun m => by
    rw [hf, ← EReal.coe_sub]
    rfl
  have hl : ∑ m, Ideal.exp (s m - (t : EReal)) = ((∑ m, Real.exp (f m - t) : ℝ) : EReal) := by
    rw [← coe_sum']
    exact Finset.sum_congr rfl fun m _ => hp m
  have h0 : 0 < ∑ m : Fin 256, Real.exp (f m - t) := Finset.sum_pos (fun m _ => Real.exp_pos _) ⟨0, Finset.mem_univ _⟩
  rw [hl, div_real _ _ h0.ne', one_mul, sum_mul_real _ _ _ (inv_nonneg.2 h0.le)]
  refine Finset.sum_congr rfl fun m _ => ?_
  rw [div_real _ _ h0.ne']
  ac_rfl

theorem score_real {q : Fin 1024 → EReal} {k : Fin 256 → Fin 1024 → EReal} (hq : ∀ e, IsR (q e)) (hk : ∀ m e, IsR (k m e)) (e : Fin 1024) (m : Fin 256) :
    IsR (scoreR q k e m) := by
  unfold scoreR
  exact (IsR.sum fun d => (hq _).mul (hk _ _)).mul ⟨_, sixteenth_eq⟩

theorem proj_real {u : Fin 1024 → EReal} {w : Fin 1024 → Fin 1024 → EReal} (hu : ∀ i, IsR (u i)) (hw : ∀ i j, IsR (w i j)) (j : Fin 1024) : IsR (projE u w j) :=
  IsR.sum fun k => (hu k).mul (hw k j)

theorem mix_real {oa os : Fin 512 → EReal} {ga gs : Fin 1024 → EReal} {wa ws : Fin 512 → Fin 1024 → EReal} (h1 : ∀ i, IsR (oa i)) (h2 : ∀ i, IsR (os i))
    (h3 : ∀ i, IsR (ga i)) (h4 : ∀ i, IsR (gs i)) (h5 : ∀ i j, IsR (wa i j)) (h6 : ∀ i j, IsR (ws i j)) (j : Fin 1024) : IsR (mixE oa os ga gs wa ws j) :=
  ((h3 j).mul (IsR.sum fun d => (h1 d).mul (h5 d j))).add ((h4 j).mul (IsR.sum fun d => (h2 d).mul (h6 d j)))

theorem rowX_real {oa os : Fin 512 → EReal} {ga gs : Fin 1024 → EReal} {wa ws : Fin 512 → Fin 1024 → EReal} {wm : Fin 1024 → Fin 1024 → EReal} {x gm : Fin 1024 → EReal}
    (h1 : ∀ i, IsR (oa i)) (h2 : ∀ i, IsR (os i)) (h3 : ∀ i, IsR (ga i)) (h4 : ∀ i, IsR (gs i)) (h5 : ∀ i j, IsR (wa i j)) (h6 : ∀ i j, IsR (ws i j))
    (h7 : ∀ i j, IsR (wm i j)) (h8 : ∀ i, IsR (x i)) (h9 : ∀ i, IsR (gm i)) (j : Fin 1024) : IsR (rowX oa os ga gs wa ws wm x gm j) :=
  (h8 j).add (rms_real (proj_real (mix_real h1 h2 h3 h4 h5 h6) h7) h9 j)

theorem out_eq {x gp : Fin 1024 → EReal} {wq : Fin 1024 → Fin 1024 → EReal} {k : Fin 256 → Fin 1024 → EReal} (v : Fin 256 → Fin 1024 → EReal)
    (wo : Fin 1024 → Fin 1024 → EReal) (go : Fin 1024 → EReal) (hx : ∀ i, IsR (x i)) (hg : ∀ i, IsR (gp i)) (hw : ∀ i j, IsR (wq i j)) (hk : ∀ m e, IsR (k m e)) :
    outK x gp wq k v wo go = outR x gp wq k v wo go := by
  unfold outK outR
  refine congrArg (fun o => sumE x (projE o wo) go) (funext fun e => ?_)
  rw [score_eq]
  exact att_eq _ _ fun m => score_real (proj_real (rms_real hx hg) hw) hk e m

end Cert.MixMath
-- ==== Proof.MixTile.lean ====
/-
The values the mixing call's body computes, at an index.
-/
module

public import proofs.«01_k».proof.Proof.MixSpec
public import proofs.«01_k».proof.Proof.Gen.MixIdeal.Value
public import Idealize.ShloMosaic.Lib.Pointwise
public import Idealize.ShloMosaic.Lib.Pipeline.ReadBack

@[expose] public section

set_option maxRecDepth 65536
set_option maxHeartbeats 4000000

noncomputable section

namespace Cert.MixIdeal.Tile

open Idealize.ShloMosaic Idealize.ShloMosaic.TcCoe Idealize.SL.Sem Cert.MixIdeal Cert.MixIdeal.Gen Cert.FfnMath Cert.MixMath

theorem y_at (v0 : Vec Ideal S1x512x512 .bf16) (v2 : Vec Ideal S512x1024 .bf16) (v5 : Vec Ideal S1x512x512 .bf16) (v7 : Vec Ideal S512x1024 .bf16) (v10 : Vec Ideal S1x512x1024 .bf16) (v14 : Vec Ideal S1x512x1024 .bf16) (v20 : Vec Ideal S1024x1024 .bf16)
    (r : Fin 512) (j : Fin 1024) : k0_pay2 v0 v2 v5 v7 v10 v14 v20 (ix2 r j) =
      projE (mixE (fun d => v0 (ix3 0 r d)) (fun d => v5 (ix3 0 r d)) (fun k => v10 (ix3 0 r k)) (fun k => v14 (ix3 0 r k)) (fun d k => v2 (ix2 d k)) (fun d k => v7 (ix2 d k)))
        (fun k j => v20 (ix2 k j)) j := by
  pointwise [k0_pay2]
  rfl

theorem ysq_at (v0 : Vec Ideal S1x512x512 .bf16) (v2 : Vec Ideal S512x1024 .bf16) (v5 : Vec Ideal S1x512x512 .bf16) (v7 : Vec Ideal S512x1024 .bf16) (v10 : Vec Ideal S1x512x1024 .bf16) (v14 : Vec Ideal S1x512x1024 .bf16) (v20 : Vec Ideal S1024x1024 .bf16)
    (r : Fin 512) : k0_pay5 v0 v2 v5 v7 v10 v14 v20 (ix2 r 0) =
      ∑ j, k0_pay2 v0 v2 v5 v7 v10 v14 v20 (ix2 r j) * k0_pay2 v0 v2 v5 v7 v10 v14 v20 (ix2 r j) := by
  pointwise [k0_pay5]

theorem x1_at (y x : FVec Ideal S512x1024 .f32) (g : FVec Ideal S1x1024 .f32) (q : FVec Ideal S512x1 .f32) (c : EReal)
    (r : Fin 512) (j : Fin 1024) : k0_pay6 (F := Ideal) y x g q c (ix2 r j) =
      x (ix2 r j) + y (ix2 r j) * Ideal.rsqrt (Ideal.div (q (ix2 r 0)) c + Ideal.ofBits FTy.f32 0x358637BD#32) * g (ix2 0 j) := by
  pointwise [k0_pay6]

theorem q_at (y x : FVec Ideal S512x1024 .f32) (g : FVec Ideal S1x1024 .f32) (q : FVec Ideal S512x1 .f32) (c : EReal) (gp : Vec Ideal S1x1024 .f32) (w : Vec Ideal S1024x1024 .bf16)
    (r : Fin 512) (j : Fin 1024) : k0_pay7 (F := Ideal) y x g q c gp w (ix2 r j) =
      projE (rmsE (fun k => k0_pay6 (F := Ideal) y x g q c (ix2 r k)) (fun k => gp (ix2 0 k))) (fun k j => w (ix2 k j)) j * Ideal.ofBits FTy.f32 0x3D800000#32 := by
  pointwise [k0_pay7]
  rfl

/-- Channels 256 to 511 of the queries against the keys' slice, and the values' slice, over the sum. -/
theorem head_at (q : FVec Ideal S512x1024 .bf16) (k v : Vec Ideal S1x256x256 .bf16) (r : Fin 512) (j : Fin 256) :
    k0_pay12 q k v (ix2 r j) = attK (fun m => ∑ d : Fin 256, q (ix2 r ⟨256 + d.val, by omega⟩) * k (ix3 0 m d)) (fun m => v (ix3 0 m j)) := by
  pointwise [k0_pay12]
  unfold attK topE low
  rfl

theorem p0_at (y x : FVec Ideal S512x1024 .f32) (g : FVec Ideal S1x1024 .f32) (q : FVec Ideal S512x1 .f32) (c : EReal) (gp : Vec Ideal S1x1024 .f32) (w : Vec Ideal S1024x1024 .bf16)
    (k : Vec Ideal S1x256x256 .bf16) (r : Fin 512) (j : Fin 256) :
    k0_pay8 (F := Ideal) y x g q c gp w k (ix2 r j) =
      Ideal.exp ((∑ d : Fin 256, k0_pay7 (F := Ideal) y x g q c gp w (ix2 r ⟨d.val, by omega⟩) * k (ix3 0 j d))
        - topE (fun m => ∑ d : Fin 256, k0_pay7 (F := Ideal) y x g q c gp w (ix2 r ⟨d.val, by omega⟩) * k (ix3 0 m d))) := by
  unfold k0_pay8
  generalize k0_pay7 (F := Ideal) y x g q c gp w = z
  pointwise
  unfold topE low
  rfl

theorem l0_at (y x : FVec Ideal S512x1024 .f32) (g : FVec Ideal S1x1024 .f32) (q : FVec Ideal S512x1 .f32) (c : EReal) (gp : Vec Ideal S1x1024 .f32) (w : Vec Ideal S1024x1024 .bf16)
    (k : Vec Ideal S1x256x256 .bf16) (r : Fin 512) :
    k0_pay9 (F := Ideal) y x g q c gp w k (ix2 r 0) = ∑ m, k0_pay8 (F := Ideal) y x g q c gp w k (ix2 r m) := by
  unfold k0_pay9
  generalize k0_pay8 (F := Ideal) y x g q c gp w k = z
  pointwise

theorem o0_at (p : FVec Ideal S512x256 .f32) (l : FVec Ideal S512x1 .f32) (v : Vec Ideal S1x256x256 .bf16) (r : Fin 512) (j : Fin 256) :
    k0_pay11 p l (k0_pay10 (F := Ideal)) v (ix2 r j) = (∑ m, p (ix2 r m) * v (ix3 0 m j)) * Ideal.div 1 (l (ix2 r 0)) := by
  pointwise [k0_pay11, k0_pay10]

theorem p2_at (q : FVec Ideal S512x1024 .bf16) (k : Vec Ideal S1x256x256 .bf16) (r : Fin 512) (j : Fin 256) :
    k0_pay13 q k (ix2 r j) = Ideal.exp ((∑ d : Fin 256, q (ix2 r ⟨512 + d.val, by omega⟩) * k (ix3 0 j d))
        - topE (fun m => ∑ d : Fin 256, q (ix2 r ⟨512 + d.val, by omega⟩) * k (ix3 0 m d))) := by
  pointwise [k0_pay13]
  unfold topE low
  rfl

theorem l2_at (q : FVec Ideal S512x1024 .bf16) (k : Vec Ideal S1x256x256 .bf16) (r : Fin 512) :
    k0_pay14 q k (ix2 r 0) = ∑ m, k0_pay13 q k (ix2 r m) := by
  unfold k0_pay14
  generalize k0_pay13 q k = z
  pointwise

theorem y2_at (q : FVec Ideal S512x1024 .bf16) (a b : FVec Ideal S512x256 .bf16) (p : FVec Ideal S512x256 .f32) (l : FVec Ideal S512x1 .f32) (v2 k3 v3 : Vec Ideal S1x256x256 .bf16) (w : Vec Ideal S1024x1024 .bf16)
    (r : Fin 512) (o : Fin 1024 → EReal)
    (h0 : ∀ j : Fin 256, a (ix2 r j) = o ⟨j.val, by omega⟩)
    (h1 : ∀ j : Fin 256, b (ix2 r j) = o ⟨256 + j.val, by omega⟩)
    (h2 : ∀ j : Fin 256, (∑ m, p (ix2 r m) * v2 (ix3 0 m j)) * Ideal.div 1 (l (ix2 r 0)) = o ⟨512 + j.val, by omega⟩)
    (h3 : ∀ j : Fin 256, attK (fun m => ∑ d : Fin 256, q (ix2 r ⟨768 + d.val, by omega⟩) * k3 (ix3 0 m d)) (fun m => v3 (ix3 0 m j)) = o ⟨768 + j.val, by omega⟩)
    (j : Fin 1024) : k0_pay15 q a b p l v2 k3 v3 w (ix2 r j) = projE o (fun k j => w (ix2 k j)) j := by
  pointwise [k0_pay15]
  unfold projE
  refine Finset.sum_congr rfl fun x _ => congrArg (· * w (ix2 x j)) ?_
  split
  · exact (h0 _).trans rfl
  split
  · exact (h1 _).trans (congrArg o (Fin.ext (by show 256 + (x.val - 256) = x.val; omega)))
  split
  · exact (h2 _).trans (congrArg o (Fin.ext (by show 512 + (x.val - 256 - 256) = x.val; omega)))
  · refine Eq.trans ?_ ((h3 ⟨x.val - 256 - 256 - 256, by omega⟩).trans (congrArg o (Fin.ext (by show 768 + (x.val - 256 - 256 - 256) = x.val; omega))))
    unfold attK topE low
    rfl

theorem sq2_at (q : FVec Ideal S512x1024 .bf16) (a b : FVec Ideal S512x256 .bf16) (p : FVec Ideal S512x256 .f32) (l : FVec Ideal S512x1 .f32) (v2 k3 v3 : Vec Ideal S1x256x256 .bf16) (w : Vec Ideal S1024x1024 .bf16)
    (r : Fin 512) : k0_pay17 q a b p l v2 k3 v3 w (ix2 r 0) =
      ∑ j, k0_pay15 q a b p l v2 k3 v3 w (ix2 r j) * k0_pay15 q a b p l v2 k3 v3 w (ix2 r j) := by
  unfold k0_pay17
  generalize k0_pay15 q a b p l v2 k3 v3 w = z
  pointwise

theorem x_at (x : Vec Ideal S1x512x1024 .f32) (r : Fin 512) (j : Fin 1024) : k0_pay3 x (ix2 r j) = x (ix3 0 r j) := by
  pointwise [k0_pay3]
theorem g_at (g : Vec Ideal S1x1024 .f32) (j : Fin 1024) : k0_pay4 g (ix2 0 j) = g (ix2 0 j) := by
  pointwise [k0_pay4]
theorem go_at (g : Vec Ideal S1x1024 .f32) (j : Fin 1024) : k0_pay16 g (ix2 0 j) = g (ix2 0 j) := by
  pointwise [k0_pay16]

theorem fin_at (x y : FVec Ideal S512x1024 .f32) (g : FVec Ideal S1x1024 .f32) (q : FVec Ideal S512x1 .f32)
    (r : Fin 512) (j : Fin 1024) : k0_pay1 x y g q (ix3 0 r j) =
      x (ix2 r j) + y (ix2 r j) * Ideal.rsqrt (Ideal.div (q (ix2 r 0)) (Ideal.ofBits FTy.f32 0x44800000#32) + Ideal.ofBits FTy.f32 0x358637BD#32) * g (ix2 0 j) := by
  pointwise [k0_pay1]

end Cert.MixIdeal.Tile
-- ==== Proof.MixArr.lean ====
/-
The array the mixing call leaves, at an index, from the arguments.
-/
module

public import proofs.«01_k».proof.Proof.MixTile
public import Idealize.ShloMosaic.Lib.StableHlo.RunRead
public import Idealize.ShloMosaic.Lib.Pipeline.ValueKit
public import Idealize.ShloMosaic.Lib.Pipeline.Covers

@[expose] public section

set_option maxRecDepth 16384
set_option maxHeartbeats 1000000

noncomputable section

namespace Cert.MixIdeal.Tile

open Idealize.ShloMosaic Idealize.ShloMosaic.TcCoe Idealize.SL.Sem Cert.MixIdeal Cert.MixIdeal.Gen Cert.FfnMath Cert.MixMath Cert.MixIdeal.Value

section Blocks
variable (x0 x1 : Vec Ideal S1x512x512 .bf16) (x2 x3 : Vec Ideal S1x512x1024 .bf16) (x4 : Vec Ideal S1x512x1024 .f32) (x5 x6 : Vec Ideal S512x1024 .bf16)
  (x7 : Vec Ideal S1024x1024 .bf16) (x8 x9 : Vec Ideal S1x1024 .f32) (x10 : Vec Ideal S1024x1024 .bf16) (x11 x12 : Vec Ideal S1x256x1024 .bf16)
  (x13 : Vec Ideal S1024x1024 .bf16) (x14 : Vec Ideal S1x1024 .f32)

theorem ld0 (x : Vec Ideal S1x512x512 .bf16) : View.ld x r0_0 = x := View.ld_unit_lit _ x (by decide)
theorem ld1 (x : Vec Ideal S512x1024 .bf16) : View.ld x r0_1 = x := View.ld_unit_lit _ x (by decide)
theorem ld2 (x : Vec Ideal S1x512x1024 .bf16) : View.ld x r0_2 = x := View.ld_unit_lit _ x (by decide)
theorem ld2f (x : Vec Ideal S1x512x1024 .f32) : View.ld x r0_2 = x := View.ld_unit_lit _ x (by decide)
theorem ld3 (x : Vec Ideal S1024x1024 .bf16) : View.ld x r0_3 = x := View.ld_unit_lit _ x (by decide)
theorem ld4 (x : Vec Ideal S1x1024 .f32) : View.ld x r0_4 = x := View.ld_unit_lit _ x (by decide)
theorem ld5 (x : Vec Ideal S1x256x1024 .bf16) (m d : Fin 256) : View.ld x r0_5 (ix3 0 m d) = x (ix3 0 m ⟨d.val, by omega⟩) :=
  View.ld_unit_apply_of _ _ _ _ _ _ fun a => by fin_cases a <;> simp [ix3]
theorem ld6 (x : Vec Ideal S1x256x1024 .bf16) (m d : Fin 256) : View.ld x r0_6 (ix3 0 m d) = x (ix3 0 m ⟨256 + d.val, by omega⟩) :=
  View.ld_unit_apply_of _ _ _ _ _ _ fun a => by fin_cases a <;> simp [ix3]
theorem ld7 (x : Vec Ideal S1x256x1024 .bf16) (m d : Fin 256) : View.ld x r0_7 (ix3 0 m d) = x (ix3 0 m ⟨512 + d.val, by omega⟩) :=
  View.ld_unit_apply_of _ _ _ _ _ _ fun a => by fin_cases a <;> simp [ix3]
theorem ld8 (x : Vec Ideal S1x256x1024 .bf16) (m d : Fin 256) : View.ld x r0_8 (ix3 0 m d) = x (ix3 0 m ⟨768 + d.val, by omega⟩) :=
  View.ld_unit_apply_of _ _ _ _ _ _ fun a => by fin_cases a <;> simp [ix3]

/-- Row `r` of the tile after the mixing. -/
abbrev tX (r : Fin 512) : Fin 1024 → EReal :=
  rowX (fun d => x0 (ix3 0 r d)) (fun d => x1 (ix3 0 r d)) (fun k => x2 (ix3 0 r k)) (fun k => x3 (ix3 0 r k)) (fun d k => x5 (ix2 d k)) (fun d k => x6 (ix2 d k))
    (fun k j => x7 (ix2 k j)) (fun k => x4 (ix3 0 r k)) (fun k => x8 (ix2 0 k))

abbrev tQ (r : Fin 512) : Fin 1024 → EReal := rowQ (tX x0 x1 x2 x3 x4 x5 x6 x7 x8 r) (fun k => x9 (ix2 0 k)) (fun k j => x10 (ix2 k j))

abbrev tO (r : Fin 512) (e : Fin 1024) : EReal :=
  attK (scoreK (tQ x0 x1 x2 x3 x4 x5 x6 x7 x8 x9 x10 r) (fun m e => x11 (ix3 0 m e)) e) (fun m => x12 (ix3 0 m e))

theorem row_at (r : Fin 512) (j : Fin 1024) :
    k0_pay6 (F := Ideal) (k0_pay18 x0 x1 x2 x3 x4 x5 x6 x7 x8 x9 x10 x11 x12 x13 x14) (k0_pay19 x0 x1 x2 x3 x4 x5 x6 x7 x8 x9 x10 x11 x12 x13 x14) (k0_pay20 x0 x1 x2 x3 x4 x5 x6 x7 x8 x9 x10 x11 x12 x13 x14) (k0_pay21 x0 x1 x2 x3 x4 x5 x6 x7 x8 x9 x10 x11 x12 x13 x14) (Scalar.ofBits .f32 0x44800000#32) (ix2 r j) = tX x0 x1 x2 x3 x4 x5 x6 x7 x8 r j := by
  unfold k0_pay18 k0_pay19 k0_pay20 k0_pay21
  simp only [ld0, ld1, ld2, ld2f, ld3, ld4]
  rw [x1_at, ysq_at, x_at, g_at]
  simp only [y_at]
  rfl

theorem qry_at (r : Fin 512) (j : Fin 1024) :
    k0_pay7 (F := Ideal) (k0_pay18 x0 x1 x2 x3 x4 x5 x6 x7 x8 x9 x10 x11 x12 x13 x14) (k0_pay19 x0 x1 x2 x3 x4 x5 x6 x7 x8 x9 x10 x11 x12 x13 x14) (k0_pay20 x0 x1 x2 x3 x4 x5 x6 x7 x8 x9 x10 x11 x12 x13 x14) (k0_pay21 x0 x1 x2 x3 x4 x5 x6 x7 x8 x9 x10 x11 x12 x13 x14) (Scalar.ofBits .f32 0x44800000#32) (View.ld x9 r0_4) (View.ld x10 r0_3) (ix2 r j)
      = tQ x0 x1 x2 x3 x4 x5 x6 x7 x8 x9 x10 r j * sixteenth := by
  rw [ld4 x9, ld3 x10, q_at]
  simp only [row_at]
  rfl

theorem qry'_at (r : Fin 512) (j : Fin 1024) : k0_pay22 x0 x1 x2 x3 x4 x5 x6 x7 x8 x9 x10 x11 x12 x13 x14 (ix2 r j) = tQ x0 x1 x2 x3 x4 x5 x6 x7 x8 x9 x10 r j * sixteenth :=
  qry_at x0 x1 x2 x3 x4 x5 x6 x7 x8 x9 x10 x11 x12 x13 x14 r j

theorem score_lane0 (q : Fin 1024 → EReal) (k : Fin 256 → Fin 1024 → EReal) (j : Fin 256) (p : ∀ d : Fin 256, d.val < 1024) :
    (fun m => ∑ d : Fin 256, (q ⟨d.val, p d⟩ * sixteenth) * k m ⟨d.val, p d⟩) = scoreK q k ⟨j.val, p j⟩ := by
  funext m
  unfold scoreK
  refine Finset.sum_congr rfl fun d _ => ?_
  have h : (⟨d.val, p d⟩ : Fin 1024) = lane ⟨j.val, p j⟩ d := Fin.ext (by show d.val = j.val / 256 * 256 + d.val; omega)
  rw [h]

theorem score_lane (q : Fin 1024 → EReal) (k : Fin 256 → Fin 1024 → EReal) (o : ℕ) (ho : o % 256 = 0) (j : Fin 256) (p : ∀ d : Fin 256, o + d.val < 1024) :
    (fun m => ∑ d : Fin 256, (q ⟨o + d.val, p d⟩ * sixteenth) * k m ⟨o + d.val, p d⟩) = scoreK q k ⟨o + j.val, p j⟩ := by
  funext m
  unfold scoreK
  refine Finset.sum_congr rfl fun d _ => ?_
  have h : (⟨o + d.val, p d⟩ : Fin 1024) = lane ⟨o + j.val, p j⟩ d := Fin.ext (by show o + d.val = (o + j.val) / 256 * 256 + d.val; omega)
  rw [h]

theorem lt0 (d : Fin 256) : d.val < 1024 := by omega
theorem lt1 (d : Fin 256) : 256 + d.val < 1024 := by omega
theorem lt2 (d : Fin 256) : 512 + d.val < 1024 := by omega
theorem lt3 (d : Fin 256) : 768 + d.val < 1024 := by omega

theorem o0 (r : Fin 512) (j : Fin 256) : k0_pay23 x0 x1 x2 x3 x4 x5 x6 x7 x8 x9 x10 x11 x12 x13 x14 (ix2 r j) = tO x0 x1 x2 x3 x4 x5 x6 x7 x8 x9 x10 x11 x12 r ⟨j.val, lt0 j⟩ := by
  unfold k0_pay23
  rw [o0_at, l0_at]
  simp only [p0_at, qry_at]
  refine Eq.trans (b := attK (fun m => ∑ d : Fin 256, tQ x0 x1 x2 x3 x4 x5 x6 x7 x8 x9 x10 r ⟨d.val, lt0 d⟩ * sixteenth * View.ld x11 r0_5 (ix3 0 m d)) (fun m => View.ld x12 r0_5 (ix3 0 m j))) rfl ?_
  refine (congrArg₂ attK (funext fun m => Finset.sum_congr rfl fun d _ => congrArg (tQ x0 x1 x2 x3 x4 x5 x6 x7 x8 x9 x10 r ⟨d.val, lt0 d⟩ * sixteenth * ·) (ld5 x11 m d)) (funext fun m => ld5 x12 m j)).trans ?_
  exact congrArg (fun s => attK s (fun m => x12 (ix3 0 m ⟨j.val, lt0 j⟩))) (score_lane0 (tQ x0 x1 x2 x3 x4 x5 x6 x7 x8 x9 x10 r) (fun m e => x11 (ix3 0 m e)) j lt0)

theorem o1 (r : Fin 512) (j : Fin 256) : k0_pay24 x0 x1 x2 x3 x4 x5 x6 x7 x8 x9 x10 x11 x12 x13 x14 (ix2 r j) = tO x0 x1 x2 x3 x4 x5 x6 x7 x8 x9 x10 x11 x12 r ⟨256 + j.val, lt1 j⟩ := by
  unfold k0_pay24
  rw [head_at]
  simp only [qry'_at]
  refine (congrArg₂ attK (funext fun m => Finset.sum_congr rfl fun d _ => congrArg (tQ x0 x1 x2 x3 x4 x5 x6 x7 x8 x9 x10 r ⟨256 + d.val, lt1 d⟩ * sixteenth * ·) (ld6 x11 m d)) (funext fun m => ld6 x12 m j)).trans ?_
  exact congrArg (fun s => attK s (fun m => x12 (ix3 0 m ⟨256 + j.val, lt1 j⟩))) (score_lane (tQ x0 x1 x2 x3 x4 x5 x6 x7 x8 x9 x10 r) (fun m e => x11 (ix3 0 m e)) 256 rfl j lt1)

theorem o2 (r : Fin 512) (j : Fin 256) :
    (∑ m, k0_pay25 x0 x1 x2 x3 x4 x5 x6 x7 x8 x9 x10 x11 x12 x13 x14 (ix2 r m) * View.ld x12 r0_7 (ix3 0 m j)) * Ideal.div 1 (k0_pay26 x0 x1 x2 x3 x4 x5 x6 x7 x8 x9 x10 x11 x12 x13 x14 (ix2 r 0)) = tO x0 x1 x2 x3 x4 x5 x6 x7 x8 x9 x10 x11 x12 r ⟨512 + j.val, lt2 j⟩ := by
  unfold k0_pay25 k0_pay26
  rw [l2_at]
  simp only [p2_at, qry'_at]
  refine Eq.trans (b := attK (fun m => ∑ d : Fin 256, tQ x0 x1 x2 x3 x4 x5 x6 x7 x8 x9 x10 r ⟨512 + d.val, lt2 d⟩ * sixteenth * View.ld x11 r0_7 (ix3 0 m d)) (fun m => View.ld x12 r0_7 (ix3 0 m j))) rfl ?_
  refine (congrArg₂ attK (funext fun m => Finset.sum_congr rfl fun d _ => congrArg (tQ x0 x1 x2 x3 x4 x5 x6 x7 x8 x9 x10 r ⟨512 + d.val, lt2 d⟩ * sixteenth * ·) (ld7 x11 m d)) (funext fun m => ld7 x12 m j)).trans ?_
  exact congrArg (fun s => attK s (fun m => x12 (ix3 0 m ⟨512 + j.val, lt2 j⟩))) (score_lane (tQ x0 x1 x2 x3 x4 x5 x6 x7 x8 x9 x10 r) (fun m e => x11 (ix3 0 m e)) 512 rfl j lt2)

theorem o3 (r : Fin 512) (j : Fin 256) :
    attK (fun m => ∑ d : Fin 256, k0_pay22 x0 x1 x2 x3 x4 x5 x6 x7 x8 x9 x10 x11 x12 x13 x14 (ix2 r ⟨768 + d.val, lt3 d⟩) * View.ld x11 r0_8 (ix3 0 m d)) (fun m => View.ld x12 r0_8 (ix3 0 m j))
      = tO x0 x1 x2 x3 x4 x5 x6 x7 x8 x9 x10 x11 x12 r ⟨768 + j.val, lt3 j⟩ := by
  simp only [qry'_at]
  refine (congrArg₂ attK (funext fun m => Finset.sum_congr rfl fun d _ => congrArg (tQ x0 x1 x2 x3 x4 x5 x6 x7 x8 x9 x10 r ⟨768 + d.val, lt3 d⟩ * sixteenth * ·) (ld8 x11 m d)) (funext fun m => ld8 x12 m j)).trans ?_
  exact congrArg (fun s => attK s (fun m => x12 (ix3 0 m ⟨768 + j.val, lt3 j⟩))) (score_lane (tQ x0 x1 x2 x3 x4 x5 x6 x7 x8 x9 x10 r) (fun m e => x11 (ix3 0 m e)) 768 rfl j lt3)

theorem y2_tile (r : Fin 512) (j : Fin 1024) :
    k0_pay15 (k0_pay22 x0 x1 x2 x3 x4 x5 x6 x7 x8 x9 x10 x11 x12 x13 x14) (k0_pay23 x0 x1 x2 x3 x4 x5 x6 x7 x8 x9 x10 x11 x12 x13 x14) (k0_pay24 x0 x1 x2 x3 x4 x5 x6 x7 x8 x9 x10 x11 x12 x13 x14) (k0_pay25 x0 x1 x2 x3 x4 x5 x6 x7 x8 x9 x10 x11 x12 x13 x14) (k0_pay26 x0 x1 x2 x3 x4 x5 x6 x7 x8 x9 x10 x11 x12 x13 x14) (View.ld x12 r0_7) (View.ld x11 r0_8) (View.ld x12 r0_8) (View.ld x13 r0_3) (ix2 r j)
      = projE (tO x0 x1 x2 x3 x4 x5 x6 x7 x8 x9 x10 x11 x12 r) (fun k j => x13 (ix2 k j)) j := by
  refine (y2_at _ _ _ _ _ _ _ _ _ r (tO x0 x1 x2 x3 x4 x5 x6 x7 x8 x9 x10 x11 x12 r) (o0 x0 x1 x2 x3 x4 x5 x6 x7 x8 x9 x10 x11 x12 x13 x14 r) (o1 x0 x1 x2 x3 x4 x5 x6 x7 x8 x9 x10 x11 x12 x13 x14 r) (o2 x0 x1 x2 x3 x4 x5 x6 x7 x8 x9 x10 x11 x12 x13 x14 r) (o3 x0 x1 x2 x3 x4 x5 x6 x7 x8 x9 x10 x11 x12 x13 x14 r) j).trans ?_
  rw [ld3]

theorem out_tile (r : Fin 512) (j : Fin 1024) :
    out0_15 x0 x1 x2 x3 x4 x5 x6 x7 x8 x9 x10 x11 x12 x13 x14 (ix3 0 r j) = outK (tX x0 x1 x2 x3 x4 x5 x6 x7 x8 r) (fun k => x9 (ix2 0 k)) (fun k j => x10 (ix2 k j)) (fun m e => x11 (ix3 0 m e)) (fun m e => x12 (ix3 0 m e))
      (fun k j => x13 (ix2 k j)) (fun k => x14 (ix2 0 k)) j := by
  unfold out0_15
  rw [View.canon_cons_unit_lit _ _ _ (by decide)]
  rw [fin_at, row_at, sq2_at, ld4 x14, go_at]
  simp only [y2_tile]
  rfl

end Blocks

variable (m : (ℓ : Loc nD τ sig) → Buf (Elt Ideal) ℓ) (c : Dev nD)

/-- The arguments, by coordinates. -/
def aOa (b : Fin 8) (s : Fin 4096) (d : Fin 512) : EReal := m ((c : Thread nD τ).loc main_arg0) (ix3 b s d)
def aOs (b : Fin 8) (s : Fin 4096) (d : Fin 512) : EReal := m ((c : Thread nD τ).loc main_arg1) (ix3 b s d)
def aGa (b : Fin 8) (s : Fin 4096) (k : Fin 1024) : EReal := m ((c : Thread nD τ).loc main_arg2) (ix3 b s k)
def aGs (b : Fin 8) (s : Fin 4096) (k : Fin 1024) : EReal := m ((c : Thread nD τ).loc main_arg3) (ix3 b s k)
def aX (b : Fin 8) (s : Fin 4096) (k : Fin 1024) : EReal := m ((c : Thread nD τ).loc main_arg4) (ix3 b s k)
def aWa (d : Fin 512) (k : Fin 1024) : EReal := m ((c : Thread nD τ).loc main_arg5) (ix2 d k)
def aWs (d : Fin 512) (k : Fin 1024) : EReal := m ((c : Thread nD τ).loc main_arg6) (ix2 d k)
def aWm (d : Fin 1024) (k : Fin 1024) : EReal := m ((c : Thread nD τ).loc main_arg7) (ix2 d k)
def aGm (k : Fin 1024) : EReal := m ((c : Thread nD τ).loc main_arg8) (ix1 k)
def aGp (k : Fin 1024) : EReal := m ((c : Thread nD τ).loc main_arg9) (ix1 k)
def aWq (d : Fin 1024) (k : Fin 1024) : EReal := m ((c : Thread nD τ).loc main_arg10) (ix2 d k)
def aK (b : Fin 8) (n : Fin 256) (k : Fin 1024) : EReal := m ((c : Thread nD τ).loc main_arg11) (ix3 b n k)
def aV (b : Fin 8) (n : Fin 256) (k : Fin 1024) : EReal := m ((c : Thread nD τ).loc main_arg12) (ix3 b n k)
def aWo (d : Fin 1024) (k : Fin 1024) : EReal := m ((c : Thread nD τ).loc main_arg13) (ix2 d k)
def aGo (k : Fin 1024) : EReal := m ((c : Thread nD τ).loc main_arg14) (ix1 k)

theorem V_aOa (b : Fin 8) (s : Fin 4096) (k : Fin 512) : V m c main_arg0 (ix3 b s k) = aOa m c b s k := by
  unfold V aOa
  after_reads_simp
theorem V_aOs (b : Fin 8) (s : Fin 4096) (k : Fin 512) : V m c main_arg1 (ix3 b s k) = aOs m c b s k := by
  unfold V aOs
  after_reads_simp
theorem V_aGa (b : Fin 8) (s : Fin 4096) (k : Fin 1024) : V m c main_arg2 (ix3 b s k) = aGa m c b s k := by
  unfold V aGa
  after_reads_simp
theorem V_aGs (b : Fin 8) (s : Fin 4096) (k : Fin 1024) : V m c main_arg3 (ix3 b s k) = aGs m c b s k := by
  unfold V aGs
  after_reads_simp
theorem V_aX (b : Fin 8) (s : Fin 4096) (k : Fin 1024) : V m c main_arg4 (ix3 b s k) = aX m c b s k := by
  unfold V aX
  after_reads_simp
theorem V_aK (b : Fin 8) (s : Fin 256) (k : Fin 1024) : V m c main_arg11 (ix3 b s k) = aK m c b s k := by
  unfold V aK
  after_reads_simp
theorem V_aV (b : Fin 8) (s : Fin 256) (k : Fin 1024) : V m c main_arg12 (ix3 b s k) = aV m c b s k := by
  unfold V aV
  after_reads_simp
theorem V_aWa (s : Fin 512) (k : Fin 1024) : V m c main_v0 (ix2 s k) = aWa m c s k := by
  unfold V aWa
  after_reads_simp
  pointwise
theorem V_aWs (s : Fin 512) (k : Fin 1024) : V m c main_v1 (ix2 s k) = aWs m c s k := by
  unfold V aWs
  after_reads_simp
  pointwise
theorem V_aWm (s : Fin 1024) (k : Fin 1024) : V m c main_v2 (ix2 s k) = aWm m c s k := by
  unfold V aWm
  after_reads_simp
  pointwise
theorem V_aWq (s : Fin 1024) (k : Fin 1024) : V m c main_v5 (ix2 s k) = aWq m c s k := by
  unfold V aWq
  after_reads_simp
  pointwise
theorem V_aWo (s : Fin 1024) (k : Fin 1024) : V m c main_v6 (ix2 s k) = aWo m c s k := by
  unfold V aWo
  after_reads_simp
  pointwise
theorem V_aGm (k : Fin 1024) : V m c main_v3 (ix2 0 k) = aGm m c k := by
  unfold V aGm
  after_reads_simp
  pointwise
theorem V_aGp (k : Fin 1024) : V m c main_v4 (ix2 0 k) = aGp m c k := by
  unfold V aGp
  after_reads_simp
  pointwise
theorem V_aGo (k : Fin 1024) : V m c main_v7 (ix2 0 k) = aGo m c k := by
  unfold V aGo
  after_reads_simp
  pointwise

theorem N64 (t : Fin cfg0.N) : t.val < 64 := lt_of_lt_of_eq t.isLt N_0

theorem win0_at (t : Fin grid0.N) : win0_0.index t = ![t.val / 8, t.val % 8, 0] := by
  revert t
  have h : ∀ t : Fin grid0.N, cc0_transform_0 (grid0.coords t) = ![t.val / 8, t.val % 8, 0] := by decide +kernel
  exact h
theorem win1_at (t : Fin grid0.N) : win0_1.index t = ![t.val / 8, t.val % 8, 0] := by
  revert t
  have h : ∀ t : Fin grid0.N, cc0_transform_1 (grid0.coords t) = ![t.val / 8, t.val % 8, 0] := by decide +kernel
  exact h
theorem win2_at (t : Fin grid0.N) : win0_2.index t = ![t.val / 8, t.val % 8, 0] := by
  revert t
  have h : ∀ t : Fin grid0.N, cc0_transform_2 (grid0.coords t) = ![t.val / 8, t.val % 8, 0] := by decide +kernel
  exact h
theorem win3_at (t : Fin grid0.N) : win0_3.index t = ![t.val / 8, t.val % 8, 0] := by
  revert t
  have h : ∀ t : Fin grid0.N, cc0_transform_3 (grid0.coords t) = ![t.val / 8, t.val % 8, 0] := by decide +kernel
  exact h
theorem win4_at (t : Fin grid0.N) : win0_4.index t = ![t.val / 8, t.val % 8, 0] := by
  revert t
  have h : ∀ t : Fin grid0.N, cc0_transform_4 (grid0.coords t) = ![t.val / 8, t.val % 8, 0] := by decide +kernel
  exact h
theorem win11_at (t : Fin grid0.N) : win0_11.index t = ![t.val / 8, 0, 0] := by
  revert t
  have h : ∀ t : Fin grid0.N, cc0_transform_11 (grid0.coords t) = ![t.val / 8, 0, 0] := by decide +kernel
  exact h
theorem win12_at (t : Fin grid0.N) : win0_12.index t = ![t.val / 8, 0, 0] := by
  revert t
  have h : ∀ t : Fin grid0.N, cc0_transform_12 (grid0.coords t) = ![t.val / 8, 0, 0] := by decide +kernel
  exact h
theorem win5_at (t : Fin grid0.N) : win0_5.index t = ![0, 0] := by
  revert t
  have h : ∀ t : Fin grid0.N, cc0_transform_5 (grid0.coords t) = ![0, 0] := by decide +kernel
  exact h
theorem win6_at (t : Fin grid0.N) : win0_6.index t = ![0, 0] := by
  revert t
  have h : ∀ t : Fin grid0.N, cc0_transform_6 (grid0.coords t) = ![0, 0] := by decide +kernel
  exact h
theorem win7_at (t : Fin grid0.N) : win0_7.index t = ![0, 0] := by
  revert t
  have h : ∀ t : Fin grid0.N, cc0_transform_7 (grid0.coords t) = ![0, 0] := by decide +kernel
  exact h
theorem win10_at (t : Fin grid0.N) : win0_10.index t = ![0, 0] := by
  revert t
  have h : ∀ t : Fin grid0.N, cc0_transform_10 (grid0.coords t) = ![0, 0] := by decide +kernel
  exact h
theorem win13_at (t : Fin grid0.N) : win0_13.index t = ![0, 0] := by
  revert t
  have h : ∀ t : Fin grid0.N, cc0_transform_13 (grid0.coords t) = ![0, 0] := by decide +kernel
  exact h
theorem win8_at (t : Fin grid0.N) : win0_8.index t = ![0, 0] := by
  revert t
  have h : ∀ t : Fin grid0.N, cc0_transform_8 (grid0.coords t) = ![0, 0] := by decide +kernel
  exact h
theorem win9_at (t : Fin grid0.N) : win0_9.index t = ![0, 0] := by
  revert t
  have h : ∀ t : Fin grid0.N, cc0_transform_9 (grid0.coords t) = ![0, 0] := by decide +kernel
  exact h
theorem win14_at (t : Fin grid0.N) : win0_14.index t = ![0, 0] := by
  revert t
  have h : ∀ t : Fin grid0.N, cc0_transform_14 (grid0.coords t) = ![0, 0] := by decide +kernel
  exact h
theorem win15_at (t : Fin grid0.N) : win0_15.index t = ![t.val / 8, t.val % 8, 0] := by
  revert t
  have h : ∀ t : Fin grid0.N, cc0_transform_15 (grid0.coords t) = ![t.val / 8, t.val % 8, 0] := by decide +kernel
  exact h

theorem bat_lt (t : Fin cfg0.N) : t.val / 8 < 8 := by have := N64 t; omega
theorem srow_lt (t : Fin cfg0.N) (r : Fin 512) : t.val % 8 * 512 + r.val < 4096 := by omega

theorem blk0_at (t : Fin cfg0.N) (r : Fin 512) (k : Fin 512) :
    iblk m c 0 t (ix3 0 r k) = aOa m c ⟨t.val / 8, bat_lt t⟩ ⟨t.val % 8 * 512 + r.val, srow_lt t r⟩ k := by
  rw [← V_aOa]
  blk_simp [iblk]
  blk_ext
  case «0» => exact congrArg (· + 0) (congrFun (win0_at t) 0)
  case «1» => exact congrArg (· * 512 + r.val) (congrFun (win0_at t) 1)
  case «2» => exact (congrArg (· * 512 + k.val) (congrFun (win0_at t) 2)).trans (by show 0 * 512 + k.val = k.val; omega)
theorem blk1_at (t : Fin cfg0.N) (r : Fin 512) (k : Fin 512) :
    iblk m c 1 t (ix3 0 r k) = aOs m c ⟨t.val / 8, bat_lt t⟩ ⟨t.val % 8 * 512 + r.val, srow_lt t r⟩ k := by
  rw [← V_aOs]
  blk_simp [iblk]
  blk_ext
  case «0» => exact congrArg (· + 0) (congrFun (win1_at t) 0)
  case «1» => exact congrArg (· * 512 + r.val) (congrFun (win1_at t) 1)
  case «2» => exact (congrArg (· * 512 + k.val) (congrFun (win1_at t) 2)).trans (by show 0 * 512 + k.val = k.val; omega)
theorem blk2_at (t : Fin cfg0.N) (r : Fin 512) (k : Fin 1024) :
    iblk m c 2 t (ix3 0 r k) = aGa m c ⟨t.val / 8, bat_lt t⟩ ⟨t.val % 8 * 512 + r.val, srow_lt t r⟩ k := by
  rw [← V_aGa]
  blk_simp [iblk]
  blk_ext
  case «0» => exact congrArg (· + 0) (congrFun (win2_at t) 0)
  case «1» => exact congrArg (· * 512 + r.val) (congrFun (win2_at t) 1)
  case «2» => exact (congrArg (· * 1024 + k.val) (congrFun (win2_at t) 2)).trans (by show 0 * 1024 + k.val = k.val; omega)
theorem blk3_at (t : Fin cfg0.N) (r : Fin 512) (k : Fin 1024) :
    iblk m c 3 t (ix3 0 r k) = aGs m c ⟨t.val / 8, bat_lt t⟩ ⟨t.val % 8 * 512 + r.val, srow_lt t r⟩ k := by
  rw [← V_aGs]
  blk_simp [iblk]
  blk_ext
  case «0» => exact congrArg (· + 0) (congrFun (win3_at t) 0)
  case «1» => exact congrArg (· * 512 + r.val) (congrFun (win3_at t) 1)
  case «2» => exact (congrArg (· * 1024 + k.val) (congrFun (win3_at t) 2)).trans (by show 0 * 1024 + k.val = k.val; omega)
theorem blk4_at (t : Fin cfg0.N) (r : Fin 512) (k : Fin 1024) :
    iblk m c 4 t (ix3 0 r k) = aX m c ⟨t.val / 8, bat_lt t⟩ ⟨t.val % 8 * 512 + r.val, srow_lt t r⟩ k := by
  rw [← V_aX]
  blk_simp [iblk]
  blk_ext
  case «0» => exact congrArg (· + 0) (congrFun (win4_at t) 0)
  case «1» => exact congrArg (· * 512 + r.val) (congrFun (win4_at t) 1)
  case «2» => exact (congrArg (· * 1024 + k.val) (congrFun (win4_at t) 2)).trans (by show 0 * 1024 + k.val = k.val; omega)
theorem blk11_at (t : Fin cfg0.N) (r : Fin 256) (k : Fin 1024) :
    iblk m c 11 t (ix3 0 r k) = aK m c ⟨t.val / 8, bat_lt t⟩ r k := by
  rw [← V_aK]
  blk_simp [iblk]
  blk_ext
  case «0» => exact congrArg (· + 0) (congrFun (win11_at t) 0)
  case «1» => exact (congrArg (· * 256 + r.val) (congrFun (win11_at t) 1)).trans (by show 0 * 256 + r.val = r.val; omega)
  case «2» => exact (congrArg (· * 1024 + k.val) (congrFun (win11_at t) 2)).trans (by show 0 * 1024 + k.val = k.val; omega)
theorem blk12_at (t : Fin cfg0.N) (r : Fin 256) (k : Fin 1024) :
    iblk m c 12 t (ix3 0 r k) = aV m c ⟨t.val / 8, bat_lt t⟩ r k := by
  rw [← V_aV]
  blk_simp [iblk]
  blk_ext
  case «0» => exact congrArg (· + 0) (congrFun (win12_at t) 0)
  case «1» => exact (congrArg (· * 256 + r.val) (congrFun (win12_at t) 1)).trans (by show 0 * 256 + r.val = r.val; omega)
  case «2» => exact (congrArg (· * 1024 + k.val) (congrFun (win12_at t) 2)).trans (by show 0 * 1024 + k.val = k.val; omega)
theorem blk5_at (t : Fin cfg0.N) (d : Fin 512) (k : Fin 1024) : iblk m c 5 t (ix2 d k) = aWa m c d k := by
  rw [← V_aWa]
  blk_simp [iblk]
  blk_ext
  case «0» => exact (congrArg (· * 512 + d.val) (congrFun (win5_at t) 0)).trans (by show 0 * 512 + d.val = d.val; omega)
  case «1» => exact (congrArg (· * 1024 + k.val) (congrFun (win5_at t) 1)).trans (by show 0 * 1024 + k.val = k.val; omega)
theorem blk6_at (t : Fin cfg0.N) (d : Fin 512) (k : Fin 1024) : iblk m c 6 t (ix2 d k) = aWs m c d k := by
  rw [← V_aWs]
  blk_simp [iblk]
  blk_ext
  case «0» => exact (congrArg (· * 512 + d.val) (congrFun (win6_at t) 0)).trans (by show 0 * 512 + d.val = d.val; omega)
  case «1» => exact (congrArg (· * 1024 + k.val) (congrFun (win6_at t) 1)).trans (by show 0 * 1024 + k.val = k.val; omega)
theorem blk7_at (t : Fin cfg0.N) (d : Fin 1024) (k : Fin 1024) : iblk m c 7 t (ix2 d k) = aWm m c d k := by
  rw [← V_aWm]
  blk_simp [iblk]
  blk_ext
  case «0» => exact (congrArg (· * 1024 + d.val) (congrFun (win7_at t) 0)).trans (by show 0 * 1024 + d.val = d.val; omega)
  case «1» => exact (congrArg (· * 1024 + k.val) (congrFun (win7_at t) 1)).trans (by show 0 * 1024 + k.val = k.val; omega)
theorem blk10_at (t : Fin cfg0.N) (d : Fin 1024) (k : Fin 1024) : iblk m c 10 t (ix2 d k) = aWq m c d k := by
  rw [← V_aWq]
  blk_simp [iblk]
  blk_ext
  case «0» => exact (congrArg (· * 1024 + d.val) (congrFun (win10_at t) 0)).trans (by show 0 * 1024 + d.val = d.val; omega)
  case «1» => exact (congrArg (· * 1024 + k.val) (congrFun (win10_at t) 1)).trans (by show 0 * 1024 + k.val = k.val; omega)
theorem blk13_at (t : Fin cfg0.N) (d : Fin 1024) (k : Fin 1024) : iblk m c 13 t (ix2 d k) = aWo m c d k := by
  rw [← V_aWo]
  blk_simp [iblk]
  blk_ext
  case «0» => exact (congrArg (· * 1024 + d.val) (congrFun (win13_at t) 0)).trans (by show 0 * 1024 + d.val = d.val; omega)
  case «1» => exact (congrArg (· * 1024 + k.val) (congrFun (win13_at t) 1)).trans (by show 0 * 1024 + k.val = k.val; omega)
theorem blk8_at (t : Fin cfg0.N) (k : Fin 1024) : iblk m c 8 t (ix2 0 k) = aGm m c k := by
  rw [← V_aGm]
  blk_simp [iblk]
  blk_ext
  case «0» => exact congrArg (· + 0) (congrFun (win8_at t) 0)
  case «1» => exact (congrArg (· * 1024 + k.val) (congrFun (win8_at t) 1)).trans (by show 0 * 1024 + k.val = k.val; omega)
theorem blk9_at (t : Fin cfg0.N) (k : Fin 1024) : iblk m c 9 t (ix2 0 k) = aGp m c k := by
  rw [← V_aGp]
  blk_simp [iblk]
  blk_ext
  case «0» => exact congrArg (· + 0) (congrFun (win9_at t) 0)
  case «1» => exact (congrArg (· * 1024 + k.val) (congrFun (win9_at t) 1)).trans (by show 0 * 1024 + k.val = k.val; omega)
theorem blk14_at (t : Fin cfg0.N) (k : Fin 1024) : iblk m c 14 t (ix2 0 k) = aGo m c k := by
  rw [← V_aGo]
  blk_simp [iblk]
  blk_ext
  case «0» => exact congrArg (· + 0) (congrFun (win14_at t) 0)
  case «1» => exact (congrArg (· * 1024 + k.val) (congrFun (win14_at t) 1)).trans (by show 0 * 1024 + k.val = k.val; omega)

/-! ## The array -/

/-- One position's row after the mixing. -/
abbrev aRow (b : Fin 8) (s : Fin 4096) : Fin 1024 → EReal :=
  rowX (aOa m c b s) (aOs m c b s) (aGa m c b s) (aGs m c b s) (aWa m c) (aWs m c) (aWm m c) (aX m c b s) (aGm m c)

def aOut (b : Fin 8) (s : Fin 4096) : Fin 1024 → EReal :=
  outK (aRow m c b s) (aGp m c) (aWq m c) (aK m c b) (aV m c b) (aWo m c) (aGo m c)

theorem tile_at (t : Fin cfg0.N) (r : Fin 512) (j : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (ix3 0 r j)
      = aOut m c ⟨t.val / 8, bat_lt t⟩ ⟨t.val % 8 * 512 + r.val, srow_lt t r⟩ j := by
  rw [out_tile]
  unfold tX aOut aRow
  simp only [blk0_at, blk1_at, blk2_at, blk3_at, blk4_at, blk5_at, blk6_at, blk7_at, blk8_at, blk9_at, blk10_at, blk11_at, blk12_at, blk13_at, blk14_at]

theorem onto15 : ∀ b : Fin 8, ∀ p : Fin 8, ∃ t : Fin grid0.N, cc0_transform_15 (grid0.coords t) = ![b.val, p.val, 0] := by decide +kernel

theorem cover15 : (cfg0.win 15).Covers :=
  Pipeline.Window.covers_of_indexMap_surj _ rfl (show ∀ a : Fin 3, 0 < S1x512x1024.size a by decide) fun β => by
    have h0 : (β (0 : Fin 3)).val < 8 := lt_of_lt_of_eq (β (0 : Fin 3)).isLt (show (8 + 1 - 1) / 1 = 8 by rfl)
    have h1 : (β (1 : Fin 3)).val < 8 := lt_of_lt_of_eq (β (1 : Fin 3)).isLt (show (4096 + 512 - 1) / 512 = 8 by rfl)
    have h2 : (β (2 : Fin 3)).val < 1 := lt_of_lt_of_eq (β (2 : Fin 3)).isLt (show (1024 + 1024 - 1) / 1024 = 1 by rfl)
    obtain ⟨t, ht⟩ := onto15 ⟨_, h0⟩ ⟨_, h1⟩
    refine ⟨grid0.coords t, fun a => (congrFun ht a).trans ?_⟩
    match a with
    | ⟨0, _⟩ => rfl
    | ⟨1, _⟩ => rfl
    | ⟨2, _⟩ => exact (by show 0 = (β (2 : Fin 3)).val; omega)

theorem aOut_congr {b b' : Fin 8} {s s' : Fin 4096} {j j' : Fin 1024} (hb : b.val = b'.val) (hs : s.val = s'.val) (hj : j.val = j'.val) :
    aOut m c b s j = aOut m c b' s' j' := by
  rw [Fin.ext hb, Fin.ext hs, Fin.ext hj]

theorem tile_y (t : Fin cfg0.N) (y : S1x512x1024.Idx) :
    out0_15 (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) y
      = aOut m c ⟨t.val / 8, bat_lt t⟩ ⟨t.val % 8 * 512 + (y (1 : Fin 3)).val, srow_lt t (y (1 : Fin 3))⟩ (y (2 : Fin 3)) := by
  obtain ⟨r, j, rfl⟩ : ∃ (r : Fin 512) (j : Fin 1024), y = ix3 0 r j := ⟨y (1 : Fin 3), y (2 : Fin 3), funext fun a => by
    match a with
    | ⟨0, _⟩ => exact Fin.ext (by have h : (y (0 : Fin 3)).val < 1 := (y (0 : Fin 3)).isLt; show (y (0 : Fin 3)).val = 0; omega)
    | ⟨1, _⟩ => rfl
    | ⟨2, _⟩ => rfl⟩
  exact tile_at m c t r j

end Cert.MixIdeal.Tile
-- ==== Proof.MixFin.lean ====
/-
The whole array the mixing call leaves.
-/
module

public import proofs.«01_k».proof.Proof.MixArr

@[expose] public section

set_option maxRecDepth 65536
set_option maxHeartbeats 1000000

noncomputable section

namespace Cert.MixIdeal.Tile

open Idealize.ShloMosaic Idealize.ShloMosaic.TcCoe Idealize.SL.Sem Cert.MixIdeal Cert.MixIdeal.Gen Cert.FfnMath Cert.MixMath Cert.MixIdeal.Value

variable (m : (ℓ : Loc nD τ sig) → Buf (Elt Ideal) ℓ) (c : Dev nD)

def G15 : S8x4096x1024.Idx → EReal := fun i => aOut m c (i (0 : Fin 3)) (i (1 : Fin 3)) (i (2 : Fin 3))

theorem G15_of (t : Fin cfg0.N) (y : S1x512x1024.Idx) (i : S8x4096x1024.Idx) (h0 : (i (0 : Fin 3)).val = t.val / 8)
    (h1 : (i (1 : Fin 3)).val = t.val % 8 * 512 + (y (1 : Fin 3)).val) (h2 : (i (2 : Fin 3)).val = (y (2 : Fin 3)).val) :
    out0_15 (iblk m c 0 t) (iblk m c 1 t) (iblk m c 2 t) (iblk m c 3 t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) y = G15 m c i :=
  (tile_y m c t y).trans (aOut_congr m c h0.symm h1.symm h2.symm)

theorem emb0 (t : Fin cfg0.N) (y : S1x512x1024.Idx) : (((cfg0.win 15).blk t).view.emb y (0 : Fin 3)).val = t.val / 8 := by
  have l0 : (y (0 : Fin 3)).val < 1 := (y (0 : Fin 3)).isLt
  have e : (((cfg0.win 15).blk t).view.emb y (0 : Fin 3)).val = win0_15.index t (0 : Fin 3) * 1 + 1 * (y (0 : Fin 3)).val := rfl
  have e0 : win0_15.index t (0 : Fin 3) = t.val / 8 := congrFun (win15_at t) 0
  rw [e, e0]; omega

theorem emb1 (t : Fin cfg0.N) (y : S1x512x1024.Idx) : (((cfg0.win 15).blk t).view.emb y (1 : Fin 3)).val = t.val % 8 * 512 + (y (1 : Fin 3)).val := by
  have e : (((cfg0.win 15).blk t).view.emb y (1 : Fin 3)).val = win0_15.index t (1 : Fin 3) * 512 + 1 * (y (1 : Fin 3)).val := rfl
  have e0 : win0_15.index t (1 : Fin 3) = t.val % 8 := congrFun (win15_at t) 1
  rw [e, e0]; omega

theorem emb2 (t : Fin cfg0.N) (y : S1x512x1024.Idx) : (((cfg0.win 15).blk t).view.emb y (2 : Fin 3)).val = (y (2 : Fin 3)).val := by
  have e : (((cfg0.win 15).blk t).view.emb y (2 : Fin 3)).val = win0_15.index t (2 : Fin 3) * 1024 + 1 * (y (2 : Fin 3)).val := rfl
  have e0 : win0_15.index t (2 : Fin 3) = 0 := congrFun (win15_at t) 2
  rw [e, e0]; omega

theorem arr_eq : (dats m 0 c).arrAt 15 cfg0.N = G15 m c := by
  refine (dats m 0 c).arrAt_eq_of_covers 15 (G15 m c) cover15 fun t hf y => ?_
  show (dats m 0 c).after 15 t y = G15 m c (((cfg0.win 15).blk t).view.emb y)
  exact (congrFun (after0_15 m c t) y).trans (G15_of m c t y _ (emb0 t y) (emb1 t y) (emb2 t y))

end Cert.MixIdeal.Tile
-- ==== Proof.MixRef.lean ====
/-
The mixing call's reference at an index.
-/
module

public import proofs.«01_k».proof.Proof.MixSpec
public import proofs.«01_k».proof.Proof.Gen.MixReferenceIdeal.Read
public import Idealize.ShloMosaic.Lib.Pointwise

@[expose] public section

set_option maxRecDepth 16384
set_option maxHeartbeats 1000000

noncomputable section

namespace Cert.MixReferenceIdeal.Math

open Idealize.ShloMosaic Idealize.ShloMosaic.TcCoe Cert.MixReferenceIdeal Cert.MixReferenceIdeal.Read
open Cert.FfnMath Cert.MixMath

variable (x0 x1 : (⟨S8x4096x512, .bf16⟩ : BufTy).Contents (Elt Ideal)) (x2 x3 : (⟨S8x4096x1024, .bf16⟩ : BufTy).Contents (Elt Ideal))
  (x4 : (⟨S8x4096x1024, .f32⟩ : BufTy).Contents (Elt Ideal)) (x5 x6 : (⟨S512x1024, .f32⟩ : BufTy).Contents (Elt Ideal)) (x7 : (⟨S1024x1024, .f32⟩ : BufTy).Contents (Elt Ideal))
  (x8 x9 : (⟨S1024, .f32⟩ : BufTy).Contents (Elt Ideal)) (x10 : (⟨S1024x1024, .f32⟩ : BufTy).Contents (Elt Ideal))
  (x11 x12 : (⟨S8x256x1024, .bf16⟩ : BufTy).Contents (Elt Ideal)) (x13 : (⟨S1024x1024, .f32⟩ : BufTy).Contents (Elt Ideal)) (x14 : (⟨S1024, .f32⟩ : BufTy).Contents (Elt Ideal))

/-- One position's row after the mixing. -/
abbrev rX (b : Fin 8) (s : Fin 4096) : Fin 1024 → EReal :=
  rowX (fun d => x0 (ix3 b s d)) (fun d => x1 (ix3 b s d)) (fun k => x2 (ix3 b s k)) (fun k => x3 (ix3 b s k)) (fun d k => x5 (ix2 d k)) (fun d k => x6 (ix2 d k))
    (fun k j => x7 (ix2 k j)) (fun k => x4 (ix3 b s k)) (fun k => x8 (ix1 k))

theorem y_at (b : Fin 8) (s : Fin 4096) (j : Fin 1024) : val_main_v11 (F := Ideal) x0 x1 x2 x3 x5 x6 x7 (ix3 b s j) =
    projE (mixE (fun d => x0 (ix3 b s d)) (fun d => x1 (ix3 b s d)) (fun k => x2 (ix3 b s k)) (fun k => x3 (ix3 b s k)) (fun d k => x5 (ix2 d k)) (fun d k => x6 (ix2 d k)))
      (fun k j => x7 (ix2 k j)) j := by
  unfold val_main_v11 val_main_v10 val_main_v9 val_main_v8 val_main_v7 val_main_v6 val_main_v3 val_main_v2 val_main_v1 val_main_v0
  pointwise
  unfold projE mixE
  rfl

theorem x_at (b : Fin 8) (s : Fin 4096) (j : Fin 1024) : val_main_v25 (F := Ideal) x0 x1 x2 x3 x4 x5 x6 x7 x8 (ix3 b s j) = rX x0 x1 x2 x3 x4 x5 x6 x7 x8 b s j := by
  unfold val_main_v25 val_main_v24 val_main_v23 val_main_v22 val_main_v21 val_main_v20 val_main_v19 val_main_v18 val_main_v17 val_main_v16 val_main_v15 val_main_v14 val_main_v13 val_main_v12 val_main_cst val_main_cst_0 val_main_cst_1
  pointwise [y_at]
  unfold rX rowX sumE rmsE
  rfl

theorem q_at (b : Fin 8) (s : Fin 4096) (j : Fin 1024) : val_main_v39 (F := Ideal) x0 x1 x2 x3 x4 x5 x6 x7 x8 x9 x10 (ix3 b s j) =
    rowQ (rX x0 x1 x2 x3 x4 x5 x6 x7 x8 b s) (fun k => x9 (ix1 k)) (fun k j => x10 (ix2 k j)) j := by
  unfold val_main_v39 val_main_v38 val_main_v37 val_main_v36 val_main_v35 val_main_v34 val_main_v33 val_main_v32 val_main_v31 val_main_v30 val_main_v29 val_main_v28 val_main_v27 val_main_v26 val_main_cst_2 val_main_cst_3 val_main_cst_4
  pointwise [x_at]
  unfold rowQ projE rmsE
  rfl

theorem s_at (b : Fin 8) (h : Fin 4) (s : Fin 4096) (j : Fin 256) : val_main_v45 (F := Ideal) x0 x1 x2 x3 x4 x5 x6 x7 x8 x9 x10 x11 (ix4 b h s j) =
    (∑ d : Fin 256, val_main_v39 (F := Ideal) x0 x1 x2 x3 x4 x5 x6 x7 x8 x9 x10 (ix3 b s ⟨h.val * 256 + d.val, by omega⟩) * x11 (ix3 b j ⟨h.val * 256 + d.val, by omega⟩)) * sixteenth := by
  unfold val_main_v45 val_main_v44 val_main_v43 val_main_v41 val_main_v40 val_main_cst_5 val_main_v4
  generalize val_main_v39 (F := Ideal) x0 x1 x2 x3 x4 x5 x6 x7 x8 x9 x10 = z
  pointwise
  unfold sixteenth
  rfl

/-- The greatest score of a row. -/
theorem m_at (b : Fin 8) (h : Fin 4) (s : Fin 4096) :
    val_main_v46 (F := Ideal) x0 x1 x2 x3 x4 x5 x6 x7 x8 x9 x10 x11 (ix3 b h s) = topE (fun m => val_main_v45 (F := Ideal) x0 x1 x2 x3 x4 x5 x6 x7 x8 x9 x10 x11 (ix4 b h s m)) := by
  unfold val_main_v46
  generalize val_main_v45 (F := Ideal) x0 x1 x2 x3 x4 x5 x6 x7 x8 x9 x10 x11 = z
  refine (Host.reduce_eq_fold_single (FloatOps.maximumf (F := Ideal) (φ := .f32)) z _ Gen.reducesTo_S8x4x4096x256_S8x4x4096_d3 (by decide) Gen.h_S_ (ix3 b h s)).trans ?_
  unfold topE
  refine congrArg (fun f => Finset.fold max low f Finset.univ) (funext fun m => congrArg z (funext fun a => Fin.ext ?_))
  match a with
  | ⟨0, _⟩ => rfl
  | ⟨1, _⟩ => rfl
  | ⟨2, _⟩ => rfl
  | ⟨3, _⟩ => rfl

theorem top_at (b : Fin 8) (h : Fin 4) (s : Fin 4096) :
    val_main_v48 (F := Ideal) x0 x1 x2 x3 x4 x5 x6 x7 x8 x9 x10 x11 (ix3 b h s) = max low (val_main_v46 (F := Ideal) x0 x1 x2 x3 x4 x5 x6 x7 x8 x9 x10 x11 (ix3 b h s)) := by
  rw [val_main_v48_apply, val_main_v47_apply]
  rfl

theorem e_at (b : Fin 8) (h : Fin 4) (s : Fin 4096) (j : Fin 256) :
    val_main_v52 (F := Ideal) x0 x1 x2 x3 x4 x5 x6 x7 x8 x9 x10 x11 (ix4 b h s j) =
      Ideal.exp (val_main_v45 (F := Ideal) x0 x1 x2 x3 x4 x5 x6 x7 x8 x9 x10 x11 (ix4 b h s j) - val_main_v48 (F := Ideal) x0 x1 x2 x3 x4 x5 x6 x7 x8 x9 x10 x11 (ix3 b h s)) := by
  unfold val_main_v52 val_main_v51 val_main_v50 val_main_v49
  generalize val_main_v48 (F := Ideal) x0 x1 x2 x3 x4 x5 x6 x7 x8 x9 x10 x11 = t
  generalize val_main_v45 (F := Ideal) x0 x1 x2 x3 x4 x5 x6 x7 x8 x9 x10 x11 = y
  pointwise

theorem l_at (b : Fin 8) (h : Fin 4) (s : Fin 4096)  :
    val_main_v53 (F := Ideal) x0 x1 x2 x3 x4 x5 x6 x7 x8 x9 x10 x11 (ix3 b h s) =
      ∑ m : Fin 256, val_main_v52 (F := Ideal) x0 x1 x2 x3 x4 x5 x6 x7 x8 x9 x10 x11 (ix4 b h s m) := by
  unfold val_main_v53 val_main_cst_8
  generalize val_main_v52 (F := Ideal) x0 x1 x2 x3 x4 x5 x6 x7 x8 x9 x10 x11 = t
  pointwise

theorem d_at (b : Fin 8) (h : Fin 4) (s : Fin 4096) (j : Fin 256) :
    val_main_v56 (F := Ideal) x0 x1 x2 x3 x4 x5 x6 x7 x8 x9 x10 x11 (ix4 b h s j) =
      Ideal.div (val_main_v52 (F := Ideal) x0 x1 x2 x3 x4 x5 x6 x7 x8 x9 x10 x11 (ix4 b h s j)) (val_main_v53 (F := Ideal) x0 x1 x2 x3 x4 x5 x6 x7 x8 x9 x10 x11 (ix3 b h s)) := by
  unfold val_main_v56 val_main_v55 val_main_v54
  generalize val_main_v53 (F := Ideal) x0 x1 x2 x3 x4 x5 x6 x7 x8 x9 x10 x11 = t
  generalize val_main_v52 (F := Ideal) x0 x1 x2 x3 x4 x5 x6 x7 x8 x9 x10 x11 = y
  pointwise

theorem p_at (b : Fin 8) (h : Fin 4) (s : Fin 4096) (j : Fin 256) (z : Fin 256 → EReal)
    (hz : ∀ m, val_main_v45 (F := Ideal) x0 x1 x2 x3 x4 x5 x6 x7 x8 x9 x10 x11 (ix4 b h s m) = z m) :
    val_main_v56 (F := Ideal) x0 x1 x2 x3 x4 x5 x6 x7 x8 x9 x10 x11 (ix4 b h s j) =
      Ideal.div (Ideal.exp (z j - max low (topE z))) (∑ x, Ideal.exp (z x - max low (topE z))) := by
  have he : ∀ m, val_main_v52 (F := Ideal) x0 x1 x2 x3 x4 x5 x6 x7 x8 x9 x10 x11 (ix4 b h s m) = Ideal.exp (z m - max low (topE z)) := fun m => by
    rw [e_at, top_at, m_at, hz, show (fun m => val_main_v45 (F := Ideal) x0 x1 x2 x3 x4 x5 x6 x7 x8 x9 x10 x11 (ix4 b h s m)) = z from funext hz]
  rw [d_at, l_at, he]
  exact congrArg (Ideal.div _) (Finset.sum_congr rfl fun m _ => he m)

theorem o_at (b : Fin 8) (s : Fin 4096) (j : Fin 1024) : val_main_v59 (F := Ideal) x0 x1 x2 x3 x4 x5 x6 x7 x8 x9 x10 x11 x12 (ix3 b s j) =
    attR (scoreR (rowQ (rX x0 x1 x2 x3 x4 x5 x6 x7 x8 b s) (fun k => x9 (ix1 k)) (fun k j => x10 (ix2 k j))) (fun m e => x11 (ix3 b m e)) j) (fun m => x12 (ix3 b m j)) := by
  have h : val_main_v59 (F := Ideal) x0 x1 x2 x3 x4 x5 x6 x7 x8 x9 x10 x11 x12 (ix3 b s j) =
      ∑ m : Fin 256, x12 (ix3 b m j) * val_main_v56 (F := Ideal) x0 x1 x2 x3 x4 x5 x6 x7 x8 x9 x10 x11 (ix4 b ⟨j.val / 256, by omega⟩ s m) := by
    unfold val_main_v59 val_main_v58 val_main_v57 val_main_v42 val_main_v5
    generalize val_main_v56 (F := Ideal) x0 x1 x2 x3 x4 x5 x6 x7 x8 x9 x10 x11 = z
    pointwise
  rw [h]
  unfold attR
  refine Finset.sum_congr rfl fun m _ => congrArg (x12 (ix3 b m j) * ·) ?_
  refine p_at _ _ _ _ _ _ _ _ _ _ _ _ _ _ _ _ _ fun m => ?_
  rw [s_at]
  unfold scoreR
  refine congrArg (· * sixteenth) (Finset.sum_congr rfl fun d _ => ?_)
  rw [q_at]
  rfl

theorem out_at (b : Fin 8) (s : Fin 4096) (j : Fin 1024) : val_main_v74 (F := Ideal) x0 x1 x2 x3 x4 x5 x6 x7 x8 x9 x10 x11 x12 x13 x14 (ix3 b s j) =
    outR (rX x0 x1 x2 x3 x4 x5 x6 x7 x8 b s) (fun k => x9 (ix1 k)) (fun k j => x10 (ix2 k j)) (fun m e => x11 (ix3 b m e)) (fun m e => x12 (ix3 b m e))
      (fun k j => x13 (ix2 k j)) (fun k => x14 (ix1 k)) j := by
  unfold val_main_v74 val_main_v73 val_main_v72 val_main_v71 val_main_v70 val_main_v69 val_main_v68 val_main_v67 val_main_v66 val_main_v65 val_main_v64 val_main_v63 val_main_v62 val_main_v61 val_main_v60 val_main_cst_9 val_main_cst_10 val_main_cst_11
  have ho := o_at x0 x1 x2 x3 x4 x5 x6 x7 x8 x9 x10 x11 x12 b s
  have hx := x_at x0 x1 x2 x3 x4 x5 x6 x7 x8 b s
  generalize val_main_v59 (F := Ideal) x0 x1 x2 x3 x4 x5 x6 x7 x8 x9 x10 x11 x12 = o at ho ⊢
  generalize val_main_v25 (F := Ideal) x0 x1 x2 x3 x4 x5 x6 x7 x8 = x at hx ⊢
  pointwise
  unfold outR sumE rmsE projE
  simp only [ho, hx]

end Cert.MixReferenceIdeal.Math
-- ==== Proof.MixAlg.lean ====
/-
The claims about the mixing and cross-attention call.
-/
module

public import proofs.«01_k».proof.Defs
public import proofs.«01_k».proof.Proof.Alg
public import proofs.«01_k».proof.Proof.MixBlk
public import proofs.«01_k».proof.Proof.MixFin
public import proofs.«01_k».proof.Proof.MixRef
public import Idealize.ShloMosaic.Lib.ReduceAll

@[expose] public section

set_option maxRecDepth 65536
set_option maxHeartbeats 4000000

noncomputable section

namespace Cert.MixClaims

open Idealize.ShloMosaic Idealize.ShloMosaic.TcCoe Idealize.SL.Sem
open Cert.Sb (finite_of both_one)
open Cert.MixMath

theorem facts_pre : Cert.Pre_mix_finite.Facts where
  bitsLt_bf16_f32 := by decide
  bcast_S_S8x4096x512 := by decide
  reducesTo_S8x4096x512_S_d0_1_2 := by decide
  h_S_ := by decide
  bcast_S_S8x4096x1024 := by decide
  reducesTo_S8x4096x1024_S_d0_1_2 := by decide
  bcast_S_S512x1024 := by decide
  reducesTo_S512x1024_S_d0_1 := by decide
  bcast_S_S1024x1024 := by decide
  reducesTo_S1024x1024_S_d0_1 := by decide
  bcast_S_S1024 := by decide
  reducesTo_S1024_S_d0 := by decide
  bcast_S_S8x256x1024 := by decide
  reducesTo_S8x256x1024_S_d0_1_2 := by decide

theorem frame_Mix : Cert.quiescent_Mix (hMix := Cert.Mix.Gen.facts) := fun m ρ _ => Cert.Mix.Gen.frame m ρ
theorem frame_MixIdeal : Cert.quiescent_MixIdeal (hMixIdeal := Cert.MixIdeal.Gen.facts) := fun m ρ _ => Cert.MixIdeal.Gen.frame m ρ
theorem frame_MixReferenceIdeal : Cert.quiescent_MixReferenceIdeal (hMixReferenceIdeal := Cert.MixReferenceIdeal.Gen.facts) :=
  fun m ρ _ => (θ_run Cert.MixReferenceIdeal.defs _ _).mono (fun r h => ⟨fun c => (h c).2, sem_eq_zero_of_no_sems (by decide) r.2⟩)
    (Cert.MixReferenceIdeal.Value.run (F := Ideal) m ρ)
theorem frame_MixIdeal_pre : Cert.quiescent_MixIdeal_pre_mix_finite (hMixIdeal := Cert.MixIdeal.Gen.facts) (hPre_mix_finite := facts_pre) :=
  fun m ρ _ => frame_MixIdeal m ρ trivial
theorem frame_MixReferenceIdeal_pre : Cert.quiescent_MixReferenceIdeal_pre_mix_finite (hMixReferenceIdeal := Cert.MixReferenceIdeal.Gen.facts) (hPre_mix_finite := facts_pre) :=
  fun m ρ _ => frame_MixReferenceIdeal m ρ trivial

/-! ## The precondition -/

theorem real_of (x : EReal) (h : FloatOps.cmpf (F := Ideal) (φ := .f32) .olt (FloatOps.absf (F := Ideal) (φ := .f32) x) (Ideal.ofBits FTy.f32 0x7F800000#32) = 1#1) : IsR x :=
  ⟨x.toReal, finite_of x h⟩

theorem pre_real (oa : Cert.MixIdeal.S8x4096x512.Idx → EReal) (os : Cert.MixIdeal.S8x4096x512.Idx → EReal) (ga : Cert.MixIdeal.S8x4096x1024.Idx → EReal) (gs : Cert.MixIdeal.S8x4096x1024.Idx → EReal) (x : Cert.MixIdeal.S8x4096x1024.Idx → EReal) (wa : Cert.MixIdeal.S512x1024.Idx → EReal) (ws : Cert.MixIdeal.S512x1024.Idx → EReal) (wm : Cert.MixIdeal.S1024x1024.Idx → EReal) (gm : Cert.MixIdeal.S1024.Idx → EReal) (gp : Cert.MixIdeal.S1024.Idx → EReal) (wq : Cert.MixIdeal.S1024x1024.Idx → EReal) (k : Cert.MixIdeal.S8x256x1024.Idx → EReal) (v : Cert.MixIdeal.S8x256x1024.Idx → EReal) (wo : Cert.MixIdeal.S1024x1024.Idx → EReal) (go : Cert.MixIdeal.S1024.Idx → EReal)
    (h : @Cert.Pre_mix_finite.fn facts_pre Ideal _ oa os ga gs x wa ws wm gm gp wq k v wo go = fun _ => 1#1) :
    (∀ i, IsR (oa i)) ∧
    (∀ i, IsR (os i)) ∧
    (∀ i, IsR (ga i)) ∧
    (∀ i, IsR (gs i)) ∧
    (∀ i, IsR (x i)) ∧
    (∀ i, IsR (wa i)) ∧
    (∀ i, IsR (ws i)) ∧
    (∀ i, IsR (wm i)) ∧
    (∀ i, IsR (gm i)) ∧
    (∀ i, IsR (gp i)) ∧
    (∀ i, IsR (wq i)) ∧
    (∀ i, IsR (k i)) := by
  have h0 := congrFun h ix0
  dsimp only [Cert.Pre_mix_finite.fn, Cert.Pre_mix_finite.fn_part1, Cert.Pre_mix_finite.fn_part2, Cert.Pre_mix_finite.fn_part3] at h0
  obtain ⟨g0, a11⟩ := both_one _ _ h0
  obtain ⟨g1, a10⟩ := both_one _ _ g0
  obtain ⟨g2, a9⟩ := both_one _ _ g1
  obtain ⟨g3, a8⟩ := both_one _ _ g2
  obtain ⟨g4, a7⟩ := both_one _ _ g3
  obtain ⟨g5, a6⟩ := both_one _ _ g4
  obtain ⟨g6, a5⟩ := both_one _ _ g5
  obtain ⟨g7, a4⟩ := both_one _ _ g6
  obtain ⟨g8, a3⟩ := both_one _ _ g7
  obtain ⟨g9, a2⟩ := both_one _ _ g8
  obtain ⟨a0, a1⟩ := both_one _ _ g9
  refine ⟨fun i => real_of _ ?_, fun i => real_of _ ?_, fun i => real_of _ ?_, fun i => real_of _ ?_, fun i => real_of _ ?_, fun i => real_of _ ?_,
    fun i => real_of _ ?_, fun i => real_of _ ?_, fun i => real_of _ ?_, fun i => real_of _ ?_, fun i => real_of _ ?_, fun i => real_of _ ?_⟩
  · exact Host.reduce_andi_all _ _ _ _ _ a0 i
  · exact Host.reduce_andi_all _ _ _ _ _ a1 i
  · exact Host.reduce_andi_all _ _ _ _ _ a2 i
  · exact Host.reduce_andi_all _ _ _ _ _ a3 i
  · exact Host.reduce_andi_all _ _ _ _ _ a4 i
  · exact Host.reduce_andi_all _ _ _ _ _ a5 i
  · exact Host.reduce_andi_all _ _ _ _ _ a6 i
  · exact Host.reduce_andi_all _ _ _ _ _ a7 i
  · exact Host.reduce_andi_all _ _ _ _ _ a8 i
  · exact Host.reduce_andi_all _ _ _ _ _ a9 i
  · exact Host.reduce_andi_all _ _ _ _ _ a10 i
  · exact Host.reduce_andi_all _ _ _ _ _ a11 i

/-! ## The two results -/

theorem same (m : (ℓ : Loc Cert.MixIdeal.nD Cert.MixIdeal.τ Cert.MixIdeal.sig) → Buf (Elt Ideal) ℓ) (c : Dev Cert.MixIdeal.nD)
    (h : @Cert.Pre_mix_finite.fn facts_pre Ideal _ (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) = fun _ => 1#1) :
    Cert.MixReferenceIdeal.Read.val_main_v74 (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) = Cert.MixIdeal.Tile.G15 m c := by
  funext i
  obtain ⟨b, s, j, rfl⟩ : ∃ (b : Fin 8) (s : Fin 4096) (j : Fin 1024), i = ix3 b s j := ⟨i (0 : Fin 3), i (1 : Fin 3), i (2 : Fin 3), funext fun a => by
    match a with
    | ⟨0, _⟩ => rfl
    | ⟨1, _⟩ => rfl
    | ⟨2, _⟩ => rfl⟩
  obtain ⟨f0, f1, f2, f3, f4, f5, f6, f7, f8, f9, f10, f11⟩ := pre_real _ _ _ _ _ _ _ _ _ _ _ _ _ _ _ h
  refine (Cert.MixReferenceIdeal.Math.out_at _ _ _ _ _ _ _ _ _ _ _ _ _ _ _ b s j).trans ?_
  exact (congrFun (out_eq _ _ _
    (rowX_real (fun d => f0 (ix3 b s d)) (fun d => f1 (ix3 b s d)) (fun d => f2 (ix3 b s d)) (fun d => f3 (ix3 b s d)) (fun d e => f5 (ix2 d e)) (fun d e => f6 (ix2 d e))
      (fun d e => f7 (ix2 d e)) (fun d => f4 (ix3 b s d)) (fun d => f8 (ix1 d)))
    (fun d => f9 (ix1 d)) (fun d e => f10 (ix2 d e)) (fun n e => f11 (ix3 b n e))) j).symm

theorem algebraic : Cert.algebraic_MixIdeal_MixReferenceIdeal_pre_mix_finite (hMixIdeal := Cert.MixIdeal.Gen.facts) (hMixReferenceIdeal := Cert.MixReferenceIdeal.Gen.facts)
    (hPre_mix_finite := facts_pre) := by
  intro m g m' g' hp he
  refine ⟨fun c => Cert.MixIdeal.Tile.G15 m c, ?_, ?_⟩
  · exact (θ_run Cert.MixIdeal.defs _ _).mono (fun _ h c => ⟨(h c).1.trans (Cert.MixIdeal.Tile.arr_eq m c), (h c).2⟩) (Cert.MixIdeal.Value.run_blocks (F := Ideal) m g)
  · refine (θ_run Cert.MixReferenceIdeal.defs _ _).mono (fun _ h c => ⟨(h c).1.trans ?_, (h c).2⟩) (Cert.MixReferenceIdeal.Value.run (F := Ideal) m' g')
    obtain ⟨h0, h1, h2, h3, h4, h5, h6, h7, h8, h9, h10, h11, h12, h13, h14⟩ := he c
    rw [Cert.MixReferenceIdeal.Read.val_main_v74_eq]
    show Cert.MixReferenceIdeal.Read.val_main_v74 (F := Ideal) (m' ((c.tc : Thread Cert.MixReferenceIdeal.nD Cert.MixReferenceIdeal.τ).loc Cert.MixReferenceIdeal.main_arg0)) (m' ((c.tc : Thread Cert.MixReferenceIdeal.nD Cert.MixReferenceIdeal.τ).loc Cert.MixReferenceIdeal.main_arg1)) (m' ((c.tc : Thread Cert.MixReferenceIdeal.nD Cert.MixReferenceIdeal.τ).loc Cert.MixReferenceIdeal.main_arg2)) (m' ((c.tc : Thread Cert.MixReferenceIdeal.nD Cert.MixReferenceIdeal.τ).loc Cert.MixReferenceIdeal.main_arg3)) (m' ((c.tc : Thread Cert.MixReferenceIdeal.nD Cert.MixReferenceIdeal.τ).loc Cert.MixReferenceIdeal.main_arg4)) (m' ((c.tc : Thread Cert.MixReferenceIdeal.nD Cert.MixReferenceIdeal.τ).loc Cert.MixReferenceIdeal.main_arg5)) (m' ((c.tc : Thread Cert.MixReferenceIdeal.nD Cert.MixReferenceIdeal.τ).loc Cert.MixReferenceIdeal.main_arg6)) (m' ((c.tc : Thread Cert.MixReferenceIdeal.nD Cert.MixReferenceIdeal.τ).loc Cert.MixReferenceIdeal.main_arg7)) (m' ((c.tc : Thread Cert.MixReferenceIdeal.nD Cert.MixReferenceIdeal.τ).loc Cert.MixReferenceIdeal.main_arg8)) (m' ((c.tc : Thread Cert.MixReferenceIdeal.nD Cert.MixReferenceIdeal.τ).loc Cert.MixReferenceIdeal.main_arg9)) (m' ((c.tc : Thread Cert.MixReferenceIdeal.nD Cert.MixReferenceIdeal.τ).loc Cert.MixReferenceIdeal.main_arg10)) (m' ((c.tc : Thread Cert.MixReferenceIdeal.nD Cert.MixReferenceIdeal.τ).loc Cert.MixReferenceIdeal.main_arg11)) (m' ((c.tc : Thread Cert.MixReferenceIdeal.nD Cert.MixReferenceIdeal.τ).loc Cert.MixReferenceIdeal.main_arg12)) (m' ((c.tc : Thread Cert.MixReferenceIdeal.nD Cert.MixReferenceIdeal.τ).loc Cert.MixReferenceIdeal.main_arg13)) (m' ((c.tc : Thread Cert.MixReferenceIdeal.nD Cert.MixReferenceIdeal.τ).loc Cert.MixReferenceIdeal.main_arg14)) = Cert.MixIdeal.Tile.G15 m c
    rw [h0, h1, h2, h3, h4, h5, h6, h7, h8, h9, h10, h11, h12, h13, h14]
    exact same m c (hp c)

end Cert.MixClaims

end
-- ==== Proof.lean ====
/-
The claims about the three calls: the programs run and leave their arguments as they were; each kernel
over the reals gives its reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Alg
public import proofs.«01_k».proof.Proof.FfnAlg
public import proofs.«01_k».proof.Proof.MixAlg

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.Mix.Gen.facts, Cert.MixIdeal.Gen.facts, Cert.MixReferenceIdeal.Gen.facts,
    Cert.Sb.facts_pre, Cert.MixClaims.facts_pre, Cert.Sb.frame_Kernel, Cert.Sb.frame_KernelIdeal,
    Cert.Sb.frame_KernelIdeal_pre, Cert.Sb.frame_ReferenceIdeal, Cert.Sb.frame_ReferenceIdeal_pre,
    Cert.FfnClaims.frame_Ffn, Cert.FfnClaims.frame_FfnIdeal, Cert.FfnClaims.frame_FfnReferenceIdeal,
    Cert.MixClaims.frame_Mix, Cert.MixClaims.frame_MixIdeal, Cert.MixClaims.frame_MixIdeal_pre,
    Cert.MixClaims.frame_MixReferenceIdeal, Cert.MixClaims.frame_MixReferenceIdeal_pre, trivial, Cert.Sb.algebraic,
    Cert.FfnClaims.preserves, Cert.FfnClaims.algebraic, trivial, Cert.MixClaims.algebraic⟩

end Cert.Proof

end
